-- ==== Defs.lean ====
def Pre_Kernel [hPre_inputs_ok : Cert.Pre_inputs_ok.Facts] (m : (ℓ : Loc Cert.Kernel.nD Cert.Kernel.τ Cert.Kernel.sig) → Buf (Elt Bits) ℓ) : Prop :=
  ∀ c : Dev Cert.Kernel.nD,
    (Cert.Pre_inputs_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Bag [hPre_bag_inputs_ok : Cert.Pre_bag_inputs_ok.Facts] (m : (ℓ : Loc Cert.Bag.nD Cert.Bag.τ Cert.Bag.sig) → Buf (Elt Bits) ℓ) : Prop :=
  ∀ c : Dev Cert.Bag.nD,
    (Cert.Pre_bag_inputs_ok.fn (F := Bits) (m ((c.tc : Thread Cert.Bag.nD Cert.Bag.τ).loc Cert.Bag.main_arg0)) (m ((c.tc : Thread Cert.Bag.nD Cert.Bag.τ).loc Cert.Bag.main_arg1))) = (fun _ => 1#1)

def Pre_BagIdeal [hPre_bag_inputs_ok : Cert.Pre_bag_inputs_ok.Facts] (m : (ℓ : Loc Cert.BagIdeal.nD Cert.BagIdeal.τ Cert.BagIdeal.sig) → Buf (Elt Ideal) ℓ) : Prop :=
  ∀ c : Dev Cert.BagIdeal.nD,
    (Cert.Pre_bag_inputs_ok.fn (F := Ideal) (m ((c.tc : Thread Cert.BagIdeal.nD Cert.BagIdeal.τ).loc Cert.BagIdeal.main_arg0)) (m ((c.tc : Thread Cert.BagIdeal.nD Cert.BagIdeal.τ).loc Cert.BagIdeal.main_arg1))) = (fun _ => 1#1)

def Pre_BagReferenceIdeal [hPre_bag_inputs_ok : Cert.Pre_bag_inputs_ok.Facts] (m : (ℓ : Loc Cert.BagReferenceIdeal.nD Cert.BagReferenceIdeal.τ Cert.BagReferenceIdeal.sig) → Buf (Elt Ideal) ℓ) : Prop :=
  ∀ c : Dev Cert.BagReferenceIdeal.nD,
    (Cert.Pre_bag_inputs_ok.fn (F := Ideal) (m ((c.tc : Thread Cert.BagReferenceIdeal.nD Cert.BagReferenceIdeal.τ).loc Cert.BagReferenceIdeal.main_arg0)) (m ((c.tc : Thread Cert.BagReferenceIdeal.nD Cert.BagReferenceIdeal.τ).loc Cert.BagReferenceIdeal.main_arg1))) = (fun _ => 1#1)

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_FoldReferenceIdeal (m : (ℓ : Loc Cert.FoldReferenceIdeal.nD Cert.FoldReferenceIdeal.τ Cert.FoldReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] [hPre_inputs_ok : Cert.Pre_inputs_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Bag [hBag : Cert.Bag.Facts] [hPre_bag_inputs_ok : Cert.Pre_bag_inputs_ok.Facts] : Prop :=
  ∀ (m : (ℓ : Loc Cert.Bag.nD Cert.Bag.τ Cert.Bag.sig) → Buf (Elt Bits) ℓ) (g : Dev Cert.Bag.nD → PrngReg), Pre_Bag m →
    θ_run (Cert.Bag.defs (F := Bits)) (Cert.Bag.threads (F := Bits)) ⟨m, fun _ => 0, g⟩ (fun r => (∀ c : Dev Cert.Bag.nD,
      r.2.mem ((c.tc : Thread Cert.Bag.nD Cert.Bag.τ).loc Cert.Bag.main_arg0) = m ((c.tc : Thread Cert.Bag.nD Cert.Bag.τ).loc Cert.Bag.main_arg0)
      ∧ r.2.mem ((c.tc : Thread Cert.Bag.nD Cert.Bag.τ).loc Cert.Bag.main_arg1) = m ((c.tc : Thread Cert.Bag.nD Cert.Bag.τ).loc Cert.Bag.main_arg1))
      ∧ r.2.sem = fun _ => 0)

def quiescent_BagIdeal [hBagIdeal : Cert.BagIdeal.Facts] [hPre_bag_inputs_ok : Cert.Pre_bag_inputs_ok.Facts] : Prop :=
  ∀ (m : (ℓ : Loc Cert.BagIdeal.nD Cert.BagIdeal.τ Cert.BagIdeal.sig) → Buf (Elt Ideal) ℓ) (g : Dev Cert.BagIdeal.nD → PrngReg), Pre_BagIdeal m →
    θ_run (Cert.BagIdeal.defs (F := Ideal)) (Cert.BagIdeal.threads (F := Ideal)) ⟨m, fun _ => 0, g⟩ (fun r => (∀ c : Dev Cert.BagIdeal.nD,
      r.2.mem ((c.tc : Thread Cert.BagIdeal.nD Cert.BagIdeal.τ).loc Cert.BagIdeal.main_arg0) = m ((c.tc : Thread Cert.BagIdeal.nD Cert.BagIdeal.τ).loc Cert.BagIdeal.main_arg0)
      ∧ r.2.mem ((c.tc : Thread Cert.BagIdeal.nD Cert.BagIdeal.τ).loc Cert.BagIdeal.main_arg1) = m ((c.tc : Thread Cert.BagIdeal.nD Cert.BagIdeal.τ).loc Cert.BagIdeal.main_arg1))
      ∧ r.2.sem = fun _ => 0)

def quiescent_BagReferenceIdeal [hBagReferenceIdeal : Cert.BagReferenceIdeal.Facts] [hPre_bag_inputs_ok : Cert.Pre_bag_inputs_ok.Facts] : Prop :=
  ∀ (m : (ℓ : Loc Cert.BagReferenceIdeal.nD Cert.BagReferenceIdeal.τ Cert.BagReferenceIdeal.sig) → Buf (Elt Ideal) ℓ) (g : Dev Cert.BagReferenceIdeal.nD → PrngReg), Pre_BagReferenceIdeal m →
    θ_run (Cert.BagReferenceIdeal.defs (F := Ideal)) (onTc (τ := Cert.BagReferenceIdeal.τ) (Cert.BagReferenceIdeal.main (F := Ideal))) ⟨m, fun _ => 0, g⟩ (fun r => (∀ c : Dev Cert.BagReferenceIdeal.nD,
      r.2.mem ((c.tc : Thread Cert.BagReferenceIdeal.nD Cert.BagReferenceIdeal.τ).loc Cert.BagReferenceIdeal.main_arg0) = m ((c.tc : Thread Cert.BagReferenceIdeal.nD Cert.BagReferenceIdeal.τ).loc Cert.BagReferenceIdeal.main_arg0)
      ∧ r.2.mem ((c.tc : Thread Cert.BagReferenceIdeal.nD Cert.BagReferenceIdeal.τ).loc Cert.BagReferenceIdeal.main_arg1) = m ((c.tc : Thread Cert.BagReferenceIdeal.nD Cert.BagReferenceIdeal.τ).loc Cert.BagReferenceIdeal.main_arg1))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ r.2.sem = fun _ => 0)

def quiescent_FoldReferenceIdeal [hFoldReferenceIdeal : Cert.FoldReferenceIdeal.Facts] : Prop :=
  ∀ (m : (ℓ : Loc Cert.FoldReferenceIdeal.nD Cert.FoldReferenceIdeal.τ Cert.FoldReferenceIdeal.sig) → Buf (Elt Ideal) ℓ) (g : Dev Cert.FoldReferenceIdeal.nD → PrngReg), Pre_FoldReferenceIdeal m →
    θ_run (Cert.FoldReferenceIdeal.defs (F := Ideal)) (onTc (τ := Cert.FoldReferenceIdeal.τ) (Cert.FoldReferenceIdeal.main (F := Ideal))) ⟨m, fun _ => 0, g⟩ (fun r => (∀ c : Dev Cert.FoldReferenceIdeal.nD,
      r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6))
      ∧ r.2.sem = fun _ => 0)

def preserves_Kernel_KernelIdeal : Prop :=
  True

def preserves_Bag_BagIdeal : Prop :=
  True

def algebraic_BagIdeal_BagReferenceIdeal [hBagIdeal : Cert.BagIdeal.Facts] [hBagReferenceIdeal : Cert.BagReferenceIdeal.Facts] [hPre_bag_inputs_ok : Cert.Pre_bag_inputs_ok.Facts] : Prop :=
  ∀ (m : (ℓ : Loc Cert.BagIdeal.nD Cert.BagIdeal.τ Cert.BagIdeal.sig) → Buf (Elt Ideal) ℓ) (g : Dev Cert.BagIdeal.nD → PrngReg)
    (m' : (ℓ : Loc Cert.BagReferenceIdeal.nD Cert.BagReferenceIdeal.τ Cert.BagReferenceIdeal.sig) → Buf (Elt Ideal) ℓ) (g' : Dev Cert.BagReferenceIdeal.nD → PrngReg), Pre_BagIdeal m →
    (∀ c : Dev Cert.BagIdeal.nD,
      m' ((c.tc : Thread Cert.BagReferenceIdeal.nD Cert.BagReferenceIdeal.τ).loc Cert.BagReferenceIdeal.main_arg0) = m ((c.tc : Thread Cert.BagIdeal.nD Cert.BagIdeal.τ).loc Cert.BagIdeal.main_arg0)
      ∧ m' ((c.tc : Thread Cert.BagReferenceIdeal.nD Cert.BagReferenceIdeal.τ).loc Cert.BagReferenceIdeal.main_arg1) = m ((c.tc : Thread Cert.BagIdeal.nD Cert.BagIdeal.τ).loc Cert.BagIdeal.main_arg1)) →
    ∃ (v0 : (c : Dev Cert.BagIdeal.nD) → Buf (Elt Ideal) ((c.tc : Thread Cert.BagIdeal.nD Cert.BagIdeal.τ).loc Cert.BagIdeal.main_v8)),
      θ_run (Cert.BagIdeal.defs (F := Ideal)) (Cert.BagIdeal.threads (F := Ideal)) ⟨m, fun _ => 0, g⟩ (fun r => ∀ c : Dev Cert.BagIdeal.nD,
          r.2.mem ((c.tc : Thread Cert.BagIdeal.nD Cert.BagIdeal.τ).loc Cert.BagIdeal.main_v8) = v0 c
          ∧ r.2.mem ((c.tc : Thread Cert.BagIdeal.nD Cert.BagIdeal.τ).loc Cert.BagIdeal.main_arg0) = m ((c.tc : Thread Cert.BagIdeal.nD Cert.BagIdeal.τ).loc Cert.BagIdeal.main_arg0)
          ∧ r.2.mem ((c.tc : Thread Cert.BagIdeal.nD Cert.BagIdeal.τ).loc Cert.BagIdeal.main_arg1) = m ((c.tc : Thread Cert.BagIdeal.nD Cert.BagIdeal.τ).loc Cert.BagIdeal.main_arg1))
      ∧ θ_run (Cert.BagReferenceIdeal.defs (F := Ideal)) (onTc (τ := Cert.BagReferenceIdeal.τ) (Cert.BagReferenceIdeal.main (F := Ideal))) ⟨m', fun _ => 0, g'⟩ (fun r => ∀ c : Dev Cert.BagReferenceIdeal.nD,
          r.2.mem ((c.tc : Thread Cert.BagReferenceIdeal.nD Cert.BagReferenceIdeal.τ).loc Cert.BagReferenceIdeal.main_v17) = v0 c
          ∧ r.2.mem ((c.tc : Thread Cert.BagReferenceIdeal.nD Cert.BagReferenceIdeal.τ).loc Cert.BagReferenceIdeal.main_arg0) = m' ((c.tc : Thread Cert.BagReferenceIdeal.nD Cert.BagReferenceIdeal.τ).loc Cert.BagReferenceIdeal.main_arg0)
          ∧ r.2.mem ((c.tc : Thread Cert.BagReferenceIdeal.nD Cert.BagReferenceIdeal.τ).loc Cert.BagReferenceIdeal.main_arg1) = m' ((c.tc : Thread Cert.BagReferenceIdeal.nD Cert.BagReferenceIdeal.τ).loc Cert.BagReferenceIdeal.main_arg1))

def preserves_Fold_FoldIdeal : Prop :=
  True

def algebraic_FoldIdeal_FoldReferenceIdeal [hFoldIdeal : Cert.FoldIdeal.Facts] [hFoldReferenceIdeal : Cert.FoldReferenceIdeal.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldReferenceIdeal.nD Cert.FoldReferenceIdeal.τ Cert.FoldReferenceIdeal.sig) → Buf (Elt Ideal) ℓ) (g' : Dev Cert.FoldReferenceIdeal.nD → PrngReg), Pre_FoldIdeal m →
    (∀ c : Dev Cert.FoldIdeal.nD,
      m' ((c.tc : Thread Cert.FoldReferenceIdeal.nD Cert.FoldReferenceIdeal.τ).loc Cert.FoldReferenceIdeal.main_arg0) = m ((c.tc : Thread Cert.FoldIdeal.nD Cert.FoldIdeal.τ).loc Cert.FoldIdeal.main_arg0)
      ∧ m' ((c.tc : Thread Cert.FoldReferenceIdeal.nD Cert.FoldReferenceIdeal.τ).loc Cert.FoldReferenceIdeal.main_arg1) = m ((c.tc : Thread Cert.FoldIdeal.nD Cert.FoldIdeal.τ).loc Cert.FoldIdeal.main_arg1)) →
    ∃ (v0 : (c : Dev Cert.FoldIdeal.nD) → Buf (Elt Ideal) ((c.tc : Thread Cert.FoldIdeal.nD Cert.FoldIdeal.τ).loc Cert.FoldIdeal.main_v0)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v0) = v0 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ θ_run (Cert.FoldReferenceIdeal.defs (F := Ideal)) (onTc (τ := Cert.FoldReferenceIdeal.τ) (Cert.FoldReferenceIdeal.main (F := Ideal))) ⟨m', fun _ => 0, g'⟩ (fun r => ∀ c : Dev Cert.FoldReferenceIdeal.nD,
          r.2.mem ((c.tc : Thread Cert.FoldReferenceIdeal.nD Cert.FoldReferenceIdeal.τ).loc Cert.FoldReferenceIdeal.main_v1) = v0 c
          ∧ r.2.mem ((c.tc : Thread Cert.FoldReferenceIdeal.nD Cert.FoldReferenceIdeal.τ).loc Cert.FoldReferenceIdeal.main_arg0) = m' ((c.tc : Thread Cert.FoldReferenceIdeal.nD Cert.FoldReferenceIdeal.τ).loc Cert.FoldReferenceIdeal.main_arg0)
          ∧ r.2.mem ((c.tc : Thread Cert.FoldReferenceIdeal.nD Cert.FoldReferenceIdeal.τ).loc Cert.FoldReferenceIdeal.main_arg1) = m' ((c.tc : Thread Cert.FoldReferenceIdeal.nD Cert.FoldReferenceIdeal.τ).loc Cert.FoldReferenceIdeal.main_arg1))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v31) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6))

def Claim : Prop :=
  ∃ (hKernel : Cert.Kernel.Facts) (hKernelIdeal : Cert.KernelIdeal.Facts) (hReferenceIdeal : Cert.ReferenceIdeal.Facts) (hBag : Cert.Bag.Facts) (hBagIdeal : Cert.BagIdeal.Facts) (hBagReferenceIdeal : Cert.BagReferenceIdeal.Facts) (hFold : Cert.Fold.Facts) (hFoldIdeal : Cert.FoldIdeal.Facts) (hFoldReferenceIdeal : Cert.FoldReferenceIdeal.Facts) (hTail : Cert.Tail.Facts) (hTailIdeal : Cert.TailIdeal.Facts) (hTailReferenceIdeal : Cert.TailReferenceIdeal.Facts) (hPre_inputs_ok : Cert.Pre_inputs_ok.Facts) (hPre_bag_inputs_ok : Cert.Pre_bag_inputs_ok.Facts),
    quiescent_Kernel (hKernel := hKernel) (hPre_inputs_ok := hPre_inputs_ok)
    ∧ quiescent_KernelIdeal (hKernelIdeal := hKernelIdeal) (hPre_inputs_ok := hPre_inputs_ok)
    ∧ quiescent_ReferenceIdeal (hReferenceIdeal := hReferenceIdeal) (hPre_inputs_ok := hPre_inputs_ok)
    ∧ quiescent_Bag (hBag := hBag) (hPre_bag_inputs_ok := hPre_bag_inputs_ok)
    ∧ quiescent_BagIdeal (hBagIdeal := hBagIdeal) (hPre_bag_inputs_ok := hPre_bag_inputs_ok)
    ∧ quiescent_BagReferenceIdeal (hBagReferenceIdeal := hBagReferenceIdeal) (hPre_bag_inputs_ok := hPre_bag_inputs_ok)
    ∧ quiescent_Fold (hFold := hFold)
    ∧ quiescent_FoldIdeal (hFoldIdeal := hFoldIdeal)
    ∧ quiescent_FoldReferenceIdeal (hFoldReferenceIdeal := hFoldReferenceIdeal)
    ∧ quiescent_Tail (hTail := hTail)
    ∧ quiescent_TailIdeal (hTailIdeal := hTailIdeal)
    ∧ quiescent_TailReferenceIdeal (hTailReferenceIdeal := hTailReferenceIdeal)
    ∧ preserves_Kernel_KernelIdeal
    ∧ preserves_Bag_BagIdeal
    ∧ algebraic_BagIdeal_BagReferenceIdeal (hBagIdeal := hBagIdeal) (hBagReferenceIdeal := hBagReferenceIdeal) (hPre_bag_inputs_ok := hPre_bag_inputs_ok)
    ∧ preserves_Fold_FoldIdeal
    ∧ algebraic_FoldIdeal_FoldReferenceIdeal (hFoldIdeal := hFoldIdeal) (hFoldReferenceIdeal := hFoldReferenceIdeal)
    ∧ preserves_Tail_TailIdeal
    ∧ algebraic_TailIdeal_TailReferenceIdeal (hTailIdeal := hTailIdeal) (hTailReferenceIdeal := hTailReferenceIdeal)
-- ==== Pre_bag_inputs_ok.lean ====
abbrev S16384x26 : Shape := ⟨2, ![16384, 26]⟩
abbrev S26x1000x128 : Shape := ⟨3, ![26, 1000, 128]⟩
abbrev S_ : Shape := ⟨0, ![]⟩

class Facts : Prop where
  bcast_S_S16384x26 : S_.BroadcastsInDim S16384x26 (![] : Fin 0 → Fin S16384x26.rank)

variable [Facts]

def fn {F : FTy → Type} [FloatOps F] (main_arg0 : IVec S16384x26 32) (main_arg1 : FVec F S26x1000x128 .f32) : IVec S16384x26 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  main_v4
-- ==== Pre_inputs_ok.lean ====
abbrev S16384x26 : Shape := ⟨2, ![16384, 26]⟩
abbrev S26x1000x128 : Shape := ⟨3, ![26, 1000, 128]⟩
abbrev S3328x128 : Shape := ⟨2, ![3328, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384x26 : S_.BroadcastsInDim S16384x26 (![] : Fin 0 → Fin S16384x26.rank)

variable [Facts]

def fn {F : FTy → Type} [FloatOps F] (main_arg0 : IVec S16384x26 32) (main_arg1 : FVec F S26x1000x128 .f32) (main_arg2 : FVec F S3328x128 .f32) (main_arg3 : FVec F S128 .f32) (main_arg4 : FVec F S128 .f32) (main_arg5 : FVec F S128 .f32) (main_arg6 : FVec F S128x64 .f32) (main_arg7 : FVec F S64 .f32) (main_arg8 : FVec F S64x1 .f32) (main_arg9 : FVec F S1 .f32) : IVec S16384x26 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  main_v4
-- ==== Kernel.lean ====
abbrev S16384x26 : Shape := ⟨2, ![16384, 26]⟩
abbrev S26x1000x128 : Shape := ⟨3, ![26, 1000, 128]⟩
abbrev S3328x128 : Shape := ⟨2, ![3328, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1000x128 : Shape := ⟨3, ![1, 1000, 128]⟩
abbrev S128x128 : Shape := ⟨2, ![128, 128]⟩
abbrev S1000x128 : Shape := ⟨2, ![1000, 128]⟩
abbrev S26 : Shape := ⟨1, ![26]⟩
abbrev S_ : Shape := ⟨0, ![]⟩
abbrev S1x26 : Shape := ⟨2, ![1, 26]⟩
abbrev S32x128x104 : Shape := ⟨3, ![32, 128, 104]⟩
abbrev S26000x128 : Shape := ⟨2, ![26000, 128]⟩
abbrev S16384x128 : Shape := ⟨2, ![16384, 128]⟩
abbrev S128x104 : Shape := ⟨2, ![128, 104]⟩
abbrev S104x128 : Shape := ⟨2, ![104, 128]⟩
abbrev S4x128 : Shape := ⟨2, ![4, 128]⟩
abbrev S1x128x104 : Shape := ⟨3, ![1, 128, 104]⟩
abbrev S1x104 : Shape := ⟨2, ![1, 104]⟩
abbrev S104 : Shape := ⟨1, ![104]⟩
abbrev S1x16 : Shape := ⟨2, ![1, 16]⟩
abbrev S16 : Shape := ⟨1, ![16]⟩
abbrev S1x128 : Shape := ⟨2, ![1, 128]⟩
abbrev S1x64 : Shape := ⟨2, ![1, 64]⟩
abbrev S1x1 : Shape := ⟨2, ![1, 1]⟩
abbrev S16384x1 : Shape := ⟨2, ![16384, 1]⟩
abbrev S1024x128 : Shape := ⟨2, ![1024, 128]⟩
abbrev S1024x1 : Shape := ⟨2, ![1024, 1]⟩
abbrev S1024x64 : Shape := ⟨2, ![1024, 64]⟩
abbrev S16384 : Shape := ⟨1, ![16384]⟩

abbrev nBuf : Table → Nat
  | .hbm => 27
  | .local .tc .vmem => 18
  | .local .scVector .vmem => 9
  | _ => 0

abbrev bufTy : (tb : Table) → Fin (nBuf tb) → BufTy
  | .hbm, ⟨0, _⟩ => ⟨S16384x26, .i32⟩
  | .hbm, ⟨1, _⟩ => ⟨S26x1000x128, .f32⟩
  | .hbm, ⟨2, _⟩ => ⟨S3328x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S26x1000x128, .f32⟩
  | .hbm, ⟨11, _⟩ => ⟨S26, .i32⟩
  | .hbm, ⟨12, _⟩ => ⟨S_, .i32⟩
  | .hbm, ⟨13, _⟩ => ⟨S26, .i32⟩
  | .hbm, ⟨14, _⟩ => ⟨S26, .i32⟩
  | .hbm, ⟨15, _⟩ => ⟨S1x26, .i32⟩
  | .hbm, ⟨16, _⟩ => ⟨S16384x26, .i32⟩
  | .hbm, ⟨17, _⟩ => ⟨S16384x26, .i32⟩
  | .hbm, ⟨18, _⟩ => ⟨S32x128x104, .i32⟩
  | .hbm, ⟨19, _⟩ => ⟨S26000x128, .f32⟩
  | .hbm, ⟨20, _⟩ => ⟨S16384x128, .f32⟩
  | .hbm, ⟨21, _⟩ => ⟨S1x128, .f32⟩
  | .hbm, ⟨22, _⟩ => ⟨S1x128, .f32⟩
  | .hbm, ⟨23, _⟩ => ⟨S1x64, .f32⟩
  | .hbm, ⟨24, _⟩ => ⟨S1x1, .f32⟩
  | .hbm, ⟨25, _⟩ => ⟨S16384x1, .f32⟩
  | .hbm, ⟨26, _⟩ => ⟨S16384, .f32⟩
  | .local .tc .vmem, ⟨0, _⟩ => ⟨S1x1000x128, .f32⟩
  | .local .tc .vmem, ⟨1, _⟩ => ⟨S1x1000x128, .f32⟩
  | .local .tc .vmem, ⟨2, _⟩ => ⟨S128x128, .f32⟩
  | .local .tc .vmem, ⟨3, _⟩ => ⟨S128x128, .f32⟩
  | .local .tc .vmem, ⟨4, _⟩ => ⟨S1x1000x128, .f32⟩
  | .local .tc .vmem, ⟨5, _⟩ => ⟨S1x1000x128, .f32⟩
  | .local .tc .vmem, ⟨6, _⟩ => ⟨S1024x128, .f32⟩
  | .local .tc .vmem, ⟨7, _⟩ => ⟨S1024x128, .f32⟩
  | .local .tc .vmem, ⟨8, _⟩ => ⟨S1x128, .f32⟩
  | .local .tc .vmem, ⟨9, _⟩ => ⟨S1x128, .f32⟩
  | .local .tc .vmem, ⟨10, _⟩ => ⟨S128x64, .f32⟩
  | .local .tc .vmem, ⟨11, _⟩ => ⟨S1x64, .f32⟩
  | .local .tc .vmem, ⟨12, _⟩ => ⟨S64x1, .f32⟩
  | .local .tc .vmem, ⟨13, _⟩ => ⟨S1x1, .f32⟩
  | .local .tc .vmem, ⟨14, _⟩ => ⟨S1024x1, .f32⟩
  | .local .tc .vmem, ⟨15, _⟩ => ⟨S1024x1, .f32⟩
  | .local .tc .vmem, ⟨16, _⟩ => ⟨S1x128, .f32⟩
  | .local .tc .vmem, ⟨17, _⟩ => ⟨S1x128, .f32⟩
  | .local .scVector .vmem, ⟨0, _⟩ => ⟨S128x104, .i32⟩
  | .local .scVector .vmem, ⟨1, _⟩ => ⟨S104x128, .f32⟩
  | .local .scVector .vmem, ⟨2, _⟩ => ⟨S104x128, .f32⟩
  | .local .scVector .vmem, ⟨3, _⟩ => ⟨S104x128, .f32⟩
  | .local .scVector .vmem, ⟨4, _⟩ => ⟨S104x128, .f32⟩
  | .local .scVector .vmem, ⟨5, _⟩ => ⟨S4x128, .f32⟩
  | .local .scVector .vmem, ⟨6, _⟩ => ⟨S4x128, .f32⟩
  | .local .scVector .vmem, ⟨7, _⟩ => ⟨S4x128, .f32⟩
  | .local .scVector .vmem, ⟨8, _⟩ => ⟨S4x128, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v7_scv : Ref sig .scVector := ⟨.hbm, 18, rfl⟩
abbrev main_v8_scv : Ref sig .scVector := ⟨.hbm, 19, rfl⟩
abbrev main_v9_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg6_0 : Ref sig .tc := ⟨.vmem, 13, rfl⟩
abbrev cc2_stg7_0 : Ref sig .tc := ⟨.vmem, 14, rfl⟩
abbrev cc2_stg7_1 : Ref sig .tc := ⟨.vmem, 15, rfl⟩
abbrev cc2_scratch0 : Ref sig .tc := ⟨.vmem, 16, rfl⟩
abbrev cc2_scratch1 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![26], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_25_r0 : BitVec 32 := 0#32
  let c0_i32_26_r0 : BitVec 32 := 0#32
  ![v1.toNat, 0, 0]
@[reducible] def k1_t1_loop : Scf.Loop 32 :=
  let c0_i32_14 : BitVec 32 := 0#32
  let c32_i32 : BitVec 32 := 32#32
  let v15 : BitVec 32 := Scalar.addi c0_i32_14 c32_i32
  let c1_i32_15 : BitVec 32 := 1#32
  ⟨c0_i32_14, v15, c1_i32_15⟩
def k1_off2 (k1_t1 : Fin k1_t1_loop.trips) (c0_i32_25 : BitVec 32) : Fin 2 → Nat :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let v25 : BitVec 32 := Scalar.addi v24 c0_i32_25
  let c0_i32_26 : BitVec 32 := 0#32
  ![v25.toNat, 0]
def k1_cond1 (k1_t1 : Fin k1_t1_loop.trips) : BitVec 1 :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c0_i32_25 : BitVec 32 := 0#32
  let v25 : BitVec 32 := Scalar.addi v24 c0_i32_25
  let c4_i32_29 : BitVec 32 := 4#32
  let v29 : BitVec 1 := Scalar.cmpi .sge v25 c4_i32_29
  let v30 : BitVec 32 := Scalar.extui v29
  let c0_i32_30 : BitVec 32 := 0#32
  let v31 : BitVec 1 := Scalar.cmpi .ne v30 c0_i32_30
  v31

def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6878 : BitVec 32 := 0#32
  ![v2.toNat, 0]
def k1_cond2 (k1_t1 : Fin k1_t1_loop.trips) : BitVec 1 :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c0_i32_25 : BitVec 32 := 0#32
  let v25 : BitVec 32 := Scalar.addi v24 c0_i32_25
  let c4_i32_1653 : BitVec 32 := 4#32
  let v3456 : BitVec 32 := Scalar.addi v25 c4_i32_1653
  let c128_i32 : BitVec 32 := 128#32
  let v3457 : BitVec 1 := Scalar.cmpi .slt v3456 c128_i32
  let v3458 : BitVec 32 := Scalar.extui v3457
  let c0_i32_1654 : BitVec 32 := 0#32
  let v3459 : BitVec 1 := Scalar.cmpi .ne v3458 c0_i32_1654
  v3459

def k1_off4 (k1_t1 : Fin k1_t1_loop.trips) : Fin 2 → Nat :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c0_i32_25 : BitVec 32 := 0#32
  let v25 : BitVec 32 := Scalar.addi v24 c0_i32_25
  let c4_i32_6878 : BitVec 32 := 4#32
  let v13781 : BitVec 32 := Scalar.addi v25 c4_i32_6878
  let c0_i32_6879 : BitVec 32 := 0#32
  ![v13781.toNat, 0]
def k1_off5 (i : grid1.Coords) (k1_t1 : Fin k1_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let v25 : BitVec 32 := Scalar.addi v24 c0_i32_25
  let c4_i32_1655 : BitVec 32 := 4#32
  let v3460 : BitVec 32 := Scalar.muli v25 c4_i32_1655
  let v3461 : BitVec 32 := Scalar.addi v2 v3460
  let c0_i32_1656 : BitVec 32 := 0#32
  ![v3461.toNat, 0]
def k1_cond3 (k1_t1 : Fin k1_t1_loop.trips) : BitVec 1 :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c1_i32_1658 : BitVec 32 := 1#32
  let v3464 : BitVec 32 := Scalar.addi v24 c1_i32_1658
  let c4_i32_1662 : BitVec 32 := 4#32
  let v3468 : BitVec 1 := Scalar.cmpi .sge v3464 c4_i32_1662
  let v3469 : BitVec 32 := Scalar.extui v3468
  let c0_i32_1663 : BitVec 32 := 0#32
  let v3470 : BitVec 1 := Scalar.cmpi .ne v3469 c0_i32_1663
  v3470

def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6878 : BitVec 32 := 0#32
  ![v2.toNat, 0]
def k1_cond4 (k1_t1 : Fin k1_t1_loop.trips) : BitVec 1 :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c1_i32_1658 : BitVec 32 := 1#32
  let v3464 : BitVec 32 := Scalar.addi v24 c1_i32_1658
  let c4_i32_3392 : BitVec 32 := 4#32
  let v6895 : BitVec 32 := Scalar.addi v3464 c4_i32_3392
  let c128_i32_3393 : BitVec 32 := 128#32
  let v6896 : BitVec 1 := Scalar.cmpi .slt v6895 c128_i32_3393
  let v6897 : BitVec 32 := Scalar.extui v6896
  let c0_i32_3394 : BitVec 32 := 0#32
  let v6898 : BitVec 1 := Scalar.cmpi .ne v6897 c0_i32_3394
  v6898

def k1_off7 (k1_t1 : Fin k1_t1_loop.trips) : Fin 2 → Nat :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c1_i32_1658 : BitVec 32 := 1#32
  let v3464 : BitVec 32 := Scalar.addi v24 c1_i32_1658
  let c4_i32_6878 : BitVec 32 := 4#32
  let v13781 : BitVec 32 := Scalar.addi v3464 c4_i32_6878
  let c0_i32_6879 : BitVec 32 := 0#32
  ![v13781.toNat, 0]
def k1_cond5 (k1_t1 : Fin k1_t1_loop.trips) : BitVec 1 :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c2_i32_3398 : BitVec 32 := 2#32
  let v6903 : BitVec 32 := Scalar.addi v24 c2_i32_3398
  let c4_i32_3402 : BitVec 32 := 4#32
  let v6907 : BitVec 1 := Scalar.cmpi .sge v6903 c4_i32_3402
  let v6908 : BitVec 32 := Scalar.extui v6907
  let c0_i32_3403 : BitVec 32 := 0#32
  let v6909 : BitVec 1 := Scalar.cmpi .ne v6908 c0_i32_3403
  v6909

def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6878 : BitVec 32 := 0#32
  ![v2.toNat, 0]
def k1_cond6 (k1_t1 : Fin k1_t1_loop.trips) : BitVec 1 :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c2_i32_3398 : BitVec 32 := 2#32
  let v6903 : BitVec 32 := Scalar.addi v24 c2_i32_3398
  let c4_i32_5132 : BitVec 32 := 4#32
  let v10334 : BitVec 32 := Scalar.addi v6903 c4_i32_5132
  let c128_i32_5133 : BitVec 32 := 128#32
  let v10335 : BitVec 1 := Scalar.cmpi .slt v10334 c128_i32_5133
  let v10336 : BitVec 32 := Scalar.extui v10335
  let c0_i32_5134 : BitVec 32 := 0#32
  let v10337 : BitVec 1 := Scalar.cmpi .ne v10336 c0_i32_5134
  v10337

def k1_off9 (k1_t1 : Fin k1_t1_loop.trips) : Fin 2 → Nat :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c2_i32_3398 : BitVec 32 := 2#32
  let v6903 : BitVec 32 := Scalar.addi v24 c2_i32_3398
  let c4_i32_6878 : BitVec 32 := 4#32
  let v13781 : BitVec 32 := Scalar.addi v6903 c4_i32_6878
  let c0_i32_6879 : BitVec 32 := 0#32
  ![v13781.toNat, 0]
def k1_cond7 (k1_t1 : Fin k1_t1_loop.trips) : BitVec 1 :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c3_i32_5138 : BitVec 32 := 3#32
  let v10342 : BitVec 32 := Scalar.addi v24 c3_i32_5138
  let c4_i32_5142 : BitVec 32 := 4#32
  let v10346 : BitVec 1 := Scalar.cmpi .sge v10342 c4_i32_5142
  let v10347 : BitVec 32 := Scalar.extui v10346
  let c0_i32_5143 : BitVec 32 := 0#32
  let v10348 : BitVec 1 := Scalar.cmpi .ne v10347 c0_i32_5143
  v10348

def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6878 : BitVec 32 := 0#32
  ![v2.toNat, 0]
def k1_cond8 (k1_t1 : Fin k1_t1_loop.trips) : BitVec 1 :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c3_i32_5138 : BitVec 32 := 3#32
  let v10342 : BitVec 32 := Scalar.addi v24 c3_i32_5138
  let c4_i32_6872 : BitVec 32 := 4#32
  let v13773 : BitVec 32 := Scalar.addi v10342 c4_i32_6872
  let c128_i32_6873 : BitVec 32 := 128#32
  let v13774 : BitVec 1 := Scalar.cmpi .slt v13773 c128_i32_6873
  let v13775 : BitVec 32 := Scalar.extui v13774
  let c0_i32_6874 : BitVec 32 := 0#32
  let v13776 : BitVec 1 := Scalar.cmpi .ne v13775 c0_i32_6874
  v13776

def k1_off11 (k1_t1 : Fin k1_t1_loop.trips) : Fin 2 → Nat :=
  let c0_i32_14 : BitVec 32 := 0#32
  let c1_i32_15 : BitVec 32 := 1#32
  let arg22 : BitVec 32 := Scf.iv c0_i32_14 c1_i32_15 k1_t1
  let c4_i32 : BitVec 32 := 4#32
  let v24 : BitVec 32 := Scalar.muli arg22 c4_i32
  let c3_i32_5138 : BitVec 32 := 3#32
  let v10342 : BitVec 32 := Scalar.addi v24 c3_i32_5138
  let c4_i32_6878 : BitVec 32 := 4#32
  let v13781 : BitVec 32 := Scalar.addi v10342 c4_i32_6878
  let c0_i32_6879 : BitVec 32 := 0#32
  ![v13781.toNat, 0]
def k1_off12 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_17 : BitVec 32 := 0#32
  ![v2.toNat, 0]
abbrev grid2 : Pipeline.Grid := ⟨2, ![2, 16], ![false, false]⟩

def k2_cond3 (i : grid2.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1024x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S26x1000x128 : Shape := ⟨3, ![26, 1000, 128]⟩
abbrev S3328x128 : Shape := ⟨2, ![3328, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x128 : Shape := ⟨3, ![16384, 26, 128]⟩
abbrev S16384x3328 : Shape := ⟨2, ![16384, 3328]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x1 : Shape := ⟨2, ![16384, 1]⟩
abbrev S1x1 : Shape := ⟨2, ![1, 1]⟩
abbrev S16384 : Shape := ⟨1, ![16384]⟩

abbrev nBuf : Space → Nat
  | .hbm => 95
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x1000x128, .f32⟩
  | .hbm, ⟨2, _⟩ => ⟨S3328x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S26, .i32⟩
  | .hbm, ⟨11, _⟩ => ⟨S1x26, .i32⟩
  | .hbm, ⟨12, _⟩ => ⟨S_, .i32⟩
  | .hbm, ⟨13, _⟩ => ⟨S1x26, .i32⟩
  | .hbm, ⟨14, _⟩ => ⟨S1x26, .i1⟩
  | .hbm, ⟨15, _⟩ => ⟨S_, .i32⟩
  | .hbm, ⟨16, _⟩ => ⟨S1x26, .i32⟩
  | .hbm, ⟨17, _⟩ => ⟨S1x26, .i32⟩
  | .hbm, ⟨18, _⟩ => ⟨S1x26, .i32⟩
  | .hbm, ⟨19, _⟩ => ⟨S_, .i32⟩
  | .hbm, ⟨20, _⟩ => ⟨S16384x26, .i32⟩
  | .hbm, ⟨21, _⟩ => ⟨S16384x26, .i1⟩
  | .hbm, ⟨22, _⟩ => ⟨S_, .i32⟩
  | .hbm, ⟨23, _⟩ => ⟨S16384x26, .i32⟩
  | .hbm, ⟨24, _⟩ => ⟨S16384x26, .i32⟩
  | .hbm, ⟨25, _⟩ => ⟨S16384x26, .i32⟩
  | .hbm, ⟨26, _⟩ => ⟨S16384x26, .i32⟩
  | .hbm, ⟨27, _⟩ => ⟨S16384x26x1, .i32⟩
  | .hbm, ⟨28, _⟩ => ⟨S16384x26x1, .i32⟩
  | .hbm, ⟨29, _⟩ => ⟨S16384x26x2, .i32⟩
  | .hbm, ⟨30, _⟩ => ⟨S16384x26x128, .f32⟩
  | .hbm, ⟨31, _⟩ => ⟨S16384x3328, .f32⟩
  | .hbm, ⟨32, _⟩ => ⟨S16384x128, .f32⟩
  | .hbm, ⟨33, _⟩ => ⟨S1x128, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S16384x128, .f32⟩
  | .hbm, ⟨50, _⟩ => ⟨S16384x128, .f32⟩
  | .hbm, ⟨51, _⟩ => ⟨S16384x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S16384x128, .f32⟩
  | .hbm, ⟨67, _⟩ => ⟨S16384x128, .f32⟩
  | .hbm, ⟨68, _⟩ => ⟨S1x128, .f32⟩
  | .hbm, ⟨69, _⟩ => ⟨S16384x128, .f32⟩
  | .hbm, ⟨70, _⟩ => ⟨S16384x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S16384x128, .f32⟩
  | .hbm, ⟨76, _⟩ => ⟨S16384x128, .f32⟩
  | .hbm, ⟨77, _⟩ => ⟨S1x128, .f32⟩
  | .hbm, ⟨78, _⟩ => ⟨S16384x128, .f32⟩
  | .hbm, ⟨79, _⟩ => ⟨S16384x128, .f32⟩
  | .hbm, ⟨80, _⟩ => ⟨S_, .f32⟩
  | .hbm, ⟨81, _⟩ => ⟨S16384x128, .f32⟩
  | .hbm, ⟨82, _⟩ => ⟨S16384x128, .f32⟩
  | .hbm, ⟨83, _⟩ => ⟨S16384x64, .f32⟩
  | .hbm, ⟨84, _⟩ => ⟨S1x64, .f32⟩
  | .hbm, ⟨85, _⟩ => ⟨S16384x64, .f32⟩
  | .hbm, ⟨86, _⟩ => ⟨S16384x64, .f32⟩
  | .hbm, ⟨87, _⟩ => ⟨S_, .f32⟩
  | .hbm, ⟨88, _⟩ => ⟨S16384x64, .f32⟩
  | .hbm, ⟨89, _⟩ => ⟨S16384x64, .f32⟩
  | .hbm, ⟨90, _⟩ => ⟨S16384x1, .f32⟩
  | .hbm, ⟨91, _⟩ => ⟨S1x1, .f32⟩
  | .hbm, ⟨92, _⟩ => ⟨S16384x1, .f32⟩
  | .hbm, ⟨93, _⟩ => ⟨S16384x1, .f32⟩
  | .hbm, ⟨94, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_cst_3 : Ref sig .tc := ⟨.hbm, 60, rfl⟩
abbrev main_call0_v13 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_5 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_call1_cst : Ref sig .tc := ⟨.hbm, 80, rfl⟩
abbrev main_call1_v0 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call2_cst : Ref sig .tc := ⟨.hbm, 87, rfl⟩
abbrev main_call2_v0 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩

abbrev nD : Nat := 1
abbrev τ : Topo := Topo.v7x

variable {F : FTy → Type} [FloatOps F]
-- ==== Bag.lean ====
abbrev S16384x26 : Shape := ⟨2, ![16384, 26]⟩
abbrev S26x1000x128 : Shape := ⟨3, ![26, 1000, 128]⟩
abbrev S26 : Shape := ⟨1, ![26]⟩
abbrev S_ : Shape := ⟨0, ![]⟩
abbrev S1x26 : Shape := ⟨2, ![1, 26]⟩
abbrev S32x128x104 : Shape := ⟨3, ![32, 128, 104]⟩
abbrev S26000x128 : Shape := ⟨2, ![26000, 128]⟩
abbrev S16384x128 : Shape := ⟨2, ![16384, 128]⟩
abbrev S128x104 : Shape := ⟨2, ![128, 104]⟩
abbrev S104x128 : Shape := ⟨2, ![104, 128]⟩
abbrev S4x128 : Shape := ⟨2, ![4, 128]⟩
abbrev S1x128x104 : Shape := ⟨3, ![1, 128, 104]⟩
abbrev S1x104 : Shape := ⟨2, ![1, 104]⟩
abbrev S104 : Shape := ⟨1, ![104]⟩
abbrev S1x16 : Shape := ⟨2, ![1, 16]⟩
abbrev S16 : Shape := ⟨1, ![16]⟩

abbrev nBuf : Table → Nat
  | .hbm => 12
  | .local .scVector .vmem => 9
  | _ => 0

abbrev bufTy : (tb : Table) → Fin (nBuf tb) → BufTy
  | .hbm, ⟨0, _⟩ => ⟨S16384x26, .i32⟩
  | .hbm, ⟨1, _⟩ => ⟨S26x1000x128, .f32⟩
  | .hbm, ⟨2, _⟩ => ⟨S26, .i32⟩
  | .hbm, ⟨3, _⟩ => ⟨S_, .i32⟩
  | .hbm, ⟨4, _⟩ => ⟨S26, .i32⟩
  | .hbm, ⟨5, _⟩ => ⟨S26, .i32⟩
  | .hbm, ⟨6, _⟩ => ⟨S1x26, .i32⟩
  | .hbm, ⟨7, _⟩ => ⟨S16384x26, .i32⟩
  | .hbm, ⟨8, _⟩ => ⟨S16384x26, .i32⟩
  | .hbm, ⟨9, _⟩ => ⟨S32x128x104, .i32⟩
  | .hbm, ⟨10, _⟩ => ⟨S26000x128, .f32⟩
  | .hbm, ⟨11, _⟩ => ⟨S16384x128, .f32⟩
  | .local .scVector .vmem, ⟨0, _⟩ => ⟨S128x104, .i32⟩
  | .local .scVector .vmem, ⟨1, _⟩ => ⟨S104x128, .f32⟩
  | .local .scVector .vmem, ⟨2, _⟩ => ⟨S104x128, .f32⟩
  | .local .scVector .vmem, ⟨3, _⟩ => ⟨S104x128, .f32⟩
  | .local .scVector .vmem, ⟨4, _⟩ => ⟨S104x128, .f32⟩
  | .local .scVector .vmem, ⟨5, _⟩ => ⟨S4x128, .f32⟩
  | .local .scVector .vmem, ⟨6, _⟩ => ⟨S4x128, .f32⟩
  | .local .scVector .vmem, ⟨7, _⟩ => ⟨S4x128, .f32⟩
  | .local .scVector .vmem, ⟨8, _⟩ => ⟨S4x128, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v6_scv : Ref sig .scVector := ⟨.hbm, 9, rfl⟩
abbrev main_v7_scv : Ref sig .scVector := ⟨.hbm, 10, rfl⟩
abbrev main_v8_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_25_r0 : BitVec 32 := 0#32
  let c0_i32_26_r0 : BitVec 32 := 0#32
  ![v1.toNat, 0, 0]
@[reducible] def k0_t1_loop : Scf.Loop 32 :=
  let c0_i32_14 : BitVec 32 := 0#32
  let c32_i32 : BitVec 32 := 32#32
  let v15 : BitVec 32 := Scalar.addi c0_i32_14 c32_i32
  let c1_i32_15 : BitVec 32 := 1#32
  ⟨c0_i32_14, v15, c1_i32_15⟩
def k0_off2 (k0_t1 : Fin k0_t1_loop.trips) (c0_i32_25 : BitVec 32) : Fin 2 → Nat :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let v25 : BitVec 32 := Scalar.addi v24 c0_i32_25
  let c0_i32_26 : BitVec 32 := 0#32
  ![v25.toNat, 0]
def k0_cond1 (k0_t1 : Fin k0_t1_loop.trips) : BitVec 1 :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c0_i32_25 : BitVec 32 := 0#32
  let v25 : BitVec 32 := Scalar.addi v24 c0_i32_25
  let c4_i32_29 : BitVec 32 := 4#32
  let v29 : BitVec 1 := Scalar.cmpi .sge v25 c4_i32_29
  let v30 : BitVec 32 := Scalar.extui v29
  let c0_i32_30 : BitVec 32 := 0#32
  let v31 : BitVec 1 := Scalar.cmpi .ne v30 c0_i32_30
  v31

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6878 : BitVec 32 := 0#32
  ![v2.toNat, 0]
def k0_cond2 (k0_t1 : Fin k0_t1_loop.trips) : BitVec 1 :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c0_i32_25 : BitVec 32 := 0#32
  let v25 : BitVec 32 := Scalar.addi v24 c0_i32_25
  let c4_i32_1653 : BitVec 32 := 4#32
  let v3456 : BitVec 32 := Scalar.addi v25 c4_i32_1653
  let c128_i32 : BitVec 32 := 128#32
  let v3457 : BitVec 1 := Scalar.cmpi .slt v3456 c128_i32
  let v3458 : BitVec 32 := Scalar.extui v3457
  let c0_i32_1654 : BitVec 32 := 0#32
  let v3459 : BitVec 1 := Scalar.cmpi .ne v3458 c0_i32_1654
  v3459

def k0_off4 (k0_t1 : Fin k0_t1_loop.trips) : Fin 2 → Nat :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c0_i32_25 : BitVec 32 := 0#32
  let v25 : BitVec 32 := Scalar.addi v24 c0_i32_25
  let c4_i32_6878 : BitVec 32 := 4#32
  let v13781 : BitVec 32 := Scalar.addi v25 c4_i32_6878
  let c0_i32_6879 : BitVec 32 := 0#32
  ![v13781.toNat, 0]
def k0_off5 (i : grid0.Coords) (k0_t1 : Fin k0_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let v25 : BitVec 32 := Scalar.addi v24 c0_i32_25
  let c4_i32_1655 : BitVec 32 := 4#32
  let v3460 : BitVec 32 := Scalar.muli v25 c4_i32_1655
  let v3461 : BitVec 32 := Scalar.addi v2 v3460
  let c0_i32_1656 : BitVec 32 := 0#32
  ![v3461.toNat, 0]
def k0_cond3 (k0_t1 : Fin k0_t1_loop.trips) : BitVec 1 :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c1_i32_1658 : BitVec 32 := 1#32
  let v3464 : BitVec 32 := Scalar.addi v24 c1_i32_1658
  let c4_i32_1662 : BitVec 32 := 4#32
  let v3468 : BitVec 1 := Scalar.cmpi .sge v3464 c4_i32_1662
  let v3469 : BitVec 32 := Scalar.extui v3468
  let c0_i32_1663 : BitVec 32 := 0#32
  let v3470 : BitVec 1 := Scalar.cmpi .ne v3469 c0_i32_1663
  v3470

def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6878 : BitVec 32 := 0#32
  ![v2.toNat, 0]
def k0_cond4 (k0_t1 : Fin k0_t1_loop.trips) : BitVec 1 :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c1_i32_1658 : BitVec 32 := 1#32
  let v3464 : BitVec 32 := Scalar.addi v24 c1_i32_1658
  let c4_i32_3392 : BitVec 32 := 4#32
  let v6895 : BitVec 32 := Scalar.addi v3464 c4_i32_3392
  let c128_i32_3393 : BitVec 32 := 128#32
  let v6896 : BitVec 1 := Scalar.cmpi .slt v6895 c128_i32_3393
  let v6897 : BitVec 32 := Scalar.extui v6896
  let c0_i32_3394 : BitVec 32 := 0#32
  let v6898 : BitVec 1 := Scalar.cmpi .ne v6897 c0_i32_3394
  v6898

def k0_off7 (k0_t1 : Fin k0_t1_loop.trips) : Fin 2 → Nat :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c1_i32_1658 : BitVec 32 := 1#32
  let v3464 : BitVec 32 := Scalar.addi v24 c1_i32_1658
  let c4_i32_6878 : BitVec 32 := 4#32
  let v13781 : BitVec 32 := Scalar.addi v3464 c4_i32_6878
  let c0_i32_6879 : BitVec 32 := 0#32
  ![v13781.toNat, 0]
def k0_cond5 (k0_t1 : Fin k0_t1_loop.trips) : BitVec 1 :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c2_i32_3398 : BitVec 32 := 2#32
  let v6903 : BitVec 32 := Scalar.addi v24 c2_i32_3398
  let c4_i32_3402 : BitVec 32 := 4#32
  let v6907 : BitVec 1 := Scalar.cmpi .sge v6903 c4_i32_3402
  let v6908 : BitVec 32 := Scalar.extui v6907
  let c0_i32_3403 : BitVec 32 := 0#32
  let v6909 : BitVec 1 := Scalar.cmpi .ne v6908 c0_i32_3403
  v6909

def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6878 : BitVec 32 := 0#32
  ![v2.toNat, 0]
def k0_cond6 (k0_t1 : Fin k0_t1_loop.trips) : BitVec 1 :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c2_i32_3398 : BitVec 32 := 2#32
  let v6903 : BitVec 32 := Scalar.addi v24 c2_i32_3398
  let c4_i32_5132 : BitVec 32 := 4#32
  let v10334 : BitVec 32 := Scalar.addi v6903 c4_i32_5132
  let c128_i32_5133 : BitVec 32 := 128#32
  let v10335 : BitVec 1 := Scalar.cmpi .slt v10334 c128_i32_5133
  let v10336 : BitVec 32 := Scalar.extui v10335
  let c0_i32_5134 : BitVec 32 := 0#32
  let v10337 : BitVec 1 := Scalar.cmpi .ne v10336 c0_i32_5134
  v10337

def k0_off9 (k0_t1 : Fin k0_t1_loop.trips) : Fin 2 → Nat :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c2_i32_3398 : BitVec 32 := 2#32
  let v6903 : BitVec 32 := Scalar.addi v24 c2_i32_3398
  let c4_i32_6878 : BitVec 32 := 4#32
  let v13781 : BitVec 32 := Scalar.addi v6903 c4_i32_6878
  let c0_i32_6879 : BitVec 32 := 0#32
  ![v13781.toNat, 0]
def k0_cond7 (k0_t1 : Fin k0_t1_loop.trips) : BitVec 1 :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c3_i32_5138 : BitVec 32 := 3#32
  let v10342 : BitVec 32 := Scalar.addi v24 c3_i32_5138
  let c4_i32_5142 : BitVec 32 := 4#32
  let v10346 : BitVec 1 := Scalar.cmpi .sge v10342 c4_i32_5142
  let v10347 : BitVec 32 := Scalar.extui v10346
  let c0_i32_5143 : BitVec 32 := 0#32
  let v10348 : BitVec 1 := Scalar.cmpi .ne v10347 c0_i32_5143
  v10348

def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6878 : BitVec 32 := 0#32
  ![v2.toNat, 0]
def k0_cond8 (k0_t1 : Fin k0_t1_loop.trips) : BitVec 1 :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c3_i32_5138 : BitVec 32 := 3#32
  let v10342 : BitVec 32 := Scalar.addi v24 c3_i32_5138
  let c4_i32_6872 : BitVec 32 := 4#32
  let v13773 : BitVec 32 := Scalar.addi v10342 c4_i32_6872
  let c128_i32_6873 : BitVec 32 := 128#32
  let v13774 : BitVec 1 := Scalar.cmpi .slt v13773 c128_i32_6873
  let v13775 : BitVec 32 := Scalar.extui v13774
  let c0_i32_6874 : BitVec 32 := 0#32
  let v13776 : BitVec 1 := Scalar.cmpi .ne v13775 c0_i32_6874
  v13776

def k0_off11 (k0_t1 : Fin k0_t1_loop.trips) : Fin 2 → Nat :=
  let c0_i32_14 : BitVec 32 := 0#32
  let c1_i32_15 : BitVec 32 := 1#32
  let arg22 : BitVec 32 := Scf.iv c0_i32_14 c1_i32_15 k0_t1
  let c4_i32 : BitVec 32 := 4#32
  let v24 : BitVec 32 := Scalar.muli arg22 c4_i32
  let c3_i32_5138 : BitVec 32 := 3#32
  let v10342 : BitVec 32 := Scalar.addi v24 c3_i32_5138
  let c4_i32_6878 : BitVec 32 := 4#32
  let v13781 : BitVec 32 := Scalar.addi v10342 c4_i32_6878
  let c0_i32_6879 : BitVec 32 := 0#32
  ![v13781.toNat, 0]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_17 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== BagReferenceIdeal.lean ====
abbrev S16384x26 : Shape := ⟨2, ![16384, 26]⟩
abbrev S26x1000x128 : Shape := ⟨3, ![26, 1000, 128]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x128 : Shape := ⟨3, ![16384, 26, 128]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x1000x128, .f32⟩
  | .hbm, ⟨2, _⟩ => ⟨S26, .i32⟩
  | .hbm, ⟨3, _⟩ => ⟨S1x26, .i32⟩
  | .hbm, ⟨4, _⟩ => ⟨S_, .i32⟩
  | .hbm, ⟨5, _⟩ => ⟨S1x26, .i32⟩
  | .hbm, ⟨6, _⟩ => ⟨S1x26, .i1⟩
  | .hbm, ⟨7, _⟩ => ⟨S_, .i32⟩
  | .hbm, ⟨8, _⟩ => ⟨S1x26, .i32⟩
  | .hbm, ⟨9, _⟩ => ⟨S1x26, .i32⟩
  | .hbm, ⟨10, _⟩ => ⟨S1x26, .i32⟩
  | .hbm, ⟨11, _⟩ => ⟨S_, .i32⟩
  | .hbm, ⟨12, _⟩ => ⟨S16384x26, .i32⟩
  | .hbm, ⟨13, _⟩ => ⟨S16384x26, .i1⟩
  | .hbm, ⟨14, _⟩ => ⟨S_, .i32⟩
  | .hbm, ⟨15, _⟩ => ⟨S16384x26, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S16384x26x1, .i32⟩
  | .hbm, ⟨20, _⟩ => ⟨S16384x26x1, .i32⟩
  | .hbm, ⟨21, _⟩ => ⟨S16384x26x2, .i32⟩
  | .hbm, ⟨22, _⟩ => ⟨S16384x26x128, .f32⟩
  | .hbm, ⟨23, _⟩ => ⟨S_, .f32⟩
  | .hbm, ⟨24, _⟩ => ⟨S16384x128, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Fold.lean ====
abbrev S26x1000x128 : Shape := ⟨3, ![26, 1000, 128]⟩
abbrev S3328x128 : Shape := ⟨2, ![3328, 128]⟩
abbrev S1x1000x128 : Shape := ⟨3, ![1, 1000, 128]⟩
abbrev S128x128 : Shape := ⟨2, ![128, 128]⟩
abbrev S1000x128 : Shape := ⟨2, ![1000, 128]⟩

abbrev nBuf : Space → Nat
  | .hbm => 3
  | .vmem => 6
  | .smem => 0
  | _ => 0

abbrev bufTy : (tb : Table) → Fin (tcTables nBuf tb) → BufTy
  | .hbm, ⟨0, _⟩ => ⟨S26x1000x128, .f32⟩
  | .hbm, ⟨1, _⟩ => ⟨S3328x128, .f32⟩
  | .hbm, ⟨2, _⟩ => ⟨S26x1000x128, .f32⟩
  | .local _ .vmem, ⟨0, _⟩ => ⟨S1x1000x128, .f32⟩
  | .local _ .vmem, ⟨1, _⟩ => ⟨S1x1000x128, .f32⟩
  | .local _ .vmem, ⟨2, _⟩ => ⟨S128x128, .f32⟩
  | .local _ .vmem, ⟨3, _⟩ => ⟨S128x128, .f32⟩
  | .local _ .vmem, ⟨4, _⟩ => ⟨S1x1000x128, .f32⟩
  | .local _ .vmem, ⟨5, _⟩ => ⟨S1x1000x128, .f32⟩
  | _, _ => ⟨S26x1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![26], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoldReferenceIdeal.lean ====
abbrev S26x1000x128 : Shape := ⟨3, ![26, 1000, 128]⟩
abbrev S3328x128 : Shape := ⟨2, ![3328, 128]⟩
abbrev S26x128x128 : Shape := ⟨3, ![26, 128, 128]⟩

abbrev nBuf : Space → Nat
  | .hbm => 4
  | .vmem => 0
  | .smem => 0
  | _ => 0

abbrev bufTy : (tb : Table) → Fin (tcTables nBuf tb) → BufTy
  | .hbm, ⟨0, _⟩ => ⟨S26x1000x128, .f32⟩
  | .hbm, ⟨1, _⟩ => ⟨S3328x128, .f32⟩
  | .hbm, ⟨2, _⟩ => ⟨S26x128x128, .f32⟩
  | .hbm, ⟨3, _⟩ => ⟨S26x1000x128, .f32⟩
  | _, _ => ⟨S26x1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Tail.lean ====
abbrev S16384x128 : Shape := ⟨2, ![16384, 128]⟩
abbrev S1x128 : Shape := ⟨2, ![1, 128]⟩
abbrev S128x64 : Shape := ⟨2, ![128, 64]⟩
abbrev S1x64 : Shape := ⟨2, ![1, 64]⟩
abbrev S64x1 : Shape := ⟨2, ![64, 1]⟩
abbrev S1x1 : Shape := ⟨2, ![1, 1]⟩
abbrev S16384x1 : Shape := ⟨2, ![16384, 1]⟩
abbrev S1024x128 : Shape := ⟨2, ![1024, 128]⟩
abbrev S1024x1 : Shape := ⟨2, ![1024, 1]⟩
abbrev S128 : Shape := ⟨1, ![128]⟩
abbrev S1024x64 : Shape := ⟨2, ![1024, 64]⟩

abbrev nBuf : Space → Nat
  | .hbm => 8
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S1x128, .f32⟩
  | .hbm, ⟨3, _⟩ => ⟨S128x64, .f32⟩
  | .hbm, ⟨4, _⟩ => ⟨S1x64, .f32⟩
  | .hbm, ⟨5, _⟩ => ⟨S64x1, .f32⟩
  | .hbm, ⟨6, _⟩ => ⟨S1x1, .f32⟩
  | .hbm, ⟨7, _⟩ => ⟨S16384x1, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S1024x1, .f32⟩
  | .local _ .vmem, ⟨9, _⟩ => ⟨S1024x1, .f32⟩
  | .local _ .vmem, ⟨10, _⟩ => ⟨S1x128, .f32⟩
  | .local _ .vmem, ⟨11, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== TailReferenceIdeal.lean ====
abbrev S16384x128 : Shape := ⟨2, ![16384, 128]⟩
abbrev S1x128 : Shape := ⟨2, ![1, 128]⟩
abbrev S128x64 : Shape := ⟨2, ![128, 64]⟩
abbrev S1x64 : Shape := ⟨2, ![1, 64]⟩
abbrev S64x1 : Shape := ⟨2, ![64, 1]⟩
abbrev S1x1 : Shape := ⟨2, ![1, 1]⟩
abbrev S_ : Shape := ⟨0, ![]⟩
abbrev S128 : Shape := ⟨1, ![128]⟩
abbrev S16384x64 : Shape := ⟨2, ![16384, 64]⟩
abbrev S16384x1 : Shape := ⟨2, ![16384, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S1x128, .f32⟩
  | .hbm, ⟨3, _⟩ => ⟨S128x64, .f32⟩
  | .hbm, ⟨4, _⟩ => ⟨S1x64, .f32⟩
  | .hbm, ⟨5, _⟩ => ⟨S64x1, .f32⟩
  | .hbm, ⟨6, _⟩ => ⟨S1x1, .f32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S_, .f32⟩
  | .hbm, ⟨11, _⟩ => ⟨S1x128, .f32⟩
  | .hbm, ⟨12, _⟩ => ⟨S1x128, .f32⟩
  | .hbm, ⟨13, _⟩ => ⟨S16384x128, .f32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S_, .f32⟩
  | .hbm, ⟨35, _⟩ => ⟨S16384x128, .f32⟩
  | .hbm, ⟨36, _⟩ => ⟨S16384x128, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S16384x64, .f32⟩
  | .hbm, ⟨42, _⟩ => ⟨S16384x64, .f32⟩
  | .hbm, ⟨43, _⟩ => ⟨S16384x1, .f32⟩
  | .hbm, ⟨44, _⟩ => ⟨S16384x1, .f32⟩
  | .hbm, ⟨45, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Step.lean ====
/-
  Running a stretch of loads and stores between two buffers of a subcore's vector memory, as a function of the buffers'
  contents.
-/
module

public import proofs.«01_k».proof.Proof.Gen.KernelIdeal
public import Idealize.ShloMosaic.Lib.Tactic

@[expose] public section

noncomputable section

namespace Cert.Proof.Step

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {p : Proc τ} {α : Type}

/-- The contents of a buffer of the processor's vector memory. -/
abbrev Cont (sig : RefSig) (Val : EltTy → Type) (κ : Kind) (b : Fin (sig.nNear κ .vmem)) : Type := (sig.tyNear κ .vmem b).Contents Val

/-- The contents of one buffer as those of an equal one. -/
def castC {κ : Kind} {a b : Fin (sig.nNear κ .vmem)} (h : a = b) (g : Cont sig Val κ a) : Cont sig Val κ b := h ▸ g

/-- What a load through a view of the buffer `gb` or `ob` reads of it. -/
def ldVal {κ : Kind} (gb ob : Fin (sig.nNear κ .vmem)) (g : Cont sig Val κ gb) (o : Cont sig Val κ ob) {s : Shape} {e : EltTy} :
    (cs : CoreSpace) → (m : Memref sig κ cs s e) → (r : LoadRect s) → Option (r.shape.Idx → Val e)
  | .vmem, m, r =>
    if h : gb = m.view.buf then some (m.view.readAt Val r (castC h g))
    else if h : ob = m.view.buf then some (m.view.readAt Val r (castC h o)) else none
  | .smem, _, _ => none

/-- What a store through a view of the buffer `ob` leaves in it. -/
def stVal {κ : Kind} (ob : Fin (sig.nNear κ .vmem)) (o : Cont sig Val κ ob) {s : Shape} {e : EltTy} :
    (cs : CoreSpace) → (m : Memref sig κ cs s e) → (r : Rect s) → (r.shape.Idx → Val e) → Finset r.shape.Idx → Option (Cont sig Val κ ob)
  | .vmem, m, r, w, M => if h : ob = m.view.buf then some (castC h.symm ((m.access r).write Val (castC h o) w M)) else none
  | .smem, _, _, _, _ => none

/-- At most `n` loads from the buffers `gb` and `ob`, which hold `g` and `o`, and stores to `ob`: the program that is left and what `ob` then holds. -/
def run (gb ob : Fin (sig.nNear p.kind .vmem)) (g : Cont sig Val p.kind gb) :
    Nat → Prog (TpuEff nD τ sig Val Λ p) α → Cont sig Val p.kind ob → Prog (TpuEff nD τ sig Val Λ p) α × Cont sig Val p.kind ob
  | 0, q, o => (q, o)
  | n + 1, q, o => match q with
    | .op (.load (cs := cs) m r _) k => (ldVal gb ob g o cs m r).elim (q, o) fun v => run gb ob g n (k v) o
    | .op (.store (cs := cs) m r w M _ _) k => (stVal ob o cs m r w M).elim (q, o) fun o' => run gb ob g n (k ⟨⟩) o'
    | q => (q, o)

section Rule

variable {Ix : Type} [DecidableEq Ix] {Name : Type} [DecidableEq Name] {U : Type} [URA U] {Lvl : Type} [Preorder Lvl]
variable {defs : Defs nD τ sig Val Λ} (𝒱 : Variants) (c : Thread nD τ) (bd : Option 𝒱.V) {Γ : PendingWaitsCtx sig Ix} (E : Set Name)
variable {Q : α → sProp (MT nD τ sig Ix Val Name U Lvl)}

local notation "𝕄" => MT nD τ sig Ix Val Name U Lvl

/-- A buffer of the vector memory by its number. -/
abbrev vref {κ : Kind} (b : Fin (sig.nNear κ .vmem)) (h : sig.names κ .vmem b = true) : Ref sig κ := ⟨.vmem, b, h⟩

/-- A load through a view of one of the two buffers. -/
theorem load_of (gb ob : Fin (sig.nNear c.2.kind .vmem)) (hg : sig.names c.2.kind .vmem gb = true) (ho : sig.names c.2.kind .vmem ob = true)
    (x : PosShare TreeShare) (g : Cont sig Val c.2.kind gb) (o : Cont sig Val c.2.kind ob) {s : Shape} {e : EltTy} {cs : CoreSpace}
    (m : Memref sig c.2.kind cs s e) (r : LoadRect s) (hl : m.view.LoadsAt r)
    (k : (r.shape.Idx → Val e) → Prog (TpuEff nD τ sig Val Λ c.2) α) (v : r.shape.Idx → Val e) (h : ldVal gb ob g o cs m r = some v) :
    (iprop((c.loc (vref gb hg) ↦{x} g) ∗ (c.loc (vref ob ho) ↦{fullShare} o)) : sProp 𝕄)
      ⊢ iprop((((c.loc (vref gb hg) ↦{x} g) ∗ (c.loc (vref ob ho) ↦{fullShare} o)) -∗ wp frame (wpE' defs 𝒱 c bd Γ) E (k v) Q)
        -∗ wp frame (wpE' defs 𝒱 c bd Γ) E (.op (.load m r hl) k) Q) := by
  cases cs with
  | smem => exact absurd h (by simp [ldVal])
  | vmem =>
    simp only [ldVal] at h
    split at h
    · rename_i hb; subst hb
      have h' := Option.some.inj h; subst h'
      iintro ⟨Hg, Ho⟩ Hk
      iapply (wp_load 𝒱 c bd E (m := m) (r := r) (hl := hl) (k := k) (S := Finset.univ) (Finset.subset_univ _)) $$ Hg
      iintro Hg
      iapply Hk
      isplitl [Hg] <;> iassumption
    · split at h
      · rename_i hb; subst hb
        have h' := Option.some.inj h; subst h'
        iintro ⟨Hg, Ho⟩ Hk
        iapply (wp_load 𝒱 c bd E (m := m) (r := r) (hl := hl) (k := k) (S := Finset.univ) (Finset.subset_univ _)) $$ Ho
        iintro Ho
        iapply Hk
        isplitl [Hg] <;> iassumption
      · exact absurd h (by simp)

/-- A store through a view of the buffer owned whole. -/
theorem store_of (ob : Fin (sig.nNear c.2.kind .vmem)) (ho : sig.names c.2.kind .vmem ob = true)
    (o o' : Cont sig Val c.2.kind ob) {s : Shape} {e : EltTy} {cs : CoreSpace} (m : Memref sig c.2.kind cs s e) (r : Rect s)
    (w : r.shape.Idx → Val e) (M : Finset r.shape.Idx)
    (hx : (m.access r).Stores M) (hm : M = Finset.univ ∨ ∀ a, r.stride a = 1)
    (k : PUnit → Prog (TpuEff nD τ sig Val Λ c.2) α) (h : stVal ob o cs m r w M = some o') :
    (c.loc (vref ob ho) ↦{fullShare} o : sProp 𝕄)
      ⊢ iprop(((c.loc (vref ob ho) ↦{fullShare} o') -∗ wp frame (wpE' defs 𝒱 c bd Γ) E (k ⟨⟩) Q)
        -∗ wp frame (wpE' defs 𝒱 c bd Γ) E (.op (.store m r w M hx hm) k) Q) := by
  cases cs with
  | smem => exact absurd h (by simp [stVal])
  | vmem =>
    simp only [stVal] at h
    split at h
    · rename_i hb; subst hb
      have h' := Option.some.inj h; subst h'
      exact wp_store 𝒱 c bd E (m := m) (r := r) (w := w) (Mk := M) (hx := hx) (hm := hm) (k := k) (S := Finset.univ) (f := o) (Finset.subset_univ _)
    · exact absurd h (by simp)

/-- Running `n` steps: the buffer read from comes back as it was, the other as the steps leave it. -/
theorem wp_run (gb ob : Fin (sig.nNear c.2.kind .vmem)) (hg : sig.names c.2.kind .vmem gb = true) (ho : sig.names c.2.kind .vmem ob = true)
    (x : PosShare TreeShare) (g : Cont sig Val c.2.kind gb) (n : Nat) :
    ∀ (q : Prog (TpuEff nD τ sig Val Λ c.2) α) (o : Cont sig Val c.2.kind ob),
    (iprop((c.loc (vref gb hg) ↦{x} g) ∗ (c.loc (vref ob ho) ↦{fullShare} o)) : sProp 𝕄)
      ⊢ iprop((((c.loc (vref gb hg) ↦{x} g) ∗ (c.loc (vref ob ho) ↦{fullShare} (run gb ob g n q o).2))
          -∗ wp frame (wpE' defs 𝒱 c bd Γ) E (run gb ob g n q o).1 Q)
        -∗ wp frame (wpE' defs 𝒱 c bd Γ) E q Q) := by
  have base : ∀ (q : Prog (TpuEff nD τ sig Val Λ c.2) α) (o : Cont sig Val c.2.kind ob),
      (iprop((c.loc (vref gb hg) ↦{x} g) ∗ (c.loc (vref ob ho) ↦{fullShare} o)) : sProp 𝕄)
      ⊢ iprop((((c.loc (vref gb hg) ↦{x} g) ∗ (c.loc (vref ob ho) ↦{fullShare} o)) -∗ wp frame (wpE' defs 𝒱 c bd Γ) E q Q)
        -∗ wp frame (wpE' defs 𝒱 c bd Γ) E q Q) := by
    intro q o
    iintro H Hk
    iapply Hk; iexact H
  induction n with
  | zero => exact base
  | succ n ih =>
    intro q o
    cases q with
    | ret a => exact base _ o
    | op e k =>
      cases e
      case load cs s e m r hl =>
        have e0 : run gb ob g (n + 1) (.op (.load m r hl) k) o
            = (ldVal gb ob g o cs m r).elim (.op (.load m r hl) k, o) fun v => run gb ob g n (k v) o := rfl
        rw [e0]
        cases hv : ldVal gb ob g o cs m r with
        | none => exact base _ o
        | some v =>
          iintro H Hk
          iapply (load_of 𝒱 c bd E gb ob hg ho x g o _ _ _ _ v hv) $$ H
          iintro H
          iapply (ih _ o) $$ H
          iexact Hk
      case store cs s e m r w M hx hm =>
        have e0 : run gb ob g (n + 1) (.op (.store m r w M hx hm) k) o
            = (stVal ob o cs m r w M).elim (.op (.store m r w M hx hm) k, o) fun o' => run gb ob g n (k ⟨⟩) o' := rfl
        rw [e0]
        cases ho' : stVal ob o cs m r w M with
        | none => exact base _ o
        | some o' =>
          iintro ⟨Hg, Ho⟩ Hk
          iapply (store_of 𝒱 c bd E ob ho o o' _ _ _ _ _ _ _ ho') $$ Ho
          iintro Ho
          iapply (ih _ o') $$ [Hg Ho]
          · isplitl [Hg] <;> iassumption
          iexact Hk
      all_goals exact base _ o

end Rule

end Cert.Proof.Step

end
-- ==== Proof.Base.lean ====
/-
  The names the modules share: the launch's configuration, the ghost state, and the operands of the SparseCore kernel
  as a tile addresses them.
-/
module

public import proofs.«01_k».proof.Proof.Step
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := URounds (GSem nD τ sig) Unit
/-- The ghost state: the handshakes' rounds, the pipelines' rounds and the transfers' counters. -/
abbrev UU : Type := UH × (UP × Counters)

abbrev EH : Emb UH (MT nD τ sig (HIx 1) (Elt F) ℕ UU ℕ) := embL
/-- The pipelines' rounds inside the whole resource algebra. -/
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP embR; infer_instance

/-- The grid point of a tile. -/
abbrev cV (L : grid1.Coords) : Fin τ.nSC := (L 0).castLE hcore1
abbrev jV (L : grid1.Coords) : Fin τ.nSub := (L 1).castLE hsub1
/-- The thread of a tile. -/
abbrev thr (d : Dev nD) (L : grid1.Coords) : Thread nD τ := V d (cV L) (jV L)

/-- The index rows, the table and the result, as a tile names them. -/
abbrev iM : Memref sig .scVector .hbm S32x128x104 .i32 := Memref.whole main_v7_scv
abbrev tM : Memref sig .scVector .hbm S26000x128 .f32 := Memref.whole main_v8_scv
abbrev oM : Memref sig .scVector .hbm S16384x128 .f32 := Memref.whole main_v9_scv
/-- A tile's copy of its index rows. -/
abbrev xM : Memref sig .scVector .vmem S128x104 .i32 := Memref.whole cc1_scratch0
/-- A tile's four gather buffers. -/
abbrev gM0 : Memref sig .scVector .vmem S104x128 .f32 := Memref.whole cc1_scratch1
abbrev gM1 : Memref sig .scVector .vmem S104x128 .f32 := Memref.whole cc1_scratch2
abbrev gM2 : Memref sig .scVector .vmem S104x128 .f32 := Memref.whole cc1_scratch3
abbrev gM3 : Memref sig .scVector .vmem S104x128 .f32 := Memref.whole cc1_scratch4
/-- A tile's four buffers of sums. -/
abbrev bM0 : Memref sig .scVector .vmem S4x128 .f32 := Memref.whole cc1_scratch5
abbrev bM1 : Memref sig .scVector .vmem S4x128 .f32 := Memref.whole cc1_scratch6
abbrev bM2 : Memref sig .scVector .vmem S4x128 .f32 := Memref.whole cc1_scratch7
abbrev bM3 : Memref sig .scVector .vmem S4x128 .f32 := Memref.whole cc1_scratch8

end Cert.Proof

end
-- ==== Proof.Trip.lean ====
/-
  One trip of a tile's loop: the four buffers' turns.
-/
module

public import proofs.«01_k».proof.Proof.Base
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F]

/-- The processor of a tile. -/
abbrev pV (L : grid1.Coords) : Proc τ := .scVector (cV L) (jV L)

/-- The body of the tile's loop. -/
def trip (L : grid1.Coords) (v2 : BitVec 32) (t : Fin k1_t1_loop.trips) : Prog (TpuEff nD τ sig (Elt F) Λ₀ (pV L)) PUnit := do
  let ⟨v24, v25, v2396, c55_i32_1145⟩ ← k1_part348 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0 0#32 1#32 t
  let ⟨v3464, v4769⟩ ← k1_part349 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0 v2 t v24 v25 v2396 c55_i32_1145
  let ⟨v6903, v7138, v7141⟩ ← k1_part350 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0 v2 t v24 v3464 v4769
  let ⟨v9516, v9519⟩ ← k1_part351 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0 v7138 v7141
  let ⟨v10342, v11889, v11891⟩ ← k1_part352 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0 v2 t v24 v6903 v9516 v9519
  let ⟨v13760, v13763⟩ ← k1_part353 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0 v11889 v11891
  have v13764 : FVec F S16 .f32 := addf v13760 v13763
  let c103_i32_6868 : BitVec 32 := 103#32
  let v13765 : Index := Scalar.indexCast c103_i32_6868
  let c112_6869 : Index := 112#32
  let v13766 : Vec F S1x16 .f32 ← Prog.lift (.load gM3 (Rect.unit (s := S104x128) ![103, 112] S1x16.size inb_S104x128_S1x16_103_112).toLoadRect (View.loadsAt_vmem h_S1x16))
  have v13767 : FVec F S16 .f32 := shapeCast S16 v13766 shapeCasts_S1x16_S16
  have v13768 : FVec F S16 .f32 := addf v13764 v13767
  let c3_i32_6870 : BitVec 32 := 3#32
  let v13769 : Index := Scalar.indexCast c3_i32_6870
  let c112_6871 : Index := 112#32
  let v13770 : Vec F S1x16 .f32 ← Prog.lift (.load bM3 (Rect.unit (s := S4x128) ![3, 112] S1x16.size inb_S4x128_S1x16_3_112).toLoadRect (View.loadsAt_vmem h_S1x16))
  have v13771 : FVec F S16 .f32 := shapeCast S16 v13770 shapeCasts_S1x16_S16
  have v13772 : FVec F S1x16 .f32 := shapeCast S1x16 v13768 shapeCasts_S16_S1x16
  Prog.lift (.store bM3 (Rect.unit (s := S4x128) ![3, 112] S1x16.size inb_S4x128_S1x16_3_112) v13772 Finset.univ (View.stores_vmem_bits_univ h_S1x16 rfl) (.inl rfl))
  let c4_i32_6872 : BitVec 32 := 4#32
  let v13773 : BitVec 32 := Scalar.addi v10342 c4_i32_6872
  let c128_i32_6873 : BitVec 32 := 128#32
  let v13774 : BitVec 1 := Scalar.cmpi .slt v13773 c128_i32_6873
  let v13775 : BitVec 32 := Scalar.extui v13774
  let c0_i32_6874 : BitVec 32 := 0#32
  let v13776 : BitVec 1 := Scalar.cmpi .ne v13775 c0_i32_6874
  if h8 : k1_cond8 t = 1#1 then do
    let c4_i32_6878 : BitVec 32 := 4#32
    let v13781 : BitVec 32 := Scalar.addi v10342 c4_i32_6878
    let c0_i32_6879 : BitVec 32 := 0#32
    let v13782 : Memref sig .scVector .vmem S1x104 .i32 := xM.slice (Rect.unit (s := S128x104) (k1_off11 t) S1x104.size (k1_off11_inb t h8)) (fun _ => rfl)
    let v13783 : Memref sig .scVector .vmem S104 .i32 := v13782.squeeze S104 squeezes_S1x104_S104
    let c0_i32_6880 : BitVec 32 := 0#32
    let c0_i32_6881 : BitVec 32 := 0#32
    let v13784 : Memref sig .scVector .hbm S26000x128 .f32 := tM.slice (Rect.unit (s := S26000x128) ![0, 0] S26000x128.size inb_S26000x128_S26000x128_0_0) (fun _ => rfl)
    SparseCore.enqueueIndirectGather rfl v13784 gM3 gathers_S26000x128_S104x128 v13783 rfl cc1_scratch12.sem (View.wordExact_bits rfl) rfl (Or.inl rfl)
    pure ⟨⟩
  else do
    pure ⟨⟩
  let c4_i32_6875 : BitVec 32 := 4#32
  let v13777 : BitVec 32 := Scalar.muli v10342 c4_i32_6875
  let v13778 : BitVec 32 := Scalar.addi v2 v13777
  let c0_i32_6876 : BitVec 32 := 0#32
  let v13779 : Memref sig .scVector .hbm S4x128 .f32 := oM.slice (Rect.unit (s := S16384x128) (k1_off5 L t 3#32) S4x128.size (k1_off5_inb L t 3)) (fun _ => rfl)
  let c0_i32_6877 : BitVec 32 := 0#32
  let v13780 : Memref sig .scVector .hbm S4x128 .f32 := oM.slice (Rect.unit (s := S16384x128) (k1_off5 L t 3#32) S4x128.size (k1_off5_inb L t 3)) (fun _ => rfl)
  Prog.lift (.enqueueDma bM3 (.here v13780) (.dma cc1_scratch16.sem) (Memref.isWhole_whole _ : bM3.IsWhole).wordExact (View.wordExact_bits rfl) ⟨Or.inl rfl, trivial⟩)
  pure ⟨⟩

end Cert.Proof

end
-- ==== Proof.Sums.lean ====
/-
  What a turn leaves in its buffer of sums: each of its four rows the sum of twenty-six gathered rows, sixteen columns
  at a time.
-/
module

public import proofs.«01_k».proof.Proof.Base

@[expose] public section

noncomputable section

namespace Cert.Proof

open Cert.KernelIdeal Cert.KernelIdeal.Gen
open Idealize.ShloMosaic

variable {F : FTy → Type} [FloatOps F]

theorem gInb (r : Fin 4) (v : Fin 8) (f : Fin 26) : ∀ a, (![26 * r.val + f.val, 16 * v.val] : Fin 2 → Nat) a + S1x16.size a ≤ S104x128.size a
  | 0 => show 26 * r.val + f.val + 1 ≤ 104 by omega
  | 1 => show 16 * v.val + 16 ≤ 128 by omega

theorem bInb (r : Fin 4) (v : Fin 8) : ∀ a, (![r.val, 16 * v.val] : Fin 2 → Nat) a + S1x16.size a ≤ S4x128.size a
  | 0 => show r.val + 1 ≤ 4 by omega
  | 1 => show 16 * v.val + 16 ≤ 128 by omega

/-- Sixteen columns of the row that block row `r` gathers for field `f`. -/
abbrev gRect (r : Fin 4) (v : Fin 8) (f : Fin 26) : Rect S104x128 := Rect.unit (s := S104x128) ![26 * r.val + f.val, 16 * v.val] S1x16.size (gInb r v f)
/-- Sixteen columns of block row `r`. -/
abbrev bRect (r : Fin 4) (v : Fin 8) : Rect S4x128 := Rect.unit (s := S4x128) ![r.val, 16 * v.val] S1x16.size (bInb r v)

/-- What a load of them reads. -/
abbrev rd (M : Memref sig .scVector .vmem S104x128 .f32) (g : M.view.ty.Contents (Elt F)) (r : Fin 4) (v : Fin 8) (f : Fin 26) : FVec F S16 .f32 :=
  shapeCast S16 (M.view.readAt (Elt F) (gRect r v f).toLoadRect g) shapeCasts_S1x16_S16

/-- The sum of the first fields' columns, in order. -/
def acc (M : Memref sig .scVector .vmem S104x128 .f32) (g : M.view.ty.Contents (Elt F)) (r : Fin 4) (v : Fin 8) : (n : Nat) → n < 26 → FVec F S16 .f32
  | 0, h => rd M g r v ⟨0, h⟩
  | n + 1, h => addf (acc M g r v n (Nat.lt_of_succ_lt h)) (rd M g r v ⟨n + 1, h⟩)

/-- The buffer of sums after one more store. -/
abbrev put (N : Memref sig .scVector .vmem S4x128 .f32) (r : Fin 4) (v : Fin 8) (o : N.view.ty.Contents (Elt F)) (w : FVec F S1x16 .f32) :
    N.view.ty.Contents (Elt F) :=
  View.write (Elt F) (N.access (bRect r v)) o w Finset.univ

/-- The buffer of sums after its store number `j`, sixteen columns of one row. -/
abbrev putj (M : Memref sig .scVector .vmem S104x128 .f32) (g : M.view.ty.Contents (Elt F)) (N : Memref sig .scVector .vmem S4x128 .f32) (j : Nat)
    (o : N.view.ty.Contents (Elt F)) : N.view.ty.Contents (Elt F) :=
  put N ⟨j / 8 % 4, Nat.mod_lt _ (by decide)⟩ ⟨j % 8, Nat.mod_lt _ (by decide)⟩ o
    (shapeCast S1x16 (acc M g ⟨j / 8 % 4, Nat.mod_lt _ (by decide)⟩ ⟨j % 8, Nat.mod_lt _ (by decide)⟩ 25 (by decide)) shapeCasts_S16_S1x16)

/-- The buffer of sums after `j` of its thirty-two stores. -/
def sums (M : Memref sig .scVector .vmem S104x128 .f32) (g : M.view.ty.Contents (Elt F)) (N : Memref sig .scVector .vmem S4x128 .f32)
    (o : N.view.ty.Contents (Elt F)) : Nat → N.view.ty.Contents (Elt F)
  | 0 => o
  | j + 1 => putj M g N j (sums M g N o j)

end Cert.Proof

end
-- ==== Proof.Rules.lean ====
/-
  A buffer's turn in one trip of a tile's loop: the state of its two transfers between turns, and the rules of a turn.
-/
module

public import proofs.«01_k».proof.Proof.Trip
public import proofs.«01_k».proof.Proof.Sums

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {c : Thread nD τ} {α : Type} {Q : α → sProp (MT nD τ sig (HIx 1) (Elt F) ℕ UU ℕ)} {P R Fr : sProp (MT nD τ sig (HIx 1) (Elt F) ℕ UU ℕ)}

/-- A bind runs its first part, then the rest. -/
theorem bindI {β : Type} {p : Prog (TpuEff nD τ sig (Elt F) Λ₀ c.2) β} {k : β → Prog (TpuEff nD τ sig (Elt F) Λ₀ c.2) α}
    (h : P ⊢ wp frame (wpE (defs₀ (F := F)) 𝒱₀ c none) Set.univ p (fun x => wp frame (wpE (defs₀ (F := F)) 𝒱₀ c none) Set.univ (k x) Q)) :
    P ⊢ wp frame (wpE (defs₀ (F := F)) 𝒱₀ c none) Set.univ (p >>= k) Q := by
  rw [wp_bind]; exact h

/-- The other way round. -/
theorem bindE {β : Type} {p : Prog (TpuEff nD τ sig (Elt F) Λ₀ c.2) β} {k : β → Prog (TpuEff nD τ sig (Elt F) Λ₀ c.2) α}
    (h : P ⊢ wp frame (wpE (defs₀ (F := F)) 𝒱₀ c none) Set.univ (p >>= k) Q) :
    P ⊢ wp frame (wpE (defs₀ (F := F)) 𝒱₀ c none) Set.univ p (fun x => wp frame (wpE (defs₀ (F := F)) 𝒱₀ c none) Set.univ (k x) Q) := by
  rw [wp_bind] at h; exact h

/-- A program that is done leaves what it was asked for. -/
theorem retI {a : α} (h : P ⊢ Q a) : P ⊢ wp frame (wpE (defs₀ (F := F)) 𝒱₀ c none) Set.univ (.ret a) Q :=
  h.trans (le_wp_ret _ _ _ a Q)

/-- A conditional step whose two branches go on alike: both reach `R`, from which the rest runs. -/
theorem dite_jp {C : Prop} {_ : Decidable C} {A : C → Prog (TpuEff nD τ sig (Elt F) Λ₀ c.2) α} {J : Prog (TpuEff nD τ sig (Elt F) Λ₀ c.2) α}
    (h : R ⊢ wp frame (wpE (defs₀ (F := F)) 𝒱₀ c none) Set.univ J Q) (hf : ¬ C → P ⊢ R)
    (ht : ∀ hC : C, (R ⊢ wp frame (wpE (defs₀ (F := F)) 𝒱₀ c none) Set.univ J Q) → (P ⊢ wp frame (wpE (defs₀ (F := F)) 𝒱₀ c none) Set.univ (A hC) Q)) :
    P ⊢ wp frame (wpE (defs₀ (F := F)) 𝒱₀ c none) Set.univ (dite C A (fun _ => J)) Q := by
  by_cases hC : C
  · rw [dif_pos hC]; exact ht hC h
  · rw [dif_neg hC]; exact (hf hC).trans h

/-- A run of loads and stores that ends in store number `j`. -/
theorem runS {gb ob : Fin (sig.nNear c.2.kind .vmem)} {hg : sig.names c.2.kind .vmem gb = true} {ho : sig.names c.2.kind .vmem ob = true}
    {x : PosShare TreeShare} {g : Step.Cont sig (Elt F) c.2.kind gb} {q q' : Prog (TpuEff nD τ sig (Elt F) Λ₀ c.2) α}
    {S : ℕ → Step.Cont sig (Elt F) c.2.kind ob} {f : ℕ → Step.Cont sig (Elt F) c.2.kind ob → Step.Cont sig (Elt F) c.2.kind ob} {j : ℕ}
    (hS : S (j + 1) = f j (S j)) (h : ∀ o, Step.run gb ob g 28 q o = (q', f j o))
    (hk : iprop(Fr ∗ (c.loc (Step.vref gb hg) ↦{x} g) ∗ (c.loc (Step.vref ob ho) ↦{fullShare} S (j + 1)))
      ⊢ wp frame (wpE (defs₀ (F := F)) 𝒱₀ c none) Set.univ q' Q) :
    iprop(Fr ∗ (c.loc (Step.vref gb hg) ↦{x} g) ∗ (c.loc (Step.vref ob ho) ↦{fullShare} S j))
      ⊢ wp frame (wpE (defs₀ (F := F)) 𝒱₀ c none) Set.univ q Q := by
  rw [hS] at hk
  have h1 := Step.wp_run (defs := defs₀ (F := F)) (Name := ℕ) (U := UU) (Lvl := ℕ) (Ix := HIx 1) (Q := Q) (Γ := []) 𝒱₀ c none Set.univ gb ob hg ho x g 28 q (S j)
  rw [h (S j)] at h1
  iintro ⟨HF, Hg, Ho⟩
  iapply h1 $$ [Hg Ho]
  · iframe Hg Ho
  iintro ⟨Hg, Ho⟩
  iapply hk
  iframe HF Hg Ho

end Cert.Proof

end
-- ==== Proof.Values.lean ====
/-
  What the SparseCore kernel moves, as pure functions: the rows a chunk gathers, their sums, the rows of the result.
-/
module

public import proofs.«01_k».proof.Proof.Sums

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- An index of a two-axis shape. -/
def mk2 {n m : Nat} (i : Fin n) (j : Fin m) : (⟨2, ![n, m]⟩ : Shape).Idx := fun a => match a with | 0 => i | 1 => j
/-- An index of a three-axis shape. -/
def mk3 {n m l : Nat} (i : Fin n) (j : Fin m) (k : Fin l) : (⟨3, ![n, m, l]⟩ : Shape).Idx := fun a => match a with | 0 => i | 1 => j | 2 => k

/-- Two-axis indices with equal coordinates are equal. -/
theorem ext2 {n m : Nat} {x y : (⟨2, ![n, m]⟩ : Shape).Idx} (h0 : (x 0).val = (y 0).val) (h1 : (x 1).val = (y 1).val) : x = y := by
  funext a
  match a with
  | 0 => exact Fin.ext h0
  | 1 => exact Fin.ext h1

/-- The table row an index word names. -/
def rowOf (v : BitVec 32) : Fin 26000 := ⟨v.toNat % 26000, Nat.mod_lt _ (by decide)⟩

/-- The chunk of a number. -/
def chunkOf (n : ℕ) : Fin 128 := ⟨n % 128, Nat.mod_lt _ (by decide)⟩

/-- The rows chunk `n` gathers from the table `T` by the index rows `X`. -/
def Gc (X : S128x104.Idx → Elt F .i32) (T : S26000x128.Idx → Elt F .f32) (n : ℕ) : S104x128.Idx → Elt F .f32 :=
  fun y => T (mk2 (rowOf (X (mk2 (chunkOf n) (y 0)))) (y 1))

/-- The sum of the first terms of a family, in order. -/
def lsum (φ : Fin 26 → F .f32) : (n : Nat) → n < 26 → F .f32
  | 0, h => φ ⟨0, h⟩
  | n + 1, h => FloatOps.addf (lsum φ n (Nat.lt_of_succ_lt h)) (φ ⟨n + 1, h⟩)

/-- The row a block row's field gathers into. -/
def gRow (r : Fin 4) (f : Fin 26) : Fin 104 := ⟨26 * r.val + f.val, by omega⟩

/-- The sums of gathered rows: block row `y 0` is the sum of its twenty-six rows. -/
def Sc (G : S104x128.Idx → Elt F .f32) : S4x128.Idx → Elt F .f32 :=
  fun y => lsum (F := F) (fun f => G (mk2 (gRow (y 0) f) (y 1))) 25 (by decide)

theorem acc_apply (M : Memref sig .scVector .vmem S104x128 .f32) (g : M.view.ty.Contents (Elt F)) (r : Fin 4) (v : Fin 8) (x : S16.Idx) :
    ∀ (n : Nat) (h : n < 26), acc M g r v n h x = lsum (F := F) (fun f => rd M g r v f x) n h
  | 0, _ => rfl
  | n + 1, h => by
    show FloatOps.addf (acc M g r v n (Nat.lt_of_succ_lt h) x) _ = FloatOps.addf _ _
    rw [acc_apply M g r v x n]

/-- One store of sums, as the block it writes reads. -/
theorem acc_block (M : Memref sig .scVector .vmem S104x128 .f32) (g : M.view.ty.Contents (Elt F)) (r : Fin 4) (v : Fin 8) (x : S1x16.Idx) :
    shapeCast S1x16 (acc M g r v 25 (by decide)) shapeCasts_S16_S1x16 x = Sc (F := F) (M.view.read (Elt F) g) ((bRect r v).emb x) := by
  unfold shapeCast
  rw [acc_apply]
  unfold Sc
  congr 1
  funext f
  show M.view.readAt (Elt F) (gRect r v f).toLoadRect g (Shape.reshapeEquiv _ (Shape.reshapeEquiv _ x)) = _
  rw [Shape.reshapeEquiv_reshapeEquiv, Shape.reshapeEquiv_self]
  show M.view.read (Elt F) g ((gRect r v f).emb x) = _
  congr 1
  funext a
  apply Fin.ext
  have h0 : (x 0).val = 0 := by have := (x 0).isLt; simpa using this
  match a with
  | 0 =>
    show 26 * r.val + f.val + 1 * (x 0).val = 26 * (r.val + 1 * (x 0).val) + f.val
    omega
  | 1 => rfl

/-- After `j` stores, the columns stored so far are the sums. -/
theorem sums_read_lt (M : Memref sig .scVector .vmem S104x128 .f32) (g : M.view.ty.Contents (Elt F)) (N : Memref sig .scVector .vmem S4x128 .f32)
    (o : N.view.ty.Contents (Elt F)) (y : S4x128.Idx) :
    ∀ j : Nat, j ≤ 32 → 8 * (y 0).val + (y 1).val / 16 < j →
      N.view.read (Elt F) (sums M g N o j) y = Sc (F := F) (M.view.read (Elt F) g) y
  | 0, _, h => absurd h (Nat.not_lt_zero _)
  | j + 1, hj, h => by
    have hy0 : (y 0).val < 4 := (y 0).isLt
    have hy1 : (y 1).val < 128 := (y 1).isLt
    let r : Rect S4x128 := bRect ⟨j / 8 % 4, Nat.mod_lt _ (by decide)⟩ ⟨j % 8, Nat.mod_lt _ (by decide)⟩
    by_cases hc : 8 * (y 0).val + (y 1).val / 16 = j
    · obtain ⟨x, hx⟩ : ∃ x : S1x16.Idx, (bRect ⟨j / 8 % 4, Nat.mod_lt _ (by decide)⟩ ⟨j % 8, Nat.mod_lt _ (by decide)⟩).emb x = y := by
        refine ⟨mk2 ⟨0, by decide⟩ ⟨(y 1).val % 16, Nat.mod_lt _ (by decide)⟩, ?_⟩
        funext a
        apply Fin.ext
        match a with
        | 0 => show j / 8 % 4 + 1 * 0 = (y 0).val; omega
        | 1 => show 16 * (j % 8) + 1 * ((y 1).val % 16) = (y 1).val; omega
      rw [← hx]
      refine (View.read_slice_write_emb (v := N.view) r (sums M g N o j) _ (Finset.mem_univ x)).trans ?_
      exact acc_block M g _ _ x
    · refine (View.read_slice_write_of_not_mem (v := N.view) r (sums M g N o j) _ Finset.univ (fun hm => ?_)).trans (sums_read_lt M g N o y j (by omega) (by omega))
      · obtain ⟨x, _, hx⟩ := Finset.mem_map.mp hm
        have h0 : (x 0).val = 0 := Nat.lt_one_iff.mp (show (x 0).val < 1 from (x 0).isLt)
        have h1 : (x 1).val < 16 := (x 1).isLt
        have e0 : j / 8 % 4 + 1 * (x 0).val = (y 0).val := congrArg (fun z : S4x128.Idx => (z 0).val) hx
        have e1 : 16 * (j % 8) + 1 * (x 1).val = (y 1).val := congrArg (fun z : S4x128.Idx => (z 1).val) hx
        omega

/-- The whole buffer after its thirty-two stores. -/
theorem sums_read (M : Memref sig .scVector .vmem S104x128 .f32) (g : M.view.ty.Contents (Elt F)) (N : Memref sig .scVector .vmem S4x128 .f32)
    (o : N.view.ty.Contents (Elt F)) : N.view.read (Elt F) (sums M g N o 32) = Sc (F := F) (M.view.read (Elt F) g) := by
  funext y
  have hy0 : (y 0).val < 4 := (y 0).isLt
  have hy1 : (y 1).val < 128 := (y 1).isLt
  exact sums_read_lt M g N o y 32 le_rfl (by omega)

/-- The result the kernel leaves: row `256·…`: each result row is the sum of the twenty-six table rows its indices name. -/
def H1 (I : S32x128x104.Idx → Elt F .i32) (T : S26000x128.Idx → Elt F .f32) : S16384x128.Idx → Elt F .f32 :=
  fun y => lsum (F := F) (fun f => T (mk2 (rowOf (I (mk3 ⟨(y 0).val / 512, by have : (y 0).val < 16384 := (y 0).isLt; omega⟩
    ⟨(y 0).val % 512 / 4, by omega⟩ (gRow ⟨(y 0).val % 4, by omega⟩ f)))) (y 1))) 25 (by decide)

/-- The number of a tile. -/
def wid (L : grid1.Coords) : ℕ := 2 * (L 1).val + (L 0).val
theorem wid_lt (L : grid1.Coords) : wid L < 32 := by
  have h0 : (L 0).val < 2 := (L 0).isLt
  have h1 : (L 1).val < 16 := (L 1).isLt
  unfold wid; omega

/-- Chunk `n` of a tile, as the result rows it makes. -/
theorem H1_chunk (I : S32x128x104.Idx → Elt F .i32) (T : S26000x128.Idx → Elt F .f32) (L : grid1.Coords) (n : ℕ) (hn : n < 128)
    (y : S4x128.Idx) (z : S16384x128.Idx) (h0 : (z 0).val = 512 * wid L + 4 * n + (y 0).val) (h1 : (z 1).val = (y 1).val) :
    H1 I T z = Sc (F := F) (Gc (fun x => I (mk3 ⟨wid L, wid_lt L⟩ (x 0) (x 1))) T n) y := by
  have hy0 : (y 0).val < 4 := (y 0).isLt
  have hw := wid_lt L
  unfold H1 Sc Gc
  congr 1
  funext f
  have e1 : z 1 = y 1 := Fin.ext h1
  rw [e1]
  congr 4
  have a0 : (⟨(z 0).val / 512, by have : (z 0).val < 16384 := (z 0).isLt; omega⟩ : Fin 32) = ⟨wid L, wid_lt L⟩ := Fin.ext (by show (z 0).val / 512 = wid L; omega)
  have a1 : (⟨(z 0).val % 512 / 4, by omega⟩ : Fin 128) = chunkOf n := Fin.ext (by show (z 0).val % 512 / 4 = n % 128; omega)
  have a2 : (⟨(z 0).val % 4, by omega⟩ : Fin 4) = y 0 := Fin.ext (by show (z 0).val % 4 = (y 0).val; omega)
  rw [a0, a1, a2]
  rfl

end Cert.Proof

end
-- ==== Proof.Turn.lean ====
/-
  A buffer's turn in one trip of a tile's loop: the state of its two transfers between turns, and the rules of a turn.
-/
module

public import proofs.«01_k».proof.Proof.Rules
public import proofs.«01_k».proof.Proof.Values

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The row a tile's result rows start from. -/
def base (L : grid1.Coords) : ℕ := 512 * wid L

/-- The result rows of a tile that its buffer `b` makes in the trips from `lo` up to `hi`. -/
def rset (L : grid1.Coords) (b lo hi : ℕ) : Finset S16384x128.Idx :=
  Finset.univ.filter fun x => base L ≤ (x 0).val ∧ (x 0).val < base L + 512 ∧ ((x 0).val - base L) / 4 % 4 = b
    ∧ lo ≤ ((x 0).val - base L) / 16 ∧ ((x 0).val - base L) / 16 < hi

variable (d : Dev nD) (L : grid1.Coords)

/-- A part of the result, held at contents `f`. -/
abbrev oPart (s : Finset S16384x128.Idx) (f : S16384x128.Idx → Elt F .f32) : sProp 𝕄 :=
  ((oM.view.loc (thr d L)) ↦[s]{fullShare} f)

omit [FloatOps F] in
/-- Two runs of trips one after the other, as one. -/
theorem rset_split (b : ℕ) {lo mid hi : ℕ} (h1 : lo ≤ mid) (h2 : mid ≤ hi) (f : S16384x128.Idx → Elt F .f32) :
    oPart (F := F) d L (rset L b lo hi) f ⊣⊢ iprop(oPart d L (rset L b lo mid) f ∗ oPart d L (rset L b mid hi) f) := by
  have hu : rset L b lo hi = rset L b lo mid ∪ rset L b mid hi := by
    ext x; simp only [rset, Finset.mem_union, Finset.mem_filter, Finset.mem_univ, true_and]; omega
  have hd : Disjoint (rset L b lo mid) (rset L b mid hi) := by
    rw [Finset.disjoint_left]; intro x; simp only [rset, Finset.mem_filter, Finset.mem_univ, true_and]; omega
  rw [hu]
  exact pointsTo_union hd

section State

variable (gM : Memref sig .scVector .vmem S104x128 .f32) (bM : Memref sig .scVector .vmem S4x128 .f32) (gs os : DmaSem sig) (b : ℕ)
variable (qt qx : PosShare TreeShare) (X : S128x104.Idx → Elt F .i32) (T : S26000x128.Idx → Elt F .f32)
variable (H : S16384x128.Idx → Elt F .f32) (O : CellTallies nD τ sig (HIx 1)) (W : Waits sig (HIx 1))

/-- The right to wait on any semaphore, and what the tile owes. -/
abbrev Own : sProp 𝕄 := iprop(Transfers.MayWaits (thr d L) (default : HIx 1) O ∗ ∃ W', ⌜∀ p ∈ W', p ∈ W ∨ p.2 = none⌝ ∗ owes (thr d L) O W')

/-- The shares of the table and of the index rows that a buffer's gathers read. -/
abbrev Shr : sProp 𝕄 := iprop((tM.view.loc (thr d L) ↦{qt} T) ∗ (xM.view.loc (thr d L) ↦{qx} X))

/-- A gather buffer that holds the rows of chunk `n`. -/
abbrev GDel (n : ℕ) : sProp 𝕄 := iprop((∃ g, ⌜gM.view.read (Elt F) g = Gc X T n⌝ ∗ (gM.view.loc (thr d L) ↦{fullShare} g)) ∗ Shr d L qt qx X T)

/-- A gather buffer before trip `t`: its gather is in flight, or all are done. -/
def Gst (t : ℕ) : sProp 𝕄 :=
  if t < 32 then Transfers.Flight countersEmb (thr d L) (.dma gs) (default : HIx 1) gM.view.dmaCredit (GDel d L gM qt qx X T (4 * t + b))
  else iprop((∃ g, gM.view.loc (thr d L) ↦{fullShare} g) ∗ Shr d L qt qx X T ∗ semVal (thr d L, SemLoc.dma gs) 0)

/-- A buffer of sums at rest. -/
abbrev ORest : sProp 𝕄 := iprop((∃ o, bM.view.loc (thr d L) ↦{fullShare} o) ∗ semVal (thr d L, SemLoc.dma os) 0)

/-- A buffer of sums before trip `t`: at rest, or on its way out. -/
def Ost (t : ℕ) : sProp 𝕄 :=
  if t = 0 then ORest (F := F) d L bM os
  else Transfers.Flight countersEmb (thr d L) (.dma os) (default : HIx 1) bM.view.dmaCredit
    iprop(oPart d L (rset L b (t - 1) t) H ∗ (∃ o, bM.view.loc (thr d L) ↦{fullShare} o))

/-- The result rows that have arrived before trip `t`, and those not begun. -/
abbrev Arr (t : ℕ) : sProp 𝕄 := oPart d L (rset L b 0 (t - 1)) H
abbrev Beg (t : ℕ) : sProp 𝕄 := iprop(∃ f, oPart (F := F) d L (rset L b t 32) f)

/-- A buffer's state before trip `t`. -/
def Ib (t : ℕ) : sProp 𝕄 :=
  iprop(Gst d L gM gs b qt qx X T t ∗ Ost d L bM os b H t ∗ Arr d L b H t ∗ Beg d L b t)

variable {d L gM bM gs os b qt qx X T H O W}
variable {α : Type} {Q : α → sProp (MT nD τ sig (HIx 1) (Elt F) ℕ UU ℕ)} {P R Fr : sProp (MT nD τ sig (HIx 1) (Elt F) ℕ UU ℕ)}

/-- A wait for a transfer in flight. -/
theorem waitI {sem : DmaSem sig} {spS spD : Space} {sS sD : Shape} {eS eD : EltTy} {src : Memref sig (thr d L).2.kind spS sS eS} {dst : Memref sig (thr d L).2.kind spD sD eD}
    {h1 : src.view.WordExact} {h2 : dst.view.WordExact}
    {k : PUnit → Prog (TpuEff nD τ sig (Elt F) Λ₀ (thr d L).2) α} {N : ℕ} {Dv : sProp 𝕄} (hN : dst.view.dmaCredit = N)
    (h : iprop(Fr ∗ Own (F := F) d L O W ∗ Dv ∗ semVal (thr d L, SemLoc.dma sem) 0) ⊢ wp frame (wpE (defs₀ (F := F)) 𝒱₀ (thr d L) none) Set.univ (k ⟨⟩) Q) :
    iprop(Fr ∗ Own (F := F) d L O W ∗ Transfers.Flight countersEmb (thr d L) (.dma sem) (default : HIx 1) N Dv)
      ⊢ wp frame (wpE (defs₀ (F := F)) 𝒱₀ (thr d L) none) Set.univ (.op (.waitDma2 sem src dst h1 h2) k) Q := by
  iintro ⟨HF, ⟨#Hmw, %W', %hW', Ho⟩, Hfl⟩
  ihave Hm := (Transfers.MayWaits.elim (SemLoc.dma sem)) $$ Hmw
  iapply (Transfers.wp_waitLocalO countersEmb 𝒱₀ (thr d L) none (default : HIx 1) hN) $$ [Hfl Ho Hm]
  · iframe Hfl Ho Hm
  iintro ⟨Hd, Hs, Ho⟩
  iapply h
  iframe HF Hd Hs
  isplitl []; · iexact Hmw
  iexists (insert (SemLoc.dma sem, (default : HIx 1)) W')
  isplitl []
  · ipureintro
    intro p hp
    rcases Finset.mem_insert.mp hp with rfl | hp
    · exact Or.inr rfl
    · exact hW' p hp
  iexact Ho

/-- The wait for a trip's gathered rows. -/
theorem w1 {t : ℕ} (ht : t < 32) {spS : Space} {sS : Shape} {eS : EltTy} {src : Memref sig (thr d L).2.kind spS sS eS}
    {h1 : src.view.WordExact} {h2 : gM.view.WordExact} {k : PUnit → Prog (TpuEff nD τ sig (Elt F) Λ₀ (thr d L).2) α}
    (h : iprop(Fr ∗ Own (F := F) d L O W ∗ (GDel d L gM qt qx X T (4 * t + b) ∗ semVal (thr d L, SemLoc.dma gs) 0) ∗ Ost d L bM os b H t ∗ Arr d L b H t ∗ Beg d L b t)
      ⊢ wp frame (wpE (defs₀ (F := F)) 𝒱₀ (thr d L) none) Set.univ (k ⟨⟩) Q) :
    iprop(Fr ∗ Own (F := F) d L O W ∗ Ib d L gM bM gs os b qt qx X T H t)
      ⊢ wp frame (wpE (defs₀ (F := F)) 𝒱₀ (thr d L) none) Set.univ (.op (.waitDma2 gs src gM h1 h2) k) Q := by
  have h3 := waitI (F := F) (d := d) (L := L) (O := O) (W := W) (Q := Q) (sem := gs) (src := src) (dst := gM) (h1 := h1) (h2 := h2) (k := k) (N := gM.view.dmaCredit)
    (Fr := iprop(Fr ∗ Ost d L bM os b H t ∗ Arr d L b H t ∗ Beg d L b t)) (Dv := GDel d L gM qt qx X T (4 * t + b)) rfl (by
      refine BIBase.Entails.trans ?_ h
      iintro ⟨⟨HF, H2⟩, HO, Hd, Hs⟩
      iframe HF HO Hd Hs H2)
  refine BIBase.Entails.trans ?_ h3
  unfold Ib Gst
  rw [if_pos ht]
  iintro ⟨HF, HO, Hg, H2⟩
  iframe HF HO Hg H2

/-- The state of the results once a buffer of sums is free again. -/
theorem w2rest {t : ℕ} : iprop(Arr d L b H t ∗ (if t = 0 then iprop(emp) else oPart (F := F) d L (rset L b (t - 1) t) H)) ⊢ Arr (F := F) d L b H (t + 1) := by
  by_cases h0 : t = 0
  · subst h0; rw [if_pos rfl]; iintro ⟨H, _⟩; iexact H
  · rw [if_neg h0]
    exact (rset_split d L b (Nat.zero_le _) (Nat.sub_le t 1) H).2

/-- With nothing on its way out there is nothing to wait for, -/
theorem w2f {t : ℕ} (h0 : t = 0) {G : sProp 𝕄} :
    iprop(Fr ∗ Own (F := F) d L O W ∗ G ∗ Ost d L bM os b H t ∗ Arr d L b H t ∗ Beg d L b t)
      ⊢ iprop(Fr ∗ Own (F := F) d L O W ∗ G ∗ ORest d L bM os ∗ Arr d L b H (t + 1) ∗ Beg d L b t) := by
  subst h0; unfold Ost; rw [if_pos rfl]

/-- and otherwise the wait brings the block in. -/
theorem w2t {t : ℕ} (h0 : t ≠ 0) {G : sProp 𝕄} {spS spD : Space} {sS sD : Shape} {eS eD : EltTy}
    {src : Memref sig (thr d L).2.kind spS sS eS} {dst : Memref sig (thr d L).2.kind spD sD eD}
    {h1 : src.view.WordExact} {h2 : dst.view.WordExact} {k : PUnit → Prog (TpuEff nD τ sig (Elt F) Λ₀ (thr d L).2) α} (hN : dst.view.dmaCredit = bM.view.dmaCredit)
    (h : iprop(Fr ∗ Own (F := F) d L O W ∗ G ∗ ORest d L bM os ∗ Arr d L b H (t + 1) ∗ Beg d L b t)
      ⊢ wp frame (wpE (defs₀ (F := F)) 𝒱₀ (thr d L) none) Set.univ (k ⟨⟩) Q) :
    iprop(Fr ∗ Own (F := F) d L O W ∗ G ∗ Ost d L bM os b H t ∗ Arr d L b H t ∗ Beg d L b t)
      ⊢ wp frame (wpE (defs₀ (F := F)) 𝒱₀ (thr d L) none) Set.univ (.op (.waitDma2 os src dst h1 h2) k) Q := by
  have hr := w2rest (F := F) (d := d) (L := L) (b := b) (H := H) (t := t)
  rw [if_neg h0] at hr
  have h3 := waitI (F := F) (d := d) (L := L) (O := O) (W := W) (Q := Q) (sem := os) (src := src) (dst := dst) (h1 := h1) (h2 := h2) (k := k) (N := bM.view.dmaCredit)
    (Fr := iprop(Fr ∗ G ∗ Arr d L b H t ∗ Beg d L b t)) (Dv := iprop(oPart d L (rset L b (t - 1) t) H ∗ (∃ o, bM.view.loc (thr d L) ↦{fullShare} o))) hN (by
      refine BIBase.Entails.trans ?_ h
      iintro ⟨⟨HF, HG, HA, HB⟩, HO, ⟨Hp, Hb⟩, Hs⟩
      ihave HA := hr $$ [HA Hp]
      · iframe HA Hp
      iframe HF HO HG Hb Hs HA HB)
  refine BIBase.Entails.trans ?_ h3
  unfold Ost
  rw [if_neg h0]
  iintro ⟨HF, HO, HG, Hf, HA, HB⟩
  iframe HF HO HG Hf HA HB

/-- The buffers opened for the loads and stores, -/
theorem w3 {t : ℕ} {q : Prog (TpuEff nD τ sig (Elt F) Λ₀ (thr d L).2) α}
    (h : ∀ g o, gM.view.read (Elt F) g = Gc X T (4 * t + b) →
      (iprop((Fr ∗ Own (F := F) d L O W ∗ Shr d L qt qx X T ∗ semVal (thr d L, SemLoc.dma gs) 0 ∗ semVal (thr d L, SemLoc.dma os) 0 ∗ Arr d L b H (t + 1) ∗ Beg d L b t)
        ∗ (gM.view.loc (thr d L) ↦{fullShare} g) ∗ (bM.view.loc (thr d L) ↦{fullShare} sums gM g bM o 0)) : sProp 𝕄)
      ⊢ wp frame (wpE (defs₀ (F := F)) 𝒱₀ (thr d L) none) Set.univ q Q) :
    iprop(Fr ∗ Own (F := F) d L O W ∗ (GDel d L gM qt qx X T (4 * t + b) ∗ semVal (thr d L, SemLoc.dma gs) 0) ∗ ORest d L bM os ∗ Arr d L b H (t + 1) ∗ Beg d L b t)
      ⊢ wp frame (wpE (defs₀ (F := F)) 𝒱₀ (thr d L) none) Set.univ q Q := by
  iintro ⟨HF, HO, ⟨⟨⟨%g, %hg, Hg⟩, Hsh⟩, Hgs⟩, ⟨⟨%o, Hb⟩, Hos⟩, HA, HB⟩
  iapply (h g o hg)
  iframe HF HO Hsh Hgs Hos HA HB Hg
  iexact Hb

/-- The state after a turn's loads and stores, once the next gather is in flight. -/
abbrev Mid (Fr : sProp 𝕄) (d : Dev nD) (L : grid1.Coords) (gM : Memref sig .scVector .vmem S104x128 .f32) (bM : Memref sig .scVector .vmem S4x128 .f32) (gs os : DmaSem sig) (b : ℕ)
    (qt qx : PosShare TreeShare) (X : S128x104.Idx → Elt F .i32) (T : S26000x128.Idx → Elt F .f32) (H : S16384x128.Idx → Elt F .f32)
    (O : CellTallies nD τ sig (HIx 1)) (W : Waits sig (HIx 1)) (t : ℕ) (w : bM.view.ty.Contents (Elt F)) : sProp 𝕄 :=
  iprop(Fr ∗ Own (F := F) d L O W ∗ Gst d L gM gs b qt qx X T (t + 1) ∗ semVal (thr d L, SemLoc.dma os) 0 ∗ (bM.view.loc (thr d L) ↦{fullShare} w)
    ∗ Arr d L b H (t + 1) ∗ Beg d L b t)

/-- In the last trip no gather is begun; -/
theorem w4f {t : ℕ} (ht : ¬ t + 1 < 32) {g : gM.view.ty.Contents (Elt F)} {w : bM.view.ty.Contents (Elt F)} :
    (iprop((Fr ∗ Own (F := F) d L O W ∗ Shr d L qt qx X T ∗ semVal (thr d L, SemLoc.dma gs) 0 ∗ semVal (thr d L, SemLoc.dma os) 0 ∗ Arr d L b H (t + 1) ∗ Beg d L b t)
        ∗ (gM.view.loc (thr d L) ↦{fullShare} g) ∗ (bM.view.loc (thr d L) ↦{fullShare} w)) : sProp 𝕄)
      ⊢ Mid Fr d L gM bM gs os b qt qx X T H O W t w := by
  unfold Mid Gst
  rw [if_neg ht]
  iintro ⟨⟨HF, HO, Hsh, Hgs, Hos, HA, HB⟩, Hg, Hb⟩
  iframe HF HO Hsh Hgs Hos HA HB Hb
  iexists g; iexact Hg

/-- What a gather by one index row delivers. -/
theorem gather_val (hX : ∀ x, (X x).toNat < 26000) {n : ℕ} (hn : n < 128) {off : Fin 2 → Nat} (inb : ∀ a, off a + S1x104.size a ≤ S128x104.size a)
    (hoff : off = ![n, 0]) (inb0 : ∀ a, (![0, 0] : Fin 2 → Nat) a + S26000x128.size a ≤ S26000x128.size a) (hs1 hs2 : _)
    (hg : S26000x128.Gathers 0 S104x128) (hnn : S104.numel = S104x128.size hg.axis') (hin : _) :
    SparseCore.gatherPayload (F := F) (e := .f32) hg ((tM.slice (Rect.unit (s := S26000x128) ![0, 0] S26000x128.size inb0) hs1).view.read (Elt F) T)
      (SparseCore.rows (F := F) (((xM.slice (Rect.unit (s := S128x104) off S1x104.size inb) hs2).squeeze S104 squeezes_S1x104_S104).view.read (Elt F) X) hnn hin)
      = Gc X T n := by
  subst hoff
  funext y
  have hk : ∀ k : S104.Idx, ((xM.slice (Rect.unit (s := S128x104) ![n, 0] S1x104.size inb) hs2).squeeze S104 squeezes_S1x104_S104).view.read (Elt F) X k
      = X (mk2 (chunkOf n) (k 0)) := by
    intro k
    show X ((Rect.unit (s := S128x104) ![n, 0] S1x104.size inb).emb (Shape.reshapeEquiv _ k)) = _
    congr 1
    rw [Shape.reshapeEquiv_eq_of_rowMajor (s := S1x104) (s' := S104) (x := k) (y := mk2 ⟨0, by decide⟩ (k 0)) _ (by
      rw [Shape.rowMajor_val_two, Shape.rowMajor_val_one]; show 0 * 104 + (k 0).val = (k 0).val; omega)]
    funext a
    apply Fin.ext
    match a with
    | 0 => show n + 1 * 0 = n % 128; omega
    | 1 => show 0 + 1 * (k 0).val = (k 0).val; omega
  show T ((Rect.unit (s := S26000x128) ![0, 0] S26000x128.size inb0).emb (hg.idx _ y)) = T _
  congr 1
  funext a
  apply Fin.ext
  match a with
  | 0 =>
    show 0 + 1 * (BitVec.toNat (((xM.slice (Rect.unit (s := S128x104) ![n, 0] S1x104.size inb) hs2).squeeze S104 squeezes_S1x104_S104).view.read (Elt F) X
        (S104.rowMajor.symm ((y 0).cast _)))) = _ % 26000
    rw [hk, Nat.mod_eq_of_lt (hX _), Nat.zero_add, Nat.one_mul]
    congr 4
    have := Shape.rowMajor_val_one (S104.rowMajor.symm ((y 0).cast hnn.symm))
    rw [Equiv.apply_symm_apply] at this
    exact Fin.ext this.symm
  | 1 => show 0 + 1 * (y 1).val = (y 1).val; omega

/-- A gather by one index row, begun: it will deliver the rows of chunk `n`. -/
theorem gatherI (hX : ∀ x, (X x).toNat < 26000) {n : ℕ} (hn : n < 128) {off : Fin 2 → Nat} {inb : ∀ a, off a + S1x104.size a ≤ S128x104.size a}
    (hoff : off = ![n, 0]) {inb0 : ∀ a, (![0, 0] : Fin 2 → Nat) a + S26000x128.size a ≤ S26000x128.size a} {hs1 hs2 : _}
    {hg : S26000x128.Gathers 0 S104x128} {hnn : S104.numel = S104x128.size hg.axis'}
    {hp : (thr d L).2.kind = .scVector} {hsrc : _} {he : EltTy.f32.bits = 32} {hsp : _} {hr : S26000x128.StreamRows 0}
    {k : PUnit → Prog (TpuEff nD τ sig (Elt F) Λ₀ (thr d L).2) α}
    (hN : ∑ j, (gM.slice (S104x128.rowRect hg.axis' j) (S104x128.stride_rowRect hg.axis' j)).view.dmaCredit = gM.view.dmaCredit)
    (h : iprop(Fr ∗ Transfers.Flight countersEmb (thr d L) (.dma gs) (default : HIx 1) gM.view.dmaCredit (GDel d L gM qt qx X T n))
      ⊢ wp frame (wpE (defs₀ (F := F)) 𝒱₀ (thr d L) none) Set.univ (k ⟨⟩) Q) {g : gM.view.ty.Contents (Elt F)} :
    iprop(Fr ∗ Shr d L qt qx X T ∗ semVal (thr d L, SemLoc.dma gs) 0 ∗ (gM.view.loc (thr d L) ↦{fullShare} g))
      ⊢ wp frame (wpE (defs₀ (F := F)) 𝒱₀ (thr d L) none) Set.univ
        (SparseCore.enqueueIndirectGather hp (tM.slice (Rect.unit (s := S26000x128) ![0, 0] S26000x128.size inb0) hs1) gM hg
          ((xM.slice (Rect.unit (s := S128x104) off S1x104.size inb) hs2).squeeze S104 squeezes_S1x104_S104) hnn gs hsrc he hsp hr >>= k) Q := by
  have hin : ∀ x, ((((xM.slice (Rect.unit (s := S128x104) off S1x104.size inb) hs2).squeeze S104 squeezes_S1x104_S104).view.read (Elt F) X x)).toNat < S26000x128.size hg.axis :=
    fun x => hX _
  iintro ⟨HF, ⟨HT, HX⟩, Hs, Hg⟩
  iapply (SparseCore.wp_gatherFromWhole countersEmb 𝒱₀ (thr d L) none (default : HIx 1) gM.view.dmaCredit hN (by decide) hin) $$ [HT HX Hs Hg]
  · iframe HT HX Hs Hg
  iintro Hfl
  iapply h
  iframe HF
  iapply (Transfers.Flight_mono countersEmb (thr d L) (D := iprop((gM.view.loc (thr d L) ↦{fullShare} (gM.view.write (Elt F) g
      (SparseCore.gatherPayload hg ((tM.slice (Rect.unit (s := S26000x128) ![0, 0] S26000x128.size inb0) hs1).view.read (Elt F) T)
        (SparseCore.rows (((xM.slice (Rect.unit (s := S128x104) off S1x104.size inb) hs2).squeeze S104 squeezes_S1x104_S104).view.read (Elt F) X) hnn hin)) Finset.univ))
      ∗ (tM.view.loc (thr d L) ↦{qt} T) ∗ (xM.view.loc (thr d L) ↦{qx} X))) (by
    iintro ⟨Hg, HT, HX⟩
    iframe HT HX
    iexists (gM.view.write (Elt F) g (SparseCore.gatherPayload hg ((tM.slice (Rect.unit (s := S26000x128) ![0, 0] S26000x128.size inb0) hs1).view.read (Elt F) T)
        (SparseCore.rows (((xM.slice (Rect.unit (s := S128x104) off S1x104.size inb) hs2).squeeze S104 squeezes_S1x104_S104).view.read (Elt F) X) hnn hin)) Finset.univ)
    isplitl []
    · ipureintro
      exact (View.read_write_univ _ _).trans (gather_val hX hn inb hoff inb0 hs1 hs2 hg hnn hin)
    iexact Hg))
  iexact Hfl

/-- and otherwise the next trip's gather goes off. -/
theorem w4t {t : ℕ} (hb : b < 4) (ht : t + 1 < 32) (hX : ∀ x, (X x).toNat < 26000) {off : Fin 2 → Nat} {inb : ∀ a, off a + S1x104.size a ≤ S128x104.size a}
    (hoff : off = ![4 * t + 4 + b, 0]) {inb0 : ∀ a, (![0, 0] : Fin 2 → Nat) a + S26000x128.size a ≤ S26000x128.size a} {hs1 hs2 : _}
    {hg : S26000x128.Gathers 0 S104x128} {hnn : S104.numel = S104x128.size hg.axis'}
    {hp : (thr d L).2.kind = .scVector} {hsrc : _} {he : EltTy.f32.bits = 32} {hsp : _} {hr : S26000x128.StreamRows 0}
    {k : PUnit → Prog (TpuEff nD τ sig (Elt F) Λ₀ (thr d L).2) α}
    (hN : ∑ j, (gM.slice (S104x128.rowRect hg.axis' j) (S104x128.stride_rowRect hg.axis' j)).view.dmaCredit = gM.view.dmaCredit)
    {g : gM.view.ty.Contents (Elt F)} {w : bM.view.ty.Contents (Elt F)}
    (h : Mid Fr d L gM bM gs os b qt qx X T H O W t w ⊢ wp frame (wpE (defs₀ (F := F)) 𝒱₀ (thr d L) none) Set.univ (k ⟨⟩) Q) :
    (iprop((Fr ∗ Own (F := F) d L O W ∗ Shr d L qt qx X T ∗ semVal (thr d L, SemLoc.dma gs) 0 ∗ semVal (thr d L, SemLoc.dma os) 0 ∗ Arr d L b H (t + 1) ∗ Beg d L b t)
        ∗ (gM.view.loc (thr d L) ↦{fullShare} g) ∗ (bM.view.loc (thr d L) ↦{fullShare} w)) : sProp 𝕄)
      ⊢ wp frame (wpE (defs₀ (F := F)) 𝒱₀ (thr d L) none) Set.univ
        (SparseCore.enqueueIndirectGather hp (tM.slice (Rect.unit (s := S26000x128) ![0, 0] S26000x128.size inb0) hs1) gM hg
          ((xM.slice (Rect.unit (s := S128x104) off S1x104.size inb) hs2).squeeze S104 squeezes_S1x104_S104) hnn gs hsrc he hsp hr >>= k) Q := by
  have h3 := gatherI (F := F) (d := d) (L := L) (Q := Q) (gM := gM) (gs := gs) (qt := qt) (qx := qx) (X := X) (T := T) hX (n := 4 * (t + 1) + b) (by omega) (inb := inb)
    (hoff.trans (by rw [show 4 * t + 4 + b = 4 * (t + 1) + b by omega])) (inb0 := inb0) (hs1 := hs1) (hs2 := hs2) (hg := hg) (hnn := hnn) (hp := hp) (hsrc := hsrc) (he := he) (hsp := hsp) (hr := hr) (k := k) hN
    (Fr := iprop(Fr ∗ Own (F := F) d L O W ∗ semVal (thr d L, SemLoc.dma os) 0 ∗ (bM.view.loc (thr d L) ↦{fullShare} w) ∗ Arr d L b H (t + 1) ∗ Beg d L b t)) (g := g) (by
      refine BIBase.Entails.trans ?_ h
      unfold Mid Gst
      rw [if_pos ht]
      iintro ⟨⟨HF, HO, Hos, Hb, HA, HB⟩, Hfl⟩
      iframe HF HO Hos Hb HA HB Hfl)
  refine BIBase.Entails.trans ?_ h3
  iintro ⟨⟨HF, HO, Hsh, Hgs, Hos, HA, HB⟩, Hg, Hb⟩
  iframe HF HO Hsh Hgs Hos HA HB Hg Hb

/-- The block of sums starts on its way out. -/
theorem w5 {t : ℕ} (ht : t < 32) (hb : b < 4) {off : Fin 2 → Nat} {inb : ∀ a, off a + S4x128.size a ≤ S16384x128.size a}
    (hoff : off = ![base L + 16 * t + 4 * b, 0]) {hs : _} {h1 h2 h3 : _} {k : PUnit → Prog (TpuEff nD τ sig (Elt F) Λ₀ (thr d L).2) α}
    (hN : bM.view.dmaCredit = (oM.slice (Rect.unit (s := S16384x128) off S4x128.size inb) hs).view.amount (.dma os)) (hN0 : 0 < bM.view.dmaCredit)
    {w : bM.view.ty.Contents (Elt F)} {G : S104x128.Idx → Elt F .f32} (hw : bM.view.read (Elt F) w = Sc (F := F) G)
    (hH : ∀ (y : S4x128.Idx) (z : S16384x128.Idx), (z 0).val = base L + 4 * (4 * t + b) + (y 0).val → (z 1).val = (y 1).val → H z = Sc (F := F) G y)
    (h : iprop(Fr ∗ Own (F := F) d L O W ∗ Ib d L gM bM gs os b qt qx X T H (t + 1)) ⊢ wp frame (wpE (defs₀ (F := F)) 𝒱₀ (thr d L) none) Set.univ (k ⟨⟩) Q) :
    Mid Fr d L gM bM gs os b qt qx X T H O W t w ⊢ wp frame (wpE (defs₀ (F := F)) 𝒱₀ (thr d L) none) Set.univ
      (.op (.enqueueDmaAs bM (.here (oM.slice (Rect.unit (s := S16384x128) off S4x128.size inb) hs)) .same (.dma os) h1 h2 h3) k) Q := by
  subst hoff
  have hset : (oM.slice (Rect.unit (s := S16384x128) ![base L + 16 * t + 4 * b, 0] S4x128.size inb) hs).view.set ⊆ rset L b t (t + 1) := by
    intro x hx
    obtain ⟨y, _, rfl⟩ := Finset.mem_map.mp hx
    have hy : (y 0).val < 4 := (y 0).isLt
    have e : (((oM.slice (Rect.unit (s := S16384x128) ![base L + 16 * t + 4 * b, 0] S4x128.size inb) hs).view.emb y : S16384x128.Idx) 0).val
      = base L + 16 * t + 4 * b + 1 * (y 0).val := rfl
    refine Finset.mem_filter.mpr ⟨Finset.mem_univ _, ?_⟩
    rw [e]; omega
  have hval : ∀ f : S16384x128.Idx → Elt F .f32, ∀ z ∈ rset L b t (t + 1),
      (oM.slice (Rect.unit (s := S16384x128) ![base L + 16 * t + 4 * b, 0] S4x128.size inb) hs).view.write (Elt F) f (bM.view.read (Elt F) w) Finset.univ z = H z := by
    intro f z hz
    have hz' := (Finset.mem_filter.mp hz).2
    let y : S4x128.Idx := mk2 ⟨(z 0).val - (base L + 16 * t + 4 * b), by omega⟩ (z 1)
    have hy : (oM.slice (Rect.unit (s := S16384x128) ![base L + 16 * t + 4 * b, 0] S4x128.size inb) hs).view.emb y = z := by
      refine ext2 (n := 16384) (m := 128) ?_ ?_
      · have e : base L + 16 * t + 4 * b + 1 * ((z 0).val - (base L + 16 * t + 4 * b)) = (z 0).val := by omega
        exact e
      · have e : 0 + 1 * (z 1).val = (z 1).val := by omega
        exact e
    have hv := hH y z (by show (z 0).val = base L + 4 * (4 * t + b) + ((z 0).val - (base L + 16 * t + 4 * b)); omega) rfl
    rw [hv, ← hw]
    conv_lhs => rw [← hy]
    exact View.write_emb_of_mem _ _ (Finset.mem_univ y)
  iintro ⟨HF, HO, HG, Hos, Hb, HA, ⟨%f, HB⟩⟩
  ihave ⟨Hp, HB⟩ := (rset_split d L b (Nat.le_succ t) (show t + 1 ≤ 32 from ht) f).1 $$ HB
  iapply (Transfers.wp_dmaFromWhole countersEmb 𝒱₀ (thr d L) none (default : HIx 1) bM.view.dmaCredit hN.symm hN0 hset) $$ [Hb Hp Hos]
  · iframe Hb Hp Hos
  iintro Hfl
  iapply h
  iframe HF HO
  unfold Ib
  iframe HG HA
  isplitl [Hfl]
  · unfold Ost
    rw [if_neg (Nat.succ_ne_zero t)]
    iapply (Transfers.Flight_mono countersEmb (thr d L) (D := iprop(oPart d L (rset L b t (t + 1))
        ((oM.slice (Rect.unit (s := S16384x128) ![base L + 16 * t + 4 * b, 0] S4x128.size inb) hs).view.write (Elt F) f (bM.view.read (Elt F) w) Finset.univ)
      ∗ (bM.view.loc (thr d L) ↦{fullShare} w))) (by
      iintro ⟨Hp, Hb⟩
      isplitl [Hp]
      · ihave Hp := (Entails.of_eq (pointsTo_congr (hval f))) $$ Hp
        iexact Hp
      iexists w; iexact Hb))
    iexact Hfl
  iexists f; iexact HB

end State

end Cert.Proof

end
-- ==== Proof.Inv.lean ====
/-
  The state of a tile before a trip of its loop, and the conditions a trip branches on.
-/
module

public import proofs.«01_k».proof.Proof.Turn

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A gather's rows count what a whole buffer counts. -/
theorem hN0 : ∀ hg : S26000x128.Gathers 0 S104x128, ∑ j, (gM0.slice (S104x128.rowRect hg.axis' j) (S104x128.stride_rowRect hg.axis' j)).view.dmaCredit = gM0.view.dmaCredit := by decide
theorem hN1 : ∀ hg : S26000x128.Gathers 0 S104x128, ∑ j, (gM1.slice (S104x128.rowRect hg.axis' j) (S104x128.stride_rowRect hg.axis' j)).view.dmaCredit = gM1.view.dmaCredit := by decide
theorem hN2 : ∀ hg : S26000x128.Gathers 0 S104x128, ∑ j, (gM2.slice (S104x128.rowRect hg.axis' j) (S104x128.stride_rowRect hg.axis' j)).view.dmaCredit = gM2.view.dmaCredit := by decide
theorem hN3 : ∀ hg : S26000x128.Gathers 0 S104x128, ∑ j, (gM3.slice (S104x128.rowRect hg.axis' j) (S104x128.stride_rowRect hg.axis' j)).view.dmaCredit = gM3.view.dmaCredit := by decide
/-- A block of the result counts what the buffer of sums counts. -/
theorem hM0 (off : Fin 2 → Nat) (inb) (hs) : bM0.view.dmaCredit = (oM.slice (Rect.unit (s := S16384x128) off S4x128.size inb) hs).view.amount (.dma cc1_scratch13.sem) := rfl
theorem hM1 (off : Fin 2 → Nat) (inb) (hs) : bM1.view.dmaCredit = (oM.slice (Rect.unit (s := S16384x128) off S4x128.size inb) hs).view.amount (.dma cc1_scratch14.sem) := rfl
theorem hM2 (off : Fin 2 → Nat) (inb) (hs) : bM2.view.dmaCredit = (oM.slice (Rect.unit (s := S16384x128) off S4x128.size inb) hs).view.amount (.dma cc1_scratch15.sem) := rfl
theorem hM3 (off : Fin 2 → Nat) (inb) (hs) : bM3.view.dmaCredit = (oM.slice (Rect.unit (s := S16384x128) off S4x128.size inb) hs).view.amount (.dma cc1_scratch16.sem) := rfl
theorem hP0 : 0 < bM0.view.dmaCredit := by decide
theorem hP1 : 0 < bM1.view.dmaCredit := by decide
theorem hP2 : 0 < bM2.view.dmaCredit := by decide
theorem hP3 : 0 < bM3.view.dmaCredit := by decide

theorem cond1_iff : ∀ t : Fin k1_t1_loop.trips, k1_cond1 t = 1#1 ↔ t.val ≠ 0 := by decide +kernel
theorem cond3_iff : ∀ t : Fin k1_t1_loop.trips, k1_cond3 t = 1#1 ↔ t.val ≠ 0 := by decide +kernel
theorem cond5_iff : ∀ t : Fin k1_t1_loop.trips, k1_cond5 t = 1#1 ↔ t.val ≠ 0 := by decide +kernel
theorem cond7_iff : ∀ t : Fin k1_t1_loop.trips, k1_cond7 t = 1#1 ↔ t.val ≠ 0 := by decide +kernel
theorem cond2_iff : ∀ t : Fin k1_t1_loop.trips, k1_cond2 t = 1#1 ↔ t.val + 1 < 32 := by decide +kernel
theorem cond4_iff : ∀ t : Fin k1_t1_loop.trips, k1_cond4 t = 1#1 ↔ t.val + 1 < 32 := by decide +kernel
theorem cond6_iff : ∀ t : Fin k1_t1_loop.trips, k1_cond6 t = 1#1 ↔ t.val + 1 < 32 := by decide +kernel
theorem cond8_iff : ∀ t : Fin k1_t1_loop.trips, k1_cond8 t = 1#1 ↔ t.val + 1 < 32 := by decide +kernel

/-- A turn's place in the result. -/
theorem off5_eq (L : grid1.Coords) (t : Fin k1_t1_loop.trips) (r : Fin 4) : k1_off5 L t (BitVec.ofNat 32 r.val) = ![base L + 16 * t.val + 4 * r.val, 0] := by
  rw [k1_off5_eq]
  unfold base wid
  congr 1
  omega

/-- The state of a tile before trip `t`. -/
def Inv (d : Dev nD) (L : grid1.Coords) (qt qx : Fin 4 → PosShare TreeShare) (X : S128x104.Idx → Elt F .i32) (T : S26000x128.Idx → Elt F .f32)
    (H : S16384x128.Idx → Elt F .f32) (O : CellTallies nD τ sig (HIx 1)) (W : Waits sig (HIx 1)) (t : ℕ) : sProp 𝕄 :=
  iprop(Own (F := F) d L O W
    ∗ Ib d L gM0 bM0 cc1_scratch9.sem cc1_scratch13.sem 0 (qt 0) (qx 0) X T H t
    ∗ Ib d L gM1 bM1 cc1_scratch10.sem cc1_scratch14.sem 1 (qt 1) (qx 1) X T H t
    ∗ Ib d L gM2 bM2 cc1_scratch11.sem cc1_scratch15.sem 2 (qt 2) (qx 2) X T H t
    ∗ Ib d L gM3 bM3 cc1_scratch12.sem cc1_scratch16.sem 3 (qt 3) (qx 3) X T H t)

end Cert.Proof

end
-- ==== Proof.Tile.lean ====
/-
  One tile's run of the SparseCore kernel.
-/
module

public import proofs.«01_k».proof.Proof.Inv
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A tile's index rows. -/
def Xr (I : S32x128x104.Idx → Elt F .i32) (L : grid1.Coords) : S128x104.Idx → Elt F .i32 := fun x => I (mk3 ⟨wid L, wid_lt L⟩ (x 0) (x 1))

/-- The trip the loop's body is. -/
theorem cond_loop : k1_t1_loop.trips = 32 := by decide

/-- What the copy of a tile's index rows leaves. -/
theorem idx_val (I : S32x128x104.Idx → Elt F .i32) (L : grid1.Coords) (x0 : S128x104.Idx → Elt F .i32) (hs : _) :
    xM.view.write (Elt F) x0 (((iM.slice (Rect.unit (s := S32x128x104) (k1_off1 L) S1x128x104.size (k1_off1_inb L)) hs).squeeze S128x104
      squeezes_S1x128x104_S128x104).view.read (Elt F) I) Finset.univ = Xr I L := by
  rw [View.write_whole_univ]
  funext x
  show I ((Rect.unit (s := S32x128x104) (k1_off1 L) S1x128x104.size (k1_off1_inb L)).emb (Shape.reshapeEquiv _ x)) = I _
  congr 1
  rw [Shape.reshapeEquiv_eq_of_rowMajor (s := S1x128x104) (s' := S128x104) (x := x) (y := mk3 ⟨0, by decide⟩ (x 0) (x 1)) _ (by
    rw [Shape.rowMajor_val_three, Shape.rowMajor_val_two]; show (0 * 128 + (x 0).val) * 104 + (x 1).val = (x 0).val * 104 + (x 1).val; omega)]
  funext a
  apply Fin.ext
  rw [Rect.emb_apply]
  have h1 : ∀ a, (Rect.unit (s := S32x128x104) (k1_off1 L) S1x128x104.size (k1_off1_inb L)).off a = (![2 * (L 1).val + (L 0).val, 0, 0] : Fin 3 → Nat) a := by
    intro a; show k1_off1 L a = _; rw [k1_off1_eq]
  rw [h1]
  match a with
  | 0 => show 2 * (L 1).val + (L 0).val + 1 * 0 = wid L; unfold wid; omega
  | 1 => show 0 + 1 * (x 0).val = (x 0).val; omega
  | 2 => show 0 + 1 * (x 1).val = (x 1).val; omega

/-- What a tile has of its own for a buffer: the two buffers and the two semaphores, at rest. -/
abbrev Buf1 (d : Dev nD) (L : grid1.Coords) (gM : Memref sig .scVector .vmem S104x128 .f32) (bM : Memref sig .scVector .vmem S4x128 .f32) (gs os : DmaSem sig) : sProp 𝕄 :=
  iprop((∃ g, gM.view.loc (thr d L) ↦{fullShare} g) ∗ semVal (thr d L, SemLoc.dma gs) 0 ∗ ORest (F := F) d L bM os)

/-- What a tile has of its own. -/
abbrev Bufs (d : Dev nD) (L : grid1.Coords) : sProp 𝕄 :=
  iprop(semVal (thr d L, SemLoc.dma cc1_scoped0.sem) 0
    ∗ Buf1 (F := F) d L gM0 bM0 cc1_scratch9.sem cc1_scratch13.sem ∗ Buf1 (F := F) d L gM1 bM1 cc1_scratch10.sem cc1_scratch14.sem
    ∗ Buf1 (F := F) d L gM2 bM2 cc1_scratch11.sem cc1_scratch15.sem ∗ Buf1 (F := F) d L gM3 bM3 cc1_scratch12.sem cc1_scratch16.sem)

/-- The four parts of a tile's result rows. -/
abbrev Outs (d : Dev nD) (L : grid1.Coords) (f : S16384x128.Idx → Elt F .f32) : sProp 𝕄 :=
  iprop(oPart d L (rset L 0 0 32) f ∗ oPart d L (rset L 1 0 32) f ∗ oPart d L (rset L 2 0 32) f ∗ oPart d L (rset L 3 0 32) f)

/-- A share in four. -/
theorem four {ℓ : Loc nD τ sig} (q : PosShare TreeShare) (f : Buf (Elt F) ℓ) :
    (ℓ ↦{q} f : sProp 𝕄) ⊣⊢ iprop((ℓ ↦{ShareLeaves.leaf 2 q 0} f) ∗ (ℓ ↦{ShareLeaves.leaf 2 q 1} f) ∗ (ℓ ↦{ShareLeaves.leaf 2 q 2} f) ∗ (ℓ ↦{ShareLeaves.leaf 2 q 3} f)) := by
  rw [ShareLeaves.pointsTo_leaves Finset.univ f 2 q, bigSep_univ_eq_bigSepL [(0 : Fin (2 ^ 2)), 1, 2, 3] (by decide) (by decide)]
  rw [bigSepL_cons_cons, bigSepL_cons_cons, bigSepL_cons_cons, bigSepL_singleton]
  exact ⟨.refl, .refl⟩

variable {d : Dev nD} {L : grid1.Coords} {O : CellTallies nD τ sig (HIx 1)} {W : Waits sig (HIx 1)}

/-- A gather of chunk `n`, with the first trip's state of its buffer in sight. -/
theorem begI {gM : Memref sig .scVector .vmem S104x128 .f32} {bM : Memref sig .scVector .vmem S4x128 .f32} {gs os : DmaSem sig} {b : ℕ} {qt qx : PosShare TreeShare}
    {X : S128x104.Idx → Elt F .i32} {T : S26000x128.Idx → Elt F .f32} {H f : S16384x128.Idx → Elt F .f32} :
    iprop(Transfers.Flight countersEmb (thr d L) (.dma gs) (default : HIx 1) gM.view.dmaCredit (GDel (F := F) d L gM qt qx X T b) ∗ ORest (F := F) d L bM os
      ∗ oPart d L (rset L b 0 32) f) ⊢ Ib d L gM bM gs os b qt qx X T H 0 := by
  unfold Ib Gst Ost
  rw [if_pos (by decide), if_pos rfl, Nat.mul_zero, Nat.zero_add]
  have h := rset_split (F := F) d L b (lo := 0) (mid := 0) (hi := 32) le_rfl (by decide) f
  iintro ⟨HF, HO, Hp⟩
  iframe HF HO
  ihave Hp := h.1 $$ Hp
  icases Hp with ⟨Ha, Hb⟩
  isplitl [Ha]
  · have hz : rset L b 0 0 = ∅ := by ext x; simp only [rset, Finset.mem_filter, Finset.notMem_empty, iff_false]; omega
    iapply (Entails.of_eq (pointsTo_congr (f := f) (g := H) (fun x hx => by
      have hx' : x ∈ rset L b 0 0 := hx
      rw [hz] at hx'; exact absurd hx' (Finset.notMem_empty x))))
    iexact Ha
  · iexists f; iexact Hb

/-- The last wait of a buffer brings all its result rows in. -/
theorem endI {gM : Memref sig .scVector .vmem S104x128 .f32} {bM : Memref sig .scVector .vmem S4x128 .f32} {gs os : DmaSem sig} {b : ℕ} {qt qx : PosShare TreeShare}
    {X : S128x104.Idx → Elt F .i32} {T : S26000x128.Idx → Elt F .f32} {H : S16384x128.Idx → Elt F .f32} {α : Type} {Q : α → sProp (MT nD τ sig (HIx 1) (Elt F) ℕ UU ℕ)}
    {Fr : sProp (MT nD τ sig (HIx 1) (Elt F) ℕ UU ℕ)} {spS spD : Space} {sS sD : Shape} {eS eD : EltTy}
    {src : Memref sig (thr d L).2.kind spS sS eS} {dst : Memref sig (thr d L).2.kind spD sD eD}
    {h1 : src.view.WordExact} {h2 : dst.view.WordExact} {k : PUnit → Prog (TpuEff nD τ sig (Elt F) Λ₀ (thr d L).2) α} (hN : dst.view.dmaCredit = bM.view.dmaCredit)
    (h : iprop((Fr ∗ Buf1 (F := F) d L gM bM gs os ∗ Shr d L qt qx X T ∗ oPart d L (rset L b 0 32) H) ∗ Own (F := F) d L O W)
      ⊢ wp frame (wpE (defs₀ (F := F)) 𝒱₀ (thr d L) none) Set.univ (k ⟨⟩) Q) :
    iprop(Fr ∗ Own (F := F) d L O W ∗ Ib d L gM bM gs os b qt qx X T H 32)
      ⊢ wp frame (wpE (defs₀ (F := F)) 𝒱₀ (thr d L) none) Set.univ (.op (.waitDma2 os src dst h1 h2) k) Q := by
  have h3 := w2t (F := F) (d := d) (L := L) (bM := bM) (os := os) (b := b) (H := H) (O := O) (W := W) (Q := Q) (Fr := Fr) (t := 32) (by decide) (G := Gst d L gM gs b qt qx X T 32)
    (src := src) (dst := dst) (h1 := h1) (h2 := h2) (k := k) hN (by
      refine BIBase.Entails.trans ?_ h
      unfold Gst
      rw [if_neg (by decide)]
      iintro ⟨HF, HO, ⟨Hg, Hsh, Hs⟩, Hb, HA, -⟩
      iframe HF HO Hg Hsh Hs Hb HA)
  exact h3

/-- What a gather of buffer `k` needs. -/
abbrev Pg (d : Dev nD) (L : grid1.Coords) (gM : Memref sig .scVector .vmem S104x128 .f32) (gs : DmaSem sig) (g : gM.view.ty.Contents (Elt F)) (q : PosShare TreeShare) (k : Fin (2 ^ 2))
    (X : S128x104.Idx → Elt F .i32) (T : S26000x128.Idx → Elt F .f32) : sProp 𝕄 :=
  iprop(Shr d L (ShareLeaves.leaf 2 q k) (ShareLeaves.leaf 2 fullShare k) X T ∗ semVal (thr d L, SemLoc.dma gs) 0 ∗ (gM.view.loc (thr d L) ↦{fullShare} g))

/-- What it makes. -/
abbrev Fg (d : Dev nD) (L : grid1.Coords) (gM : Memref sig .scVector .vmem S104x128 .f32) (gs : DmaSem sig) (q : PosShare TreeShare) (k : Fin (2 ^ 2))
    (X : S128x104.Idx → Elt F .i32) (T : S26000x128.Idx → Elt F .f32) : sProp 𝕄 :=
  Transfers.Flight countersEmb (thr d L) (.dma gs) (default : HIx 1) gM.view.dmaCredit (GDel (F := F) d L gM (ShareLeaves.leaf 2 q k) (ShareLeaves.leaf 2 fullShare k) X T k.val)

/-- The body up to the loop: the index rows come in, and the first four gathers go off. -/
theorem pro_ok (qi q : PosShare TreeShare) (I : S32x128x104.Idx → Elt F .i32) (T : S26000x128.Idx → Elt F .f32)
    (H : S16384x128.Idx → Elt F .f32) (hI : ∀ x, (I x).toNat < 26000)
    {α : Type} {Q : α → sProp (MT nD τ sig (HIx 1) (Elt F) ℕ UU ℕ)} {k : _ → Prog (TpuEff nD τ sig (Elt F) Λ₀ (thr d L).2) α} (f : S16384x128.Idx → Elt F .f32)
    (h : ∀ v2, iprop(((iM.view.loc (thr d L) ↦{qi} I) ∗ semVal (thr d L, SemLoc.dma cc1_scoped0.sem) 0)
        ∗ Inv d L (ShareLeaves.leaf 2 q) (ShareLeaves.leaf 2 fullShare) (Xr I L) T H O W 0)
      ⊢ wp frame (wpE (defs₀ (F := F)) 𝒱₀ (thr d L) none) Set.univ (k ⟨v2, 0#32, 32#32⟩) Q) :
    iprop(Own (F := F) d L O W ∗ (iM.view.loc (thr d L) ↦{qi} I) ∗ (tM.view.loc (thr d L) ↦{q} T) ∗ (∃ x, xM.view.loc (thr d L) ↦{fullShare} x)
      ∗ Bufs (F := F) d L ∗ Outs d L f)
      ⊢ wp frame (wpE (defs₀ (F := F)) 𝒱₀ (thr d L) none) Set.univ
        (k1_part354 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0 >>= k) Q := by
  refine bindI ?_
  unfold k1_part354
  iintro ⟨HO, HI, HT, ⟨%x0, HX⟩, ⟨Hs0, ⟨⟨%g0, Hg0⟩, Hgs0, Ho0⟩, ⟨⟨%g1, Hg1⟩, Hgs1, Ho1⟩, ⟨⟨%g2, Hg2⟩, Hgs2, Ho2⟩, ⟨⟨%g3, Hg3⟩, Hgs3, Ho3⟩⟩, Hp0, Hp1, Hp2, Hp3⟩
  iapply (Transfers.wp_dmaFromWhole countersEmb 𝒱₀ (thr d L) none (default : HIx 1) xM.view.dmaCredit rfl (by decide) (Finset.subset_univ _)) $$ [HI HX Hs0]
  · iframe HI HX Hs0
  iintro Hfl
  iapply (waitI (F := F) (d := d) (L := L) (O := O) (W := W)
    (Fr := iprop((tM.view.loc (thr d L) ↦{q} T)
      ∗ ((gM0.view.loc (thr d L) ↦{fullShare} g0) ∗ semVal (thr d L, SemLoc.dma cc1_scratch9.sem) 0 ∗ ORest (F := F) d L bM0 cc1_scratch13.sem)
      ∗ ((gM1.view.loc (thr d L) ↦{fullShare} g1) ∗ semVal (thr d L, SemLoc.dma cc1_scratch10.sem) 0 ∗ ORest (F := F) d L bM1 cc1_scratch14.sem)
      ∗ ((gM2.view.loc (thr d L) ↦{fullShare} g2) ∗ semVal (thr d L, SemLoc.dma cc1_scratch11.sem) 0 ∗ ORest (F := F) d L bM2 cc1_scratch15.sem)
      ∗ ((gM3.view.loc (thr d L) ↦{fullShare} g3) ∗ semVal (thr d L, SemLoc.dma cc1_scratch12.sem) 0 ∗ ORest (F := F) d L bM3 cc1_scratch16.sem)
      ∗ Outs d L f)) rfl ?_)
  rotate_left
  · iframe HT Hg0 Hgs0 Ho0 Hg1 Hgs1 Ho1 Hg2 Hgs2 Ho2 Hg3 Hgs3 Ho3 Hp0 Hp1 Hp2 Hp3 HO
    iexact Hfl
  · have hX : ∀ x, (Xr I L x).toNat < 26000 := fun x => hI _
    generalize hK : iprop(((iM.view.loc (thr d L) ↦{qi} I) ∗ semVal (thr d L, SemLoc.dma cc1_scoped0.sem) 0) ∗ Own (F := F) d L O W
      ∗ (ORest (F := F) d L bM0 cc1_scratch13.sem ∗ ORest (F := F) d L bM1 cc1_scratch14.sem ∗ ORest (F := F) d L bM2 cc1_scratch15.sem ∗ ORest (F := F) d L bM3 cc1_scratch16.sem)
      ∗ Outs d L f) = K
    refine BIBase.Entails.trans (Q := iprop(K ∗ Pg d L gM0 cc1_scratch9.sem g0 q 0 (Xr I L) T ∗ Pg d L gM1 cc1_scratch10.sem g1 q 1 (Xr I L) T ∗ Pg d L gM2 cc1_scratch11.sem g2 q 2 (Xr I L) T ∗ Pg d L gM3 cc1_scratch12.sem g3 q 3 (Xr I L) T)) ?_ ?_
    · rw [← hK]
      iintro ⟨⟨HT, ⟨Hg0, Hgs0, Ho0⟩, ⟨Hg1, Hgs1, Ho1⟩, ⟨Hg2, Hgs2, Ho2⟩, ⟨Hg3, Hgs3, Ho3⟩, ⟨Hp0, Hp1, Hp2, Hp3⟩⟩, HO, ⟨HX, HI⟩, Hs0⟩
      ihave HX := (Entails.of_eq (congrArg (fun z => (xM.view.loc (thr d L) ↦{fullShare} z : sProp 𝕄)) (idx_val I L x0 (fun _ => rfl)))) $$ HX
      ihave HX := (four (F := F) fullShare (Xr I L)).1 $$ HX
      ihave HT := (four (F := F) q T).1 $$ HT
      icases HX with ⟨HX0, HX1, HX2, HX3⟩
      icases HT with ⟨HT0, HT1, HT2, HT3⟩
      iframe HT0 HT1 HT2 HT3 HX0 HX1 HX2 HX3 HI Hs0 HO Hg0 Hgs0 Ho0 Hg1 Hgs1 Ho1 Hg2 Hgs2 Ho2 Hg3 Hgs3 Ho3 Hp0 Hp1 Hp2 Hp3
    refine BIBase.Entails.trans (Q := iprop((K ∗ Pg d L gM1 cc1_scratch10.sem g1 q 1 (Xr I L) T ∗ Pg d L gM2 cc1_scratch11.sem g2 q 2 (Xr I L) T ∗ Pg d L gM3 cc1_scratch12.sem g3 q 3 (Xr I L) T) ∗ Pg d L gM0 cc1_scratch9.sem g0 q 0 (Xr I L) T)) (by iintro ⟨HK, H0, H1, H2, H3⟩; iframe HK H0 H1 H2 H3) ?_
    refine bindI (retI ?_)
    refine gatherI (Fr := iprop(K ∗ Pg d L gM1 cc1_scratch10.sem g1 q 1 (Xr I L) T ∗ Pg d L gM2 cc1_scratch11.sem g2 q 2 (Xr I L) T ∗ Pg d L gM3 cc1_scratch12.sem g3 q 3 (Xr I L) T)) (d := d) (L := L) (gM := gM0) (gs := cc1_scratch9.sem) (qt := ShareLeaves.leaf 2 q 0) (qx := ShareLeaves.leaf 2 fullShare 0) (X := Xr I L) (T := T)
      (g := g0) (n := 0) (off := ![0, 0]) hX (by decide) rfl (hN0 _) ?_
    refine BIBase.Entails.trans (Q := iprop((K ∗ Fg d L gM0 cc1_scratch9.sem q 0 (Xr I L) T ∗ Pg d L gM2 cc1_scratch11.sem g2 q 2 (Xr I L) T ∗ Pg d L gM3 cc1_scratch12.sem g3 q 3 (Xr I L) T) ∗ Pg d L gM1 cc1_scratch10.sem g1 q 1 (Xr I L) T)) (by iintro ⟨⟨HK, H1, H2, H3⟩, H0⟩; iframe HK H1 H2 H3; iexact H0) ?_
    refine gatherI (Fr := iprop(K ∗ Fg d L gM0 cc1_scratch9.sem q 0 (Xr I L) T ∗ Pg d L gM2 cc1_scratch11.sem g2 q 2 (Xr I L) T ∗ Pg d L gM3 cc1_scratch12.sem g3 q 3 (Xr I L) T)) (d := d) (L := L) (gM := gM1) (gs := cc1_scratch10.sem) (qt := ShareLeaves.leaf 2 q 1) (qx := ShareLeaves.leaf 2 fullShare 1) (X := Xr I L) (T := T)
      (g := g1) (n := 1) (off := ![1, 0]) hX (by decide) rfl (hN1 _) ?_
    refine BIBase.Entails.trans (Q := iprop((K ∗ Fg d L gM0 cc1_scratch9.sem q 0 (Xr I L) T ∗ Fg d L gM1 cc1_scratch10.sem q 1 (Xr I L) T ∗ Pg d L gM3 cc1_scratch12.sem g3 q 3 (Xr I L) T) ∗ Pg d L gM2 cc1_scratch11.sem g2 q 2 (Xr I L) T)) (by iintro ⟨⟨HK, H0, H2, H3⟩, H1⟩; iframe HK H0 H2 H3; iexact H1) ?_
    refine gatherI (Fr := iprop(K ∗ Fg d L gM0 cc1_scratch9.sem q 0 (Xr I L) T ∗ Fg d L gM1 cc1_scratch10.sem q 1 (Xr I L) T ∗ Pg d L gM3 cc1_scratch12.sem g3 q 3 (Xr I L) T)) (d := d) (L := L) (gM := gM2) (gs := cc1_scratch11.sem) (qt := ShareLeaves.leaf 2 q 2) (qx := ShareLeaves.leaf 2 fullShare 2) (X := Xr I L) (T := T)
      (g := g2) (n := 2) (off := ![2, 0]) hX (by decide) rfl (hN2 _) ?_
    refine BIBase.Entails.trans (Q := iprop((K ∗ Fg d L gM0 cc1_scratch9.sem q 0 (Xr I L) T ∗ Fg d L gM1 cc1_scratch10.sem q 1 (Xr I L) T ∗ Fg d L gM2 cc1_scratch11.sem q 2 (Xr I L) T) ∗ Pg d L gM3 cc1_scratch12.sem g3 q 3 (Xr I L) T)) (by iintro ⟨⟨HK, H0, H1, H3⟩, H2⟩; iframe HK H0 H1 H3; iexact H2) ?_
    refine gatherI (Fr := iprop(K ∗ Fg d L gM0 cc1_scratch9.sem q 0 (Xr I L) T ∗ Fg d L gM1 cc1_scratch10.sem q 1 (Xr I L) T ∗ Fg d L gM2 cc1_scratch11.sem q 2 (Xr I L) T)) (d := d) (L := L) (gM := gM3) (gs := cc1_scratch12.sem) (qt := ShareLeaves.leaf 2 q 3) (qx := ShareLeaves.leaf 2 fullShare 3) (X := Xr I L) (T := T)
      (g := g3) (n := 3) (off := ![3, 0]) hX (by decide) rfl (hN3 _) ?_
    refine retI (BIBase.Entails.trans ?_ (h _))
    rw [← hK]
    iintro ⟨⟨⟨HIs, HO, ⟨Ho0, Ho1, Ho2, Ho3⟩, ⟨Hp0, Hp1, Hp2, Hp3⟩⟩, H0, H1, H2⟩, H3⟩
    iframe HIs
    unfold Inv
    iframe HO
    isplitl [H0 Ho0 Hp0]
    · iapply begI; iframe H0 Ho0 Hp0
    isplitl [H1 Ho1 Hp1]
    · iapply begI; iframe H1 Ho1 Hp1
    isplitl [H2 Ho2 Hp2]
    · iapply begI; iframe H2 Ho2 Hp2
    iapply begI; iframe Ho3 Hp3; iexact H3

/-- The loop: its body carries the state of one trip to the next. -/
theorem forI {I : ℕ → sProp (MT nD τ sig (HIx 1) (Elt F) ℕ UU ℕ)} {v2 : BitVec 32} {α : Type} {Q : α → sProp (MT nD τ sig (HIx 1) (Elt F) ℕ UU ℕ)}
    {Fr : sProp (MT nD τ sig (HIx 1) (Elt F) ℕ UU ℕ)} {k : PUnit → Prog (TpuEff nD τ sig (Elt F) Λ₀ (thr d L).2) α}
    (hb : ∀ t : Fin k1_t1_loop.trips, I t.val ⊢ wp frame (wpE (defs₀ (F := F)) 𝒱₀ (thr d L) none) Set.univ (trip L v2 t) (fun _ => I (t.val + 1)))
    (h : iprop(Fr ∗ I 32) ⊢ wp frame (wpE (defs₀ (F := F)) 𝒱₀ (thr d L) none) Set.univ (k ⟨⟩) Q) :
    iprop(Fr ∗ I 0) ⊢ wp frame (wpE (defs₀ (F := F)) 𝒱₀ (thr d L) none) Set.univ (Scf.Loop.for k1_t1_loop k1_t1_ok ⟨⟩ (fun t _ => trip L v2 t) >>= k) Q := by
  iintro ⟨HF, HI⟩
  iapply (Scf.wp_for_bind frame (wpE (defs₀ (F := F)) 𝒱₀ (thr d L) none) Set.univ k1_t1_loop.lb k1_t1_loop.ub k1_t1_loop.st k1_t1_ok
    ⟨⟩ (fun t _ => trip L v2 t) (fun t _ => I t) (fun t _ => hb t)) $$ HI
  iintro %a HI
  iapply h
  iframe HF
  iapply (Entails.of_eq (congrArg I (show k1_t1_loop.trips = 32 from cond_loop)))
  iexact HI

/-- The whole body: a tile's index rows and its share of the table in, its rows of the result out. -/
theorem bag_ok (htrip : ∀ (qt qx : Fin 4 → PosShare TreeShare) (X : S128x104.Idx → Elt F .i32) (T : S26000x128.Idx → Elt F .f32) (H : S16384x128.Idx → Elt F .f32), (∀ x, (X x).toNat < 26000) →
    (∀ n < 128, ∀ (y : S4x128.Idx) (z : S16384x128.Idx), (z 0).val = base L + 4 * n + (y 0).val → (z 1).val = (y 1).val → H z = Sc (F := F) (Gc X T n) y) →
    ∀ (v2 : BitVec 32) (t : Fin k1_t1_loop.trips),
    Inv d L qt qx X T H O W t.val ⊢ wp frame (wpE (defs₀ (F := F)) 𝒱₀ (thr d L) none) Set.univ (trip L v2 t) (fun _ => Inv d L qt qx X T H O W (t.val + 1)))
    (qi q : PosShare TreeShare) (I : S32x128x104.Idx → Elt F .i32) (T : S26000x128.Idx → Elt F .f32)
    (hI : ∀ x, (I x).toNat < 26000) (f : S16384x128.Idx → Elt F .f32) :
    iprop(Own (F := F) d L O W ∗ (iM.view.loc (thr d L) ↦{qi} I) ∗ (tM.view.loc (thr d L) ↦{q} T) ∗ (∃ x, xM.view.loc (thr d L) ↦{fullShare} x)
      ∗ Bufs (F := F) d L ∗ Outs d L f)
      ⊢ wp frame (wpE (defs₀ (F := F)) 𝒱₀ (thr d L) none) Set.univ (cc1_bag L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0)
        (fun _ => iprop(Own (F := F) d L O W ∗ (iM.view.loc (thr d L) ↦{qi} I) ∗ (tM.view.loc (thr d L) ↦{q} T) ∗ (∃ x, xM.view.loc (thr d L) ↦{fullShare} x)
          ∗ Bufs (F := F) d L ∗ Outs d L (H1 I T))) := by
  unfold cc1_bag
  refine pro_ok qi q I T (H1 I T) hI f (fun v2 => ?_)
  refine forI (I := fun t => Inv d L (ShareLeaves.leaf 2 q) (ShareLeaves.leaf 2 fullShare) (Xr I L) T (H1 I T) O W t) (v2 := v2)
    (fun t => htrip _ _ _ _ _ (fun x => hI _) (fun n hn y z h0 h1 => H1_chunk I T L n hn y z h0 h1) _ t) ?_
  refine BIBase.Entails.trans (Q := iprop((((iM.view.loc (thr d L) ↦{qi} I) ∗ semVal (thr d L, SemLoc.dma cc1_scoped0.sem) 0) ∗ Ib d L gM1 bM1 cc1_scratch10.sem cc1_scratch14.sem 1 (ShareLeaves.leaf 2 q 1) (ShareLeaves.leaf 2 fullShare 1) (Xr I L) T (H1 I T) 32 ∗ Ib d L gM2 bM2 cc1_scratch11.sem cc1_scratch15.sem 2 (ShareLeaves.leaf 2 q 2) (ShareLeaves.leaf 2 fullShare 2) (Xr I L) T (H1 I T) 32 ∗ Ib d L gM3 bM3 cc1_scratch12.sem cc1_scratch16.sem 3 (ShareLeaves.leaf 2 q 3) (ShareLeaves.leaf 2 fullShare 3) (Xr I L) T (H1 I T) 32) ∗ Own (F := F) d L O W ∗ Ib d L gM0 bM0 cc1_scratch9.sem cc1_scratch13.sem 0 (ShareLeaves.leaf 2 q 0) (ShareLeaves.leaf 2 fullShare 0) (Xr I L) T (H1 I T) 32)) ?_ ?_
  · unfold Inv
    iintro ⟨HF, HO, H0, H1, H2, H3⟩; iframe HF HO H0 H1 H2 H3
  refine endI (gM := gM0) (bM := bM0) (gs := cc1_scratch9.sem) (os := cc1_scratch13.sem) (b := 0) (qt := ShareLeaves.leaf 2 q 0) (qx := ShareLeaves.leaf 2 fullShare 0) (X := Xr I L) (T := T) (H := H1 I T) rfl ?_
  refine BIBase.Entails.trans (Q := iprop((((iM.view.loc (thr d L) ↦{qi} I) ∗ semVal (thr d L, SemLoc.dma cc1_scoped0.sem) 0) ∗ (Buf1 (F := F) d L gM0 bM0 cc1_scratch9.sem cc1_scratch13.sem ∗ Shr d L (ShareLeaves.leaf 2 q 0) (ShareLeaves.leaf 2 fullShare 0) (Xr I L) T ∗ oPart d L (rset L 0 0 32) (H1 I T)) ∗ Ib d L gM2 bM2 cc1_scratch11.sem cc1_scratch15.sem 2 (ShareLeaves.leaf 2 q 2) (ShareLeaves.leaf 2 fullShare 2) (Xr I L) T (H1 I T) 32 ∗ Ib d L gM3 bM3 cc1_scratch12.sem cc1_scratch16.sem 3 (ShareLeaves.leaf 2 q 3) (ShareLeaves.leaf 2 fullShare 3) (Xr I L) T (H1 I T) 32) ∗ Own (F := F) d L O W ∗ Ib d L gM1 bM1 cc1_scratch10.sem cc1_scratch14.sem 1 (ShareLeaves.leaf 2 q 1) (ShareLeaves.leaf 2 fullShare 1) (Xr I L) T (H1 I T) 32)) (by iintro ⟨⟨⟨HF, H1, H2, H3⟩, H0⟩, HO⟩; iframe HF HO H0 H1 H2 H3) ?_
  refine endI (gM := gM1) (bM := bM1) (gs := cc1_scratch10.sem) (os := cc1_scratch14.sem) (b := 1) (qt := ShareLeaves.leaf 2 q 1) (qx := ShareLeaves.leaf 2 fullShare 1) (X := Xr I L) (T := T) (H := H1 I T) rfl ?_
  refine BIBase.Entails.trans (Q := iprop((((iM.view.loc (thr d L) ↦{qi} I) ∗ semVal (thr d L, SemLoc.dma cc1_scoped0.sem) 0) ∗ (Buf1 (F := F) d L gM0 bM0 cc1_scratch9.sem cc1_scratch13.sem ∗ Shr d L (ShareLeaves.leaf 2 q 0) (ShareLeaves.leaf 2 fullShare 0) (Xr I L) T ∗ oPart d L (rset L 0 0 32) (H1 I T)) ∗ (Buf1 (F := F) d L gM1 bM1 cc1_scratch10.sem cc1_scratch14.sem ∗ Shr d L (ShareLeaves.leaf 2 q 1) (ShareLeaves.leaf 2 fullShare 1) (Xr I L) T ∗ oPart d L (rset L 1 0 32) (H1 I T)) ∗ Ib d L gM3 bM3 cc1_scratch12.sem cc1_scratch16.sem 3 (ShareLeaves.leaf 2 q 3) (ShareLeaves.leaf 2 fullShare 3) (Xr I L) T (H1 I T) 32) ∗ Own (F := F) d L O W ∗ Ib d L gM2 bM2 cc1_scratch11.sem cc1_scratch15.sem 2 (ShareLeaves.leaf 2 q 2) (ShareLeaves.leaf 2 fullShare 2) (Xr I L) T (H1 I T) 32)) (by iintro ⟨⟨⟨HF, H0, H2, H3⟩, H1⟩, HO⟩; iframe HF HO H0 H1 H2 H3) ?_
  refine endI (gM := gM2) (bM := bM2) (gs := cc1_scratch11.sem) (os := cc1_scratch15.sem) (b := 2) (qt := ShareLeaves.leaf 2 q 2) (qx := ShareLeaves.leaf 2 fullShare 2) (X := Xr I L) (T := T) (H := H1 I T) rfl ?_
  refine BIBase.Entails.trans (Q := iprop((((iM.view.loc (thr d L) ↦{qi} I) ∗ semVal (thr d L, SemLoc.dma cc1_scoped0.sem) 0) ∗ (Buf1 (F := F) d L gM0 bM0 cc1_scratch9.sem cc1_scratch13.sem ∗ Shr d L (ShareLeaves.leaf 2 q 0) (ShareLeaves.leaf 2 fullShare 0) (Xr I L) T ∗ oPart d L (rset L 0 0 32) (H1 I T)) ∗ (Buf1 (F := F) d L gM1 bM1 cc1_scratch10.sem cc1_scratch14.sem ∗ Shr d L (ShareLeaves.leaf 2 q 1) (ShareLeaves.leaf 2 fullShare 1) (Xr I L) T ∗ oPart d L (rset L 1 0 32) (H1 I T)) ∗ (Buf1 (F := F) d L gM2 bM2 cc1_scratch11.sem cc1_scratch15.sem ∗ Shr d L (ShareLeaves.leaf 2 q 2) (ShareLeaves.leaf 2 fullShare 2) (Xr I L) T ∗ oPart d L (rset L 2 0 32) (H1 I T))) ∗ Own (F := F) d L O W ∗ Ib d L gM3 bM3 cc1_scratch12.sem cc1_scratch16.sem 3 (ShareLeaves.leaf 2 q 3) (ShareLeaves.leaf 2 fullShare 3) (Xr I L) T (H1 I T) 32)) (by iintro ⟨⟨⟨HF, H0, H1, H3⟩, H2⟩, HO⟩; iframe HF HO H0 H1 H2 H3) ?_
  refine endI (gM := gM3) (bM := bM3) (gs := cc1_scratch12.sem) (os := cc1_scratch16.sem) (b := 3) (qt := ShareLeaves.leaf 2 q 3) (qx := ShareLeaves.leaf 2 fullShare 3) (X := Xr I L) (T := T) (H := H1 I T) rfl ?_
  refine retI ?_
  iintro ⟨⟨⟨⟨HI, Hs⟩, ⟨B0, ⟨T0, X0⟩, P0⟩, ⟨B1, ⟨T1, X1⟩, P1⟩, ⟨B2, ⟨T2, X2⟩, P2⟩⟩, B3, ⟨T3, X3⟩, P3⟩, HO⟩
  iframe HO HI Hs B0 B1 B2 B3 P0 P1 P2 P3
  isplitl [T0 T1 T2 T3]
  · iapply (four (F := F) q T).2; iframe T0 T1 T2 T3
  iexists (Xr I L)
  iapply (four (F := F) fullShare (Xr I L)).2; iframe X0 X1 X2 X3

end Cert.Proof

end
-- ==== Proof.Tiles.lean ====
/-
  What each tile is given, and its obligation.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The index rows, the table and the result, as the launch memory holds them. -/
abbrev iLoc (d : Dev nD) : Loc nD τ sig := (SparseCore.T d).loc main_v7
abbrev tLoc (d : Dev nD) : Loc nD τ sig := (SparseCore.T d).loc main_v8
abbrev oLoc (d : Dev nD) : Loc nD τ sig := (SparseCore.T d).loc main_v9

/-- The share of the index rows and of the table that tile `i` of SparseCore `c` reads. -/
abbrev tshare (q : PosShare TreeShare) (c : Fin 2) (i : Fin 16) : PosShare TreeShare := ShareLeaves.leaf 4 (ShareLeaves.leaf 1 q c) i

/-- The result rows of tile `i` of SparseCore `c`, -/
def oset (c : Fin 2) (i : Fin 16) : Finset S16384x128.Idx := Finset.univ.filter fun x => (x 0).val / 512 = 2 * i.val + c.val
/-- and those of all the SparseCore's tiles. -/
def cset (c : Fin 2) : Finset S16384x128.Idx := Finset.univ.filter fun x => (x 0).val / 512 % 2 = c.val

/-- What a tile is given, and what it gives back. -/
abbrev GoT (d : Dev nD) (c : Fin 2) (i : Fin 16) : sProp 𝕄 :=
  iprop((∃ I : Buf (Elt F) (iLoc d), ⌜∀ x : S32x128x104.Idx, (I x : BitVec 32).toNat < 26000⌝ ∗ (iLoc d ↦{tshare fullShare.right c i} I)) ∗ (∃ T : Buf (Elt F) (tLoc d), tLoc d ↦{tshare fullShare.right c i} T)
    ∗ ∃ f : Buf (Elt F) (oLoc d), oLoc d ↦[oset c i]{fullShare} f)

/-- What a SparseCore is given, and what it gives back: its tiles' parts. -/
abbrev GoC (d : Dev nD) (c : Fin 2) : sProp 𝕄 := bigSep Finset.univ fun i : Fin 16 => GoT (F := F) d c i

/-- What the handshakes carry. -/
def P : (K (F := F)).Pay (nD := nD) (Val := Elt F) (Name := ℕ) (U := UU) where
  st := fun q d c => match q with | 0 => GoC (F := F) d (Fin.cast nCore_zero c)
  dn := fun q d c => match q with | 0 => GoC (F := F) d (Fin.cast nCore_zero c)
  go := fun q d c i => match q with | 0 => GoT (F := F) d (Fin.cast nCore_zero c) (Fin.cast nSub_zero i)
  td := fun q d c i => match q with | 0 => GoT (F := F) d (Fin.cast nCore_zero c) (Fin.cast nSub_zero i)
  x := fun _ _ => iprop(emp)

instance P_storable : (P (F := F)).IsStorable where
  st q d c := match q with | 0 => (inferInstance : BI.Storable (upEmb : UEmb _ 𝕄) (GoC (F := F) d (Fin.cast nCore_zero c)))
  dn q d c := match q with | 0 => (inferInstance : BI.Storable (upEmb : UEmb _ 𝕄) (GoC (F := F) d (Fin.cast nCore_zero c)))
  go q d c i := match q with | 0 => (inferInstance : BI.Storable (upEmb : UEmb _ 𝕄) (GoT (F := F) d (Fin.cast nCore_zero c) (Fin.cast nSub_zero i)))
  td q d c i := match q with | 0 => (inferInstance : BI.Storable (upEmb : UEmb _ 𝕄) (GoT (F := F) d (Fin.cast nCore_zero c) (Fin.cast nSub_zero i)))

/-- A SparseCore's share is its tiles' shares. -/
theorem vecSplit : (K (F := F)).VecSplit' (P (F := F)) 0 := by
  intro d c
  show GoC (F := F) d (Fin.cast nCore_zero c) ⊢ |={Set.univ}=> iprop(GoC (F := F) d (Fin.cast nCore_zero c) ∗ (GoC (F := F) d (Fin.cast nCore_zero c) -∗ GoC (F := F) d (Fin.cast nCore_zero c)))
  iintro H; imodintro
  isplitl [H]; · iexact H
  iintro H; iexact H

/-- The tile of a SparseCore's number and a tile's. -/
def coordsV (c : Fin (grid1.bound 0)) (s : Fin (grid1.bound 1)) : grid1.Coords :=
  fun | 0 => c | 1 => s | ⟨_ + 2, h⟩ => absurd h (Nat.not_lt.2 (Nat.le_add_left _ _))

/-- The SparseCore's number and the tile's of a tile. -/
abbrev cL (L : grid1.Coords) : Fin 2 := Fin.cast (show grid1.bound 0 = 2 from rfl) (L 0)
abbrev iL (L : grid1.Coords) : Fin 16 := Fin.cast (show grid1.bound 1 = 16 from rfl) (L 1)

omit [FloatOps F] in
/-- A tile's rows are its four buffers' rows. -/
theorem outs_eq (d : Dev nD) (L : grid1.Coords) (f : S16384x128.Idx → Elt F .f32) :
    (oLoc d ↦[oset (cL L) (iL L)]{fullShare} f : sProp 𝕄) ⊣⊢ Outs (F := F) d L f := by
  have hL0 : (L 0).val < 2 := (L 0).isLt
  have hL1 : (L 1).val < 16 := (L 1).isLt
  have hu : oset (cL L) (iL L) = rset L 0 0 32 ∪ (rset L 1 0 32 ∪ (rset L 2 0 32 ∪ rset L 3 0 32)) := by
    ext x
    have hx : (x 0).val < 16384 := (x 0).isLt
    have h : x ∈ oset (cL L) (iL L) ↔ (x 0).val / 512 = wid L := Finset.mem_filter.trans (and_iff_right (Finset.mem_univ _))
    rw [h]
    have hb : base L = 512 * wid L := rfl
    simp only [rset, Finset.mem_union, Finset.mem_filter, Finset.mem_univ, _root_.true_and]
    rw [hb]
    generalize wid L = w
    generalize (x 0).val = y
    omega
  have hd : ∀ a b : ℕ, a ≠ b → Disjoint (rset L a 0 32) (rset L b 0 32) := by
    intro a b hab
    rw [Finset.disjoint_left]; intro x; simp only [rset, Finset.mem_filter, Finset.mem_univ, _root_.true_and]; omega
  rw [hu]
  have e1 := pointsTo_union (nD := nD) (τ := τ) (sig := sig) (Ix := HIx 1) (Val := Elt F) (Name := ℕ) (U := UU) (Lvl := ℕ) (ℓ := oLoc d) (q := fullShare) (f := f) (hd 2 3 (by decide))
  have e2 := pointsTo_union (nD := nD) (τ := τ) (sig := sig) (Ix := HIx 1) (Val := Elt F) (Name := ℕ) (U := UU) (Lvl := ℕ) (ℓ := oLoc d) (q := fullShare) (f := f)
    (show Disjoint (rset L 1 0 32) (rset L 2 0 32 ∪ rset L 3 0 32) from Finset.disjoint_union_right.mpr ⟨hd 1 2 (by decide), hd 1 3 (by decide)⟩)
  have e3 := pointsTo_union (nD := nD) (τ := τ) (sig := sig) (Ix := HIx 1) (Val := Elt F) (Name := ℕ) (U := UU) (Lvl := ℕ) (ℓ := oLoc d) (q := fullShare) (f := f)
    (show Disjoint (rset L 0 0 32) (rset L 1 0 32 ∪ (rset L 2 0 32 ∪ rset L 3 0 32)) from
      Finset.disjoint_union_right.mpr ⟨hd 0 1 (by decide), Finset.disjoint_union_right.mpr ⟨hd 0 2 (by decide), hd 0 3 (by decide)⟩⟩)
  constructor
  · iintro H
    ihave H := e3.1 $$ H; icases H with ⟨H0, H⟩
    ihave H := e2.1 $$ H; icases H with ⟨H1, H⟩
    ihave H := e1.1 $$ H; icases H with ⟨H2, H3⟩
    isplitl [H0]; · iexact H0
    isplitl [H1]; · iexact H1
    isplitl [H2]; · iexact H2
    iexact H3
  · iintro ⟨H0, H1, H2, H3⟩
    iapply e3.2; isplitl [H0]; · iexact H0
    iapply e2.2; isplitl [H1]; · iexact H1
    iapply e1.2; isplitl [H2]; · iexact H2
    iexact H3

/-- Some members of a family, one by one, and the others. -/
theorem take_list {I : Type} [DecidableEq I] (Φ : I → sProp 𝕄) : ∀ (l : List I) (S : Finset I), l.Nodup → (∀ a ∈ l, a ∈ S) →
    bigSep S Φ = l.foldr (fun a R => iprop(Φ a ∗ R)) (bigSep (l.foldl Finset.erase S) Φ)
  | [], S, _, _ => rfl
  | a :: l, S, hn, hm => by
    have hn' := List.nodup_cons.mp hn
    rw [SparseCore.bigSep_erase' (hm a (List.mem_cons_self ..)), take_list Φ l (S.erase a) hn'.2 (fun b hb =>
      Finset.mem_erase.mpr ⟨fun e => hn'.1 (e ▸ hb), hm b (List.mem_cons_of_mem _ hb)⟩)]
    rfl

/-- The semaphores and the buffers of a tile's body. -/
abbrev tsems : List (DmaSem sig) := [cc1_scoped0.sem, cc1_scratch9.sem, cc1_scratch10.sem, cc1_scratch11.sem, cc1_scratch12.sem, cc1_scratch13.sem, cc1_scratch14.sem, cc1_scratch15.sem, cc1_scratch16.sem]
abbrev tbufs : List (Ref sig .scVector) := [cc1_scratch0, cc1_scratch1, cc1_scratch2, cc1_scratch3, cc1_scratch4, cc1_scratch5, cc1_scratch6, cc1_scratch7, cc1_scratch8]

theorem tsems_scoped : ∀ s ∈ tsems, (SemLoc.dma s : SemLoc sig).isScoped .scVector = true := by decide
theorem tsems_nodup : tsems.Nodup := by decide
theorem tbufs_nodup : tbufs.Nodup := by decide

/-- A tile's semaphores, those of its body apart. -/
theorem ownSems0_V (d : Dev nD) (L : grid1.Coords) : ∃ R : sProp 𝕄, (ownSems0 (thr d L) : sProp 𝕄)
    = (tsems.map fun s => ((thr d L, SemLoc.dma s) : GSem nD τ sig)).foldr (fun a R => iprop(semVal a 0 ∗ R)) R := by
  refine ⟨_, take_list (F := F) (fun g => semVal g 0) _ (ownCells (thr d L)) ?_ ?_⟩
  · exact tsems_nodup.map (fun a b e => by have := congrArg Prod.snd e; exact SemLoc.dma.inj this)
  · intro a ha
    obtain ⟨s, hs, rfl⟩ := List.mem_map.mp ha
    exact mem_ownCells.mpr ⟨rfl, tsems_scoped s hs⟩

/-- A tile's buffers, those of its body apart. -/
theorem ownBufs_V (d : Dev nD) (L : grid1.Coords) : ∃ R : sProp 𝕄, (ownBufs (thr d L) : sProp 𝕄)
    = (tbufs.map fun r => (Proc.scVector (cV L) (jV L)).devRef r).foldr (fun b R => iprop((∃ f, ((d, b) : Loc nD τ sig) ↦{fullShare} f) ∗ R)) R := by
  refine ⟨_, take_list (F := F) (fun b => iprop(∃ f, ((d, b) : Loc nD τ sig) ↦{fullShare} f)) _ (ownRefs (τ := τ) (.scVector (cV L) (jV L))) ?_ ?_⟩
  · exact tbufs_nodup.map (Proc.devRef_injective _)
  · intro a ha
    obtain ⟨r, hr, rfl⟩ := List.mem_map.mp ha
    simp only [tbufs, List.mem_cons, List.not_mem_nil, or_false] at hr
    rcases hr with rfl | rfl | rfl | rfl | rfl | rfl | rfl | rfl | rfl <;> exact SparseCore.Cfg.mem_ownRefs_of_owner rfl

/-- A tile's run: what it is given, and its own buffers and semaphores, come back. -/
theorem tile_body (d : Dev nD) (L : grid1.Coords) (hF : (K (F := F)).Facts) (O : CellTallies nD τ sig (HIx 1)) (W : Waits sig (HIx 1)) (hO : ∀ g, O g none = 0)
    (htrip : ∀ (qt qx : Fin 4 → PosShare TreeShare) (X : S128x104.Idx → Elt F .i32) (T : S26000x128.Idx → Elt F .f32) (H : S16384x128.Idx → Elt F .f32), (∀ x, (X x).toNat < 26000) →
    (∀ n < 128, ∀ (y : S4x128.Idx) (z : S16384x128.Idx), (z 0).val = base L + 4 * n + (y 0).val → (z 1).val = (y 1).val → H z = Sc (F := F) (Gc X T n) y) →
    ∀ (v2 : BitVec 32) (t : Fin k1_t1_loop.trips),
    Inv d L qt qx X T H O W t.val ⊢ wp frame (wpE (defs₀ (F := F)) 𝒱₀ (thr d L) none) Set.univ (trip L v2 t) (fun _ => Inv d L qt qx X T H O W (t.val + 1))) :
    iprop(levAts (K (F := F)).L (K (F := F)).lev ∗ emp ∗ GoT (F := F) d (cL L) (iL L)
        ∗ scopedBufs (thr d L) ∗ scopedSems0 (thr d L) ∗ owes (thr d L) O W)
      ⊢ wp frame (wpE (defs₀ (F := F)) 𝒱₀ (thr d L) none) Set.univ (cc1_bag L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0)
          fun _ => iprop(GoT (F := F) d (cL L) (iL L) ∗ scopedBufs (thr d L) ∗ scopedSems0 (thr d L)
            ∗ ∃ W', ⌜∀ p ∈ W', p ∈ W ∨ p.2 = none⌝ ∗ owes (thr d L) O W') := by
  obtain ⟨RS, hS⟩ := ownSems0_V (F := F) d L
  obtain ⟨RB, hB⟩ := ownBufs_V (F := F) d L
  simp only [tsems, tbufs, List.map_cons, List.map_nil, List.foldr_cons, List.foldr_nil] at hS hB
  rw [(K (F := F)).scopedBufs_V hF d (cV L) (jV L), SparseCore.Cfg.scopedSems0_V (Val := Elt F) d (cV L) (jV L), hS, hB]
  iintro ⟨#Hlv, -, ⟨⟨%I, %hI, HI⟩, ⟨%T, HT⟩, %f, Hf⟩, ⟨HX, Hg0, Hg1, Hg2, Hg3, Hb0, Hb1, Hb2, Hb3, Hbufs⟩, ⟨S0, G0, G1, G2, G3, O0, O1, O2, O3, Hsems⟩, HO⟩
  ihave Hmw := (show levAts (K (F := F)).L (K (F := F)).lev ⊢ Transfers.MayWaits (thr d L) (default : HIx 1) O from
    (K (F := F)).mayWaits_none (thr := thr d L) hO) $$ Hlv
  ihave Hf := (outs_eq d L f).1 $$ Hf
  have hbag := bag_ok (F := F) (d := d) (L := L) (O := O) (W := W) htrip (tshare fullShare.right (cL L) (iL L)) (tshare fullShare.right (cL L) (iL L)) I T hI f
  ihave Hw := hbag $$ [HI HT HX Hg0 Hg1 Hg2 Hg3 Hb0 Hb1 Hb2 Hb3 S0 G0 G1 G2 G3 O0 O1 O2 O3 HO Hmw Hf]
  · isplitl [HO Hmw]
    · isplitl [Hmw]; · iexact Hmw
      iexists W; isplitr
      · ipureintro; exact fun p hp => Or.inl hp
      iexact HO
    isplitl [HI]; · iexact HI
    isplitl [HT]; · iexact HT
    isplitl [HX]; · iexact HX
    isplitr [Hf]
    · isplitl [S0]; · iexact S0
      isplitl [Hg0 G0 O0 Hb0]
      · isplitl [Hg0]; · iexact Hg0
        isplitl [G0]; · iexact G0
        isplitl [Hb0]; · iexact Hb0
        iexact O0
      isplitl [Hg1 G1 O1 Hb1]
      · isplitl [Hg1]; · iexact Hg1
        isplitl [G1]; · iexact G1
        isplitl [Hb1]; · iexact Hb1
        iexact O1
      isplitl [Hg2 G2 O2 Hb2]
      · isplitl [Hg2]; · iexact Hg2
        isplitl [G2]; · iexact G2
        isplitl [Hb2]; · iexact Hb2
        iexact O2
      isplitl [Hg3]; · iexact Hg3
      isplitl [G3]; · iexact G3
      isplitl [Hb3]; · iexact Hb3
      iexact O3
    iexact Hf
  iapply (wp_wand_r frame (wpE (defs₀ (F := F)) 𝒱₀ (thr d L) none) Set.univ)
  isplitl [Hw]; · iexact Hw
  iintro %_ ⟨⟨-, HO⟩, HI, HT, HX, ⟨S0, ⟨Hg0, G0, Hb0, O0⟩, ⟨Hg1, G1, Hb1, O1⟩, ⟨Hg2, G2, Hb2, O2⟩, ⟨Hg3, G3, Hb3, O3⟩⟩, Hf⟩
  ihave Hf := (outs_eq d L (H1 I T)).2 $$ Hf
  isplitl [HI HT Hf]
  · isplitl [HI]
    · iexists I; isplitr
      · ipureintro; exact hI
      iexact HI
    isplitl [HT]
    · iexists T; iexact HT
    iexists (H1 I T); iexact Hf
  isplitl [HX Hg0 Hg1 Hg2 Hg3 Hb0 Hb1 Hb2 Hb3 Hbufs]
  · isplitl [HX]; · iexact HX
    isplitl [Hg0]; · iexact Hg0
    isplitl [Hg1]; · iexact Hg1
    isplitl [Hg2]; · iexact Hg2
    isplitl [Hg3]; · iexact Hg3
    isplitl [Hb0]; · iexact Hb0
    isplitl [Hb1]; · iexact Hb1
    isplitl [Hb2]; · iexact Hb2
    isplitl [Hb3]; · iexact Hb3
    iexact Hbufs
  isplitl [S0 G0 G1 G2 G3 O0 O1 O2 O3 Hsems]
  · isplitl [S0]; · iexact S0
    isplitl [G0]; · iexact G0
    isplitl [G1]; · iexact G1
    isplitl [G2]; · iexact G2
    isplitl [G3]; · iexact G3
    isplitl [O0]; · iexact O0
    isplitl [O1]; · iexact O1
    isplitl [O2]; · iexact O2
    isplitl [O3]; · iexact O3
    iexact Hsems
  iexact HO

/-- The SparseCore kernel on a tile is the body. -/
theorem defs₀_vector (c : Fin τ.nSC) (s : Fin τ.nSub) :
    defs₀ (F := F) (.scVector c s) 1 () = SparseCore.onTile hcore1 hsub1 (fun c s => cc1_bag (coordsV c s) iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc1_scratch9 cc1_scratch10 cc1_scratch11 cc1_scratch12 cc1_scratch13 cc1_scratch14 cc1_scratch15 cc1_scratch16 cc1_scoped0) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  iframe HA HB HC
  iexists W'; isplitr
  · ipureintro; exact fun p hp => (hW' p hp).imp_right Or.inl
  · iexact HO

set_option maxRecDepth 16384 in
/-- Every tile meets what the launch asks of it. -/
theorem tileObl (hF : (K (F := F)).Facts) (htrip : ∀ (d : Dev nD) (L : grid1.Coords) (O : CellTallies nD τ sig (HIx 1)) (W : Waits sig (HIx 1)) (qt qx : Fin 4 → PosShare TreeShare) (X : S128x104.Idx → Elt F .i32) (T : S26000x128.Idx → Elt F .f32) (H : S16384x128.Idx → Elt F .f32), (∀ x, (X x).toNat < 26000) →
    (∀ n < 128, ∀ (y : S4x128.Idx) (z : S16384x128.Idx), (z 0).val = base L + 4 * n + (y 0).val → (z 1).val = (y 1).val → H z = Sc (F := F) (Gc X T n) y) →
    ∀ (v2 : BitVec 32) (t : Fin k1_t1_loop.trips),
    Inv d L qt qx X T H O W t.val ⊢ wp frame (wpE (defs₀ (F := F)) 𝒱₀ (thr d L) none) Set.univ (trip L v2 t) (fun _ => Inv d L qt qx X T H O W (t.val + 1))) :
    (K (F := F)).TileObl (D (F := F)) 𝒱 (P (F := F)) v₀ 0 := by
  intro d c i O W hO _ _
  simp only [show (P (F := F)).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF O W hO (htrip _ _ _ _)).trans (wp_mono frame _ _ fun _ => obl_post)

end Cert.Proof

end
-- ==== Proof.Deal.lean ====
/-
  The SparseCore call's buffers, dealt to the tiles and collected.
-/
module

public import proofs.«01_k».proof.Proof.Tiles

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Something kept beside a family helps to change each member. -/
theorem beside {J : Type} [DecidableEq J] (A : sProp 𝕄) (B C : J → sProp 𝕄) (h : ∀ t, iprop(A ∗ B t) ⊢ iprop(A ∗ C t)) (S : Finset J) :
    iprop(A ∗ bigSep S B) ⊢ iprop(A ∗ bigSep S C) := by
  induction S using Finset.induction_on with
  | empty => exact .rfl
  | insert t S ht ih =>
    rw [SparseCore.bigSep_insert' ht, SparseCore.bigSep_insert' ht]
    iintro ⟨HA, HB, HS⟩
    ihave H := (h t) $$ [HA HB]
    · isplitl [HA]; · iexact HA
      iexact HB
    icases H with ⟨HA, HC⟩
    ihave H := ih $$ [HA HS]
    · isplitl [HA]; · iexact HA
      iexact HS
    icases H with ⟨HA, HS⟩
    isplitl [HA]; · iexact HA
    isplitl [HC]; · iexact HC
    iexact HS

/-- A whole buffer: half of it, and the tiles' shares of the other half. -/
theorem shares (ℓ : Loc nD τ sig) (f : Buf (Elt F) ℓ) :
    (ℓ ↦{fullShare} f : sProp 𝕄) = iprop((ℓ ↦{fullShare.left} f)
      ∗ bigSep Finset.univ fun c : Fin 2 => bigSep Finset.univ fun i : Fin 16 => (ℓ ↦{tshare fullShare.right c i} f : sProp 𝕄)) := by
  rw [Entails.antisymm (pointsTo_share (PosShare.mem_left_op_right fullShare)).1 (pointsTo_share (PosShare.mem_left_op_right fullShare)).2]
  congr 1
  refine (ShareLeaves.pointsTo_leaves Finset.univ f 1 fullShare.right).trans ?_
  exact bigSep_congr fun c _ => ShareLeaves.pointsTo_leaves Finset.univ f 4 _

/-- A share of a buffer at some contents is at the contents of a share kept. -/
theorem same (ℓ : Loc nD τ sig) (q q' : PosShare TreeShare) (f : Buf (Elt F) ℓ) :
    (iprop((ℓ ↦{q} f) ∗ ∃ g : Buf (Elt F) ℓ, ℓ ↦{q'} g) : sProp 𝕄) ⊢ iprop((ℓ ↦{q} f) ∗ ℓ ↦{q'} f) := by
  iintro ⟨H, %g, Hg⟩
  ihave H := (persistent_entails_right (pointsTo_agree (ℓ := ℓ) (I := Finset.univ) (J := Finset.univ) (q₁ := q) (q₂ := q') (f := f) (g := g))) $$ [H Hg]
  · isplitl [H]; · iexact H
    iexact Hg
  icases H with ⟨%h, H, Hg⟩
  have e : g = f := funext fun i => (h i (Finset.mem_inter.mpr ⟨Finset.mem_univ i, Finset.mem_univ i⟩)).1.symm
  subst e
  isplitl [H]; · iexact H
  iexact Hg

/-- The tiles' shares at some contents and the half kept are the whole buffer. -/
theorem unshare (ℓ : Loc nD τ sig) (f : Buf (Elt F) ℓ) :
    (iprop((ℓ ↦{fullShare.left} f)
      ∗ bigSep Finset.univ fun c : Fin 2 => bigSep Finset.univ fun i : Fin 16 => iprop(∃ g : Buf (Elt F) ℓ, ℓ ↦{tshare fullShare.right c i} g)) : sProp 𝕄)
      ⊢ ℓ ↦{fullShare} f := by
  rw [shares ℓ f]
  exact beside _ _ _ (fun c => beside _ _ _ (fun i => same ℓ _ _ f) _) _

/-- Distinct parts of a buffer, each at some contents, are their union at some. -/
theorem join {J : Type} [DecidableEq J] [Fintype J] (ℓ : Loc nD τ sig) (f₀ : Buf (Elt F) ℓ) (R : J → Finset (Idx ℓ))
    (h : ∀ t ∈ Finset.univ, ∀ t' ∈ Finset.univ, t ≠ t' → Disjoint (R t) (R t')) :
    (bigSep Finset.univ fun t => iprop(∃ g : Buf (Elt F) ℓ, ℓ ↦[R t]{fullShare} g) : sProp 𝕄)
      ⊢ iprop(∃ g : Buf (Elt F) ℓ, ℓ ↦[Finset.univ.biUnion R]{fullShare} g) := by
  haveI : Nonempty (Buf (Elt F) ℓ) := ⟨f₀⟩
  refine BIBase.Entails.trans (bigSep_exists_pi Finset.univ (fun t (g : Buf (Elt F) ℓ) => (ℓ ↦[R t]{fullShare} g : sProp 𝕄))) ?_
  iintro ⟨%y, H⟩
  ihave H := (pointsTo_biUnion_join Finset.univ R y f₀ h) $$ H
  icases H with ⟨%g, -, H⟩
  iexists g; iexact H

theorem mem_oset {c : Fin 2} {i : Fin 16} {x : S16384x128.Idx} : x ∈ oset c i ↔ (x 0).val / 512 = 2 * i.val + c.val :=
  Finset.mem_filter.trans (and_iff_right (Finset.mem_univ _))

/-- The tiles of a SparseCore have distinct rows, -/
theorem oset_disj (c : Fin 2) : ∀ t ∈ (Finset.univ : Finset (Fin 16)), ∀ t' ∈ (Finset.univ : Finset (Fin 16)), t ≠ t' → Disjoint (oset c t) (oset c t') := by
  intro t _ t' _ hne
  refine Finset.disjoint_left.mpr fun x h h' => hne (Fin.ext ?_)
  have := mem_oset.mp h
  have := mem_oset.mp h'
  omega

/-- the SparseCores' rows are distinct, -/
theorem cores_disj : ∀ c ∈ (Finset.univ : Finset (Fin 2)), ∀ c' ∈ (Finset.univ : Finset (Fin 2)), c ≠ c' →
    Disjoint (Finset.univ.biUnion (oset c)) (Finset.univ.biUnion (oset c')) := by
  intro c _ c' _ hne
  refine Finset.disjoint_left.mpr fun x h h' => hne (Fin.ext ?_)
  obtain ⟨i, -, hi⟩ := Finset.mem_biUnion.mp h
  obtain ⟨i', -, hi'⟩ := Finset.mem_biUnion.mp h'
  have := mem_oset.mp hi
  have := mem_oset.mp hi'
  omega

/-- and together they are all the rows. -/
theorem rows_all : (Finset.univ : Finset S16384x128.Idx) = Finset.univ.biUnion fun c : Fin 2 => Finset.univ.biUnion (oset c) := by
  ext x
  have hx : (x 0).val < 16384 := (x 0).isLt
  refine ⟨fun _ => ?_, fun _ => Finset.mem_univ _⟩
  refine Finset.mem_biUnion.mpr ⟨⟨(x 0).val / 512 % 2, by omega⟩, Finset.mem_univ _, Finset.mem_biUnion.mpr ⟨⟨(x 0).val / 512 / 2, by omega⟩, Finset.mem_univ _, mem_oset.mpr ?_⟩⟩
  show (x 0).val / 512 = 2 * ((x 0).val / 512 / 2) + (x 0).val / 512 % 2
  omega

/-- The result, whole, is its tiles' rows. -/
theorem rows (d : Dev nD) (f : Buf (Elt F) (oLoc d)) :
    (oLoc d ↦{fullShare} f : sProp 𝕄) = bigSep Finset.univ fun c : Fin 2 => bigSep Finset.univ fun i : Fin 16 => (oLoc d ↦[oset c i]{fullShare} f : sProp 𝕄) := by
  have h := pointsTo_biUnion (Ix := HIx 1) (Name := ℕ) (U := UU) (Lvl := ℕ) (ℓ := oLoc d) (q := fullShare) (f := f) (Finset.univ : Finset (Fin 2)) (fun c => Finset.univ.biUnion (oset c)) cores_disj
  rw [← rows_all] at h
  exact h.trans (bigSep_congr fun c _ => pointsTo_biUnion (ℓ := oLoc d) Finset.univ (oset c) (oset_disj c))

/-- The tiles' rows at some contents are the result at some. -/
theorem unrows (d : Dev nD) (f₀ : Buf (Elt F) (oLoc d)) :
    (bigSep Finset.univ fun c : Fin 2 => bigSep Finset.univ fun i : Fin 16 => iprop(∃ g : Buf (Elt F) (oLoc d), oLoc d ↦[oset c i]{fullShare} g) : sProp 𝕄)
      ⊢ iprop(∃ g : Buf (Elt F) (oLoc d), oLoc d ↦{fullShare} g) := by
  refine BIBase.Entails.trans (bigSep_mono fun c _ => join (oLoc d) f₀ (oset c) (oset_disj c)) ?_
  refine BIBase.Entails.trans (join (oLoc d) f₀ (fun c => Finset.univ.biUnion (oset c)) cores_disj) ?_
  rw [← rows_all]

/-- A family's members changed one by one. -/
theorem each (X Y : Fin 2 → Fin 16 → sProp 𝕄) (h : ∀ c i, X c i ⊢ Y c i) :
    (bigSep Finset.univ fun c => bigSep Finset.univ fun i => X c i) ⊢ bigSep Finset.univ fun c => bigSep Finset.univ fun i => Y c i :=
  bigSep_mono fun c _ => bigSep_mono fun i _ => h c i

/-- Three families at once. -/
theorem three (X Y Z : Fin 2 → Fin 16 → sProp 𝕄) :
    (bigSep Finset.univ fun c => bigSep Finset.univ fun i => iprop(X c i ∗ Y c i ∗ Z c i))
      = iprop((bigSep Finset.univ fun c => bigSep Finset.univ fun i => X c i) ∗ (bigSep Finset.univ fun c => bigSep Finset.univ fun i => Y c i)
        ∗ (bigSep Finset.univ fun c => bigSep Finset.univ fun i => Z c i)) := by
  simp only [bigSep_sep']

/-- The call's buffers, dealt to the tiles: half of the index rows and of the table is kept. -/
theorem deal (d : Dev nD) (I : Buf (Elt F) (iLoc d)) (T : Buf (Elt F) (tLoc d)) (f : Buf (Elt F) (oLoc d))
    (hI : ∀ x : S32x128x104.Idx, (I x : BitVec 32).toNat < 26000) :
    (iprop((iLoc d ↦{fullShare} I) ∗ (tLoc d ↦{fullShare} T) ∗ (oLoc d ↦{fullShare} f)) : sProp 𝕄)
      ⊢ iprop((iLoc d ↦{fullShare.left} I) ∗ (tLoc d ↦{fullShare.left} T) ∗ bigSep Finset.univ fun c : Fin 2 => GoC (F := F) d c) := by
  rw [shares (iLoc d) I, shares (tLoc d) T, rows d f, three]
  have h1 : ∀ (c : Fin 2) (i : Fin 16), (iLoc d ↦{tshare fullShare.right c i} I : sProp 𝕄)
      ⊢ iprop(∃ I : Buf (Elt F) (iLoc d), ⌜∀ x : S32x128x104.Idx, (I x : BitVec 32).toNat < 26000⌝ ∗ (iLoc d ↦{tshare fullShare.right c i} I)) := by
    intro c i
    iintro H; iexists I; isplitr; · ipureintro; exact hI
    iexact H
  have h2 : ∀ (c : Fin 2) (i : Fin 16), (tLoc d ↦{tshare fullShare.right c i} T : sProp 𝕄)
      ⊢ iprop(∃ T : Buf (Elt F) (tLoc d), tLoc d ↦{tshare fullShare.right c i} T) := by
    intro c i
    iintro H; iexists T; iexact H
  have h3 : ∀ (c : Fin 2) (i : Fin 16), (oLoc d ↦[oset c i]{fullShare} f : sProp 𝕄)
      ⊢ iprop(∃ f : Buf (Elt F) (oLoc d), oLoc d ↦[oset c i]{fullShare} f) := by
    intro c i
    iintro H; iexists f; iexact H
  iintro ⟨⟨Hi, His⟩, ⟨Ht, Hts⟩, Ho⟩
  isplitl [Hi]; · iexact Hi
  isplitl [Ht]; · iexact Ht
  isplitl [His]
  · iapply (each _ _ h1); iexact His
  isplitl [Hts]
  · iapply (each _ _ h2); iexact Hts
  · iapply (each _ _ h3); iexact Ho

/-- The call's buffers, collected: the index rows and the table as they were. -/
theorem collect (d : Dev nD) (I : Buf (Elt F) (iLoc d)) (T : Buf (Elt F) (tLoc d)) (f₀ : Buf (Elt F) (oLoc d)) :
    (iprop((iLoc d ↦{fullShare.left} I) ∗ (tLoc d ↦{fullShare.left} T) ∗ bigSep Finset.univ fun c : Fin 2 => GoC (F := F) d c) : sProp 𝕄)
      ⊢ iprop((iLoc d ↦{fullShare} I) ∗ (tLoc d ↦{fullShare} T) ∗ ∃ f : Buf (Elt F) (oLoc d), oLoc d ↦{fullShare} f) := by
  rw [three]
  have h1 : ∀ (c : Fin 2) (i : Fin 16), iprop(∃ I : Buf (Elt F) (iLoc d), ⌜∀ x : S32x128x104.Idx, (I x : BitVec 32).toNat < 26000⌝ ∗ (iLoc d ↦{tshare fullShare.right c i} I))
      ⊢ (iprop(∃ I : Buf (Elt F) (iLoc d), iLoc d ↦{tshare fullShare.right c i} I) : sProp 𝕄) := by
    intro c i
    iintro ⟨%g, -, H⟩; iexists g; iexact H
  iintro ⟨Hi, Ht, His, Hts, Ho⟩
  isplitl [Hi His]
  · iapply (unshare (iLoc d) I)
    isplitl [Hi]; · iexact Hi
    iapply (each _ _ h1); iexact His
  isplitl [Ht Hts]
  · iapply (unshare (tLoc d) T)
    isplitl [Ht]; · iexact Ht
    iexact Hts
  iapply (unrows d f₀); iexact Ho

end Cert.Proof

end
-- ==== Proof.Host.lean ====
/-
  The operations of the program outside its kernels.
-/
module

public import proofs.«01_k».proof.Proof.Base
public import Idealize.ShloMosaic.Lib.Pipeline.Frame

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The operations before the SparseCore call, -/
def ops1 : List (HloOp τ sig (Elt F)) :=
  [StableHlo.nullary main_v1 (iotaInDim S26 32 0),
   StableHlo.nullary main_c (constantI S_ 32 1000#32),
   StableHlo.unary main_c main_v2 (broadcastInDim S26 ![] bcast_S_S26 : (⟨S_, .i32⟩ : BufTy).Contents (Elt F) → (⟨S26, .i32⟩ : BufTy).Contents (Elt F)),
   StableHlo.binary main_v1 main_v2 main_v3 (muli : (⟨S26, .i32⟩ : BufTy).Contents (Elt F) → (⟨S26, .i32⟩ : BufTy).Contents (Elt F) → (⟨S26, .i32⟩ : BufTy).Contents (Elt F)),
   StableHlo.unary main_v3 main_v4 (broadcastInDim S1x26 ![1] bcast_S26_S1x26_1 : (⟨S26, .i32⟩ : BufTy).Contents (Elt F) → (⟨S1x26, .i32⟩ : BufTy).Contents (Elt F)),
   StableHlo.unary main_v4 main_v5 (broadcastInDim S16384x26 ![0, 1] bcast_S1x26_S16384x26_0_1 : (⟨S1x26, .i32⟩ : BufTy).Contents (Elt F) → (⟨S16384x26, .i32⟩ : BufTy).Contents (Elt F)),
   StableHlo.binary main_arg0 main_v5 main_v6 (addi : (⟨S16384x26, .i32⟩ : BufTy).Contents (Elt F) → (⟨S16384x26, .i32⟩ : BufTy).Contents (Elt F) → (⟨S16384x26, .i32⟩ : BufTy).Contents (Elt F)),
   StableHlo.reshape main_v6 main_v7 (rfl : (.i32 : EltTy) = .i32) shapeCasts_S16384x26_S32x128x104,
   StableHlo.reshape main_v0 main_v8 (rfl : (.f32 : EltTy) = .f32) shapeCasts_S26x1000x128_S26000x128]

/-- between it and the second pipeline, -/
def ops2 : List (HloOp τ sig (Elt F)) :=
  [StableHlo.reshape main_arg4 main_v10 (rfl : (.f32 : EltTy) = .f32) shapeCasts_S128_S1x128,
   StableHlo.reshape main_arg5 main_v11 (rfl : (.f32 : EltTy) = .f32) shapeCasts_S128_S1x128,
   StableHlo.reshape main_arg7 main_v12 (rfl : (.f32 : EltTy) = .f32) shapeCasts_S64_S1x64,
   StableHlo.reshape main_arg9 main_v13 (rfl : (.f32 : EltTy) = .f32) shapeCasts_S1_S1x1]

/-- and after that. -/
def ops3 : List (HloOp τ sig (Elt F)) :=
  [StableHlo.reshape main_v14 main_v15 (rfl : (.f32 : EltTy) = .f32) shapeCasts_S16384x1_S16384]

set_option maxRecDepth 8192 in
/-- The program: a pipeline, the SparseCore call and a pipeline, with operations between. -/
theorem main_eq (d : Dev nD) : main (F := F) d
    = Prog.lift (.customCall (SparseCore.inner (Pipeline.entry 0)) ()) >>= fun _ => StableHlo.seq ops1 >>= fun _ => sc.run d 0 >>= fun _ =>
      StableHlo.seq ops2 >>= fun _ => Prog.lift (.customCall (SparseCore.inner (Pipeline.entry 1)) ()) >>= fun _ => StableHlo.seq ops3 := by
  simp only [main, ops1, ops2, ops3, StableHlo.seq, bind_assoc, pure_bind]

/-- The arguments. -/
abbrev args : List (Ref sig .tc) := [main_arg0, main_arg1, main_arg2, main_arg3, main_arg4, main_arg5, main_arg6, main_arg7, main_arg8, main_arg9]

/-- What the operations write. -/
abbrev outs1 : List (Ref sig .tc) := [main_v1, main_c, main_v2, main_v3, main_v4, main_v5, main_v6, main_v7, main_v8]
abbrev outs2 : List (Ref sig .tc) := [main_v10, main_v11, main_v12, main_v13]
abbrev outs3 : List (Ref sig .tc) := [main_v15]

theorem one_sub {r : Ref sig .tc} {l : List (Ref sig .tc)} (h : r ∈ l) :
    ({Proc.devRef (τ := τ) .tc r} : Finset (DevRef τ sig)) ⊆ (l.map (Proc.devRef (τ := τ) .tc)).toFinset :=
  Finset.singleton_subset_iff.mpr (List.mem_toFinset.mpr (List.mem_map_of_mem h))

theorem writes1 : (ops1 (F := F)).Forall fun op => op.writes ⊆ (outs1.map (Proc.devRef (τ := τ) .tc)).toFinset :=
  ⟨one_sub (by decide), one_sub (by decide), one_sub (by decide), one_sub (by decide), one_sub (by decide), one_sub (by decide), one_sub (by decide), one_sub (by decide), one_sub (by decide)⟩
theorem writes2 : (ops2 (F := F)).Forall fun op => op.writes ⊆ (outs2.map (Proc.devRef (τ := τ) .tc)).toFinset :=
  ⟨one_sub (by decide), one_sub (by decide), one_sub (by decide), one_sub (by decide)⟩
theorem writes3 : (ops3 (F := F)).Forall fun op => op.writes ⊆ (outs3.map (Proc.devRef (τ := τ) .tc)).toFinset :=
  one_sub (by decide)

/-- They touch the TensorCore's buffers only. -/
theorem bufs1 : ∀ op ∈ ops1 (F := F), op.bufs ⊆ Pipeline.ucRefs τ sig := fun op h => Pipeline.sub_ucRefs op (List.forall_iff_forall_mem.mp
  (show (ops1 (F := F)).Forall fun op => op.bufs ⊆ StableHlo.tcRefs τ sig from
    ⟨StableHlo.nullary_bufs_sub .., StableHlo.nullary_bufs_sub .., StableHlo.unary_bufs_sub .., StableHlo.binary_bufs_sub .., StableHlo.unary_bufs_sub .., StableHlo.unary_bufs_sub ..,
      StableHlo.binary_bufs_sub .., StableHlo.reshape_bufs_sub .., StableHlo.reshape_bufs_sub ..⟩) op h)
theorem bufs2 : ∀ op ∈ ops2 (F := F), op.bufs ⊆ Pipeline.ucRefs τ sig := fun op h => Pipeline.sub_ucRefs op (List.forall_iff_forall_mem.mp
  (show (ops2 (F := F)).Forall fun op => op.bufs ⊆ StableHlo.tcRefs τ sig from
    ⟨StableHlo.reshape_bufs_sub .., StableHlo.reshape_bufs_sub .., StableHlo.reshape_bufs_sub .., StableHlo.reshape_bufs_sub ..⟩) op h)
theorem bufs3 : ∀ op ∈ ops3 (F := F), op.bufs ⊆ Pipeline.ucRefs τ sig := fun op h => Pipeline.sub_ucRefs op (List.forall_iff_forall_mem.mp
  (show (ops3 (F := F)).Forall fun op => op.bufs ⊆ StableHlo.tcRefs τ sig from StableHlo.reshape_bufs_sub ..) op h)

theorem fresh1 : ∀ op ∈ ops1 (F := F), op.fresh = ∅ := List.forall_iff_forall_mem.mp ⟨rfl, rfl, rfl, rfl, rfl, rfl, rfl, rfl, rfl⟩
theorem fresh2 : ∀ op ∈ ops2 (F := F), op.fresh = ∅ := List.forall_iff_forall_mem.mp ⟨rfl, rfl, rfl, rfl⟩
theorem fresh3 : ∀ op ∈ ops3 (F := F), op.fresh = ∅ := List.forall_iff_forall_mem.mp (show (ops3 (F := F)).Forall fun op => op.fresh = ∅ from rfl)

/-- The arguments hold what the launch memory holds. -/
def Keep (m : (ℓ : Loc nD τ sig) → Buf (Elt F) ℓ) (d : Dev nD) (W : Valuation τ sig (Elt F)) : Prop :=
  ∀ b ∈ args, W (Proc.devRef .tc b) = m ((SparseCore.T d).loc b)

theorem keep1 {m : (ℓ : Loc nD τ sig) → Buf (Elt F) ℓ} {d : Dev nD} {W : Valuation τ sig (Elt F)} (h : Keep m d W) : Keep m d (StableHlo.after ops1 W) := fun b hb =>
  (StableHlo.after_of_writes_sub ops1 W writes1 ((by decide : ∀ b ∈ args, b ∉ outs1) b hb)).trans (h b hb)
theorem keep2 {m : (ℓ : Loc nD τ sig) → Buf (Elt F) ℓ} {d : Dev nD} {W : Valuation τ sig (Elt F)} (h : Keep m d W) : Keep m d (StableHlo.after ops2 W) := fun b hb =>
  (StableHlo.after_of_writes_sub ops2 W writes2 ((by decide : ∀ b ∈ args, b ∉ outs2) b hb)).trans (h b hb)
theorem keep3 {m : (ℓ : Loc nD τ sig) → Buf (Elt F) ℓ} {d : Dev nD} {W : Valuation τ sig (Elt F)} (h : Keep m d W) : Keep m d (StableHlo.after ops3 W) := fun b hb =>
  (StableHlo.after_of_writes_sub ops3 W writes3 ((by decide : ∀ b ∈ args, b ∉ outs3) b hb)).trans (h b hb)

/-- What the proof asks of the launch memory: every index is below its field's vocabulary. -/
def PreOK (m : (ℓ : Loc nD τ sig) → Buf (Elt F) ℓ) : Prop := ∀ (d : Dev nD) (x : S16384x26.Idx), (m ((SparseCore.T d).loc main_arg0) x : BitVec 32).toNat < 1000

/-- A row of field `n`'s table, offset by the fields before it, is a row of the flattened tables. -/
theorem row_lt (n : Nat) (hn : n < 26) (v : BitVec 32) (hv : v.toNat < 1000) : (v + BitVec.ofNat 32 n * 1000#32).toNat < 26000 := by
  rw [BitVec.toNat_add, BitVec.toNat_mul, BitVec.toNat_ofNat, show (1000#32).toNat = 1000 from rfl, Nat.mod_eq_of_lt (show n < 2 ^ 32 by omega), Nat.mod_eq_of_lt (show n * 1000 < 2 ^ 32 by omega)]
  exact lt_of_le_of_lt (Nat.mod_le _ _) (by omega)

/-- The index rows the SparseCore reads are rows of the flattened tables. -/
theorem idx_lt {W : Valuation τ sig (Elt F)} (h : ∀ x : S16384x26.Idx, (W (Proc.devRef .tc main_arg0) x : BitVec 32).toNat < 1000) (x : S32x128x104.Idx) :
    (StableHlo.after ops1 W (Proc.devRef .tc main_v7) x : BitVec 32).toNat < 26000 := by
  have e : StableHlo.after ops1 W (Proc.devRef .tc main_v7) = fun x => shapeCast S32x128x104 (addi (W (Proc.devRef .tc main_arg0))
      (broadcastInDim S16384x26 ![0, 1] bcast_S1x26_S16384x26_0_1 (broadcastInDim S1x26 ![1] bcast_S26_S1x26_1
        (muli (iotaInDim S26 32 0) (broadcastInDim S26 ![] bcast_S_S26 (constantI S_ 32 1000#32)))))) shapeCasts_S16384x26_S32x128x104 x := by
    simp only [ops1]
    after_results_simp
    rfl
  rw [e]
  simp only [shapeCast, addi, muli, broadcastInDim, iotaInDim, constantI]
  refine row_lt _ ?_ _ (h _)
  exact Fin.isLt (n := 26) _

end Cert.Proof

end
-- ==== Proof.RegA.lean ====
/-
  The TensorCore bodies' memory steps, each over a buffer at any contents.
-/
module

public import proofs.«01_k».proof.Proof.Base
public import proofs.«01_k».proof.Proof.Gen.KernelIdeal.Launch
public import Idealize.ShloMosaic.Lib.Pipeline.Regions
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Memref `M`'s buffer on core `c`, held whole at `f`. -/
abbrev pt (c : Dev nD) {sp : Space} {S : Shape} {e : EltTy} (M : Memref sig .tc sp S e) (f : Buf (Elt F) (M.view.loc (c.tc : Thread nD τ))) :
    sProp (MT nD τ sig (HIx 1) (Elt F) ℕ UU ℕ) :=
  M.view.loc (c.tc : Thread nD τ) ↦{fullShare} f

/-- The same at something. -/
abbrev pte (c : Dev nD) {sp : Space} {S : Shape} {e : EltTy} (M : Memref sig .tc sp S e) : sProp (MT nD τ sig (HIx 1) (Elt F) ℕ UU ℕ) :=
  iprop(∃ f : Buf (Elt F) (M.view.loc (c.tc : Thread nD τ)), pt c M f)

/-- What the fold leaves in the result's staging buffer, with the proof that it runs to its return. -/
noncomputable def foldRun (c : Dev nD) (i : grid0.Coords) (M0 : Memref sig .tc .vmem S1x1000x128 .f32) (h0 : M0.IsWhole) (M1 : Memref sig .tc .vmem S128x128 .f32) (h1 : M1.IsWhole)
    (M2 : Memref sig .tc .vmem S1x1000x128 .f32) (h2 : M2.IsWhole)
    (f0 : Buf (Elt F) (M0.view.loc (c.tc : Thread nD τ))) (f1 : Buf (Elt F) (M1.view.loc (c.tc : Thread nD τ))) :
    { W : Buf (Elt F) (M2.view.loc (c.tc : Thread nD τ)) // ∀ (f2 : Buf (Elt F) (M2.view.loc (c.tc : Thread nD τ))) (E : Set ℕ) (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none c.tc none) E (cc0__fold_body i M0 h0 M1 h1 M2 h2) Q } := by
  refine ⟨?_, fun f2 E Q => ?run⟩
  case run =>
    iintro ⟨H0, H1, H2, Hk⟩
    sl_exec!
    sl_step
    iapply Hk
    isplitl [H0]; · iexact H0
    isplitl [H1]; · iexact H1
    iexact H2

/-- A whole buffer owned at given contents is its points-to at a buffer that reads so. -/
theorem owns_pt (c : Dev nD) {sp : Space} {S : Shape} {e : EltTy} (M : Memref sig .tc sp S e) (hM : M.IsWhole) (Y : S.Idx → Elt F e) :
    (owns (c.tc : Thread nD τ) M fullShare Y : sProp 𝕄) ⊢ iprop(∃ f : Buf (Elt F) (M.view.loc (c.tc : Thread nD τ)), ⌜M.view.read (Elt F) f = Y⌝ ∗ pt c M f) := by
  unfold owns
  rw [hM.set_eq_univ]

/-- And back. -/
theorem pt_owns (c : Dev nD) {sp : Space} {S : Shape} {e : EltTy} (M : Memref sig .tc sp S e) (hM : M.IsWhole) (f : Buf (Elt F) (M.view.loc (c.tc : Thread nD τ))) :
    pt c M f ⊢ (owns (c.tc : Thread nD τ) M fullShare (M.view.read (Elt F) f) : sProp 𝕄) := by
  unfold owns
  rw [hM.set_eq_univ]
  iintro H
  iexists f
  isplitr
  · ipureintro; rfl
  · iexact H

/-- The tail runs to its return at every grid point, leaving the operands as they were. -/
theorem tail_run (c : Dev nD) (i : grid2.Coords) (M2 : Memref sig .tc .vmem S1024x128 .f32) (h2 : M2.IsWhole) (M3 : Memref sig .tc .vmem S1x128 .f32) (h3 : M3.IsWhole) (M4 : Memref sig .tc .vmem S1x128 .f32) (h4 : M4.IsWhole) (M5 : Memref sig .tc .vmem S128x64 .f32) (h5 : M5.IsWhole) (M6 : Memref sig .tc .vmem S1x64 .f32) (h6 : M6.IsWhole) (M7 : Memref sig .tc .vmem S64x1 .f32) (h7 : M7.IsWhole) (M8 : Memref sig .tc .vmem S1x1 .f32) (h8 : M8.IsWhole) (M9 : Memref sig .tc .vmem S1024x1 .f32) (h9 : M9.IsWhole) (M10 : Memref sig .tc .vmem S1x128 .f32) (h10 : M10.IsWhole) (M11 : Memref sig .tc .vmem S1x128 .f32) (h11 : M11.IsWhole) (f2 : Buf (Elt F) (M2.view.loc (c.tc : Thread nD τ))) (f3 : Buf (Elt F) (M3.view.loc (c.tc : Thread nD τ))) (f4 : Buf (Elt F) (M4.view.loc (c.tc : Thread nD τ))) (f5 : Buf (Elt F) (M5.view.loc (c.tc : Thread nD τ))) (f6 : Buf (Elt F) (M6.view.loc (c.tc : Thread nD τ))) (f7 : Buf (Elt F) (M7.view.loc (c.tc : Thread nD τ))) (f8 : Buf (Elt F) (M8.view.loc (c.tc : Thread nD τ))) (f9 : Buf (Elt F) (M9.view.loc (c.tc : Thread nD τ))) (f10 : Buf (Elt F) (M10.view.loc (c.tc : Thread nD τ))) (f11 : Buf (Elt F) (M11.view.loc (c.tc : Thread nD τ))) (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pt c M2 f2 ∗ pt c M3 f3 ∗ pt c M4 f4 ∗ pt c M5 f5 ∗ pt c M6 f6 ∗ pt c M7 f7 ∗ pt c M8 f8 ∗ pte c M9 ∗ pte c M10 ∗ pte c M11) -∗ Q ⟨⟩))
      ⊢ wp frame (wpE (defs₀ (F := F)) Variants.none c.tc none) E (cc2__tail_body i M2 h2 M3 h3 M4 h4 M5 h5 M6 h6 M7 h7 M8 h8 M9 h9 M10 h10 M11 h11) Q := by
  by_cases k1 : (Scalar.cmpi .ne (Scalar.extui (Scalar.andi (Scalar.cmpi .eq (BitVec.ofNat 32 (i 0).val) 0#32) (Scalar.cmpi .eq (BitVec.ofNat 32 (i 1).val) 0#32)) : BitVec 32) 0#32 : BitVec 1) = 1#1 <;>
  by_cases k2 : (Scalar.cmpi .ne (Scalar.extui (Scalar.cmpi .eq (BitVec.ofNat 32 (i 0).val) 0#32) : BitVec 32) 0#32 : BitVec 1) = 1#1 <;>
  by_cases k3 : k2_cond3 i = 1#1 <;>
  (iintro ⟨H2, H3, H4, H5, H6, H7, H8, H9, H10, H11, Hk⟩
   unfold cc2__tail_body
   first | simp only [k1, k2, k3, dif_pos, ↓reduceDIte, k2_part1] | skip
   sl_exec!
   sl_step
   iapply Hk
   isplitl [H2]; · iexact H2
   isplitl [H3]; · iexact H3
   isplitl [H4]; · iexact H4
   isplitl [H5]; · iexact H5
   isplitl [H6]; · iexact H6
   isplitl [H7]; · iexact H7
   isplitl [H8]; · iexact H8
   isplitl [H9]; · iexists _; iexact H9
   isplitl [H10]; · iexists _; iexact H10
   iexists _; iexact H11)

end Cert.Proof

end
-- ==== Proof.RegB.lean ====
/-
  The two pipelines as regions over the core's buffers, and the body of the first.
-/
module

public import proofs.«01_k».proof.Proof.RegA

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

abbrev adm : (p : Fin 2) → (pcfgs (F := F) p).Adm := fun p => (cfgs p).toPCfg_adm

/-- The contents of the core's unscoped buffers. -/
abbrev Vals (F : FTy → Type) [FloatOps F] (c : Dev nD) : Type := (b : Ref sig .tc) → Buf (Elt F) ((c.tc : Thread nD τ).loc b)

/-- The waits the TensorCore may have recorded before call `n`. -/
abbrev rec (c : Dev nD) (n : ℕ) : Set (SemLoc sig × HIx 1) := {x | (K (F := F)).lev ((c.tc : Thread nD τ), x.1) x.2 ≤ 8 * (SparseCore.Cfg.Blocks.fst (N := 1) (Q := 1) n)}

/-- What the TensorCore owes before call `n`. -/
abbrev tcOwes (c : Dev nD) (n : ℕ) : sProp (MT nD τ sig (HIx 1) (Elt F) ℕ UU ℕ) :=
  iprop(∃ W, ⌜(K (F := F)).WBelow (T c) W (8 * (SparseCore.Cfg.Blocks.fst (N := 1) (Q := 1) n))⌝ ∗ owes (T c) ((K (F := F)).Otc c n) W)

/-- The data of a region entered with the buffers at `V`, of whose results nothing is said. -/
abbrev rgn (V : (c : Dev nD) → Vals F c) (n : ℕ) (p : Fin 2) (c : Dev nD) : Pipeline.RDat τ (Elt F) (HIx 1) ℕ UU ℕ (Pipeline.pin (pcfgs (F := F)) adm p) c where
  A w := V c (Pipeline.arrRef (Pipeline.pin (pcfgs (F := F)) adm p).spec w)
  after _ _ _ _ := True
  Φ _ := Pipeline.scopedRest (Ix := HIx 1) (Name := ℕ) (U := UU) (Lvl := ℕ) (Val := Elt F) (Pipeline.pin (pcfgs (F := F)) adm p).spec c
  q _ := fullShare
  owed _ := (K (F := F)).Otc c n
  recorded _ := rec (F := F) c n

/-- Contents that agree with given ones off some distinct buffers and are as told at those. -/
theorem exists_update {n : ℕ} {c : Dev nD} (r : Fin n → Ref sig .tc) (hr : Function.Injective r) (V : Vals F c)
    (G : (w : Fin n) → Buf (Elt F) ((c.tc : Thread nD τ).loc (r w))) :
    ∃ V' : Vals F c, (∀ w, V' (r w) = G w) ∧ ∀ b, (∀ w, r w ≠ b) → V' b = V b := by
  classical
  refine ⟨fun b => if h : ∃ w, r w = b then h.choose_spec ▸ G h.choose else V b, fun w => ?_, fun b hb => dif_neg fun ⟨w, h⟩ => hb w h⟩
  have h : ∃ w', r w' = r w := ⟨w, rfl⟩
  show dite _ _ _ = _
  rw [dif_pos h]
  have e : h.choose = w := hr h.choose_spec
  generalize h.choose_spec = q
  revert q
  generalize h.choose = w' at e ⊢
  subst e
  intro q; rfl

/-- The data's shares are full. -/
theorem rgn_share (V : (c : Dev nD) → Vals F c) (n : ℕ) (p : Fin 2) (c : Dev nD) (w) : (rgn V n p c).share w = fullShare := by
  unfold Pipeline.RDat.share; split <;> rfl

theorem owesAt_intro (V : (c : Dev nD) → Vals F c) (n : ℕ) (p : Fin 2) (c : Dev nD) (t) : tcOwes c n ⊢ (rgn V n p c).owesAt none t := by
  unfold Pipeline.RDat.owesAt Pipeline.owesWithin
  iintro ⟨%W, %hW, HO⟩
  iexists W
  isplitr
  · ipureintro
    exact fun x hx => Or.inl (hW x hx)
  · iexact HO

theorem owesAt_elim (V : (c : Dev nD) → Vals F c) (n : ℕ) (p : Fin 2) (c : Dev nD) (t) : (rgn V n p c).owesAt none t ⊢ tcOwes c n := by
  unfold Pipeline.RDat.owesAt Pipeline.owesWithin
  iintro ⟨%W, %hW, HO⟩
  iexists W
  isplitr
  · ipureintro
    intro x hx
    rcases hW hx with h | ⟨w, s, h⟩
    · exact h
    · have h2 : x.2 = none := congrArg Prod.snd h
      rw [h2]; exact Nat.zero_le _
  · iexact HO

set_option backward.isDefEq.respectTransparency.types false in
/-- A region over the thread state: every unscoped buffer at `V`, and what the core owes; left with the buffers that are no
    result of the region's as they were. -/
def reg (V : (c : Dev nD) → Vals F c) (n : ℕ) (p : Fin 2) (kit : Pipeline.LaunchFacts (nD := nD) (τ := τ) cfgs p)
    (hbody : ∀ c, (rgn V n p c).BodyObligation defs₀ 𝒱₀ none Set.univ) :
    Pipeline.RDat.RegionSeg (pcfgs (F := F)) adm (rgn V n) none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.RDat.cellsWaits_intro _ _ _ _ c fun w s t => (K (F := F)).mayWait_none _ fun g => by
    by_contra h
    exact absurd (SparseCore.Cfg.lev_of_Otc_pos (Nat.pos_of_ne_zero h)) (by rw [SparseCore.Cfg.lev_none]; omega)
  pre c := iprop(unscopedBufs c (V c) ∗ tcOwes c n)
  post c := iprop(∃ V' : Vals F c, ⌜∀ b, (∀ w, ((cfgs p).win w).isOut = true → Pipeline.arrRef (cfgs p).spec w ≠ b) → V' b = V c b⌝ ∗ unscopedBufs c V' ∗ tcOwes c n)
  X _ := BI.emp
  Y _ := BI.emp
  Z c := iprop(Pipeline.unscopedRest (Ix := HIx 1) (Name := ℕ) (U := UU) (Lvl := ℕ) (cfgs p).spec c (V c))
  hentry c := by
    rw [Pipeline.ownSems0_none]
    have hsplit := Pipeline.RDat.arrays_of_unscopedBufs (p := p) (pcfgs (F := F)) adm (rgn V n) kit.win kit.arr_whole c
      (rgn_share V n p c) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro V n p c _); iexact HO
    isplitr; · iempintro
    iexact Hrest
  hin c := by
    iintro ⟨-, -, Hr⟩; iexact Hr
  hout c := by
    rw [Pipeline.ownSems0_none]
    iintro Hr
    isplitr; · iempintro
    isplitr; · iempintro
    iexact Hr
  hexit c := by
    have hw := kit.win
    rw [Pipeline.RDat.arraysAt_eq (pcfgs (F := F)) adm (rgn V n) p c kit.arr_whole (rgn_share V n p c)]
    iintro ⟨Ha, HO, -, Hrest⟩
    ihave Ha2 := (BI.bigSep_exists_pi Finset.univ _) $$ Ha
    icases Ha2 with ⟨%G, Ha⟩
    ihave Ha3 := (BI.bigSep_pure_sep Finset.univ (fun w => (rgn V n p c).ArrAt w (Pipeline.pin (pcfgs (F := F)) adm p).N (G w))
      (fun w => ((c.tc : Thread nD τ).loc (Pipeline.arrRef (Pipeline.pin (pcfgs (F := F)) adm p).spec w) ↦{fullShare} G w : sProp 𝕄))) $$ Ha
    icases Ha3 with ⟨%hG, Ha⟩
    obtain ⟨V', h1, h2⟩ := exists_update (F := F) (c := c) (Pipeline.arrRef (cfgs p).spec) hw.arr_inj (V c) G
    imodintro
    iexists V'
    isplitr
    · ipureintro
      intro b hb
      by_cases h : ∃ w, Pipeline.arrRef (cfgs p).spec w = b
      · obtain ⟨w, rfl⟩ := h
        have hin : ((cfgs p).win w).isOut = false := by
          by_contra h; exact hb w (by simpa using h) rfl
        have := hG w (Finset.mem_univ _)
        rw [Pipeline.RDat.ArrAt_in (rgn V n p c) w hin] at this
        rw [h1]; exact this
      · exact h2 b fun w hw => h ⟨w, hw⟩
    isplitl [Ha Hrest]
    · rw [Pipeline.unscopedBufs_split cfgs p hw.arr_unscoped hw.arr_inj c V']
      isplitl [Ha]
      · rw [show (fun w => ((c.tc : Thread nD τ).loc (Pipeline.arrRef (cfgs p).spec w) ↦{fullShare} V' (Pipeline.arrRef (cfgs p).spec w) : sProp 𝕄)) = fun w => ((c.tc : Thread nD τ).loc (Pipeline.arrRef (cfgs p).spec w) ↦{fullShare} G w : sProp 𝕄) from funext fun w => by rw [h1]]
        iexact Ha
      · rw [show (Pipeline.unscopedRest (Ix := HIx 1) (Name := ℕ) (U := UU) (Lvl := ℕ) (cfgs p).spec c V' : sProp 𝕄) = Pipeline.unscopedRest (cfgs p).spec c (V c) from by
          unfold Pipeline.unscopedRest
          refine BI.bigSep_congr fun b hb => ?_
          rw [h2 b fun w hw => by
            have := Finset.mem_sdiff.mp hb
            exact this.2 (hw ▸ Finset.mem_image.mpr ⟨w, Finset.mem_univ _, rfl⟩)]]
        iexact Hrest
    · iapply (owesAt_elim V n p c _); iexact HO

/-- The fold's body obligation. -/
theorem body0 (V : (c : Dev nD) → Vals F c) (n : ℕ) (c : Dev nD) : (rgn V n 0 c).BodyObligation (defs₀ (F := F)) 𝒱₀ none Set.univ := fun t Y _ => by
  rw [bigSep_W0, bigSep_W0]
  change _ ⊢ wp _ _ _ (cc0__fold_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))) _
  iintro ⟨HΦ, HO, H0, H1, H2⟩
  ihave H0 := (owns_pt c (win0_0.stage (cfg0.slots t 0)) (hstage0_0 ((cfg0.slots t 0).cast nbuf0_0)) _) $$ H0
  ihave H1 := (owns_pt c (win0_1.stage (cfg0.slots t 1)) (hstage0_1 ((cfg0.slots t 1).cast nbuf0_1)) _) $$ H1
  ihave H2 := (owns_pt c (win0_2.stage (cfg0.slots t 2)) (hstage0_2 ((cfg0.slots t 2).cast nbuf0_2)) _) $$ H2
  icases H0 with ⟨%f0, -, H0⟩
  icases H1 with ⟨%f1, -, H1⟩
  icases H2 with ⟨%f2, -, H2⟩
  iapply ((foldRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) f0 f1).2 f2 Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists _; isplitr; swap
    · iapply (pt_owns c _ (hstage0_0 ((cfg0.slots t 0).cast nbuf0_0)) _); iexact H0
    · ipureintro; trivial
  isplitl [H1]
  · iexists _; isplitr; swap
    · iapply (pt_owns c _ (hstage0_1 ((cfg0.slots t 1).cast nbuf0_1)) _); iexact H1
    · ipureintro; trivial
  iexists _; isplitr; swap
  · iapply (pt_owns c _ (hstage0_2 ((cfg0.slots t 2).cast nbuf0_2)) _); iexact H2
  · ipureintro; trivial

end Cert.Proof

end
-- ==== Proof.RegC.lean ====
/-
  The body of the second pipeline.
-/
module

public import proofs.«01_k».proof.Proof.RegB

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- What rests between the body's runs: the scoped buffers no window stages. -/
theorem rgn_rest (V : (c : Dev nD) → Vals F c) (n : ℕ) (p : Fin 2) (c : Dev nD) (t) : (rgn V n p c).Φ t = Pipeline.scopedRest (cfgs p).spec c := rfl

/-- The tail's such buffers. -/
theorem rest2 (c : Dev nD) : (Pipeline.scopedRest (Ix := HIx 1) (Name := ℕ) (U := UU) (Lvl := ℕ) (Val := Elt F) (cfgs 1).spec c : sProp 𝕄) = Pipeline.scopedRest spec2 c := rfl

/-- The tail's body obligation. -/
theorem body2 (V : (c : Dev nD) → Vals F c) (n : ℕ) (c : Dev nD) : (rgn V n 1 c).BodyObligation (defs₀ (F := F)) 𝒱₀ none Set.univ := fun t Y _ => by
  rw [bigSep_W2, bigSep_W2]
  rw [rgn_rest V n 1 c t.castSucc]
  change _ ⊢ wp _ _ _ (cc2__tail_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _)) _
  iintro ⟨HΦ, HO, H2, H3, H4, H5, H6, H7, H8, H9⟩
  ihave HΦ := (Entails.of_eq ((rest2 c).trans (scopedRest2_eq c))) $$ HΦ
  icases HΦ with ⟨R0, R1, R2, R3, R4, R5, ⟨%f10, H10⟩, %f11, H11⟩
  ihave H2 := (owns_pt c (win2_0.stage (cfg2.slots t 0)) (hstage2_0 ((cfg2.slots t 0).cast nbuf2_0)) _) $$ H2
  icases H2 with ⟨%f2, -, H2⟩
  ihave H3 := (owns_pt c (win2_1.stage (cfg2.slots t 1)) (hstage2_1 ((cfg2.slots t 1).cast nbuf2_1)) _) $$ H3
  icases H3 with ⟨%f3, -, H3⟩
  ihave H4 := (owns_pt c (win2_2.stage (cfg2.slots t 2)) (hstage2_2 ((cfg2.slots t 2).cast nbuf2_2)) _) $$ H4
  icases H4 with ⟨%f4, -, H4⟩
  ihave H5 := (owns_pt c (win2_3.stage (cfg2.slots t 3)) (hstage2_3 ((cfg2.slots t 3).cast nbuf2_3)) _) $$ H5
  icases H5 with ⟨%f5, -, H5⟩
  ihave H6 := (owns_pt c (win2_4.stage (cfg2.slots t 4)) (hstage2_4 ((cfg2.slots t 4).cast nbuf2_4)) _) $$ H6
  icases H6 with ⟨%f6, -, H6⟩
  ihave H7 := (owns_pt c (win2_5.stage (cfg2.slots t 5)) (hstage2_5 ((cfg2.slots t 5).cast nbuf2_5)) _) $$ H7
  icases H7 with ⟨%f7, -, H7⟩
  ihave H8 := (owns_pt c (win2_6.stage (cfg2.slots t 6)) (hstage2_6 ((cfg2.slots t 6).cast nbuf2_6)) _) $$ H8
  icases H8 with ⟨%f8, -, H8⟩
  ihave H9 := (owns_pt c (win2_7.stage (cfg2.slots t 7)) (hstage2_7 ((cfg2.slots t 7).cast nbuf2_7)) _) $$ H9
  icases H9 with ⟨%f9, -, H9⟩
  iapply (tail_run c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) f2 f3 f4 f5 f6 f7 f8 f9 f10 f11 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, H6, H7, H8, ⟨%g9, H9⟩, H10, H11⟩
  isplitl [R0 R1 R2 R3 R4 R5 H10 H11]
  · iapply (Entails.of_eq ((rest2 c).trans (scopedRest2_eq c)).symm)
    isplitl [R0]; · iexact R0
    isplitl [R1]; · iexact R1
    isplitl [R2]; · iexact R2
    isplitl [R3]; · iexact R3
    isplitl [R4]; · iexact R4
    isplitl [R5]; · iexact R5
    isplitl [H10]; · iexact H10
    iexact H11
  isplitl [HO]; · iexact HO
  isplitl [H2]
  · iexists _; isplitr; swap
    · iapply (pt_owns c _ (hstage2_0 ((cfg2.slots t 0).cast nbuf2_0)) _); iexact H2
    · ipureintro; trivial
  isplitl [H3]
  · iexists _; isplitr; swap
    · iapply (pt_owns c _ (hstage2_1 ((cfg2.slots t 1).cast nbuf2_1)) _); iexact H3
    · ipureintro; trivial
  isplitl [H4]
  · iexists _; isplitr; swap
    · iapply (pt_owns c _ (hstage2_2 ((cfg2.slots t 2).cast nbuf2_2)) _); iexact H4
    · ipureintro; trivial
  isplitl [H5]
  · iexists _; isplitr; swap
    · iapply (pt_owns c _ (hstage2_3 ((cfg2.slots t 3).cast nbuf2_3)) _); iexact H5
    · ipureintro; trivial
  isplitl [H6]
  · iexists _; isplitr; swap
    · iapply (pt_owns c _ (hstage2_4 ((cfg2.slots t 4).cast nbuf2_4)) _); iexact H6
    · ipureintro; trivial
  isplitl [H7]
  · iexists _; isplitr; swap
    · iapply (pt_owns c _ (hstage2_5 ((cfg2.slots t 5).cast nbuf2_5)) _); iexact H7
    · ipureintro; trivial
  isplitl [H8]
  · iexists _; isplitr; swap
    · iapply (pt_owns c _ (hstage2_6 ((cfg2.slots t 6).cast nbuf2_6)) _); iexact H8
    · ipureintro; trivial
  iexists _; isplitr; swap
  · iapply (pt_owns c _ (hstage2_7 ((cfg2.slots t 7).cast nbuf2_7)) _); iexact H9
  · ipureintro; trivial

end Cert.Proof

end
-- ==== Proof.Main.lean ====
/-
  The program on a device's TensorCore.
-/
module

public import proofs.«01_k».proof.Proof.Deal
public import proofs.«01_k».proof.Proof.Host
public import proofs.«01_k».proof.Proof.RegC

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The TensorCore's buffers at a valuation. -/
abbrev held (d : Dev nD) (W : Valuation τ sig (Elt F)) : sProp 𝕄 := StableHlo.held (SparseCore.T d) (Pipeline.ucRefs τ sig) W

/-- Some valuation has given contents at the TensorCore's buffers. -/
theorem exists_val (d : Dev nD) (W₀ : Valuation τ sig (Elt F)) (V : (b : Ref sig .tc) → Buf (Elt F) ((d.tc : Thread nD τ).loc b)) :
    ∃ W : Valuation τ sig (Elt F), ∀ b : Ref sig .tc, W (Proc.devRef .tc b) = V b := by
  classical
  refine ⟨fun x => if h : ∃ b : Ref sig .tc, (Proc.devRef .tc b : DevRef τ sig) = x then h.choose_spec ▸ V h.choose else W₀ x, fun b => ?_⟩
  have h : ∃ b' : Ref sig .tc, (Proc.devRef .tc b' : DevRef τ sig) = Proc.devRef .tc b := ⟨b, rfl⟩
  show dite _ _ _ = _
  rw [dif_pos h]
  have e : h.choose = b := Proc.devRef_injective _ h.choose_spec
  generalize h.choose_spec = q
  revert q
  generalize h.choose = w' at e ⊢
  subst e
  intro q; rfl

/-- A device's part of the pipelines' ghost state. -/
abbrev G (d : Dev nD) : sProp 𝕄 := iprop((bigSep Finset.univ fun p : Fin 2 => Pipeline.cellsGhost cfgs EP p d) ∗ bigSep Finset.univ fun p : Fin 2 => Pipeline.toksInit cfgs EP p d)

/-- What a pipeline is entered from, -/
theorem reg_pre (V : (c : Dev nD) → Vals F c) (n : ℕ) (p : Fin 2) (kit) (h) (c : Dev nD) : (reg V n p kit h).pre c = iprop(unscopedBufs c (V c) ∗ tcOwes c n) := rfl
/-- and what it leaves. -/
theorem reg_post (V : (c : Dev nD) → Vals F c) (n : ℕ) (p : Fin 2) (kit) (h) (c : Dev nD) : (reg V n p kit h).post c
    = iprop(∃ V' : Vals F c, ⌜∀ b, (∀ w, ((cfgs p).win w).isOut = true → Pipeline.arrRef (cfgs p).spec w ≠ b) → V' b = V c b⌝ ∗ unscopedBufs c V' ∗ tcOwes c n) := rfl

theorem G_eq (d : Dev nD) : (G (F := F) d) = iprop((Pipeline.cellsGhost cfgs EP 0 d ∗ Pipeline.cellsGhost cfgs EP 1 d) ∗ (Pipeline.toksInit cfgs EP 0 d ∗ Pipeline.toksInit cfgs EP 1 d)) := by
  unfold G
  rw [bigSep_fin_two, bigSep_fin_two]; rfl

set_option backward.isDefEq.respectTransparency.types false in
/-- A pipeline's call: what is no result of it is as it was. -/
theorem region_step [∀ e, Nonempty (Elt F e)] (κ : GSem nD τ sig → ℕ) (d : Dev nD) (n : ℕ) (p : Fin 2) (kit : Pipeline.LaunchFacts (nD := nD) (τ := τ) cfgs p)
    (hbody : ∀ V c, (rgn (F := F) V n p c).BodyObligation defs₀ 𝒱₀ none Set.univ) (W : Valuation τ sig (Elt F)) (Q : PUnit → sProp 𝕄) :
    iprop((K (F := F)).ctx EH (P (F := F)) κ ∗ (boundary (SparseCore.T d) ∗ held d W ∗ tcOwes d n) ∗ (Pipeline.cellsGhost cfgs EP p d ∗ Pipeline.toksInit cfgs EP p d)
      ∗ (∀ W' : Valuation τ sig (Elt F), ⌜∀ b : Ref sig .tc, (∀ w, ((cfgs p).win w).isOut = true → Pipeline.arrRef (cfgs p).spec w ≠ b) → W' (Proc.devRef .tc b) = W (Proc.devRef .tc b)⌝
          -∗ (boundary (SparseCore.T d) ∗ held d W' ∗ tcOwes d n) -∗ Q ⟨⟩))
      ⊢ wp frame (wpE ((K (F := F)).defs (D (F := F))) 𝒱 (SparseCore.T d) none) Set.univ (Prog.lift (.customCall (SparseCore.inner (Pipeline.entry p)) ())) Q := by
  refine BIBase.Entails.trans ?_ ((K (F := F)).wp_liftProg (D (F := F)) 𝒱 (SparseCore.T d) Set.univ none (Prog.lift (.customCall (Pipeline.entry p) ())) Q)
  iintro ⟨Hctx, ⟨Hb, Hh, Ho⟩, ⟨Hcells, Htoks⟩, Hk⟩
  unfold SparseCore.Cfg.ctx
  icases Hctx with ⟨Hlev, -⟩
  iapply (Pipeline.RDat.RegionSeg.wp (pcfgs (F := F)) adm (rgn (fun c b => W (Proc.devRef .tc b)) n) none cellOf_inj EP defs₀ 𝒱₀ (K (F := F)).L (K (F := F)).lev
    (reg (fun c b => W (Proc.devRef .tc b)) n p kit (hbody _)) d none (fun u hu => nomatch hu) (fun x => .ret x) Q)
  rw [reg_pre, reg_post]
  isplitl [Hk]
  · iintro ⟨Hb, Hpost⟩
    icases Hpost with ⟨%V', %hV, Hu, Ho⟩
    obtain ⟨W', hW⟩ := exists_val d W V'
    have e : (unscopedBufs d V' : sProp 𝕄) = held d W' := by
      rw [show V' = fun b => W' (Proc.devRef .tc b) from funext fun b => (hW b).symm, Pipeline.unscopedBufs_held]
    rw [wp_ret]; imodintro
    iapply Hk $$ %W' []
    · ipureintro; intro b hb; rw [hW]; exact hV b hb
    isplitl [Hb]; · iexact Hb
    isplitl [Hu]
    · iapply (Entails.of_eq e); iexact Hu
    iexact Ho
  isplitl [Hb]; · iexact Hb
  isplitl [Hh Ho]
  · isplitl [Hh]
    · rw [Pipeline.unscopedBufs_held]; iexact Hh
    iexact Ho
  isplitl [Hlev]; · iexact Hlev
  isplitl [Hcells]; · iexact Hcells
  iexact Htoks

theorem hstep (d : Dev nD) (ops : List (HloOp τ sig (Elt F))) (hb : ∀ op ∈ ops, op.bufs ⊆ Pipeline.ucRefs τ sig) (hf : ∀ op ∈ ops, op.fresh = ∅) (W : Valuation τ sig (Elt F))
    (Q : PUnit → sProp 𝕄) :
    iprop((boundary (SparseCore.T d) ∗ held d W) ∗ ((boundary (SparseCore.T d) ∗ held d (StableHlo.after ops W)) -∗ Q ⟨⟩))
      ⊢ wp frame (wpE ((K (F := F)).defs (D (F := F))) 𝒱 (SparseCore.T d) none) Set.univ (StableHlo.seq ops) Q := by
  have e : StableHlo.seq (Λ := SparseCore.Sig (ΛP (F := F)) 1) (nD := nD) ops = StableHlo.seq ops >>= fun _ => .ret ⟨⟩ := (bind_pure _).symm
  rw [e]
  iintro ⟨H, Hk⟩
  iapply (StableHlo.wp_seq 𝒱 none Set.univ d (Pipeline.ucRefs τ sig) (fun _ => .ret ⟨⟩) ops hb hf W) $$ H
  iintro H
  rw [wp_ret]; imodintro
  iapply Hk; iexact H

theorem mem_uc (b : Ref sig .tc) (hb : b.isScoped = false) : (Proc.devRef .tc b : DevRef τ sig) ∈ Pipeline.ucRefs τ sig :=
  Finset.mem_filter.mpr ⟨StableHlo.devRef_mem_tcRefs b, by rw [Proc.isScoped_devRef, hb]; exact Bool.false_ne_true⟩

/-- The call's three buffers. -/
abbrev three3 : Finset (DevRef τ sig) := {Proc.devRef .tc main_v7, Proc.devRef .tc main_v8, Proc.devRef .tc main_v9}

/-- The TensorCore's buffers: the call's and the rest. -/
theorem held_call (d : Dev nD) (W : Valuation τ sig (Elt F)) :
    (held d W : sProp 𝕄) = iprop(((iLoc d ↦{fullShare} W (Proc.devRef .tc main_v7)) ∗ (tLoc d ↦{fullShare} W (Proc.devRef .tc main_v8)) ∗ (oLoc d ↦{fullShare} W (Proc.devRef .tc main_v9)))
      ∗ StableHlo.held (SparseCore.T d) (Pipeline.ucRefs τ sig \ three3) W) := by
  refine (StableHlo.held_sub_split (SparseCore.T d) (T := three3) (S := Pipeline.ucRefs τ sig) (by
    intro b hb
    simp only [Finset.mem_insert, Finset.mem_singleton] at hb
    rcases hb with rfl | rfl | rfl <;> exact mem_uc _ rfl) W).trans ?_
  congr 1
  unfold StableHlo.held
  rw [SparseCore.bigSep_insert' (by decide), SparseCore.bigSep_insert' (by decide), bigSep_singleton]

/-- The call: the index rows and the table are as they were, and the result is at some contents. -/
theorem call_step (κ : GSem nD τ sig → ℕ) (d : Dev nD) (W : Valuation τ sig (Elt F)) (hI : ∀ x : S32x128x104.Idx, (W (Proc.devRef .tc main_v7) x : BitVec 32).toNat < 26000) (Q : PUnit → sProp 𝕄) :
    iprop((K (F := F)).ctx EH (P (F := F)) κ ∗ (K (F := F)).tcSt EH d 0 ∗ held d W
      ∗ (∀ W' : Valuation τ sig (Elt F), ⌜∀ b : Ref sig .tc, b ≠ main_v9 → W' (Proc.devRef .tc b) = W (Proc.devRef .tc b)⌝ -∗ ((K (F := F)).tcSt EH d 1 ∗ held d W') -∗ Q ⟨⟩))
      ⊢ wp frame (wpE ((K (F := F)).defs (D (F := F))) 𝒱 (SparseCore.T d) none) Set.univ (sc.run d 0) Q := by
  classical
  rw [held_call]
  iintro ⟨Hctx, Hst, ⟨Hcall, Hrest⟩, Hk⟩
  ihave H := (deal d (W (Proc.devRef .tc main_v7)) (W (Proc.devRef .tc main_v8)) (W (Proc.devRef .tc main_v9)) hI) $$ Hcall
  icases H with ⟨Hi, Ht, Hgo⟩
  iapply ((K (F := F)).wp_run (D (F := F)) 𝒱 (EH := EH) (P := P (F := F)) κ d 0)
  isplitl [Hctx]; · iexact Hctx
  isplitl [Hst]; · iexact Hst
  isplitl [Hgo]; · iexact Hgo
  iintro ⟨Hst, Hdn⟩
  ihave H := (collect d (W (Proc.devRef .tc main_v7)) (W (Proc.devRef .tc main_v8)) (W (Proc.devRef .tc main_v9))) $$ [Hi Ht Hdn]
  · isplitl [Hi]; · iexact Hi
    isplitl [Ht]; · iexact Ht
    iexact Hdn
  icases H with ⟨Hi, Ht, %f, Ho⟩
  have hne : ∀ b : Ref sig .tc, b ≠ main_v9 → Function.update W (Proc.devRef .tc main_v9) f (Proc.devRef .tc b) = W (Proc.devRef .tc b) := fun b hb =>
    Function.update_of_ne (fun h => hb (Proc.devRef_injective _ h)) _ _
  iapply Hk $$ %(Function.update W (Proc.devRef .tc main_v9) f) []
  · ipureintro; exact hne
  isplitl [Hst]; · iexact Hst
  have e : (StableHlo.held (SparseCore.T d) (Pipeline.ucRefs τ sig \ three3) (Function.update W (Proc.devRef .tc main_v9) f) : sProp 𝕄)
      = StableHlo.held (SparseCore.T d) (Pipeline.ucRefs τ sig \ three3) W := StableHlo.held_congr _ fun b hb =>
    Function.update_of_ne (fun h => (Finset.mem_sdiff.mp hb).2 (by subst h; decide)) _ _
  rw [held_call, e, hne main_v7 (by decide), hne main_v8 (by decide), Function.update_self]
  isplitr [Hrest]
  · isplitl [Hi]; · iexact Hi
    isplitl [Ht]; · iexact Ht
    iexact Ho
  iexact Hrest

variable (m : (ℓ : Loc nD τ sig) → Buf (Elt F) ℓ) (ρ : Dev nD → PrngReg)

/-- What the TensorCore ends with: the arguments as they were. -/
abbrev FIN (d : Dev nD) : sProp 𝕄 := iprop(∃ W : Valuation τ sig (Elt F), ⌜Keep m d W⌝ ∗ held d W)

/-- The results of the pipelines are no arguments. -/
theorem out0 : ∀ b ∈ args, ∀ w, ((cfgs 0).win w).isOut = true → Pipeline.arrRef (cfgs 0).spec w ≠ b := by decide
theorem out1 : ∀ b ∈ args, ∀ w, ((cfgs 1).win w).isOut = true → Pipeline.arrRef (cfgs 1).spec w ≠ b := by decide

set_option backward.isDefEq.respectTransparency.types false in
/-- @main on a device's TensorCore. -/
theorem hmain [∀ e, Nonempty (Elt F e)] (hpre : PreOK m) (κ : GSem nD τ sig → ℕ) (d : Dev nD) :
    iprop((K (F := F)).ctx EH (P (F := F)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  simp only [wp_bind]
  rw [show (unscopedBufs d (fun b => m ((d.tc : Thread nD τ).loc b)) : sProp 𝕄) = held d (fun b => m (d, b)) from Pipeline.unscopedBufs_held d (fun b => m (d, b)), G_eq]
  iintro ⟨#Hctx, Hst, ⟨Hb, Hh, Hts, -⟩, ⟨⟨Hc0, Hc1⟩, ⟨Ht0, Ht1⟩⟩⟩
  have hk0 : Keep m d (fun b => m (d, b)) := fun b _ => rfl
  ihave Hst' := (show (K (F := F)).tcSt EH d 0 ⊢ iprop(tcOwes d 0 ∗ _) from .rfl) $$ Hst
  icases Hst' with ⟨Ho, Hst⟩
  iapply (region_step κ d 0 0 launch0 (fun V c => body0 V 0 c) (fun b => m (d, b)))
  isplitr; · iexact Hctx
  isplitl [Hb Hh Ho]
  · isplitl [Hb]; · iexact Hb
    isplitl [Hh]; · iexact Hh
    iexact Ho
  isplitl [Hc0 Ht0]
  · isplitl [Hc0]; · iexact Hc0
    iexact Ht0
  iintro %W1 %h1 ⟨Hb, Hh, Ho⟩
  have hk1 : Keep m d W1 := fun b hb => (h1 b (out0 b hb)).trans (hk0 b hb)
  iapply (hstep d ops1 bufs1 fresh1 W1)
  isplitl [Hb Hh]
  · isplitl [Hb]; · iexact Hb
    iexact Hh
  iintro ⟨Hb, Hh⟩
  iapply (call_step κ d (StableHlo.after ops1 W1) (fun x => idx_lt (fun x => by rw [hk1 main_arg0 (by decide)]; exact hpre d x) x))
  isplitr; · iexact Hctx
  isplitl [Hst Ho]
  · iapply (show iprop(tcOwes d 0 ∗ _) ⊢ (K (F := F)).tcSt EH d 0 from .rfl)
    isplitl [Ho]; · iexact Ho
    iexact Hst
  isplitl [Hh]; · iexact Hh
  iintro %W2 %h2 ⟨Hst, Hh⟩
  have hk2 : Keep m d W2 := fun b hb => (h2 b ((by decide : ∀ b ∈ args, b ≠ main_v9) b hb)).trans (keep1 hk1 b hb)
  iapply (hstep d ops2 bufs2 fresh2 W2)
  isplitl [Hb Hh]
  · isplitl [Hb]; · iexact Hb
    iexact Hh
  iintro ⟨Hb, Hh⟩
  ihave Hst' := (show (K (F := F)).tcSt EH d 1 ⊢ iprop(tcOwes d 1 ∗ _) from .rfl) $$ Hst
  icases Hst' with ⟨Ho, Hst⟩
  iapply (region_step κ d 1 1 launch2 (fun V c => body2 V 1 c) (StableHlo.after ops2 W2))
  isplitr; · iexact Hctx
  isplitl [Hb Hh Ho]
  · isplitl [Hb]; · iexact Hb
    isplitl [Hh]; · iexact Hh
    iexact Ho
  isplitl [Hc1 Ht1]
  · isplitl [Hc1]; · iexact Hc1
    iexact Ht1
  iintro %W3 %h3 ⟨Hb, Hh, Ho⟩
  have hk3 : Keep m d W3 := fun b hb => (h3 b (out1 b hb)).trans (keep2 hk2 b hb)
  iapply (hstep d ops3 bufs3 fresh3 W3)
  isplitl [Hb Hh]
  · isplitl [Hb]; · iexact Hb
    iexact Hh
  iintro ⟨Hb, Hh⟩
  isplitl [Hst Ho]
  · iapply (show iprop(tcOwes d 1 ∗ _) ⊢ (K (F := F)).tcSt EH d 1 from .rfl)
    isplitl [Ho]; · iexact Ho
    iexact Hst
  isplitl [Hh]
  · iexists (StableHlo.after ops3 W3)
    isplitr; · ipureintro; exact keep3 hk3
    iexact Hh
  isplitl [Hb] <;> iassumption

end Cert.Proof

end
-- ==== Proof.Launch.lean ====
/-
  The launch: the ghost state, the run and what it ends with.
-/
module

public import proofs.«01_k».proof.Proof.Main
public import Idealize.ShloMosaic.Adequacy
public import Idealize.ShloMosaic.Init

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

/-! ## The launch's ghost state -/

/-- The launch element: the handshakes' rounds, the pipelines' rounds, no counter. -/
def u₀ : UU := (initOf (K (F := F)).hsCells (K (F := F)).hsToks, (initOf (Pipeline.cells cfgs cellOf_inj) (Pipeline.launchToks cfgs cellOf_inj), 1))

theorem all_emp {J : Type} (s : Finset J) : (bigSep s fun _ => iprop(emp)) = (iprop(emp) : sProp 𝕄) := bigSep_emp_const s

/-- It divides into the handshakes' rounds and each device's part of the pipelines'. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F)).x q thr) := by
  unfold u₀
  iintro Hu
  ihave H := (ownU_pair (initOf (K (F := F)).hsCells (K (F := F)).hsToks) ((initOf (Pipeline.cells cfgs cellOf_inj) (Pipeline.launchToks cfgs cellOf_inj), (1 : Counters)) : UP × Counters)) $$ Hu
  icases H with ⟨HH, HP⟩
  ihave H := (own_pair_emb embR (initOf (Pipeline.cells cfgs cellOf_inj) (Pipeline.launchToks cfgs cellOf_inj)) (1 : Counters)) $$ HP
  icases H with ⟨HP, -⟩
  ihave H := (Pipeline.fund_ghost cfgs (EP (F := F)) cellOf_inj) $$ [HP]
  · iexact HP
  imod H
  icases H with ⟨Hc, Ht⟩
  imodintro
  isplitl [HH]; · iexact HH
  isplitl [Hc Ht]
  · rw [show (bigSep Finset.univ fun d : Dev nD => G (F := F) d) = _ from bigSep_sep' Finset.univ _ _]
    isplitl [Hc]; · iexact Hc
    iexact Ht
  rw [show (bigSep Finset.univ fun thr : Thread nD τ => bigSep Finset.univ fun q : Fin 1 => (P (F := F)).x q thr) = bigSep Finset.univ fun _ => iprop(emp) from
    bigSep_congr fun _ _ => bigSep_univ_of_subsingleton (0 : Fin 1), all_emp]
  iempintro

/-! ## The run -/

variable (m : (ℓ : Loc nD τ sig) → Buf (Elt F) ℓ) (ρ : Dev nD → PrngReg)

/-- The arguments of a device are what the launch memory holds. -/
def fq (d : Dev nD) (s' : Phys nD τ sig (Elt F)) : Prop := ∀ b ∈ args, s'.mem.mem ((SparseCore.T d).loc b) = m ((SparseCore.T d).loc b)

/-- A buffer held is the memory's. -/
theorem held_agree (d : Dev nD) (W : Valuation τ sig (Elt F)) (s' : Phys nD τ sig (Elt F)) (b : Ref sig .tc) (hb : b.isScoped = false) :
    iprop(held d W ∗ SI s') ⊢ (⌜s'.mem.mem ((SparseCore.T d).loc b) = W (Proc.devRef .tc b)⌝ : sProp 𝕄) := by
  classical
  iintro ⟨Hh, HSI⟩
  ihave Hh' := (show (held d W : sProp 𝕄) ⊢ iprop(((SparseCore.T d).loc b ↦{fullShare} W (Proc.devRef .tc b)) ∗ bigSep ((Pipeline.ucRefs τ sig).erase (Proc.devRef .tc b)) fun x => ((SparseCore.T d).1, x) ↦{fullShare} W x)
    from Entails.of_eq (SparseCore.bigSep_erase' (mem_uc b hb))) $$ Hh
  icases Hh' with ⟨H, -⟩
  ihave H := (SI_pointsTo_agree (st := s') (ℓ := (SparseCore.T d).loc b) (I := Finset.univ) (q := fullShare) (f := W (Proc.devRef .tc b))) $$ [HSI H]
  · isplitl [HSI]; · iexact HSI
    iexact H
  icases H with %h
  ipureintro; exact funext fun i => h i (Finset.mem_univ i)

theorem held_agree_list (d : Dev nD) (W : Valuation τ sig (Elt F)) (s' : Phys nD τ sig (Elt F)) (l : List (Ref sig .tc)) (hl : ∀ b ∈ l, b.isScoped = false) :
    iprop(held d W ∗ SI s') ⊢ (⌜∀ b ∈ l, s'.mem.mem ((SparseCore.T d).loc b) = W (Proc.devRef .tc b)⌝ : sProp 𝕄) := by
  induction l with
  | nil => iintro -; ipureintro; intro b hb; exact nomatch hb
  | cons b l ih =>
    iintro H
    ihave H := (persistent_entails_right (held_agree d W s' b (hl b List.mem_cons_self))) $$ H
    icases H with ⟨%h1, H⟩
    ihave H := (ih fun b hb => hl b (List.mem_cons_of_mem _ hb)) $$ H
    icases H with %h2
    ipureintro
    intro x hx
    rcases List.mem_cons.mp hx with rfl | hx
    · exact h1
    · exact h2 x hx

theorem hfin (d : Dev nD) (s' : Phys nD τ sig (Elt F)) : iprop(FIN m d ∗ SI s') ⊢ (⌜fq m d s'⌝ : sProp 𝕄) := by
  iintro ⟨⟨%W, %hW, Hh⟩, HSI⟩
  ihave H := (held_agree_list d W s' args (by decide)) $$ [Hh HSI]
  · isplitl [Hh]; · iexact Hh
    iexact HSI
  icases H with %h
  ipureintro
  intro b hb
  exact (h b hb).trans (hW b hb)

/-- What a run ends with: every device's arguments as they were, every semaphore at zero. -/
def QC : PUnit × MemSt nD τ sig (Elt F) → Prop := fun r => (∀ d : Dev nD, ∀ b ∈ args, r.2.mem ((SparseCore.T d).loc b) = m ((SparseCore.T d).loc b)) ∧ r.2.sem = fun _ => 0

/-- Every run from a memory of indices in range ends so. -/
theorem run_main [∀ e, Nonempty (Elt F e)] (hobl : (K (F := F)).TileObl (D (F := F)) 𝒱 (P (F := F)) v₀ 0) (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F)) (A := ∅) facts v₀
    (fun q hq => match q with | 0 => nomatch hq)
    (fun q _ => match q with | 0 => hobl)
    (fun q _ => match q with | 0 => SparseCore.Cfg.VecSplit.of_plain vecSplit)
    m ρ main G (FIN m) (u₀ (F := F)) (sep_elim_left.trans hu₀) (hmain m ρ hpre) (fq m) (hfin m) (QC m) (fun _ h hz => ⟨h, hz⟩)

/-- The index condition, word by word, bounds the word. -/
theorem word_lt (v : BitVec 32) (e : IntOp.andi (IntOp.cmpi .sge v 0#32) (IntOp.cmpi .slt v 1000#32) = 1#1) : v.toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof

end
-- ==== Proof.Same.lean ====
/-
  The kernel as printed and its idealization are one program.
-/
module

public import proofs.«01_k».proof.Proof.Gen.Kernel
public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

set_option maxHeartbeats 4000000 in
/-- The kernels' bodies, as printed and as idealized, are the same, -/
theorem bodies_eq : Cert.Kernel.defs₀ (F := F) = Cert.KernelIdeal.defs₀ (F := F) := by
  funext pr ℓ a
  match pr, ℓ, a with
  | .tc, 0, (t, s) => rfl
  | .scVector c s, 1, a => rfl
  | .tc, 2, (t, s) => rfl
  | .tc, 1, a => rfl
  | .scVector c s, 0, a => rfl
  | .scVector c s, 2, a => rfl
  | .scScalar c, 0, a => rfl
  | .scScalar c, 1, a => rfl
  | .scScalar c, 2, a => rfl

/-- and so are what their labels run. -/
theorem defs_eq : Cert.Kernel.defs (F := F) = Cert.KernelIdeal.defs (F := F) := by
  unfold Cert.Kernel.defs Cert.KernelIdeal.defs
  rw [bodies_eq]
  rfl

/-- So a run of the idealized kernel is one of the kernel. -/
theorem run_same (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (Cert.KernelIdeal.threads (F := F)) ⟨m, fun _ => 0, ρ⟩ Q) :
    θ_run (Cert.Kernel.defs (F := F)) (Cert.Kernel.threads (F := F)) ⟨m, fun _ => 0, ρ⟩ Q := by
  rw [defs_eq]
  exact h

end Cert.Proof

end
-- ==== Proof.TripOk.lean ====
/-
  One trip of a tile's loop carries every buffer's state from one trip to the next.
-/
module

public import proofs.«01_k».proof.Proof.Inv

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

set_option maxRecDepth 100000 in
set_option maxHeartbeats 0 in
/-- One trip of the loop: each of the four buffers takes its turn. -/
theorem trip_ok (d : Dev nD) (L : grid1.Coords) (qt qx : Fin 4 → PosShare TreeShare) (X : S128x104.Idx → Elt F .i32) (T : S26000x128.Idx → Elt F .f32)
    (H : S16384x128.Idx → Elt F .f32) (O : CellTallies nD τ sig (HIx 1)) (W : Waits sig (HIx 1)) (hX : ∀ x, (X x).toNat < 26000)
    (hH : ∀ n < 128, ∀ (y : S4x128.Idx) (z : S16384x128.Idx), (z 0).val = base L + 4 * n + (y 0).val → (z 1).val = (y 1).val → H z = Sc (F := F) (Gc X T n) y)
    (v2 : BitVec 32) (t : Fin k1_t1_loop.trips) :
    Inv d L qt qx X T H O W t.val ⊢ wp frame (wpE (defs₀ (F := F)) 𝒱₀ (thr d L) none) Set.univ (trip L v2 t) (fun _ => Inv d L qt qx X T H O W (t.val + 1)) := by
  have ht : t.val < 32 := t.isLt
  unfold Inv
  generalize hI0 : Ib d L gM0 bM0 cc1_scratch9.sem cc1_scratch13.sem 0 (qt 0) (qx 0) X T H t.val = I0
  generalize hI1 : Ib d L gM1 bM1 cc1_scratch10.sem cc1_scratch14.sem 1 (qt 1) (qx 1) X T H t.val = I1
  generalize hI2 : Ib d L gM2 bM2 cc1_scratch11.sem cc1_scratch15.sem 2 (qt 2) (qx 2) X T H t.val = I2
  generalize hI3 : Ib d L gM3 bM3 cc1_scratch12.sem cc1_scratch16.sem 3 (qt 3) (qx 3) X T H t.val = I3
  generalize hJ0 : Ib d L gM0 bM0 cc1_scratch9.sem cc1_scratch13.sem 0 (qt 0) (qx 0) X T H (t.val + 1) = J0
  generalize hJ1 : Ib d L gM1 bM1 cc1_scratch10.sem cc1_scratch14.sem 1 (qt 1) (qx 1) X T H (t.val + 1) = J1
  generalize hJ2 : Ib d L gM2 bM2 cc1_scratch11.sem cc1_scratch15.sem 2 (qt 2) (qx 2) X T H (t.val + 1) = J2
  generalize hJ3 : Ib d L gM3 bM3 cc1_scratch12.sem cc1_scratch16.sem 3 (qt 3) (qx 3) X T H (t.val + 1) = J3
  -- buffer 0
  refine BIBase.Entails.trans (Q := iprop(iprop(I1 ∗ I2 ∗ I3) ∗ Own (F := F) d L O W ∗ Ib d L gM0 bM0 cc1_scratch9.sem cc1_scratch13.sem 0 (qt 0) (qx 0) X T H t.val))
    (by rw [hI0]; iintro ⟨HO, H0, H1, H2, H3⟩; iframe HO H0 H1 H2 H3) ?_
  refine w1 ht ?_
  refine bindI (bindI (bindI (retI ?_)))
  refine dite_jp (hf := fun hn => w2f (Decidable.not_not.mp fun h0 => hn ((cond1_iff t).mpr h0))) (ht := fun hC hJ => w2t ((cond1_iff t).mp hC) rfl hJ) (h := ?_)
  refine bindE (bindE (w3 (fun g o hg => ?_)))
  iterate 32 refine runS (c := thr d L) (gb := (cc1_scratch1).idx) (ob := (cc1_scratch5).idx) (g := g) (S := sums gM0 g bM0 o) (f := putj gM0 g bM0) (hS := rfl) (h := fun o' => rfl) (hk := ?_)
  refine bindI (bindI ?_)
  refine dite_jp (R := Mid iprop(I1 ∗ I2 ∗ I3) d L gM0 bM0 cc1_scratch9.sem cc1_scratch13.sem 0 (qt 0) (qx 0) X T H O W t.val (sums gM0 g bM0 o 32))
    (hf := fun hn => w4f (Fr := iprop(I1 ∗ I2 ∗ I3)) (d := d) (L := L) (gM := gM0) (bM := bM0) (gs := cc1_scratch9.sem) (os := cc1_scratch13.sem) (b := 0) (qt := qt 0) (qx := qx 0) (X := X) (T := T) (H := H) (O := O) (W := W) (t := t.val)
      (g := g) (w := sums gM0 g bM0 o 32) (fun h0 => hn ((cond2_iff t).mpr h0)))
    (ht := fun hC hJ => w4t (Fr := iprop(I1 ∗ I2 ∗ I3)) (d := d) (L := L) (gM := gM0) (bM := bM0) (gs := cc1_scratch9.sem) (os := cc1_scratch13.sem) (b := 0) (qt := qt 0) (qx := qx 0) (X := X) (T := T) (H := H) (O := O) (W := W) (t := t.val)
      (g := g) (w := sums gM0 g bM0 o 32) (by decide) ((cond2_iff t).mp hC) hX (k1_off4_eq t) (hN0 _) hJ) (h := ?_)
  refine w5 (Fr := iprop(I1 ∗ I2 ∗ I3)) (d := d) (L := L) (gM := gM0) (bM := bM0) (gs := cc1_scratch9.sem) (os := cc1_scratch13.sem) (b := 0) (qt := qt 0) (qx := qx 0) (X := X) (T := T) (H := H) (O := O) (W := W) (t := t.val)
    (w := sums gM0 g bM0 o 32) ht (by decide) (off5_eq L t 0) (hM0 _ _ _) hP0 (sums_read gM0 g bM0 o) (by rw [hg]; exact hH _ (by omega)) ?_
  -- buffer 1
  refine retI ?_
  refine BIBase.Entails.trans (Q := iprop(iprop(J0 ∗ I2 ∗ I3) ∗ Own (F := F) d L O W ∗ Ib d L gM1 bM1 cc1_scratch10.sem cc1_scratch14.sem 1 (qt 1) (qx 1) X T H t.val))
    (by rw [hI1, hJ0]; iintro ⟨⟨HA, HB, HC⟩, HO, HD⟩; iframe HO HA HB HC HD) ?_
  refine w1 (Fr := iprop(J0 ∗ I2 ∗ I3)) (d := d) (L := L) (gM := gM1) (bM := bM1) (gs := cc1_scratch10.sem) (os := cc1_scratch14.sem) (b := 1) (qt := qt 1) (qx := qx 1) (X := X) (T := T) (H := H) (O := O) (W := W) (t := t.val) ht ?_
  refine bindI (bindI (retI ?_))
  refine dite_jp (hf := fun hn => w2f (Decidable.not_not.mp fun h0 => hn ((cond3_iff t).mpr h0))) (ht := fun hC hJ => w2t ((cond3_iff t).mp hC) rfl hJ) (h := ?_)
  refine bindE (bindE (w3 (fun g o hg => ?_)))
  iterate 32 refine runS (c := thr d L) (gb := (cc1_scratch2).idx) (ob := (cc1_scratch6).idx) (g := g) (S := sums gM1 g bM1 o) (f := putj gM1 g bM1) (hS := rfl) (h := fun o' => rfl) (hk := ?_)
  refine bindI (bindI ?_)
  refine dite_jp (R := Mid iprop(J0 ∗ I2 ∗ I3) d L gM1 bM1 cc1_scratch10.sem cc1_scratch14.sem 1 (qt 1) (qx 1) X T H O W t.val (sums gM1 g bM1 o 32))
    (hf := fun hn => w4f (Fr := iprop(J0 ∗ I2 ∗ I3)) (d := d) (L := L) (gM := gM1) (bM := bM1) (gs := cc1_scratch10.sem) (os := cc1_scratch14.sem) (b := 1) (qt := qt 1) (qx := qx 1) (X := X) (T := T) (H := H) (O := O) (W := W) (t := t.val)
      (g := g) (w := sums gM1 g bM1 o 32) (fun h0 => hn ((cond4_iff t).mpr h0)))
    (ht := fun hC hJ => w4t (Fr := iprop(J0 ∗ I2 ∗ I3)) (d := d) (L := L) (gM := gM1) (bM := bM1) (gs := cc1_scratch10.sem) (os := cc1_scratch14.sem) (b := 1) (qt := qt 1) (qx := qx 1) (X := X) (T := T) (H := H) (O := O) (W := W) (t := t.val)
      (g := g) (w := sums gM1 g bM1 o 32) (by decide) ((cond4_iff t).mp hC) hX (k1_off7_eq t) (hN1 _) hJ) (h := ?_)
  refine w5 (Fr := iprop(J0 ∗ I2 ∗ I3)) (d := d) (L := L) (gM := gM1) (bM := bM1) (gs := cc1_scratch10.sem) (os := cc1_scratch14.sem) (b := 1) (qt := qt 1) (qx := qx 1) (X := X) (T := T) (H := H) (O := O) (W := W) (t := t.val)
    (w := sums gM1 g bM1 o 32) ht (by decide) (off5_eq L t 1) (hM1 _ _ _) hP1 (sums_read gM1 g bM1 o) (by rw [hg]; exact hH _ (by omega)) ?_
  -- buffer 2
  refine retI ?_
  refine BIBase.Entails.trans (Q := iprop(iprop(J0 ∗ J1 ∗ I3) ∗ Own (F := F) d L O W ∗ Ib d L gM2 bM2 cc1_scratch11.sem cc1_scratch15.sem 2 (qt 2) (qx 2) X T H t.val))
    (by rw [hI2, hJ1]; iintro ⟨⟨HA, HB, HC⟩, HO, HD⟩; iframe HO HA HB HC HD) ?_
  refine w1 (Fr := iprop(J0 ∗ J1 ∗ I3)) (d := d) (L := L) (gM := gM2) (bM := bM2) (gs := cc1_scratch11.sem) (os := cc1_scratch15.sem) (b := 2) (qt := qt 2) (qx := qx 2) (X := X) (T := T) (H := H) (O := O) (W := W) (t := t.val) ht ?_
  refine bindI (bindI (retI ?_))
  refine dite_jp (hf := fun hn => w2f (Decidable.not_not.mp fun h0 => hn ((cond5_iff t).mpr h0))) (ht := fun hC hJ => w2t ((cond5_iff t).mp hC) rfl hJ) (h := ?_)
  refine bindE (bindE (w3 (fun g o hg => ?_)))
  iterate 32 refine runS (c := thr d L) (gb := (cc1_scratch3).idx) (ob := (cc1_scratch7).idx) (g := g) (S := sums gM2 g bM2 o) (f := putj gM2 g bM2) (hS := rfl) (h := fun o' => rfl) (hk := ?_)
  refine bindI (bindI ?_)
  refine dite_jp (R := Mid iprop(J0 ∗ J1 ∗ I3) d L gM2 bM2 cc1_scratch11.sem cc1_scratch15.sem 2 (qt 2) (qx 2) X T H O W t.val (sums gM2 g bM2 o 32))
    (hf := fun hn => w4f (Fr := iprop(J0 ∗ J1 ∗ I3)) (d := d) (L := L) (gM := gM2) (bM := bM2) (gs := cc1_scratch11.sem) (os := cc1_scratch15.sem) (b := 2) (qt := qt 2) (qx := qx 2) (X := X) (T := T) (H := H) (O := O) (W := W) (t := t.val)
      (g := g) (w := sums gM2 g bM2 o 32) (fun h0 => hn ((cond6_iff t).mpr h0)))
    (ht := fun hC hJ => w4t (Fr := iprop(J0 ∗ J1 ∗ I3)) (d := d) (L := L) (gM := gM2) (bM := bM2) (gs := cc1_scratch11.sem) (os := cc1_scratch15.sem) (b := 2) (qt := qt 2) (qx := qx 2) (X := X) (T := T) (H := H) (O := O) (W := W) (t := t.val)
      (g := g) (w := sums gM2 g bM2 o 32) (by decide) ((cond6_iff t).mp hC) hX (k1_off9_eq t) (hN2 _) hJ) (h := ?_)
  refine w5 (Fr := iprop(J0 ∗ J1 ∗ I3)) (d := d) (L := L) (gM := gM2) (bM := bM2) (gs := cc1_scratch11.sem) (os := cc1_scratch15.sem) (b := 2) (qt := qt 2) (qx := qx 2) (X := X) (T := T) (H := H) (O := O) (W := W) (t := t.val)
    (w := sums gM2 g bM2 o 32) ht (by decide) (off5_eq L t 2) (hM2 _ _ _) hP2 (sums_read gM2 g bM2 o) (by rw [hg]; exact hH _ (by omega)) ?_
  -- buffer 3
  refine BIBase.Entails.trans (Q := iprop(iprop(J0 ∗ J1 ∗ J2) ∗ Own (F := F) d L O W ∗ Ib d L gM3 bM3 cc1_scratch12.sem cc1_scratch16.sem 3 (qt 3) (qx 3) X T H t.val))
    (by rw [hI3, hJ2]; iintro ⟨⟨HA, HB, HC⟩, HO, HD⟩; iframe HO HA HB HC HD) ?_
  refine w1 (Fr := iprop(J0 ∗ J1 ∗ J2)) (d := d) (L := L) (gM := gM3) (bM := bM3) (gs := cc1_scratch12.sem) (os := cc1_scratch16.sem) (b := 3) (qt := qt 3) (qx := qx 3) (X := X) (T := T) (H := H) (O := O) (W := W) (t := t.val) ht ?_
  refine bindI (retI (retI (bindI ?_)))
  refine dite_jp (hf := fun hn => w2f (Decidable.not_not.mp fun h0 => hn ((cond7_iff t).mpr h0))) (ht := fun hC hJ => w2t ((cond7_iff t).mp hC) rfl hJ) (h := ?_)
  refine bindE (bindE (w3 (fun g o hg => ?_)))
  iterate 32 refine runS (c := thr d L) (gb := (cc1_scratch4).idx) (ob := (cc1_scratch8).idx) (g := g) (S := sums gM3 g bM3 o) (f := putj gM3 g bM3) (hS := rfl) (h := fun o' => rfl) (hk := ?_)
  refine dite_jp (R := Mid iprop(J0 ∗ J1 ∗ J2) d L gM3 bM3 cc1_scratch12.sem cc1_scratch16.sem 3 (qt 3) (qx 3) X T H O W t.val (sums gM3 g bM3 o 32))
    (hf := fun hn => w4f (Fr := iprop(J0 ∗ J1 ∗ J2)) (d := d) (L := L) (gM := gM3) (bM := bM3) (gs := cc1_scratch12.sem) (os := cc1_scratch16.sem) (b := 3) (qt := qt 3) (qx := qx 3) (X := X) (T := T) (H := H) (O := O) (W := W) (t := t.val)
      (g := g) (w := sums gM3 g bM3 o 32) (fun h0 => hn ((cond8_iff t).mpr h0)))
    (ht := fun hC hJ => w4t (Fr := iprop(J0 ∗ J1 ∗ J2)) (d := d) (L := L) (gM := gM3) (bM := bM3) (gs := cc1_scratch12.sem) (os := cc1_scratch16.sem) (b := 3) (qt := qt 3) (qx := qx 3) (X := X) (T := T) (H := H) (O := O) (W := W) (t := t.val)
      (g := g) (w := sums gM3 g bM3 o 32) (by decide) ((cond8_iff t).mp hC) hX (k1_off11_eq t) (hN3 _) hJ) (h := ?_)
  refine w5 (Fr := iprop(J0 ∗ J1 ∗ J2)) (d := d) (L := L) (gM := gM3) (bM := bM3) (gs := cc1_scratch12.sem) (os := cc1_scratch16.sem) (b := 3) (qt := qt 3) (qx := qx 3) (X := X) (T := T) (H := H) (O := O) (W := W) (t := t.val)
    (w := sums gM3 g bM3 o 32) ht (by decide) (off5_eq L t 3) (hM3 _ _ _) hP3 (sums_read gM3 g bM3 o) (by rw [hg]; exact hH _ (by omega)) ?_
  refine retI ?_
  rw [hJ3]
  iintro ⟨⟨HA, HB, HC⟩, HO, HD⟩
  iframe HO HA HB HC HD

end Cert.Proof

end
-- ==== Proof.Bag.Step.lean ====
/-
  Running a stretch of loads and stores between two buffers of a subcore's vector memory, as a function of the buffers'
  contents.
-/
module

public import proofs.«01_k».proof.Proof.Gen.BagIdeal
public import Idealize.ShloMosaic.Lib.Tactic

@[expose] public section

noncomputable section

namespace Cert.BagProof.Step

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {p : Proc τ} {α : Type}

/-- The contents of a buffer of the processor's vector memory. -/
abbrev Cont (sig : RefSig) (Val : EltTy → Type) (κ : Kind) (b : Fin (sig.nNear κ .vmem)) : Type := (sig.tyNear κ .vmem b).Contents Val

/-- The contents of one buffer as those of an equal one. -/
def castC {κ : Kind} {a b : Fin (sig.nNear κ .vmem)} (h : a = b) (g : Cont sig Val κ a) : Cont sig Val κ b := h ▸ g

/-- What a load through a view of the buffer `gb` or `ob` reads of it. -/
def ldVal {κ : Kind} (gb ob : Fin (sig.nNear κ .vmem)) (g : Cont sig Val κ gb) (o : Cont sig Val κ ob) {s : Shape} {e : EltTy} :
    (cs : CoreSpace) → (m : Memref sig κ cs s e) → (r : LoadRect s) → Option (r.shape.Idx → Val e)
  | .vmem, m, r =>
    if h : gb = m.view.buf then some (m.view.readAt Val r (castC h g))
    else if h : ob = m.view.buf then some (m.view.readAt Val r (castC h o)) else none
  | .smem, _, _ => none

/-- What a store through a view of the buffer `ob` leaves in it. -/
def stVal {κ : Kind} (ob : Fin (sig.nNear κ .vmem)) (o : Cont sig Val κ ob) {s : Shape} {e : EltTy} :
    (cs : CoreSpace) → (m : Memref sig κ cs s e) → (r : Rect s) → (r.shape.Idx → Val e) → Finset r.shape.Idx → Option (Cont sig Val κ ob)
  | .vmem, m, r, w, M => if h : ob = m.view.buf then some (castC h.symm ((m.access r).write Val (castC h o) w M)) else none
  | .smem, _, _, _, _ => none

/-- At most `n` loads from the buffers `gb` and `ob`, which hold `g` and `o`, and stores to `ob`: the program that is left and what `ob` then holds. -/
def run (gb ob : Fin (sig.nNear p.kind .vmem)) (g : Cont sig Val p.kind gb) :
    Nat → Prog (TpuEff nD τ sig Val Λ p) α → Cont sig Val p.kind ob → Prog (TpuEff nD τ sig Val Λ p) α × Cont sig Val p.kind ob
  | 0, q, o => (q, o)
  | n + 1, q, o => match q with
    | .op (.load (cs := cs) m r _) k => (ldVal gb ob g o cs m r).elim (q, o) fun v => run gb ob g n (k v) o
    | .op (.store (cs := cs) m r w M _ _) k => (stVal ob o cs m r w M).elim (q, o) fun o' => run gb ob g n (k ⟨⟩) o'
    | q => (q, o)

section Rule

variable {Ix : Type} [DecidableEq Ix] {Name : Type} [DecidableEq Name] {U : Type} [URA U] {Lvl : Type} [Preorder Lvl]
variable {defs : Defs nD τ sig Val Λ} (𝒱 : Variants) (c : Thread nD τ) (bd : Option 𝒱.V) {Γ : PendingWaitsCtx sig Ix} (E : Set Name)
variable {Q : α → sProp (MT nD τ sig Ix Val Name U Lvl)}

local notation "𝕄" => MT nD τ sig Ix Val Name U Lvl

/-- A buffer of the vector memory by its number. -/
abbrev vref {κ : Kind} (b : Fin (sig.nNear κ .vmem)) (h : sig.names κ .vmem b = true) : Ref sig κ := ⟨.vmem, b, h⟩

/-- A load through a view of one of the two buffers. -/
theorem load_of (gb ob : Fin (sig.nNear c.2.kind .vmem)) (hg : sig.names c.2.kind .vmem gb = true) (ho : sig.names c.2.kind .vmem ob = true)
    (x : PosShare TreeShare) (g : Cont sig Val c.2.kind gb) (o : Cont sig Val c.2.kind ob) {s : Shape} {e : EltTy} {cs : CoreSpace}
    (m : Memref sig c.2.kind cs s e) (r : LoadRect s) (hl : m.view.LoadsAt r)
    (k : (r.shape.Idx → Val e) → Prog (TpuEff nD τ sig Val Λ c.2) α) (v : r.shape.Idx → Val e) (h : ldVal gb ob g o cs m r = some v) :
    (iprop((c.loc (vref gb hg) ↦{x} g) ∗ (c.loc (vref ob ho) ↦{fullShare} o)) : sProp 𝕄)
      ⊢ iprop((((c.loc (vref gb hg) ↦{x} g) ∗ (c.loc (vref ob ho) ↦{fullShare} o)) -∗ wp frame (wpE' defs 𝒱 c bd Γ) E (k v) Q)
        -∗ wp frame (wpE' defs 𝒱 c bd Γ) E (.op (.load m r hl) k) Q) := by
  cases cs with
  | smem => exact absurd h (by simp [ldVal])
  | vmem =>
    simp only [ldVal] at h
    split at h
    · rename_i hb; subst hb
      have h' := Option.some.inj h; subst h'
      iintro ⟨Hg, Ho⟩ Hk
      iapply (wp_load 𝒱 c bd E (m := m) (r := r) (hl := hl) (k := k) (S := Finset.univ) (Finset.subset_univ _)) $$ Hg
      iintro Hg
      iapply Hk
      isplitl [Hg] <;> iassumption
    · split at h
      · rename_i hb; subst hb
        have h' := Option.some.inj h; subst h'
        iintro ⟨Hg, Ho⟩ Hk
        iapply (wp_load 𝒱 c bd E (m := m) (r := r) (hl := hl) (k := k) (S := Finset.univ) (Finset.subset_univ _)) $$ Ho
        iintro Ho
        iapply Hk
        isplitl [Hg] <;> iassumption
      · exact absurd h (by simp)

/-- A store through a view of the buffer owned whole. -/
theorem store_of (ob : Fin (sig.nNear c.2.kind .vmem)) (ho : sig.names c.2.kind .vmem ob = true)
    (o o' : Cont sig Val c.2.kind ob) {s : Shape} {e : EltTy} {cs : CoreSpace} (m : Memref sig c.2.kind cs s e) (r : Rect s)
    (w : r.shape.Idx → Val e) (M : Finset r.shape.Idx)
    (hx : (m.access r).Stores M) (hm : M = Finset.univ ∨ ∀ a, r.stride a = 1)
    (k : PUnit → Prog (TpuEff nD τ sig Val Λ c.2) α) (h : stVal ob o cs m r w M = some o') :
    (c.loc (vref ob ho) ↦{fullShare} o : sProp 𝕄)
      ⊢ iprop(((c.loc (vref ob ho) ↦{fullShare} o') -∗ wp frame (wpE' defs 𝒱 c bd Γ) E (k ⟨⟩) Q)
        -∗ wp frame (wpE' defs 𝒱 c bd Γ) E (.op (.store m r w M hx hm) k) Q) := by
  cases cs with
  | smem => exact absurd h (by simp [stVal])
  | vmem =>
    simp only [stVal] at h
    split at h
    · rename_i hb; subst hb
      have h' := Option.some.inj h; subst h'
      exact wp_store 𝒱 c bd E (m := m) (r := r) (w := w) (Mk := M) (hx := hx) (hm := hm) (k := k) (S := Finset.univ) (f := o) (Finset.subset_univ _)
    · exact absurd h (by simp)

/-- Running `n` steps: the buffer read from comes back as it was, the other as the steps leave it. -/
theorem wp_run (gb ob : Fin (sig.nNear c.2.kind .vmem)) (hg : sig.names c.2.kind .vmem gb = true) (ho : sig.names c.2.kind .vmem ob = true)
    (x : PosShare TreeShare) (g : Cont sig Val c.2.kind gb) (n : Nat) :
    ∀ (q : Prog (TpuEff nD τ sig Val Λ c.2) α) (o : Cont sig Val c.2.kind ob),
    (iprop((c.loc (vref gb hg) ↦{x} g) ∗ (c.loc (vref ob ho) ↦{fullShare} o)) : sProp 𝕄)
      ⊢ iprop((((c.loc (vref gb hg) ↦{x} g) ∗ (c.loc (vref ob ho) ↦{fullShare} (run gb ob g n q o).2))
          -∗ wp frame (wpE' defs 𝒱 c bd Γ) E (run gb ob g n q o).1 Q)
        -∗ wp frame (wpE' defs 𝒱 c bd Γ) E q Q) := by
  have base : ∀ (q : Prog (TpuEff nD τ sig Val Λ c.2) α) (o : Cont sig Val c.2.kind ob),
      (iprop((c.loc (vref gb hg) ↦{x} g) ∗ (c.loc (vref ob ho) ↦{fullShare} o)) : sProp 𝕄)
      ⊢ iprop((((c.loc (vref gb hg) ↦{x} g) ∗ (c.loc (vref ob ho) ↦{fullShare} o)) -∗ wp frame (wpE' defs 𝒱 c bd Γ) E q Q)
        -∗ wp frame (wpE' defs 𝒱 c bd Γ) E q Q) := by
    intro q o
    iintro H Hk
    iapply Hk; iexact H
  induction n with
  | zero => exact base
  | succ n ih =>
    intro q o
    cases q with
    | ret a => exact base _ o
    | op e k =>
      cases e
      case load cs s e m r hl =>
        have e0 : run gb ob g (n + 1) (.op (.load m r hl) k) o
            = (ldVal gb ob g o cs m r).elim (.op (.load m r hl) k, o) fun v => run gb ob g n (k v) o := rfl
        rw [e0]
        cases hv : ldVal gb ob g o cs m r with
        | none => exact base _ o
        | some v =>
          iintro H Hk
          iapply (load_of 𝒱 c bd E gb ob hg ho x g o _ _ _ _ v hv) $$ H
          iintro H
          iapply (ih _ o) $$ H
          iexact Hk
      case store cs s e m r w M hx hm =>
        have e0 : run gb ob g (n + 1) (.op (.store m r w M hx hm) k) o
            = (stVal ob o cs m r w M).elim (.op (.store m r w M hx hm) k, o) fun o' => run gb ob g n (k ⟨⟩) o' := rfl
        rw [e0]
        cases ho' : stVal ob o cs m r w M with
        | none => exact base _ o
        | some o' =>
          iintro ⟨Hg, Ho⟩ Hk
          iapply (store_of 𝒱 c bd E ob ho o o' _ _ _ _ _ _ _ ho') $$ Ho
          iintro Ho
          iapply (ih _ o') $$ [Hg Ho]
          · isplitl [Hg] <;> iassumption
          iexact Hk
      all_goals exact base _ o

end Rule

end Cert.BagProof.Step

end
-- ==== Proof.Bag.Base.lean ====
/-
  The names the modules share: the launch's configuration, the ghost state, and the operands of the SparseCore kernel
  as a tile addresses them.
-/
module

public import proofs.«01_k».proof.Proof.Bag.Step
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit

@[expose] public section

noncomputable section

namespace Cert.BagProof

open Cert.BagIdeal Cert.BagIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The ghost state: the handshakes' rounds and the transfers' counters. -/
abbrev UU : Type := UH × Counters

abbrev EH : Emb UH (MT nD τ sig (HIx 1) (Elt F) ℕ UU ℕ) := embL
/-- The grid point of a tile. -/
abbrev cV (L : grid0.Coords) : Fin τ.nSC := (L 0).castLE hcore0
abbrev jV (L : grid0.Coords) : Fin τ.nSub := (L 1).castLE hsub0
/-- The thread of a tile. -/
abbrev thr (d : Dev nD) (L : grid0.Coords) : Thread nD τ := V d (cV L) (jV L)

/-- The index rows, the table and the result, as a tile names them. -/
abbrev iM : Memref sig .scVector .hbm S32x128x104 .i32 := Memref.whole main_v6_scv
abbrev tM : Memref sig .scVector .hbm S26000x128 .f32 := Memref.whole main_v7_scv
abbrev oM : Memref sig .scVector .hbm S16384x128 .f32 := Memref.whole main_v8_scv
/-- A tile's copy of its index rows. -/
abbrev xM : Memref sig .scVector .vmem S128x104 .i32 := Memref.whole cc0_scratch0
/-- A tile's four gather buffers. -/
abbrev gM0 : Memref sig .scVector .vmem S104x128 .f32 := Memref.whole cc0_scratch1
abbrev gM1 : Memref sig .scVector .vmem S104x128 .f32 := Memref.whole cc0_scratch2
abbrev gM2 : Memref sig .scVector .vmem S104x128 .f32 := Memref.whole cc0_scratch3
abbrev gM3 : Memref sig .scVector .vmem S104x128 .f32 := Memref.whole cc0_scratch4
/-- A tile's four buffers of sums. -/
abbrev bM0 : Memref sig .scVector .vmem S4x128 .f32 := Memref.whole cc0_scratch5
abbrev bM1 : Memref sig .scVector .vmem S4x128 .f32 := Memref.whole cc0_scratch6
abbrev bM2 : Memref sig .scVector .vmem S4x128 .f32 := Memref.whole cc0_scratch7
abbrev bM3 : Memref sig .scVector .vmem S4x128 .f32 := Memref.whole cc0_scratch8

end Cert.BagProof

end
-- ==== Proof.Bag.Trip.lean ====
/-
  One trip of a tile's loop: the four buffers' turns.
-/
module

public import proofs.«01_k».proof.Proof.Bag.Base
public import Idealize.ShloMosaic.Lib.Tactic

@[expose] public section

noncomputable section

namespace Cert.BagProof

open Cert.BagIdeal Cert.BagIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F]

/-- The processor of a tile. -/
abbrev pV (L : grid0.Coords) : Proc τ := .scVector (cV L) (jV L)

/-- The body of the tile's loop. -/
def trip (L : grid0.Coords) (v2 : BitVec 32) (t : Fin k0_t1_loop.trips) : Prog (TpuEff nD τ sig (Elt F) Λ₀ (pV L)) PUnit := do
  let ⟨v24, v25, v2396, c55_i32_1145⟩ ← k0_part348 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0 0#32 1#32 t
  let ⟨v3464, v4769⟩ ← k0_part349 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0 v2 t v24 v25 v2396 c55_i32_1145
  let ⟨v6903, v7138, v7141⟩ ← k0_part350 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0 v2 t v24 v3464 v4769
  let ⟨v9516, v9519⟩ ← k0_part351 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0 v7138 v7141
  let ⟨v10342, v11889, v11891⟩ ← k0_part352 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0 v2 t v24 v6903 v9516 v9519
  let ⟨v13760, v13763⟩ ← k0_part353 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0 v11889 v11891
  have v13764 : FVec F S16 .f32 := addf v13760 v13763
  let c103_i32_6868 : BitVec 32 := 103#32
  let v13765 : Index := Scalar.indexCast c103_i32_6868
  let c112_6869 : Index := 112#32
  let v13766 : Vec F S1x16 .f32 ← Prog.lift (.load gM3 (Rect.unit (s := S104x128) ![103, 112] S1x16.size inb_S104x128_S1x16_103_112).toLoadRect (View.loadsAt_vmem h_S1x16))
  have v13767 : FVec F S16 .f32 := shapeCast S16 v13766 shapeCasts_S1x16_S16
  have v13768 : FVec F S16 .f32 := addf v13764 v13767
  let c3_i32_6870 : BitVec 32 := 3#32
  let v13769 : Index := Scalar.indexCast c3_i32_6870
  let c112_6871 : Index := 112#32
  let v13770 : Vec F S1x16 .f32 ← Prog.lift (.load bM3 (Rect.unit (s := S4x128) ![3, 112] S1x16.size inb_S4x128_S1x16_3_112).toLoadRect (View.loadsAt_vmem h_S1x16))
  have v13771 : FVec F S16 .f32 := shapeCast S16 v13770 shapeCasts_S1x16_S16
  have v13772 : FVec F S1x16 .f32 := shapeCast S1x16 v13768 shapeCasts_S16_S1x16
  Prog.lift (.store bM3 (Rect.unit (s := S4x128) ![3, 112] S1x16.size inb_S4x128_S1x16_3_112) v13772 Finset.univ (View.stores_vmem_bits_univ h_S1x16 rfl) (.inl rfl))
  let c4_i32_6872 : BitVec 32 := 4#32
  let v13773 : BitVec 32 := Scalar.addi v10342 c4_i32_6872
  let c128_i32_6873 : BitVec 32 := 128#32
  let v13774 : BitVec 1 := Scalar.cmpi .slt v13773 c128_i32_6873
  let v13775 : BitVec 32 := Scalar.extui v13774
  let c0_i32_6874 : BitVec 32 := 0#32
  let v13776 : BitVec 1 := Scalar.cmpi .ne v13775 c0_i32_6874
  if h8 : k0_cond8 t = 1#1 then do
    let c4_i32_6878 : BitVec 32 := 4#32
    let v13781 : BitVec 32 := Scalar.addi v10342 c4_i32_6878
    let c0_i32_6879 : BitVec 32 := 0#32
    let v13782 : Memref sig .scVector .vmem S1x104 .i32 := xM.slice (Rect.unit (s := S128x104) (k0_off11 t) S1x104.size (k0_off11_inb t h8)) (fun _ => rfl)
    let v13783 : Memref sig .scVector .vmem S104 .i32 := v13782.squeeze S104 squeezes_S1x104_S104
    let c0_i32_6880 : BitVec 32 := 0#32
    let c0_i32_6881 : BitVec 32 := 0#32
    let v13784 : Memref sig .scVector .hbm S26000x128 .f32 := tM.slice (Rect.unit (s := S26000x128) ![0, 0] S26000x128.size inb_S26000x128_S26000x128_0_0) (fun _ => rfl)
    SparseCore.enqueueIndirectGather rfl v13784 gM3 gathers_S26000x128_S104x128 v13783 rfl cc0_scratch12.sem (View.wordExact_bits rfl) rfl (Or.inl rfl)
    pure ⟨⟩
  else do
    pure ⟨⟩
  let c4_i32_6875 : BitVec 32 := 4#32
  let v13777 : BitVec 32 := Scalar.muli v10342 c4_i32_6875
  let v13778 : BitVec 32 := Scalar.addi v2 v13777
  let c0_i32_6876 : BitVec 32 := 0#32
  let v13779 : Memref sig .scVector .hbm S4x128 .f32 := oM.slice (Rect.unit (s := S16384x128) (k0_off5 L t 3#32) S4x128.size (k0_off5_inb L t 3)) (fun _ => rfl)
  let c0_i32_6877 : BitVec 32 := 0#32
  let v13780 : Memref sig .scVector .hbm S4x128 .f32 := oM.slice (Rect.unit (s := S16384x128) (k0_off5 L t 3#32) S4x128.size (k0_off5_inb L t 3)) (fun _ => rfl)
  Prog.lift (.enqueueDma bM3 (.here v13780) (.dma cc0_scratch16.sem) (Memref.isWhole_whole _ : bM3.IsWhole).wordExact (View.wordExact_bits rfl) ⟨Or.inl rfl, trivial⟩)
  pure ⟨⟩

end Cert.BagProof

end
-- ==== Proof.Bag.Sums.lean ====
/-
  What a turn leaves in its buffer of sums: each of its four rows the sum of twenty-six gathered rows, sixteen columns
  at a time.
-/
module

public import proofs.«01_k».proof.Proof.Bag.Base

@[expose] public section

noncomputable section

namespace Cert.BagProof

open Cert.BagIdeal Cert.BagIdeal.Gen
open Idealize.ShloMosaic

variable {F : FTy → Type} [FloatOps F]

theorem gInb (r : Fin 4) (v : Fin 8) (f : Fin 26) : ∀ a, (![26 * r.val + f.val, 16 * v.val] : Fin 2 → Nat) a + S1x16.size a ≤ S104x128.size a
  | 0 => show 26 * r.val + f.val + 1 ≤ 104 by omega
  | 1 => show 16 * v.val + 16 ≤ 128 by omega

theorem bInb (r : Fin 4) (v : Fin 8) : ∀ a, (![r.val, 16 * v.val] : Fin 2 → Nat) a + S1x16.size a ≤ S4x128.size a
  | 0 => show r.val + 1 ≤ 4 by omega
  | 1 => show 16 * v.val + 16 ≤ 128 by omega

/-- Sixteen columns of the row that block row `r` gathers for field `f`. -/
abbrev gRect (r : Fin 4) (v : Fin 8) (f : Fin 26) : Rect S104x128 := Rect.unit (s := S104x128) ![26 * r.val + f.val, 16 * v.val] S1x16.size (gInb r v f)
/-- Sixteen columns of block row `r`. -/
abbrev bRect (r : Fin 4) (v : Fin 8) : Rect S4x128 := Rect.unit (s := S4x128) ![r.val, 16 * v.val] S1x16.size (bInb r v)

/-- What a load of them reads. -/
abbrev rd (M : Memref sig .scVector .vmem S104x128 .f32) (g : M.view.ty.Contents (Elt F)) (r : Fin 4) (v : Fin 8) (f : Fin 26) : FVec F S16 .f32 :=
  shapeCast S16 (M.view.readAt (Elt F) (gRect r v f).toLoadRect g) shapeCasts_S1x16_S16

/-- The sum of the first fields' columns, in order. -/
def acc (M : Memref sig .scVector .vmem S104x128 .f32) (g : M.view.ty.Contents (Elt F)) (r : Fin 4) (v : Fin 8) : (n : Nat) → n < 26 → FVec F S16 .f32
  | 0, h => rd M g r v ⟨0, h⟩
  | n + 1, h => addf (acc M g r v n (Nat.lt_of_succ_lt h)) (rd M g r v ⟨n + 1, h⟩)

/-- The buffer of sums after one more store. -/
abbrev put (N : Memref sig .scVector .vmem S4x128 .f32) (r : Fin 4) (v : Fin 8) (o : N.view.ty.Contents (Elt F)) (w : FVec F S1x16 .f32) :
    N.view.ty.Contents (Elt F) :=
  View.write (Elt F) (N.access (bRect r v)) o w Finset.univ

/-- The buffer of sums after its store number `j`, sixteen columns of one row. -/
abbrev putj (M : Memref sig .scVector .vmem S104x128 .f32) (g : M.view.ty.Contents (Elt F)) (N : Memref sig .scVector .vmem S4x128 .f32) (j : Nat)
    (o : N.view.ty.Contents (Elt F)) : N.view.ty.Contents (Elt F) :=
  put N ⟨j / 8 % 4, Nat.mod_lt _ (by decide)⟩ ⟨j % 8, Nat.mod_lt _ (by decide)⟩ o
    (shapeCast S1x16 (acc M g ⟨j / 8 % 4, Nat.mod_lt _ (by decide)⟩ ⟨j % 8, Nat.mod_lt _ (by decide)⟩ 25 (by decide)) shapeCasts_S16_S1x16)

/-- The buffer of sums after `j` of its thirty-two stores. -/
def sums (M : Memref sig .scVector .vmem S104x128 .f32) (g : M.view.ty.Contents (Elt F)) (N : Memref sig .scVector .vmem S4x128 .f32)
    (o : N.view.ty.Contents (Elt F)) : Nat → N.view.ty.Contents (Elt F)
  | 0 => o
  | j + 1 => putj M g N j (sums M g N o j)

end Cert.BagProof

end
-- ==== Proof.Bag.Rules.lean ====
/-
  A buffer's turn in one trip of a tile's loop: the state of its two transfers between turns, and the rules of a turn.
-/
module

public import proofs.«01_k».proof.Proof.Bag.Trip
public import proofs.«01_k».proof.Proof.Bag.Sums

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {c : Thread nD τ} {α : Type} {Q : α → sProp (MT nD τ sig (HIx 1) (Elt F) ℕ UU ℕ)} {P R Fr : sProp (MT nD τ sig (HIx 1) (Elt F) ℕ UU ℕ)}

/-- A bind runs its first part, then the rest. -/
theorem bindI {β : Type} {p : Prog (TpuEff nD τ sig (Elt F) Λ₀ c.2) β} {k : β → Prog (TpuEff nD τ sig (Elt F) Λ₀ c.2) α}
    (h : P ⊢ wp frame (wpE (defs₀ (F := F)) 𝒱₀ c none) Set.univ p (fun x => wp frame (wpE (defs₀ (F := F)) 𝒱₀ c none) Set.univ (k x) Q)) :
    P ⊢ wp frame (wpE (defs₀ (F := F)) 𝒱₀ c none) Set.univ (p >>= k) Q := by
  rw [wp_bind]; exact h

/-- The other way round. -/
theorem bindE {β : Type} {p : Prog (TpuEff nD τ sig (Elt F) Λ₀ c.2) β} {k : β → Prog (TpuEff nD τ sig (Elt F) Λ₀ c.2) α}
    (h : P ⊢ wp frame (wpE (defs₀ (F := F)) 𝒱₀ c none) Set.univ (p >>= k) Q) :
    P ⊢ wp frame (wpE (defs₀ (F := F)) 𝒱₀ c none) Set.univ p (fun x => wp frame (wpE (defs₀ (F := F)) 𝒱₀ c none) Set.univ (k x) Q) := by
  rw [wp_bind] at h; exact h

/-- A program that is done leaves what it was asked for. -/
theorem retI {a : α} (h : P ⊢ Q a) : P ⊢ wp frame (wpE (defs₀ (F := F)) 𝒱₀ c none) Set.univ (.ret a) Q :=
  h.trans (le_wp_ret _ _ _ a Q)

/-- A conditional step whose two branches go on alike: both reach `R`, from which the rest runs. -/
theorem dite_jp {C : Prop} {_ : Decidable C} {A : C → Prog (TpuEff nD τ sig (Elt F) Λ₀ c.2) α} {J : Prog (TpuEff nD τ sig (Elt F) Λ₀ c.2) α}
    (h : R ⊢ wp frame (wpE (defs₀ (F := F)) 𝒱₀ c none) Set.univ J Q) (hf : ¬ C → P ⊢ R)
    (ht : ∀ hC : C, (R ⊢ wp frame (wpE (defs₀ (F := F)) 𝒱₀ c none) Set.univ J Q) → (P ⊢ wp frame (wpE (defs₀ (F := F)) 𝒱₀ c none) Set.univ (A hC) Q)) :
    P ⊢ wp frame (wpE (defs₀ (F := F)) 𝒱₀ c none) Set.univ (dite C A (fun _ => J)) Q := by
  by_cases hC : C
  · rw [dif_pos hC]; exact ht hC h
  · rw [dif_neg hC]; exact (hf hC).trans h

/-- A run of loads and stores that ends in store number `j`. -/
theorem runS {gb ob : Fin (sig.nNear c.2.kind .vmem)} {hg : sig.names c.2.kind .vmem gb = true} {ho : sig.names c.2.kind .vmem ob = true}
    {x : PosShare TreeShare} {g : Step.Cont sig (Elt F) c.2.kind gb} {q q' : Prog (TpuEff nD τ sig (Elt F) Λ₀ c.2) α}
    {S : ℕ → Step.Cont sig (Elt F) c.2.kind ob} {f : ℕ → Step.Cont sig (Elt F) c.2.kind ob → Step.Cont sig (Elt F) c.2.kind ob} {j : ℕ}
    (hS : S (j + 1) = f j (S j)) (h : ∀ o, Step.run gb ob g 28 q o = (q', f j o))
    (hk : iprop(Fr ∗ (c.loc (Step.vref gb hg) ↦{x} g) ∗ (c.loc (Step.vref ob ho) ↦{fullShare} S (j + 1)))
      ⊢ wp frame (wpE (defs₀ (F := F)) 𝒱₀ c none) Set.univ q' Q) :
    iprop(Fr ∗ (c.loc (Step.vref gb hg) ↦{x} g) ∗ (c.loc (Step.vref ob ho) ↦{fullShare} S j))
      ⊢ wp frame (wpE (defs₀ (F := F)) 𝒱₀ c none) Set.univ q Q := by
  rw [hS] at hk
  have h1 := Step.wp_run (defs := defs₀ (F := F)) (Name := ℕ) (U := UU) (Lvl := ℕ) (Ix := HIx 1) (Q := Q) (Γ := []) 𝒱₀ c none Set.univ gb ob hg ho x g 28 q (S j)
  rw [h (S j)] at h1
  iintro ⟨HF, Hg, Ho⟩
  iapply h1 $$ [Hg Ho]
  · iframe Hg Ho
  iintro ⟨Hg, Ho⟩
  iapply hk
  iframe HF Hg Ho

end Cert.BagProof

end
-- ==== Proof.Bag.Values.lean ====
/-
  What the SparseCore kernel moves, as pure functions: the rows a chunk gathers, their sums, the rows of the result.
-/
module

public import proofs.«01_k».proof.Proof.Bag.Sums

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- An index of a two-axis shape. -/
def mk2 {n m : Nat} (i : Fin n) (j : Fin m) : (⟨2, ![n, m]⟩ : Shape).Idx := fun a => match a with | 0 => i | 1 => j
/-- An index of a three-axis shape. -/
def mk3 {n m l : Nat} (i : Fin n) (j : Fin m) (k : Fin l) : (⟨3, ![n, m, l]⟩ : Shape).Idx := fun a => match a with | 0 => i | 1 => j | 2 => k

/-- Two-axis indices with equal coordinates are equal. -/
theorem ext2 {n m : Nat} {x y : (⟨2, ![n, m]⟩ : Shape).Idx} (h0 : (x 0).val = (y 0).val) (h1 : (x 1).val = (y 1).val) : x = y := by
  funext a
  match a with
  | 0 => exact Fin.ext h0
  | 1 => exact Fin.ext h1

/-- The table row an index word names. -/
def rowOf (v : BitVec 32) : Fin 26000 := ⟨v.toNat % 26000, Nat.mod_lt _ (by decide)⟩

/-- The chunk of a number. -/
def chunkOf (n : ℕ) : Fin 128 := ⟨n % 128, Nat.mod_lt _ (by decide)⟩

/-- The rows chunk `n` gathers from the table `T` by the index rows `X`. -/
def Gc (X : S128x104.Idx → Elt F .i32) (T : S26000x128.Idx → Elt F .f32) (n : ℕ) : S104x128.Idx → Elt F .f32 :=
  fun y => T (mk2 (rowOf (X (mk2 (chunkOf n) (y 0)))) (y 1))

/-- The sum of the first terms of a family, in order. -/
def lsum (φ : Fin 26 → F .f32) : (n : Nat) → n < 26 → F .f32
  | 0, h => φ ⟨0, h⟩
  | n + 1, h => FloatOps.addf (lsum φ n (Nat.lt_of_succ_lt h)) (φ ⟨n + 1, h⟩)

/-- The row a block row's field gathers into. -/
def gRow (r : Fin 4) (f : Fin 26) : Fin 104 := ⟨26 * r.val + f.val, by omega⟩

/-- The sums of gathered rows: block row `y 0` is the sum of its twenty-six rows. -/
def Sc (G : S104x128.Idx → Elt F .f32) : S4x128.Idx → Elt F .f32 :=
  fun y => lsum (F := F) (fun f => G (mk2 (gRow (y 0) f) (y 1))) 25 (by decide)

theorem acc_apply (M : Memref sig .scVector .vmem S104x128 .f32) (g : M.view.ty.Contents (Elt F)) (r : Fin 4) (v : Fin 8) (x : S16.Idx) :
    ∀ (n : Nat) (h : n < 26), acc M g r v n h x = lsum (F := F) (fun f => rd M g r v f x) n h
  | 0, _ => rfl
  | n + 1, h => by
    show FloatOps.addf (acc M g r v n (Nat.lt_of_succ_lt h) x) _ = FloatOps.addf _ _
    rw [acc_apply M g r v x n]

/-- One store of sums, as the block it writes reads. -/
theorem acc_block (M : Memref sig .scVector .vmem S104x128 .f32) (g : M.view.ty.Contents (Elt F)) (r : Fin 4) (v : Fin 8) (x : S1x16.Idx) :
    shapeCast S1x16 (acc M g r v 25 (by decide)) shapeCasts_S16_S1x16 x = Sc (F := F) (M.view.read (Elt F) g) ((bRect r v).emb x) := by
  unfold shapeCast
  rw [acc_apply]
  unfold Sc
  congr 1
  funext f
  show M.view.readAt (Elt F) (gRect r v f).toLoadRect g (Shape.reshapeEquiv _ (Shape.reshapeEquiv _ x)) = _
  rw [Shape.reshapeEquiv_reshapeEquiv, Shape.reshapeEquiv_self]
  show M.view.read (Elt F) g ((gRect r v f).emb x) = _
  congr 1
  funext a
  apply Fin.ext
  have h0 : (x 0).val = 0 := by have := (x 0).isLt; simpa using this
  match a with
  | 0 =>
    show 26 * r.val + f.val + 1 * (x 0).val = 26 * (r.val + 1 * (x 0).val) + f.val
    omega
  | 1 => rfl

/-- After `j` stores, the columns stored so far are the sums. -/
theorem sums_read_lt (M : Memref sig .scVector .vmem S104x128 .f32) (g : M.view.ty.Contents (Elt F)) (N : Memref sig .scVector .vmem S4x128 .f32)
    (o : N.view.ty.Contents (Elt F)) (y : S4x128.Idx) :
    ∀ j : Nat, j ≤ 32 → 8 * (y 0).val + (y 1).val / 16 < j →
      N.view.read (Elt F) (sums M g N o j) y = Sc (F := F) (M.view.read (Elt F) g) y
  | 0, _, h => absurd h (Nat.not_lt_zero _)
  | j + 1, hj, h => by
    have hy0 : (y 0).val < 4 := (y 0).isLt
    have hy1 : (y 1).val < 128 := (y 1).isLt
    let r : Rect S4x128 := bRect ⟨j / 8 % 4, Nat.mod_lt _ (by decide)⟩ ⟨j % 8, Nat.mod_lt _ (by decide)⟩
    by_cases hc : 8 * (y 0).val + (y 1).val / 16 = j
    · obtain ⟨x, hx⟩ : ∃ x : S1x16.Idx, (bRect ⟨j / 8 % 4, Nat.mod_lt _ (by decide)⟩ ⟨j % 8, Nat.mod_lt _ (by decide)⟩).emb x = y := by
        refine ⟨mk2 ⟨0, by decide⟩ ⟨(y 1).val % 16, Nat.mod_lt _ (by decide)⟩, ?_⟩
        funext a
        apply Fin.ext
        match a with
        | 0 => show j / 8 % 4 + 1 * 0 = (y 0).val; omega
        | 1 => show 16 * (j % 8) + 1 * ((y 1).val % 16) = (y 1).val; omega
      rw [← hx]
      refine (View.read_slice_write_emb (v := N.view) r (sums M g N o j) _ (Finset.mem_univ x)).trans ?_
      exact acc_block M g _ _ x
    · refine (View.read_slice_write_of_not_mem (v := N.view) r (sums M g N o j) _ Finset.univ (fun hm => ?_)).trans (sums_read_lt M g N o y j (by omega) (by omega))
      · obtain ⟨x, _, hx⟩ := Finset.mem_map.mp hm
        have h0 : (x 0).val = 0 := Nat.lt_one_iff.mp (show (x 0).val < 1 from (x 0).isLt)
        have h1 : (x 1).val < 16 := (x 1).isLt
        have e0 : j / 8 % 4 + 1 * (x 0).val = (y 0).val := congrArg (fun z : S4x128.Idx => (z 0).val) hx
        have e1 : 16 * (j % 8) + 1 * (x 1).val = (y 1).val := congrArg (fun z : S4x128.Idx => (z 1).val) hx
        omega

/-- The whole buffer after its thirty-two stores. -/
theorem sums_read (M : Memref sig .scVector .vmem S104x128 .f32) (g : M.view.ty.Contents (Elt F)) (N : Memref sig .scVector .vmem S4x128 .f32)
    (o : N.view.ty.Contents (Elt F)) : N.view.read (Elt F) (sums M g N o 32) = Sc (F := F) (M.view.read (Elt F) g) := by
  funext y
  have hy0 : (y 0).val < 4 := (y 0).isLt
  have hy1 : (y 1).val < 128 := (y 1).isLt
  exact sums_read_lt M g N o y 32 le_rfl (by omega)

/-- The result the kernel leaves: row `256·…`: each result row is the sum of the twenty-six table rows its indices name. -/
def H1 (I : S32x128x104.Idx → Elt F .i32) (T : S26000x128.Idx → Elt F .f32) : S16384x128.Idx → Elt F .f32 :=
  fun y => lsum (F := F) (fun f => T (mk2 (rowOf (I (mk3 ⟨(y 0).val / 512, by have : (y 0).val < 16384 := (y 0).isLt; omega⟩
    ⟨(y 0).val % 512 / 4, by omega⟩ (gRow ⟨(y 0).val % 4, by omega⟩ f)))) (y 1))) 25 (by decide)

/-- The number of a tile. -/
def wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

/-- Chunk `n` of a tile, as the result rows it makes. -/
theorem H1_chunk (I : S32x128x104.Idx → Elt F .i32) (T : S26000x128.Idx → Elt F .f32) (L : grid0.Coords) (n : ℕ) (hn : n < 128)
    (y : S4x128.Idx) (z : S16384x128.Idx) (h0 : (z 0).val = 512 * wid L + 4 * n + (y 0).val) (h1 : (z 1).val = (y 1).val) :
    H1 I T z = Sc (F := F) (Gc (fun x => I (mk3 ⟨wid L, wid_lt L⟩ (x 0) (x 1))) T n) y := by
  have hy0 : (y 0).val < 4 := (y 0).isLt
  have hw := wid_lt L
  unfold H1 Sc Gc
  congr 1
  funext f
  have e1 : z 1 = y 1 := Fin.ext h1
  rw [e1]
  congr 4
  have a0 : (⟨(z 0).val / 512, by have : (z 0).val < 16384 := (z 0).isLt; omega⟩ : Fin 32) = ⟨wid L, wid_lt L⟩ := Fin.ext (by show (z 0).val / 512 = wid L; omega)
  have a1 : (⟨(z 0).val % 512 / 4, by omega⟩ : Fin 128) = chunkOf n := Fin.ext (by show (z 0).val % 512 / 4 = n % 128; omega)
  have a2 : (⟨(z 0).val % 4, by omega⟩ : Fin 4) = y 0 := Fin.ext (by show (z 0).val % 4 = (y 0).val; omega)
  rw [a0, a1, a2]
  rfl

end Cert.BagProof

end
-- ==== Proof.Bag.Turn.lean ====
/-
  A buffer's turn in one trip of a tile's loop: the state of its two transfers between turns, and the rules of a turn.
-/
module

public import proofs.«01_k».proof.Proof.Bag.Rules
public import proofs.«01_k».proof.Proof.Bag.Values

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The row a tile's result rows start from. -/
def base (L : grid0.Coords) : ℕ := 512 * wid L

/-- The result rows of a tile that its buffer `b` makes in the trips from `lo` up to `hi`. -/
def rset (L : grid0.Coords) (b lo hi : ℕ) : Finset S16384x128.Idx :=
  Finset.univ.filter fun x => base L ≤ (x 0).val ∧ (x 0).val < base L + 512 ∧ ((x 0).val - base L) / 4 % 4 = b
    ∧ lo ≤ ((x 0).val - base L) / 16 ∧ ((x 0).val - base L) / 16 < hi

variable (d : Dev nD) (L : grid0.Coords)

/-- A part of the result, held at contents `f`. -/
abbrev oPart (s : Finset S16384x128.Idx) (f : S16384x128.Idx → Elt F .f32) : sProp 𝕄 :=
  ((oM.view.loc (thr d L)) ↦[s]{fullShare} f)

omit [FloatOps F] in
/-- Two runs of trips one after the other, as one. -/
theorem rset_split (b : ℕ) {lo mid hi : ℕ} (h1 : lo ≤ mid) (h2 : mid ≤ hi) (f : S16384x128.Idx → Elt F .f32) :
    oPart (F := F) d L (rset L b lo hi) f ⊣⊢ iprop(oPart d L (rset L b lo mid) f ∗ oPart d L (rset L b mid hi) f) := by
  have hu : rset L b lo hi = rset L b lo mid ∪ rset L b mid hi := by
    ext x; simp only [rset, Finset.mem_union, Finset.mem_filter, Finset.mem_univ, true_and]; omega
  have hd : Disjoint (rset L b lo mid) (rset L b mid hi) := by
    rw [Finset.disjoint_left]; intro x; simp only [rset, Finset.mem_filter, Finset.mem_univ, true_and]; omega
  rw [hu]
  exact pointsTo_union hd

section State

variable (gM : Memref sig .scVector .vmem S104x128 .f32) (bM : Memref sig .scVector .vmem S4x128 .f32) (gs os : DmaSem sig) (b : ℕ)
variable (qt qx : PosShare TreeShare) (X : S128x104.Idx → Elt F .i32) (T : S26000x128.Idx → Elt F .f32)
variable (H : S16384x128.Idx → Elt F .f32) (O : CellTallies nD τ sig (HIx 1)) (W : Waits sig (HIx 1))

/-- The right to wait on any semaphore, and what the tile owes. -/
abbrev Own : sProp 𝕄 := iprop(Transfers.MayWaits (thr d L) (default : HIx 1) O ∗ ∃ W', ⌜∀ p ∈ W', p ∈ W ∨ p.2 = none⌝ ∗ owes (thr d L) O W')

/-- The shares of the table and of the index rows that a buffer's gathers read. -/
abbrev Shr : sProp 𝕄 := iprop((tM.view.loc (thr d L) ↦{qt} T) ∗ (xM.view.loc (thr d L) ↦{qx} X))

/-- A gather buffer that holds the rows of chunk `n`. -/
abbrev GDel (n : ℕ) : sProp 𝕄 := iprop((∃ g, ⌜gM.view.read (Elt F) g = Gc X T n⌝ ∗ (gM.view.loc (thr d L) ↦{fullShare} g)) ∗ Shr d L qt qx X T)

/-- A gather buffer before trip `t`: its gather is in flight, or all are done. -/
def Gst (t : ℕ) : sProp 𝕄 :=
  if t < 32 then Transfers.Flight countersEmb (thr d L) (.dma gs) (default : HIx 1) gM.view.dmaCredit (GDel d L gM qt qx X T (4 * t + b))
  else iprop((∃ g, gM.view.loc (thr d L) ↦{fullShare} g) ∗ Shr d L qt qx X T ∗ semVal (thr d L, SemLoc.dma gs) 0)

/-- A buffer of sums at rest. -/
abbrev ORest : sProp 𝕄 := iprop((∃ o, bM.view.loc (thr d L) ↦{fullShare} o) ∗ semVal (thr d L, SemLoc.dma os) 0)

/-- A buffer of sums before trip `t`: at rest, or on its way out. -/
def Ost (t : ℕ) : sProp 𝕄 :=
  if t = 0 then ORest (F := F) d L bM os
  else Transfers.Flight countersEmb (thr d L) (.dma os) (default : HIx 1) bM.view.dmaCredit
    iprop(oPart d L (rset L b (t - 1) t) H ∗ (∃ o, bM.view.loc (thr d L) ↦{fullShare} o))

/-- The result rows that have arrived before trip `t`, and those not begun. -/
abbrev Arr (t : ℕ) : sProp 𝕄 := oPart d L (rset L b 0 (t - 1)) H
abbrev Beg (t : ℕ) : sProp 𝕄 := iprop(∃ f, oPart (F := F) d L (rset L b t 32) f)

/-- A buffer's state before trip `t`. -/
def Ib (t : ℕ) : sProp 𝕄 :=
  iprop(Gst d L gM gs b qt qx X T t ∗ Ost d L bM os b H t ∗ Arr d L b H t ∗ Beg d L b t)

variable {d L gM bM gs os b qt qx X T H O W}
variable {α : Type} {Q : α → sProp (MT nD τ sig (HIx 1) (Elt F) ℕ UU ℕ)} {P R Fr : sProp (MT nD τ sig (HIx 1) (Elt F) ℕ UU ℕ)}

/-- A wait for a transfer in flight. -/
theorem waitI {sem : DmaSem sig} {spS spD : Space} {sS sD : Shape} {eS eD : EltTy} {src : Memref sig (thr d L).2.kind spS sS eS} {dst : Memref sig (thr d L).2.kind spD sD eD}
    {h1 : src.view.WordExact} {h2 : dst.view.WordExact}
    {k : PUnit → Prog (TpuEff nD τ sig (Elt F) Λ₀ (thr d L).2) α} {N : ℕ} {Dv : sProp 𝕄} (hN : dst.view.dmaCredit = N)
    (h : iprop(Fr ∗ Own (F := F) d L O W ∗ Dv ∗ semVal (thr d L, SemLoc.dma sem) 0) ⊢ wp frame (wpE (defs₀ (F := F)) 𝒱₀ (thr d L) none) Set.univ (k ⟨⟩) Q) :
    iprop(Fr ∗ Own (F := F) d L O W ∗ Transfers.Flight countersEmb (thr d L) (.dma sem) (default : HIx 1) N Dv)
      ⊢ wp frame (wpE (defs₀ (F := F)) 𝒱₀ (thr d L) none) Set.univ (.op (.waitDma2 sem src dst h1 h2) k) Q := by
  iintro ⟨HF, ⟨#Hmw, %W', %hW', Ho⟩, Hfl⟩
  ihave Hm := (Transfers.MayWaits.elim (SemLoc.dma sem)) $$ Hmw
  iapply (Transfers.wp_waitLocalO countersEmb 𝒱₀ (thr d L) none (default : HIx 1) hN) $$ [Hfl Ho Hm]
  · iframe Hfl Ho Hm
  iintro ⟨Hd, Hs, Ho⟩
  iapply h
  iframe HF Hd Hs
  isplitl []; · iexact Hmw
  iexists (insert (SemLoc.dma sem, (default : HIx 1)) W')
  isplitl []
  · ipureintro
    intro p hp
    rcases Finset.mem_insert.mp hp with rfl | hp
    · exact Or.inr rfl
    · exact hW' p hp
  iexact Ho

/-- The wait for a trip's gathered rows. -/
theorem w1 {t : ℕ} (ht : t < 32) {spS : Space} {sS : Shape} {eS : EltTy} {src : Memref sig (thr d L).2.kind spS sS eS}
    {h1 : src.view.WordExact} {h2 : gM.view.WordExact} {k : PUnit → Prog (TpuEff nD τ sig (Elt F) Λ₀ (thr d L).2) α}
    (h : iprop(Fr ∗ Own (F := F) d L O W ∗ (GDel d L gM qt qx X T (4 * t + b) ∗ semVal (thr d L, SemLoc.dma gs) 0) ∗ Ost d L bM os b H t ∗ Arr d L b H t ∗ Beg d L b t)
      ⊢ wp frame (wpE (defs₀ (F := F)) 𝒱₀ (thr d L) none) Set.univ (k ⟨⟩) Q) :
    iprop(Fr ∗ Own (F := F) d L O W ∗ Ib d L gM bM gs os b qt qx X T H t)
      ⊢ wp frame (wpE (defs₀ (F := F)) 𝒱₀ (thr d L) none) Set.univ (.op (.waitDma2 gs src gM h1 h2) k) Q := by
  have h3 := waitI (F := F) (d := d) (L := L) (O := O) (W := W) (Q := Q) (sem := gs) (src := src) (dst := gM) (h1 := h1) (h2 := h2) (k := k) (N := gM.view.dmaCredit)
    (Fr := iprop(Fr ∗ Ost d L bM os b H t ∗ Arr d L b H t ∗ Beg d L b t)) (Dv := GDel d L gM qt qx X T (4 * t + b)) rfl (by
      refine BIBase.Entails.trans ?_ h
      iintro ⟨⟨HF, H2⟩, HO, Hd, Hs⟩
      iframe HF HO Hd Hs H2)
  refine BIBase.Entails.trans ?_ h3
  unfold Ib Gst
  rw [if_pos ht]
  iintro ⟨HF, HO, Hg, H2⟩
  iframe HF HO Hg H2

/-- The state of the results once a buffer of sums is free again. -/
theorem w2rest {t : ℕ} : iprop(Arr d L b H t ∗ (if t = 0 then iprop(emp) else oPart (F := F) d L (rset L b (t - 1) t) H)) ⊢ Arr (F := F) d L b H (t + 1) := by
  by_cases h0 : t = 0
  · subst h0; rw [if_pos rfl]; iintro ⟨H, _⟩; iexact H
  · rw [if_neg h0]
    exact (rset_split d L b (Nat.zero_le _) (Nat.sub_le t 1) H).2

/-- With nothing on its way out there is nothing to wait for, -/
theorem w2f {t : ℕ} (h0 : t = 0) {G : sProp 𝕄} :
    iprop(Fr ∗ Own (F := F) d L O W ∗ G ∗ Ost d L bM os b H t ∗ Arr d L b H t ∗ Beg d L b t)
      ⊢ iprop(Fr ∗ Own (F := F) d L O W ∗ G ∗ ORest d L bM os ∗ Arr d L b H (t + 1) ∗ Beg d L b t) := by
  subst h0; unfold Ost; rw [if_pos rfl]

/-- and otherwise the wait brings the block in. -/
theorem w2t {t : ℕ} (h0 : t ≠ 0) {G : sProp 𝕄} {spS spD : Space} {sS sD : Shape} {eS eD : EltTy}
    {src : Memref sig (thr d L).2.kind spS sS eS} {dst : Memref sig (thr d L).2.kind spD sD eD}
    {h1 : src.view.WordExact} {h2 : dst.view.WordExact} {k : PUnit → Prog (TpuEff nD τ sig (Elt F) Λ₀ (thr d L).2) α} (hN : dst.view.dmaCredit = bM.view.dmaCredit)
    (h : iprop(Fr ∗ Own (F := F) d L O W ∗ G ∗ ORest d L bM os ∗ Arr d L b H (t + 1) ∗ Beg d L b t)
      ⊢ wp frame (wpE (defs₀ (F := F)) 𝒱₀ (thr d L) none) Set.univ (k ⟨⟩) Q) :
    iprop(Fr ∗ Own (F := F) d L O W ∗ G ∗ Ost d L bM os b H t ∗ Arr d L b H t ∗ Beg d L b t)
      ⊢ wp frame (wpE (defs₀ (F := F)) 𝒱₀ (thr d L) none) Set.univ (.op (.waitDma2 os src dst h1 h2) k) Q := by
  have hr := w2rest (F := F) (d := d) (L := L) (b := b) (H := H) (t := t)
  rw [if_neg h0] at hr
  have h3 := waitI (F := F) (d := d) (L := L) (O := O) (W := W) (Q := Q) (sem := os) (src := src) (dst := dst) (h1 := h1) (h2 := h2) (k := k) (N := bM.view.dmaCredit)
    (Fr := iprop(Fr ∗ G ∗ Arr d L b H t ∗ Beg d L b t)) (Dv := iprop(oPart d L (rset L b (t - 1) t) H ∗ (∃ o, bM.view.loc (thr d L) ↦{fullShare} o))) hN (by
      refine BIBase.Entails.trans ?_ h
      iintro ⟨⟨HF, HG, HA, HB⟩, HO, ⟨Hp, Hb⟩, Hs⟩
      ihave HA := hr $$ [HA Hp]
      · iframe HA Hp
      iframe HF HO HG Hb Hs HA HB)
  refine BIBase.Entails.trans ?_ h3
  unfold Ost
  rw [if_neg h0]
  iintro ⟨HF, HO, HG, Hf, HA, HB⟩
  iframe HF HO HG Hf HA HB

/-- The buffers opened for the loads and stores, -/
theorem w3 {t : ℕ} {q : Prog (TpuEff nD τ sig (Elt F) Λ₀ (thr d L).2) α}
    (h : ∀ g o, gM.view.read (Elt F) g = Gc X T (4 * t + b) →
      (iprop((Fr ∗ Own (F := F) d L O W ∗ Shr d L qt qx X T ∗ semVal (thr d L, SemLoc.dma gs) 0 ∗ semVal (thr d L, SemLoc.dma os) 0 ∗ Arr d L b H (t + 1) ∗ Beg d L b t)
        ∗ (gM.view.loc (thr d L) ↦{fullShare} g) ∗ (bM.view.loc (thr d L) ↦{fullShare} sums gM g bM o 0)) : sProp 𝕄)
      ⊢ wp frame (wpE (defs₀ (F := F)) 𝒱₀ (thr d L) none) Set.univ q Q) :
    iprop(Fr ∗ Own (F := F) d L O W ∗ (GDel d L gM qt qx X T (4 * t + b) ∗ semVal (thr d L, SemLoc.dma gs) 0) ∗ ORest d L bM os ∗ Arr d L b H (t + 1) ∗ Beg d L b t)
      ⊢ wp frame (wpE (defs₀ (F := F)) 𝒱₀ (thr d L) none) Set.univ q Q := by
  iintro ⟨HF, HO, ⟨⟨⟨%g, %hg, Hg⟩, Hsh⟩, Hgs⟩, ⟨⟨%o, Hb⟩, Hos⟩, HA, HB⟩
  iapply (h g o hg)
  iframe HF HO Hsh Hgs Hos HA HB Hg
  iexact Hb

/-- The state after a turn's loads and stores, once the next gather is in flight. -/
abbrev Mid (Fr : sProp 𝕄) (d : Dev nD) (L : grid0.Coords) (gM : Memref sig .scVector .vmem S104x128 .f32) (bM : Memref sig .scVector .vmem S4x128 .f32) (gs os : DmaSem sig) (b : ℕ)
    (qt qx : PosShare TreeShare) (X : S128x104.Idx → Elt F .i32) (T : S26000x128.Idx → Elt F .f32) (H : S16384x128.Idx → Elt F .f32)
    (O : CellTallies nD τ sig (HIx 1)) (W : Waits sig (HIx 1)) (t : ℕ) (w : bM.view.ty.Contents (Elt F)) : sProp 𝕄 :=
  iprop(Fr ∗ Own (F := F) d L O W ∗ Gst d L gM gs b qt qx X T (t + 1) ∗ semVal (thr d L, SemLoc.dma os) 0 ∗ (bM.view.loc (thr d L) ↦{fullShare} w)
    ∗ Arr d L b H (t + 1) ∗ Beg d L b t)

/-- In the last trip no gather is begun; -/
theorem w4f {t : ℕ} (ht : ¬ t + 1 < 32) {g : gM.view.ty.Contents (Elt F)} {w : bM.view.ty.Contents (Elt F)} :
    (iprop((Fr ∗ Own (F := F) d L O W ∗ Shr d L qt qx X T ∗ semVal (thr d L, SemLoc.dma gs) 0 ∗ semVal (thr d L, SemLoc.dma os) 0 ∗ Arr d L b H (t + 1) ∗ Beg d L b t)
        ∗ (gM.view.loc (thr d L) ↦{fullShare} g) ∗ (bM.view.loc (thr d L) ↦{fullShare} w)) : sProp 𝕄)
      ⊢ Mid Fr d L gM bM gs os b qt qx X T H O W t w := by
  unfold Mid Gst
  rw [if_neg ht]
  iintro ⟨⟨HF, HO, Hsh, Hgs, Hos, HA, HB⟩, Hg, Hb⟩
  iframe HF HO Hsh Hgs Hos HA HB Hb
  iexists g; iexact Hg

/-- What a gather by one index row delivers. -/
theorem gather_val (hX : ∀ x, (X x).toNat < 26000) {n : ℕ} (hn : n < 128) {off : Fin 2 → Nat} (inb : ∀ a, off a + S1x104.size a ≤ S128x104.size a)
    (hoff : off = ![n, 0]) (inb0 : ∀ a, (![0, 0] : Fin 2 → Nat) a + S26000x128.size a ≤ S26000x128.size a) (hs1 hs2 : _)
    (hg : S26000x128.Gathers 0 S104x128) (hnn : S104.numel = S104x128.size hg.axis') (hin : _) :
    SparseCore.gatherPayload (F := F) (e := .f32) hg ((tM.slice (Rect.unit (s := S26000x128) ![0, 0] S26000x128.size inb0) hs1).view.read (Elt F) T)
      (SparseCore.rows (F := F) (((xM.slice (Rect.unit (s := S128x104) off S1x104.size inb) hs2).squeeze S104 squeezes_S1x104_S104).view.read (Elt F) X) hnn hin)
      = Gc X T n := by
  subst hoff
  funext y
  have hk : ∀ k : S104.Idx, ((xM.slice (Rect.unit (s := S128x104) ![n, 0] S1x104.size inb) hs2).squeeze S104 squeezes_S1x104_S104).view.read (Elt F) X k
      = X (mk2 (chunkOf n) (k 0)) := by
    intro k
    show X ((Rect.unit (s := S128x104) ![n, 0] S1x104.size inb).emb (Shape.reshapeEquiv _ k)) = _
    congr 1
    rw [Shape.reshapeEquiv_eq_of_rowMajor (s := S1x104) (s' := S104) (x := k) (y := mk2 ⟨0, by decide⟩ (k 0)) _ (by
      rw [Shape.rowMajor_val_two, Shape.rowMajor_val_one]; show 0 * 104 + (k 0).val = (k 0).val; omega)]
    funext a
    apply Fin.ext
    match a with
    | 0 => show n + 1 * 0 = n % 128; omega
    | 1 => show 0 + 1 * (k 0).val = (k 0).val; omega
  show T ((Rect.unit (s := S26000x128) ![0, 0] S26000x128.size inb0).emb (hg.idx _ y)) = T _
  congr 1
  funext a
  apply Fin.ext
  match a with
  | 0 =>
    show 0 + 1 * (BitVec.toNat (((xM.slice (Rect.unit (s := S128x104) ![n, 0] S1x104.size inb) hs2).squeeze S104 squeezes_S1x104_S104).view.read (Elt F) X
        (S104.rowMajor.symm ((y 0).cast _)))) = _ % 26000
    rw [hk, Nat.mod_eq_of_lt (hX _), Nat.zero_add, Nat.one_mul]
    congr 4
    have := Shape.rowMajor_val_one (S104.rowMajor.symm ((y 0).cast hnn.symm))
    rw [Equiv.apply_symm_apply] at this
    exact Fin.ext this.symm
  | 1 => show 0 + 1 * (y 1).val = (y 1).val; omega

/-- A gather by one index row, begun: it will deliver the rows of chunk `n`. -/
theorem gatherI (hX : ∀ x, (X x).toNat < 26000) {n : ℕ} (hn : n < 128) {off : Fin 2 → Nat} {inb : ∀ a, off a + S1x104.size a ≤ S128x104.size a}
    (hoff : off = ![n, 0]) {inb0 : ∀ a, (![0, 0] : Fin 2 → Nat) a + S26000x128.size a ≤ S26000x128.size a} {hs1 hs2 : _}
    {hg : S26000x128.Gathers 0 S104x128} {hnn : S104.numel = S104x128.size hg.axis'}
    {hp : (thr d L).2.kind = .scVector} {hsrc : _} {he : EltTy.f32.bits = 32} {hsp : _} {hr : S26000x128.StreamRows 0}
    {k : PUnit → Prog (TpuEff nD τ sig (Elt F) Λ₀ (thr d L).2) α}
    (hN : ∑ j, (gM.slice (S104x128.rowRect hg.axis' j) (S104x128.stride_rowRect hg.axis' j)).view.dmaCredit = gM.view.dmaCredit)
    (h : iprop(Fr ∗ Transfers.Flight countersEmb (thr d L) (.dma gs) (default : HIx 1) gM.view.dmaCredit (GDel d L gM qt qx X T n))
      ⊢ wp frame (wpE (defs₀ (F := F)) 𝒱₀ (thr d L) none) Set.univ (k ⟨⟩) Q) {g : gM.view.ty.Contents (Elt F)} :
    iprop(Fr ∗ Shr d L qt qx X T ∗ semVal (thr d L, SemLoc.dma gs) 0 ∗ (gM.view.loc (thr d L) ↦{fullShare} g))
      ⊢ wp frame (wpE (defs₀ (F := F)) 𝒱₀ (thr d L) none) Set.univ
        (SparseCore.enqueueIndirectGather hp (tM.slice (Rect.unit (s := S26000x128) ![0, 0] S26000x128.size inb0) hs1) gM hg
          ((xM.slice (Rect.unit (s := S128x104) off S1x104.size inb) hs2).squeeze S104 squeezes_S1x104_S104) hnn gs hsrc he hsp hr >>= k) Q := by
  have hin : ∀ x, ((((xM.slice (Rect.unit (s := S128x104) off S1x104.size inb) hs2).squeeze S104 squeezes_S1x104_S104).view.read (Elt F) X x)).toNat < S26000x128.size hg.axis :=
    fun x => hX _
  iintro ⟨HF, ⟨HT, HX⟩, Hs, Hg⟩
  iapply (SparseCore.wp_gatherFromWhole countersEmb 𝒱₀ (thr d L) none (default : HIx 1) gM.view.dmaCredit hN (by decide) hin) $$ [HT HX Hs Hg]
  · iframe HT HX Hs Hg
  iintro Hfl
  iapply h
  iframe HF
  iapply (Transfers.Flight_mono countersEmb (thr d L) (D := iprop((gM.view.loc (thr d L) ↦{fullShare} (gM.view.write (Elt F) g
      (SparseCore.gatherPayload hg ((tM.slice (Rect.unit (s := S26000x128) ![0, 0] S26000x128.size inb0) hs1).view.read (Elt F) T)
        (SparseCore.rows (((xM.slice (Rect.unit (s := S128x104) off S1x104.size inb) hs2).squeeze S104 squeezes_S1x104_S104).view.read (Elt F) X) hnn hin)) Finset.univ))
      ∗ (tM.view.loc (thr d L) ↦{qt} T) ∗ (xM.view.loc (thr d L) ↦{qx} X))) (by
    iintro ⟨Hg, HT, HX⟩
    iframe HT HX
    iexists (gM.view.write (Elt F) g (SparseCore.gatherPayload hg ((tM.slice (Rect.unit (s := S26000x128) ![0, 0] S26000x128.size inb0) hs1).view.read (Elt F) T)
        (SparseCore.rows (((xM.slice (Rect.unit (s := S128x104) off S1x104.size inb) hs2).squeeze S104 squeezes_S1x104_S104).view.read (Elt F) X) hnn hin)) Finset.univ)
    isplitl []
    · ipureintro
      exact (View.read_write_univ _ _).trans (gather_val hX hn inb hoff inb0 hs1 hs2 hg hnn hin)
    iexact Hg))
  iexact Hfl

/-- and otherwise the next trip's gather goes off. -/
theorem w4t {t : ℕ} (hb : b < 4) (ht : t + 1 < 32) (hX : ∀ x, (X x).toNat < 26000) {off : Fin 2 → Nat} {inb : ∀ a, off a + S1x104.size a ≤ S128x104.size a}
    (hoff : off = ![4 * t + 4 + b, 0]) {inb0 : ∀ a, (![0, 0] : Fin 2 → Nat) a + S26000x128.size a ≤ S26000x128.size a} {hs1 hs2 : _}
    {hg : S26000x128.Gathers 0 S104x128} {hnn : S104.numel = S104x128.size hg.axis'}
    {hp : (thr d L).2.kind = .scVector} {hsrc : _} {he : EltTy.f32.bits = 32} {hsp : _} {hr : S26000x128.StreamRows 0}
    {k : PUnit → Prog (TpuEff nD τ sig (Elt F) Λ₀ (thr d L).2) α}
    (hN : ∑ j, (gM.slice (S104x128.rowRect hg.axis' j) (S104x128.stride_rowRect hg.axis' j)).view.dmaCredit = gM.view.dmaCredit)
    {g : gM.view.ty.Contents (Elt F)} {w : bM.view.ty.Contents (Elt F)}
    (h : Mid Fr d L gM bM gs os b qt qx X T H O W t w ⊢ wp frame (wpE (defs₀ (F := F)) 𝒱₀ (thr d L) none) Set.univ (k ⟨⟩) Q) :
    (iprop((Fr ∗ Own (F := F) d L O W ∗ Shr d L qt qx X T ∗ semVal (thr d L, SemLoc.dma gs) 0 ∗ semVal (thr d L, SemLoc.dma os) 0 ∗ Arr d L b H (t + 1) ∗ Beg d L b t)
        ∗ (gM.view.loc (thr d L) ↦{fullShare} g) ∗ (bM.view.loc (thr d L) ↦{fullShare} w)) : sProp 𝕄)
      ⊢ wp frame (wpE (defs₀ (F := F)) 𝒱₀ (thr d L) none) Set.univ
        (SparseCore.enqueueIndirectGather hp (tM.slice (Rect.unit (s := S26000x128) ![0, 0] S26000x128.size inb0) hs1) gM hg
          ((xM.slice (Rect.unit (s := S128x104) off S1x104.size inb) hs2).squeeze S104 squeezes_S1x104_S104) hnn gs hsrc he hsp hr >>= k) Q := by
  have h3 := gatherI (F := F) (d := d) (L := L) (Q := Q) (gM := gM) (gs := gs) (qt := qt) (qx := qx) (X := X) (T := T) hX (n := 4 * (t + 1) + b) (by omega) (inb := inb)
    (hoff.trans (by rw [show 4 * t + 4 + b = 4 * (t + 1) + b by omega])) (inb0 := inb0) (hs1 := hs1) (hs2 := hs2) (hg := hg) (hnn := hnn) (hp := hp) (hsrc := hsrc) (he := he) (hsp := hsp) (hr := hr) (k := k) hN
    (Fr := iprop(Fr ∗ Own (F := F) d L O W ∗ semVal (thr d L, SemLoc.dma os) 0 ∗ (bM.view.loc (thr d L) ↦{fullShare} w) ∗ Arr d L b H (t + 1) ∗ Beg d L b t)) (g := g) (by
      refine BIBase.Entails.trans ?_ h
      unfold Mid Gst
      rw [if_pos ht]
      iintro ⟨⟨HF, HO, Hos, Hb, HA, HB⟩, Hfl⟩
      iframe HF HO Hos Hb HA HB Hfl)
  refine BIBase.Entails.trans ?_ h3
  iintro ⟨⟨HF, HO, Hsh, Hgs, Hos, HA, HB⟩, Hg, Hb⟩
  iframe HF HO Hsh Hgs Hos HA HB Hg Hb

/-- The block of sums starts on its way out. -/
theorem w5 {t : ℕ} (ht : t < 32) (hb : b < 4) {off : Fin 2 → Nat} {inb : ∀ a, off a + S4x128.size a ≤ S16384x128.size a}
    (hoff : off = ![base L + 16 * t + 4 * b, 0]) {hs : _} {h1 h2 h3 : _} {k : PUnit → Prog (TpuEff nD τ sig (Elt F) Λ₀ (thr d L).2) α}
    (hN : bM.view.dmaCredit = (oM.slice (Rect.unit (s := S16384x128) off S4x128.size inb) hs).view.amount (.dma os)) (hN0 : 0 < bM.view.dmaCredit)
    {w : bM.view.ty.Contents (Elt F)} {G : S104x128.Idx → Elt F .f32} (hw : bM.view.read (Elt F) w = Sc (F := F) G)
    (hH : ∀ (y : S4x128.Idx) (z : S16384x128.Idx), (z 0).val = base L + 4 * (4 * t + b) + (y 0).val → (z 1).val = (y 1).val → H z = Sc (F := F) G y)
    (h : iprop(Fr ∗ Own (F := F) d L O W ∗ Ib d L gM bM gs os b qt qx X T H (t + 1)) ⊢ wp frame (wpE (defs₀ (F := F)) 𝒱₀ (thr d L) none) Set.univ (k ⟨⟩) Q) :
    Mid Fr d L gM bM gs os b qt qx X T H O W t w ⊢ wp frame (wpE (defs₀ (F := F)) 𝒱₀ (thr d L) none) Set.univ
      (.op (.enqueueDmaAs bM (.here (oM.slice (Rect.unit (s := S16384x128) off S4x128.size inb) hs)) .same (.dma os) h1 h2 h3) k) Q := by
  subst hoff
  have hset : (oM.slice (Rect.unit (s := S16384x128) ![base L + 16 * t + 4 * b, 0] S4x128.size inb) hs).view.set ⊆ rset L b t (t + 1) := by
    intro x hx
    obtain ⟨y, _, rfl⟩ := Finset.mem_map.mp hx
    have hy : (y 0).val < 4 := (y 0).isLt
    have e : (((oM.slice (Rect.unit (s := S16384x128) ![base L + 16 * t + 4 * b, 0] S4x128.size inb) hs).view.emb y : S16384x128.Idx) 0).val
      = base L + 16 * t + 4 * b + 1 * (y 0).val := rfl
    refine Finset.mem_filter.mpr ⟨Finset.mem_univ _, ?_⟩
    rw [e]; omega
  have hval : ∀ f : S16384x128.Idx → Elt F .f32, ∀ z ∈ rset L b t (t + 1),
      (oM.slice (Rect.unit (s := S16384x128) ![base L + 16 * t + 4 * b, 0] S4x128.size inb) hs).view.write (Elt F) f (bM.view.read (Elt F) w) Finset.univ z = H z := by
    intro f z hz
    have hz' := (Finset.mem_filter.mp hz).2
    let y : S4x128.Idx := mk2 ⟨(z 0).val - (base L + 16 * t + 4 * b), by omega⟩ (z 1)
    have hy : (oM.slice (Rect.unit (s := S16384x128) ![base L + 16 * t + 4 * b, 0] S4x128.size inb) hs).view.emb y = z := by
      refine ext2 (n := 16384) (m := 128) ?_ ?_
      · have e : base L + 16 * t + 4 * b + 1 * ((z 0).val - (base L + 16 * t + 4 * b)) = (z 0).val := by omega
        exact e
      · have e : 0 + 1 * (z 1).val = (z 1).val := by omega
        exact e
    have hv := hH y z (by show (z 0).val = base L + 4 * (4 * t + b) + ((z 0).val - (base L + 16 * t + 4 * b)); omega) rfl
    rw [hv, ← hw]
    conv_lhs => rw [← hy]
    exact View.write_emb_of_mem _ _ (Finset.mem_univ y)
  iintro ⟨HF, HO, HG, Hos, Hb, HA, ⟨%f, HB⟩⟩
  ihave ⟨Hp, HB⟩ := (rset_split d L b (Nat.le_succ t) (show t + 1 ≤ 32 from ht) f).1 $$ HB
  iapply (Transfers.wp_dmaFromWhole countersEmb 𝒱₀ (thr d L) none (default : HIx 1) bM.view.dmaCredit hN.symm hN0 hset) $$ [Hb Hp Hos]
  · iframe Hb Hp Hos
  iintro Hfl
  iapply h
  iframe HF HO
  unfold Ib
  iframe HG HA
  isplitl [Hfl]
  · unfold Ost
    rw [if_neg (Nat.succ_ne_zero t)]
    iapply (Transfers.Flight_mono countersEmb (thr d L) (D := iprop(oPart d L (rset L b t (t + 1))
        ((oM.slice (Rect.unit (s := S16384x128) ![base L + 16 * t + 4 * b, 0] S4x128.size inb) hs).view.write (Elt F) f (bM.view.read (Elt F) w) Finset.univ)
      ∗ (bM.view.loc (thr d L) ↦{fullShare} w))) (by
      iintro ⟨Hp, Hb⟩
      isplitl [Hp]
      · ihave Hp := (Entails.of_eq (pointsTo_congr (hval f))) $$ Hp
        iexact Hp
      iexists w; iexact Hb))
    iexact Hfl
  iexists f; iexact HB

end State

end Cert.BagProof

end
-- ==== Proof.Bag.Inv.lean ====
/-
  The state of a tile before a trip of its loop, and the conditions a trip branches on.
-/
module

public import proofs.«01_k».proof.Proof.Bag.Turn

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A gather's rows count what a whole buffer counts. -/
theorem hN0 : ∀ hg : S26000x128.Gathers 0 S104x128, ∑ j, (gM0.slice (S104x128.rowRect hg.axis' j) (S104x128.stride_rowRect hg.axis' j)).view.dmaCredit = gM0.view.dmaCredit := by decide
theorem hN1 : ∀ hg : S26000x128.Gathers 0 S104x128, ∑ j, (gM1.slice (S104x128.rowRect hg.axis' j) (S104x128.stride_rowRect hg.axis' j)).view.dmaCredit = gM1.view.dmaCredit := by decide
theorem hN2 : ∀ hg : S26000x128.Gathers 0 S104x128, ∑ j, (gM2.slice (S104x128.rowRect hg.axis' j) (S104x128.stride_rowRect hg.axis' j)).view.dmaCredit = gM2.view.dmaCredit := by decide
theorem hN3 : ∀ hg : S26000x128.Gathers 0 S104x128, ∑ j, (gM3.slice (S104x128.rowRect hg.axis' j) (S104x128.stride_rowRect hg.axis' j)).view.dmaCredit = gM3.view.dmaCredit := by decide
/-- A block of the result counts what the buffer of sums counts. -/
theorem hM0 (off : Fin 2 → Nat) (inb) (hs) : bM0.view.dmaCredit = (oM.slice (Rect.unit (s := S16384x128) off S4x128.size inb) hs).view.amount (.dma cc0_scratch13.sem) := rfl
theorem hM1 (off : Fin 2 → Nat) (inb) (hs) : bM1.view.dmaCredit = (oM.slice (Rect.unit (s := S16384x128) off S4x128.size inb) hs).view.amount (.dma cc0_scratch14.sem) := rfl
theorem hM2 (off : Fin 2 → Nat) (inb) (hs) : bM2.view.dmaCredit = (oM.slice (Rect.unit (s := S16384x128) off S4x128.size inb) hs).view.amount (.dma cc0_scratch15.sem) := rfl
theorem hM3 (off : Fin 2 → Nat) (inb) (hs) : bM3.view.dmaCredit = (oM.slice (Rect.unit (s := S16384x128) off S4x128.size inb) hs).view.amount (.dma cc0_scratch16.sem) := rfl
theorem hP0 : 0 < bM0.view.dmaCredit := by decide
theorem hP1 : 0 < bM1.view.dmaCredit := by decide
theorem hP2 : 0 < bM2.view.dmaCredit := by decide
theorem hP3 : 0 < bM3.view.dmaCredit := by decide

theorem cond1_iff : ∀ t : Fin k0_t1_loop.trips, k0_cond1 t = 1#1 ↔ t.val ≠ 0 := by decide +kernel
theorem cond3_iff : ∀ t : Fin k0_t1_loop.trips, k0_cond3 t = 1#1 ↔ t.val ≠ 0 := by decide +kernel
theorem cond5_iff : ∀ t : Fin k0_t1_loop.trips, k0_cond5 t = 1#1 ↔ t.val ≠ 0 := by decide +kernel
theorem cond7_iff : ∀ t : Fin k0_t1_loop.trips, k0_cond7 t = 1#1 ↔ t.val ≠ 0 := by decide +kernel
theorem cond2_iff : ∀ t : Fin k0_t1_loop.trips, k0_cond2 t = 1#1 ↔ t.val + 1 < 32 := by decide +kernel
theorem cond4_iff : ∀ t : Fin k0_t1_loop.trips, k0_cond4 t = 1#1 ↔ t.val + 1 < 32 := by decide +kernel
theorem cond6_iff : ∀ t : Fin k0_t1_loop.trips, k0_cond6 t = 1#1 ↔ t.val + 1 < 32 := by decide +kernel
theorem cond8_iff : ∀ t : Fin k0_t1_loop.trips, k0_cond8 t = 1#1 ↔ t.val + 1 < 32 := by decide +kernel

/-- A turn's place in the result. -/
theorem off5_eq (L : grid0.Coords) (t : Fin k0_t1_loop.trips) (r : Fin 4) : k0_off5 L t (BitVec.ofNat 32 r.val) = ![base L + 16 * t.val + 4 * r.val, 0] := by
  rw [k0_off5_eq]
  unfold base wid
  congr 1
  omega

/-- The state of a tile before trip `t`. -/
def Inv (d : Dev nD) (L : grid0.Coords) (qt qx : Fin 4 → PosShare TreeShare) (X : S128x104.Idx → Elt F .i32) (T : S26000x128.Idx → Elt F .f32)
    (H : S16384x128.Idx → Elt F .f32) (O : CellTallies nD τ sig (HIx 1)) (W : Waits sig (HIx 1)) (t : ℕ) : sProp 𝕄 :=
  iprop(Own (F := F) d L O W
    ∗ Ib d L gM0 bM0 cc0_scratch9.sem cc0_scratch13.sem 0 (qt 0) (qx 0) X T H t
    ∗ Ib d L gM1 bM1 cc0_scratch10.sem cc0_scratch14.sem 1 (qt 1) (qx 1) X T H t
    ∗ Ib d L gM2 bM2 cc0_scratch11.sem cc0_scratch15.sem 2 (qt 2) (qx 2) X T H t
    ∗ Ib d L gM3 bM3 cc0_scratch12.sem cc0_scratch16.sem 3 (qt 3) (qx 3) X T H t)

end Cert.BagProof

end
-- ==== Proof.Bag.Tile.lean ====
/-
  One tile's run of the SparseCore kernel.
-/
module

public import proofs.«01_k».proof.Proof.Bag.Inv
public import Idealize.ShloMosaic.Lib.ShareLeaves

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A tile's index rows. -/
def Xr (I : S32x128x104.Idx → Elt F .i32) (L : grid0.Coords) : S128x104.Idx → Elt F .i32 := fun x => I (mk3 ⟨wid L, wid_lt L⟩ (x 0) (x 1))

/-- The trip the loop's body is. -/
theorem cond_loop : k0_t1_loop.trips = 32 := by decide

/-- What the copy of a tile's index rows leaves. -/
theorem idx_val (I : S32x128x104.Idx → Elt F .i32) (L : grid0.Coords) (x0 : S128x104.Idx → Elt F .i32) (hs : _) :
    xM.view.write (Elt F) x0 (((iM.slice (Rect.unit (s := S32x128x104) (k0_off1 L) S1x128x104.size (k0_off1_inb L)) hs).squeeze S128x104
      squeezes_S1x128x104_S128x104).view.read (Elt F) I) Finset.univ = Xr I L := by
  rw [View.write_whole_univ]
  funext x
  show I ((Rect.unit (s := S32x128x104) (k0_off1 L) S1x128x104.size (k0_off1_inb L)).emb (Shape.reshapeEquiv _ x)) = I _
  congr 1
  rw [Shape.reshapeEquiv_eq_of_rowMajor (s := S1x128x104) (s' := S128x104) (x := x) (y := mk3 ⟨0, by decide⟩ (x 0) (x 1)) _ (by
    rw [Shape.rowMajor_val_three, Shape.rowMajor_val_two]; show (0 * 128 + (x 0).val) * 104 + (x 1).val = (x 0).val * 104 + (x 1).val; omega)]
  funext a
  apply Fin.ext
  rw [Rect.emb_apply]
  have h1 : ∀ a, (Rect.unit (s := S32x128x104) (k0_off1 L) S1x128x104.size (k0_off1_inb L)).off a = (![2 * (L 1).val + (L 0).val, 0, 0] : Fin 3 → Nat) a := by
    intro a; show k0_off1 L a = _; rw [k0_off1_eq]
  rw [h1]
  match a with
  | 0 => show 2 * (L 1).val + (L 0).val + 1 * 0 = wid L; unfold wid; omega
  | 1 => show 0 + 1 * (x 0).val = (x 0).val; omega
  | 2 => show 0 + 1 * (x 1).val = (x 1).val; omega

/-- What a tile has of its own for a buffer: the two buffers and the two semaphores, at rest. -/
abbrev Buf1 (d : Dev nD) (L : grid0.Coords) (gM : Memref sig .scVector .vmem S104x128 .f32) (bM : Memref sig .scVector .vmem S4x128 .f32) (gs os : DmaSem sig) : sProp 𝕄 :=
  iprop((∃ g, gM.view.loc (thr d L) ↦{fullShare} g) ∗ semVal (thr d L, SemLoc.dma gs) 0 ∗ ORest (F := F) d L bM os)

/-- What a tile has of its own. -/
abbrev Bufs (d : Dev nD) (L : grid0.Coords) : sProp 𝕄 :=
  iprop(semVal (thr d L, SemLoc.dma cc0_scoped0.sem) 0
    ∗ Buf1 (F := F) d L gM0 bM0 cc0_scratch9.sem cc0_scratch13.sem ∗ Buf1 (F := F) d L gM1 bM1 cc0_scratch10.sem cc0_scratch14.sem
    ∗ Buf1 (F := F) d L gM2 bM2 cc0_scratch11.sem cc0_scratch15.sem ∗ Buf1 (F := F) d L gM3 bM3 cc0_scratch12.sem cc0_scratch16.sem)

/-- The four parts of a tile's result rows. -/
abbrev Outs (d : Dev nD) (L : grid0.Coords) (f : S16384x128.Idx → Elt F .f32) : sProp 𝕄 :=
  iprop(oPart d L (rset L 0 0 32) f ∗ oPart d L (rset L 1 0 32) f ∗ oPart d L (rset L 2 0 32) f ∗ oPart d L (rset L 3 0 32) f)

/-- A share in four. -/
theorem four {ℓ : Loc nD τ sig} (q : PosShare TreeShare) (f : Buf (Elt F) ℓ) :
    (ℓ ↦{q} f : sProp 𝕄) ⊣⊢ iprop((ℓ ↦{ShareLeaves.leaf 2 q 0} f) ∗ (ℓ ↦{ShareLeaves.leaf 2 q 1} f) ∗ (ℓ ↦{ShareLeaves.leaf 2 q 2} f) ∗ (ℓ ↦{ShareLeaves.leaf 2 q 3} f)) := by
  rw [ShareLeaves.pointsTo_leaves Finset.univ f 2 q, bigSep_univ_eq_bigSepL [(0 : Fin (2 ^ 2)), 1, 2, 3] (by decide) (by decide)]
  rw [bigSepL_cons_cons, bigSepL_cons_cons, bigSepL_cons_cons, bigSepL_singleton]
  exact ⟨.refl, .refl⟩

variable {d : Dev nD} {L : grid0.Coords} {O : CellTallies nD τ sig (HIx 1)} {W : Waits sig (HIx 1)}

/-- A gather of chunk `n`, with the first trip's state of its buffer in sight. -/
theorem begI {gM : Memref sig .scVector .vmem S104x128 .f32} {bM : Memref sig .scVector .vmem S4x128 .f32} {gs os : DmaSem sig} {b : ℕ} {qt qx : PosShare TreeShare}
    {X : S128x104.Idx → Elt F .i32} {T : S26000x128.Idx → Elt F .f32} {H f : S16384x128.Idx → Elt F .f32} :
    iprop(Transfers.Flight countersEmb (thr d L) (.dma gs) (default : HIx 1) gM.view.dmaCredit (GDel (F := F) d L gM qt qx X T b) ∗ ORest (F := F) d L bM os
      ∗ oPart d L (rset L b 0 32) f) ⊢ Ib d L gM bM gs os b qt qx X T H 0 := by
  unfold Ib Gst Ost
  rw [if_pos (by decide), if_pos rfl, Nat.mul_zero, Nat.zero_add]
  have h := rset_split (F := F) d L b (lo := 0) (mid := 0) (hi := 32) le_rfl (by decide) f
  iintro ⟨HF, HO, Hp⟩
  iframe HF HO
  ihave Hp := h.1 $$ Hp
  icases Hp with ⟨Ha, Hb⟩
  isplitl [Ha]
  · have hz : rset L b 0 0 = ∅ := by ext x; simp only [rset, Finset.mem_filter, Finset.notMem_empty, iff_false]; omega
    iapply (Entails.of_eq (pointsTo_congr (f := f) (g := H) (fun x hx => by
      have hx' : x ∈ rset L b 0 0 := hx
      rw [hz] at hx'; exact absurd hx' (Finset.notMem_empty x))))
    iexact Ha
  · iexists f; iexact Hb

/-- The last wait of a buffer brings all its result rows in. -/
theorem endI {gM : Memref sig .scVector .vmem S104x128 .f32} {bM : Memref sig .scVector .vmem S4x128 .f32} {gs os : DmaSem sig} {b : ℕ} {qt qx : PosShare TreeShare}
    {X : S128x104.Idx → Elt F .i32} {T : S26000x128.Idx → Elt F .f32} {H : S16384x128.Idx → Elt F .f32} {α : Type} {Q : α → sProp (MT nD τ sig (HIx 1) (Elt F) ℕ UU ℕ)}
    {Fr : sProp (MT nD τ sig (HIx 1) (Elt F) ℕ UU ℕ)} {spS spD : Space} {sS sD : Shape} {eS eD : EltTy}
    {src : Memref sig (thr d L).2.kind spS sS eS} {dst : Memref sig (thr d L).2.kind spD sD eD}
    {h1 : src.view.WordExact} {h2 : dst.view.WordExact} {k : PUnit → Prog (TpuEff nD τ sig (Elt F) Λ₀ (thr d L).2) α} (hN : dst.view.dmaCredit = bM.view.dmaCredit)
    (h : iprop((Fr ∗ Buf1 (F := F) d L gM bM gs os ∗ Shr d L qt qx X T ∗ oPart d L (rset L b 0 32) H) ∗ Own (F := F) d L O W)
      ⊢ wp frame (wpE (defs₀ (F := F)) 𝒱₀ (thr d L) none) Set.univ (k ⟨⟩) Q) :
    iprop(Fr ∗ Own (F := F) d L O W ∗ Ib d L gM bM gs os b qt qx X T H 32)
      ⊢ wp frame (wpE (defs₀ (F := F)) 𝒱₀ (thr d L) none) Set.univ (.op (.waitDma2 os src dst h1 h2) k) Q := by
  have h3 := w2t (F := F) (d := d) (L := L) (bM := bM) (os := os) (b := b) (H := H) (O := O) (W := W) (Q := Q) (Fr := Fr) (t := 32) (by decide) (G := Gst d L gM gs b qt qx X T 32)
    (src := src) (dst := dst) (h1 := h1) (h2 := h2) (k := k) hN (by
      refine BIBase.Entails.trans ?_ h
      unfold Gst
      rw [if_neg (by decide)]
      iintro ⟨HF, HO, ⟨Hg, Hsh, Hs⟩, Hb, HA, -⟩
      iframe HF HO Hg Hsh Hs Hb HA)
  exact h3

/-- What a gather of buffer `k` needs. -/
abbrev Pg (d : Dev nD) (L : grid0.Coords) (gM : Memref sig .scVector .vmem S104x128 .f32) (gs : DmaSem sig) (g : gM.view.ty.Contents (Elt F)) (q : PosShare TreeShare) (k : Fin (2 ^ 2))
    (X : S128x104.Idx → Elt F .i32) (T : S26000x128.Idx → Elt F .f32) : sProp 𝕄 :=
  iprop(Shr d L (ShareLeaves.leaf 2 q k) (ShareLeaves.leaf 2 fullShare k) X T ∗ semVal (thr d L, SemLoc.dma gs) 0 ∗ (gM.view.loc (thr d L) ↦{fullShare} g))

/-- What it makes. -/
abbrev Fg (d : Dev nD) (L : grid0.Coords) (gM : Memref sig .scVector .vmem S104x128 .f32) (gs : DmaSem sig) (q : PosShare TreeShare) (k : Fin (2 ^ 2))
    (X : S128x104.Idx → Elt F .i32) (T : S26000x128.Idx → Elt F .f32) : sProp 𝕄 :=
  Transfers.Flight countersEmb (thr d L) (.dma gs) (default : HIx 1) gM.view.dmaCredit (GDel (F := F) d L gM (ShareLeaves.leaf 2 q k) (ShareLeaves.leaf 2 fullShare k) X T k.val)

/-- The body up to the loop: the index rows come in, and the first four gathers go off. -/
theorem pro_ok (qi q : PosShare TreeShare) (I : S32x128x104.Idx → Elt F .i32) (T : S26000x128.Idx → Elt F .f32)
    (H : S16384x128.Idx → Elt F .f32) (hI : ∀ x, (I x).toNat < 26000)
    {α : Type} {Q : α → sProp (MT nD τ sig (HIx 1) (Elt F) ℕ UU ℕ)} {k : _ → Prog (TpuEff nD τ sig (Elt F) Λ₀ (thr d L).2) α} (f : S16384x128.Idx → Elt F .f32)
    (h : ∀ v2, iprop(((iM.view.loc (thr d L) ↦{qi} I) ∗ semVal (thr d L, SemLoc.dma cc0_scoped0.sem) 0)
        ∗ Inv d L (ShareLeaves.leaf 2 q) (ShareLeaves.leaf 2 fullShare) (Xr I L) T H O W 0)
      ⊢ wp frame (wpE (defs₀ (F := F)) 𝒱₀ (thr d L) none) Set.univ (k ⟨v2, 0#32, 32#32⟩) Q) :
    iprop(Own (F := F) d L O W ∗ (iM.view.loc (thr d L) ↦{qi} I) ∗ (tM.view.loc (thr d L) ↦{q} T) ∗ (∃ x, xM.view.loc (thr d L) ↦{fullShare} x)
      ∗ Bufs (F := F) d L ∗ Outs d L f)
      ⊢ wp frame (wpE (defs₀ (F := F)) 𝒱₀ (thr d L) none) Set.univ
        (k0_part354 L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0 >>= k) Q := by
  refine bindI ?_
  unfold k0_part354
  iintro ⟨HO, HI, HT, ⟨%x0, HX⟩, ⟨Hs0, ⟨⟨%g0, Hg0⟩, Hgs0, Ho0⟩, ⟨⟨%g1, Hg1⟩, Hgs1, Ho1⟩, ⟨⟨%g2, Hg2⟩, Hgs2, Ho2⟩, ⟨⟨%g3, Hg3⟩, Hgs3, Ho3⟩⟩, Hp0, Hp1, Hp2, Hp3⟩
  iapply (Transfers.wp_dmaFromWhole countersEmb 𝒱₀ (thr d L) none (default : HIx 1) xM.view.dmaCredit rfl (by decide) (Finset.subset_univ _)) $$ [HI HX Hs0]
  · iframe HI HX Hs0
  iintro Hfl
  iapply (waitI (F := F) (d := d) (L := L) (O := O) (W := W)
    (Fr := iprop((tM.view.loc (thr d L) ↦{q} T)
      ∗ ((gM0.view.loc (thr d L) ↦{fullShare} g0) ∗ semVal (thr d L, SemLoc.dma cc0_scratch9.sem) 0 ∗ ORest (F := F) d L bM0 cc0_scratch13.sem)
      ∗ ((gM1.view.loc (thr d L) ↦{fullShare} g1) ∗ semVal (thr d L, SemLoc.dma cc0_scratch10.sem) 0 ∗ ORest (F := F) d L bM1 cc0_scratch14.sem)
      ∗ ((gM2.view.loc (thr d L) ↦{fullShare} g2) ∗ semVal (thr d L, SemLoc.dma cc0_scratch11.sem) 0 ∗ ORest (F := F) d L bM2 cc0_scratch15.sem)
      ∗ ((gM3.view.loc (thr d L) ↦{fullShare} g3) ∗ semVal (thr d L, SemLoc.dma cc0_scratch12.sem) 0 ∗ ORest (F := F) d L bM3 cc0_scratch16.sem)
      ∗ Outs d L f)) rfl ?_)
  rotate_left
  · iframe HT Hg0 Hgs0 Ho0 Hg1 Hgs1 Ho1 Hg2 Hgs2 Ho2 Hg3 Hgs3 Ho3 Hp0 Hp1 Hp2 Hp3 HO
    iexact Hfl
  · have hX : ∀ x, (Xr I L x).toNat < 26000 := fun x => hI _
    generalize hK : iprop(((iM.view.loc (thr d L) ↦{qi} I) ∗ semVal (thr d L, SemLoc.dma cc0_scoped0.sem) 0) ∗ Own (F := F) d L O W
      ∗ (ORest (F := F) d L bM0 cc0_scratch13.sem ∗ ORest (F := F) d L bM1 cc0_scratch14.sem ∗ ORest (F := F) d L bM2 cc0_scratch15.sem ∗ ORest (F := F) d L bM3 cc0_scratch16.sem)
      ∗ Outs d L f) = K
    refine BIBase.Entails.trans (Q := iprop(K ∗ Pg d L gM0 cc0_scratch9.sem g0 q 0 (Xr I L) T ∗ Pg d L gM1 cc0_scratch10.sem g1 q 1 (Xr I L) T ∗ Pg d L gM2 cc0_scratch11.sem g2 q 2 (Xr I L) T ∗ Pg d L gM3 cc0_scratch12.sem g3 q 3 (Xr I L) T)) ?_ ?_
    · rw [← hK]
      iintro ⟨⟨HT, ⟨Hg0, Hgs0, Ho0⟩, ⟨Hg1, Hgs1, Ho1⟩, ⟨Hg2, Hgs2, Ho2⟩, ⟨Hg3, Hgs3, Ho3⟩, ⟨Hp0, Hp1, Hp2, Hp3⟩⟩, HO, ⟨HX, HI⟩, Hs0⟩
      ihave HX := (Entails.of_eq (congrArg (fun z => (xM.view.loc (thr d L) ↦{fullShare} z : sProp 𝕄)) (idx_val I L x0 (fun _ => rfl)))) $$ HX
      ihave HX := (four (F := F) fullShare (Xr I L)).1 $$ HX
      ihave HT := (four (F := F) q T).1 $$ HT
      icases HX with ⟨HX0, HX1, HX2, HX3⟩
      icases HT with ⟨HT0, HT1, HT2, HT3⟩
      iframe HT0 HT1 HT2 HT3 HX0 HX1 HX2 HX3 HI Hs0 HO Hg0 Hgs0 Ho0 Hg1 Hgs1 Ho1 Hg2 Hgs2 Ho2 Hg3 Hgs3 Ho3 Hp0 Hp1 Hp2 Hp3
    refine BIBase.Entails.trans (Q := iprop((K ∗ Pg d L gM1 cc0_scratch10.sem g1 q 1 (Xr I L) T ∗ Pg d L gM2 cc0_scratch11.sem g2 q 2 (Xr I L) T ∗ Pg d L gM3 cc0_scratch12.sem g3 q 3 (Xr I L) T) ∗ Pg d L gM0 cc0_scratch9.sem g0 q 0 (Xr I L) T)) (by iintro ⟨HK, H0, H1, H2, H3⟩; iframe HK H0 H1 H2 H3) ?_
    refine bindI (retI ?_)
    refine gatherI (Fr := iprop(K ∗ Pg d L gM1 cc0_scratch10.sem g1 q 1 (Xr I L) T ∗ Pg d L gM2 cc0_scratch11.sem g2 q 2 (Xr I L) T ∗ Pg d L gM3 cc0_scratch12.sem g3 q 3 (Xr I L) T)) (d := d) (L := L) (gM := gM0) (gs := cc0_scratch9.sem) (qt := ShareLeaves.leaf 2 q 0) (qx := ShareLeaves.leaf 2 fullShare 0) (X := Xr I L) (T := T)
      (g := g0) (n := 0) (off := ![0, 0]) hX (by decide) rfl (hN0 _) ?_
    refine BIBase.Entails.trans (Q := iprop((K ∗ Fg d L gM0 cc0_scratch9.sem q 0 (Xr I L) T ∗ Pg d L gM2 cc0_scratch11.sem g2 q 2 (Xr I L) T ∗ Pg d L gM3 cc0_scratch12.sem g3 q 3 (Xr I L) T) ∗ Pg d L gM1 cc0_scratch10.sem g1 q 1 (Xr I L) T)) (by iintro ⟨⟨HK, H1, H2, H3⟩, H0⟩; iframe HK H1 H2 H3; iexact H0) ?_
    refine gatherI (Fr := iprop(K ∗ Fg d L gM0 cc0_scratch9.sem q 0 (Xr I L) T ∗ Pg d L gM2 cc0_scratch11.sem g2 q 2 (Xr I L) T ∗ Pg d L gM3 cc0_scratch12.sem g3 q 3 (Xr I L) T)) (d := d) (L := L) (gM := gM1) (gs := cc0_scratch10.sem) (qt := ShareLeaves.leaf 2 q 1) (qx := ShareLeaves.leaf 2 fullShare 1) (X := Xr I L) (T := T)
      (g := g1) (n := 1) (off := ![1, 0]) hX (by decide) rfl (hN1 _) ?_
    refine BIBase.Entails.trans (Q := iprop((K ∗ Fg d L gM0 cc0_scratch9.sem q 0 (Xr I L) T ∗ Fg d L gM1 cc0_scratch10.sem q 1 (Xr I L) T ∗ Pg d L gM3 cc0_scratch12.sem g3 q 3 (Xr I L) T) ∗ Pg d L gM2 cc0_scratch11.sem g2 q 2 (Xr I L) T)) (by iintro ⟨⟨HK, H0, H2, H3⟩, H1⟩; iframe HK H0 H2 H3; iexact H1) ?_
    refine gatherI (Fr := iprop(K ∗ Fg d L gM0 cc0_scratch9.sem q 0 (Xr I L) T ∗ Fg d L gM1 cc0_scratch10.sem q 1 (Xr I L) T ∗ Pg d L gM3 cc0_scratch12.sem g3 q 3 (Xr I L) T)) (d := d) (L := L) (gM := gM2) (gs := cc0_scratch11.sem) (qt := ShareLeaves.leaf 2 q 2) (qx := ShareLeaves.leaf 2 fullShare 2) (X := Xr I L) (T := T)
      (g := g2) (n := 2) (off := ![2, 0]) hX (by decide) rfl (hN2 _) ?_
    refine BIBase.Entails.trans (Q := iprop((K ∗ Fg d L gM0 cc0_scratch9.sem q 0 (Xr I L) T ∗ Fg d L gM1 cc0_scratch10.sem q 1 (Xr I L) T ∗ Fg d L gM2 cc0_scratch11.sem q 2 (Xr I L) T) ∗ Pg d L gM3 cc0_scratch12.sem g3 q 3 (Xr I L) T)) (by iintro ⟨⟨HK, H0, H1, H3⟩, H2⟩; iframe HK H0 H1 H3; iexact H2) ?_
    refine gatherI (Fr := iprop(K ∗ Fg d L gM0 cc0_scratch9.sem q 0 (Xr I L) T ∗ Fg d L gM1 cc0_scratch10.sem q 1 (Xr I L) T ∗ Fg d L gM2 cc0_scratch11.sem q 2 (Xr I L) T)) (d := d) (L := L) (gM := gM3) (gs := cc0_scratch12.sem) (qt := ShareLeaves.leaf 2 q 3) (qx := ShareLeaves.leaf 2 fullShare 3) (X := Xr I L) (T := T)
      (g := g3) (n := 3) (off := ![3, 0]) hX (by decide) rfl (hN3 _) ?_
    refine retI (BIBase.Entails.trans ?_ (h _))
    rw [← hK]
    iintro ⟨⟨⟨HIs, HO, ⟨Ho0, Ho1, Ho2, Ho3⟩, ⟨Hp0, Hp1, Hp2, Hp3⟩⟩, H0, H1, H2⟩, H3⟩
    iframe HIs
    unfold Inv
    iframe HO
    isplitl [H0 Ho0 Hp0]
    · iapply begI; iframe H0 Ho0 Hp0
    isplitl [H1 Ho1 Hp1]
    · iapply begI; iframe H1 Ho1 Hp1
    isplitl [H2 Ho2 Hp2]
    · iapply begI; iframe H2 Ho2 Hp2
    iapply begI; iframe Ho3 Hp3; iexact H3

/-- The loop: its body carries the state of one trip to the next. -/
theorem forI {I : ℕ → sProp (MT nD τ sig (HIx 1) (Elt F) ℕ UU ℕ)} {v2 : BitVec 32} {α : Type} {Q : α → sProp (MT nD τ sig (HIx 1) (Elt F) ℕ UU ℕ)}
    {Fr : sProp (MT nD τ sig (HIx 1) (Elt F) ℕ UU ℕ)} {k : PUnit → Prog (TpuEff nD τ sig (Elt F) Λ₀ (thr d L).2) α}
    (hb : ∀ t : Fin k0_t1_loop.trips, I t.val ⊢ wp frame (wpE (defs₀ (F := F)) 𝒱₀ (thr d L) none) Set.univ (trip L v2 t) (fun _ => I (t.val + 1)))
    (h : iprop(Fr ∗ I 32) ⊢ wp frame (wpE (defs₀ (F := F)) 𝒱₀ (thr d L) none) Set.univ (k ⟨⟩) Q) :
    iprop(Fr ∗ I 0) ⊢ wp frame (wpE (defs₀ (F := F)) 𝒱₀ (thr d L) none) Set.univ (Scf.Loop.for k0_t1_loop k0_t1_ok ⟨⟩ (fun t _ => trip L v2 t) >>= k) Q := by
  iintro ⟨HF, HI⟩
  iapply (Scf.wp_for_bind frame (wpE (defs₀ (F := F)) 𝒱₀ (thr d L) none) Set.univ k0_t1_loop.lb k0_t1_loop.ub k0_t1_loop.st k0_t1_ok
    ⟨⟩ (fun t _ => trip L v2 t) (fun t _ => I t) (fun t _ => hb t)) $$ HI
  iintro %a HI
  iapply h
  iframe HF
  iapply (Entails.of_eq (congrArg I (show k0_t1_loop.trips = 32 from cond_loop)))
  iexact HI

/-- The whole body: a tile's index rows and its share of the table in, its rows of the result out. -/
theorem bag_ok (htrip : ∀ (qt qx : Fin 4 → PosShare TreeShare) (X : S128x104.Idx → Elt F .i32) (T : S26000x128.Idx → Elt F .f32) (H : S16384x128.Idx → Elt F .f32), (∀ x, (X x).toNat < 26000) →
    (∀ n < 128, ∀ (y : S4x128.Idx) (z : S16384x128.Idx), (z 0).val = base L + 4 * n + (y 0).val → (z 1).val = (y 1).val → H z = Sc (F := F) (Gc X T n) y) →
    ∀ (v2 : BitVec 32) (t : Fin k0_t1_loop.trips),
    Inv d L qt qx X T H O W t.val ⊢ wp frame (wpE (defs₀ (F := F)) 𝒱₀ (thr d L) none) Set.univ (trip L v2 t) (fun _ => Inv d L qt qx X T H O W (t.val + 1)))
    (qi q : PosShare TreeShare) (I : S32x128x104.Idx → Elt F .i32) (T : S26000x128.Idx → Elt F .f32)
    (hI : ∀ x, (I x).toNat < 26000) (f : S16384x128.Idx → Elt F .f32) :
    iprop(Own (F := F) d L O W ∗ (iM.view.loc (thr d L) ↦{qi} I) ∗ (tM.view.loc (thr d L) ↦{q} T) ∗ (∃ x, xM.view.loc (thr d L) ↦{fullShare} x)
      ∗ Bufs (F := F) d L ∗ Outs d L f)
      ⊢ wp frame (wpE (defs₀ (F := F)) 𝒱₀ (thr d L) none) Set.univ (cc0_bag L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0)
        (fun _ => iprop(Own (F := F) d L O W ∗ (iM.view.loc (thr d L) ↦{qi} I) ∗ (tM.view.loc (thr d L) ↦{q} T) ∗ (∃ x, xM.view.loc (thr d L) ↦{fullShare} x)
          ∗ Bufs (F := F) d L ∗ Outs d L (H1 I T))) := by
  unfold cc0_bag
  refine pro_ok qi q I T (H1 I T) hI f (fun v2 => ?_)
  refine forI (I := fun t => Inv d L (ShareLeaves.leaf 2 q) (ShareLeaves.leaf 2 fullShare) (Xr I L) T (H1 I T) O W t) (v2 := v2)
    (fun t => htrip _ _ _ _ _ (fun x => hI _) (fun n hn y z h0 h1 => H1_chunk I T L n hn y z h0 h1) _ t) ?_
  refine BIBase.Entails.trans (Q := iprop((((iM.view.loc (thr d L) ↦{qi} I) ∗ semVal (thr d L, SemLoc.dma cc0_scoped0.sem) 0) ∗ Ib d L gM1 bM1 cc0_scratch10.sem cc0_scratch14.sem 1 (ShareLeaves.leaf 2 q 1) (ShareLeaves.leaf 2 fullShare 1) (Xr I L) T (H1 I T) 32 ∗ Ib d L gM2 bM2 cc0_scratch11.sem cc0_scratch15.sem 2 (ShareLeaves.leaf 2 q 2) (ShareLeaves.leaf 2 fullShare 2) (Xr I L) T (H1 I T) 32 ∗ Ib d L gM3 bM3 cc0_scratch12.sem cc0_scratch16.sem 3 (ShareLeaves.leaf 2 q 3) (ShareLeaves.leaf 2 fullShare 3) (Xr I L) T (H1 I T) 32) ∗ Own (F := F) d L O W ∗ Ib d L gM0 bM0 cc0_scratch9.sem cc0_scratch13.sem 0 (ShareLeaves.leaf 2 q 0) (ShareLeaves.leaf 2 fullShare 0) (Xr I L) T (H1 I T) 32)) ?_ ?_
  · unfold Inv
    iintro ⟨HF, HO, H0, H1, H2, H3⟩; iframe HF HO H0 H1 H2 H3
  refine endI (gM := gM0) (bM := bM0) (gs := cc0_scratch9.sem) (os := cc0_scratch13.sem) (b := 0) (qt := ShareLeaves.leaf 2 q 0) (qx := ShareLeaves.leaf 2 fullShare 0) (X := Xr I L) (T := T) (H := H1 I T) rfl ?_
  refine BIBase.Entails.trans (Q := iprop((((iM.view.loc (thr d L) ↦{qi} I) ∗ semVal (thr d L, SemLoc.dma cc0_scoped0.sem) 0) ∗ (Buf1 (F := F) d L gM0 bM0 cc0_scratch9.sem cc0_scratch13.sem ∗ Shr d L (ShareLeaves.leaf 2 q 0) (ShareLeaves.leaf 2 fullShare 0) (Xr I L) T ∗ oPart d L (rset L 0 0 32) (H1 I T)) ∗ Ib d L gM2 bM2 cc0_scratch11.sem cc0_scratch15.sem 2 (ShareLeaves.leaf 2 q 2) (ShareLeaves.leaf 2 fullShare 2) (Xr I L) T (H1 I T) 32 ∗ Ib d L gM3 bM3 cc0_scratch12.sem cc0_scratch16.sem 3 (ShareLeaves.leaf 2 q 3) (ShareLeaves.leaf 2 fullShare 3) (Xr I L) T (H1 I T) 32) ∗ Own (F := F) d L O W ∗ Ib d L gM1 bM1 cc0_scratch10.sem cc0_scratch14.sem 1 (ShareLeaves.leaf 2 q 1) (ShareLeaves.leaf 2 fullShare 1) (Xr I L) T (H1 I T) 32)) (by iintro ⟨⟨⟨HF, H1, H2, H3⟩, H0⟩, HO⟩; iframe HF HO H0 H1 H2 H3) ?_
  refine endI (gM := gM1) (bM := bM1) (gs := cc0_scratch10.sem) (os := cc0_scratch14.sem) (b := 1) (qt := ShareLeaves.leaf 2 q 1) (qx := ShareLeaves.leaf 2 fullShare 1) (X := Xr I L) (T := T) (H := H1 I T) rfl ?_
  refine BIBase.Entails.trans (Q := iprop((((iM.view.loc (thr d L) ↦{qi} I) ∗ semVal (thr d L, SemLoc.dma cc0_scoped0.sem) 0) ∗ (Buf1 (F := F) d L gM0 bM0 cc0_scratch9.sem cc0_scratch13.sem ∗ Shr d L (ShareLeaves.leaf 2 q 0) (ShareLeaves.leaf 2 fullShare 0) (Xr I L) T ∗ oPart d L (rset L 0 0 32) (H1 I T)) ∗ (Buf1 (F := F) d L gM1 bM1 cc0_scratch10.sem cc0_scratch14.sem ∗ Shr d L (ShareLeaves.leaf 2 q 1) (ShareLeaves.leaf 2 fullShare 1) (Xr I L) T ∗ oPart d L (rset L 1 0 32) (H1 I T)) ∗ Ib d L gM3 bM3 cc0_scratch12.sem cc0_scratch16.sem 3 (ShareLeaves.leaf 2 q 3) (ShareLeaves.leaf 2 fullShare 3) (Xr I L) T (H1 I T) 32) ∗ Own (F := F) d L O W ∗ Ib d L gM2 bM2 cc0_scratch11.sem cc0_scratch15.sem 2 (ShareLeaves.leaf 2 q 2) (ShareLeaves.leaf 2 fullShare 2) (Xr I L) T (H1 I T) 32)) (by iintro ⟨⟨⟨HF, H0, H2, H3⟩, H1⟩, HO⟩; iframe HF HO H0 H1 H2 H3) ?_
  refine endI (gM := gM2) (bM := bM2) (gs := cc0_scratch11.sem) (os := cc0_scratch15.sem) (b := 2) (qt := ShareLeaves.leaf 2 q 2) (qx := ShareLeaves.leaf 2 fullShare 2) (X := Xr I L) (T := T) (H := H1 I T) rfl ?_
  refine BIBase.Entails.trans (Q := iprop((((iM.view.loc (thr d L) ↦{qi} I) ∗ semVal (thr d L, SemLoc.dma cc0_scoped0.sem) 0) ∗ (Buf1 (F := F) d L gM0 bM0 cc0_scratch9.sem cc0_scratch13.sem ∗ Shr d L (ShareLeaves.leaf 2 q 0) (ShareLeaves.leaf 2 fullShare 0) (Xr I L) T ∗ oPart d L (rset L 0 0 32) (H1 I T)) ∗ (Buf1 (F := F) d L gM1 bM1 cc0_scratch10.sem cc0_scratch14.sem ∗ Shr d L (ShareLeaves.leaf 2 q 1) (ShareLeaves.leaf 2 fullShare 1) (Xr I L) T ∗ oPart d L (rset L 1 0 32) (H1 I T)) ∗ (Buf1 (F := F) d L gM2 bM2 cc0_scratch11.sem cc0_scratch15.sem ∗ Shr d L (ShareLeaves.leaf 2 q 2) (ShareLeaves.leaf 2 fullShare 2) (Xr I L) T ∗ oPart d L (rset L 2 0 32) (H1 I T))) ∗ Own (F := F) d L O W ∗ Ib d L gM3 bM3 cc0_scratch12.sem cc0_scratch16.sem 3 (ShareLeaves.leaf 2 q 3) (ShareLeaves.leaf 2 fullShare 3) (Xr I L) T (H1 I T) 32)) (by iintro ⟨⟨⟨HF, H0, H1, H3⟩, H2⟩, HO⟩; iframe HF HO H0 H1 H2 H3) ?_
  refine endI (gM := gM3) (bM := bM3) (gs := cc0_scratch12.sem) (os := cc0_scratch16.sem) (b := 3) (qt := ShareLeaves.leaf 2 q 3) (qx := ShareLeaves.leaf 2 fullShare 3) (X := Xr I L) (T := T) (H := H1 I T) rfl ?_
  refine retI ?_
  iintro ⟨⟨⟨⟨HI, Hs⟩, ⟨B0, ⟨T0, X0⟩, P0⟩, ⟨B1, ⟨T1, X1⟩, P1⟩, ⟨B2, ⟨T2, X2⟩, P2⟩⟩, B3, ⟨T3, X3⟩, P3⟩, HO⟩
  iframe HO HI Hs B0 B1 B2 B3 P0 P1 P2 P3
  isplitl [T0 T1 T2 T3]
  · iapply (four (F := F) q T).2; iframe T0 T1 T2 T3
  iexists (Xr I L)
  iapply (four (F := F) fullShare (Xr I L)).2; iframe X0 X1 X2 X3

end Cert.BagProof

end
-- ==== Proof.Bag.Tiles.lean ====
/-
  What each tile is given, and its obligation.
-/
module

public import proofs.«01_k».proof.Proof.Bag.Tile

@[expose] public section

noncomputable section

namespace Cert.BagProof

open Cert.BagIdeal Cert.BagIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The index rows, the table and the result, as the launch memory holds them. -/
abbrev iLoc (d : Dev nD) : Loc nD τ sig := (SparseCore.T d).loc main_v6
abbrev tLoc (d : Dev nD) : Loc nD τ sig := (SparseCore.T d).loc main_v7
abbrev oLoc (d : Dev nD) : Loc nD τ sig := (SparseCore.T d).loc main_v8

/-- The share of the index rows and of the table that tile `i` of SparseCore `c` reads. -/
abbrev tshare (q : PosShare TreeShare) (c : Fin 2) (i : Fin 16) : PosShare TreeShare := ShareLeaves.leaf 4 (ShareLeaves.leaf 1 q c) i

/-- The result rows of tile `i` of SparseCore `c`, -/
def oset (c : Fin 2) (i : Fin 16) : Finset S16384x128.Idx := Finset.univ.filter fun x => (x 0).val / 512 = 2 * i.val + c.val
/-- and those of all the SparseCore's tiles. -/
def cset (c : Fin 2) : Finset S16384x128.Idx := Finset.univ.filter fun x => (x 0).val / 512 % 2 = c.val

/-- What a tile is given. -/
abbrev GoT (d : Dev nD) (c : Fin 2) (i : Fin 16) : sProp 𝕄 :=
  iprop((∃ I : Buf (Elt F) (iLoc d), ⌜∀ x : S32x128x104.Idx, (I x : BitVec 32).toNat < 26000⌝ ∗ (iLoc d ↦{tshare fullShare.right c i} I)) ∗ (∃ T : Buf (Elt F) (tLoc d), tLoc d ↦{tshare fullShare.right c i} T)
    ∗ ∃ f : Buf (Elt F) (oLoc d), oLoc d ↦[oset c i]{fullShare} f)

/-- What a tile gives back: its rows are the sums of the table rows that the index rows name. -/
abbrev TdT (d : Dev nD) (c : Fin 2) (i : Fin 16) : sProp 𝕄 :=
  iprop(∃ (I : Buf (Elt F) (iLoc d)) (T : Buf (Elt F) (tLoc d)), (iLoc d ↦{tshare fullShare.right c i} I) ∗ (tLoc d ↦{tshare fullShare.right c i} T)
    ∗ (oLoc d ↦[oset c i]{fullShare} (H1 (F := F) I T : Buf (Elt F) (oLoc d))))

/-- What a SparseCore is given: its tiles' parts, -/
abbrev GoC (d : Dev nD) (c : Fin 2) : sProp 𝕄 := bigSep Finset.univ fun i : Fin 16 => GoT (F := F) d c i
/-- and what it gives back. -/
abbrev TdC (d : Dev nD) (c : Fin 2) : sProp 𝕄 := bigSep Finset.univ fun i : Fin 16 => TdT (F := F) d c i

/-- What the handshakes carry. -/
def P : (K (F := F)).Pay (nD := nD) (Val := Elt F) (Name := ℕ) (U := UU) where
  st := fun q d c => match q with | 0 => GoC (F := F) d (Fin.cast nCore_zero c)
  dn := fun q d c => match q with | 0 => TdC (F := F) d (Fin.cast nCore_zero c)
  go := fun q d c i => match q with | 0 => GoT (F := F) d (Fin.cast nCore_zero c) (Fin.cast nSub_zero i)
  td := fun q d c i => match q with | 0 => TdT (F := F) d (Fin.cast nCore_zero c) (Fin.cast nSub_zero i)
  x := fun _ _ => iprop(emp)

instance P_storable : (P (F := F)).IsStorable where
  st q d c := match q with | 0 => (inferInstance : BI.Storable (upEmb : UEmb _ 𝕄) (GoC (F := F) d (Fin.cast nCore_zero c)))
  dn q d c := match q with | 0 => (inferInstance : BI.Storable (upEmb : UEmb _ 𝕄) (TdC (F := F) d (Fin.cast nCore_zero c)))
  go q d c i := match q with | 0 => (inferInstance : BI.Storable (upEmb : UEmb _ 𝕄) (GoT (F := F) d (Fin.cast nCore_zero c) (Fin.cast nSub_zero i)))
  td q d c i := match q with | 0 => (inferInstance : BI.Storable (upEmb : UEmb _ 𝕄) (TdT (F := F) d (Fin.cast nCore_zero c) (Fin.cast nSub_zero i)))

/-- A SparseCore's share is its tiles' shares. -/
theorem vecSplit : (K (F := F)).VecSplit' (P (F := F)) 0 := by
  intro d c
  show GoC (F := F) d (Fin.cast nCore_zero c) ⊢ |={Set.univ}=> iprop(GoC (F := F) d (Fin.cast nCore_zero c) ∗ (TdC (F := F) d (Fin.cast nCore_zero c) -∗ TdC (F := F) d (Fin.cast nCore_zero c)))
  iintro H; imodintro
  isplitl [H]; · iexact H
  iintro H; iexact H

/-- The tile of a SparseCore's number and a tile's. -/
def coordsV (c : Fin (grid0.bound 0)) (s : Fin (grid0.bound 1)) : grid0.Coords :=
  fun | 0 => c | 1 => s | ⟨_ + 2, h⟩ => absurd h (Nat.not_lt.2 (Nat.le_add_left _ _))

/-- The SparseCore's number and the tile's of a tile. -/
abbrev cL (L : grid0.Coords) : Fin 2 := Fin.cast (show grid0.bound 0 = 2 from rfl) (L 0)
abbrev iL (L : grid0.Coords) : Fin 16 := Fin.cast (show grid0.bound 1 = 16 from rfl) (L 1)

omit [FloatOps F] in
/-- A tile's rows are its four buffers' rows. -/
theorem outs_eq (d : Dev nD) (L : grid0.Coords) (f : S16384x128.Idx → Elt F .f32) :
    (oLoc d ↦[oset (cL L) (iL L)]{fullShare} f : sProp 𝕄) ⊣⊢ Outs (F := F) d L f := by
  have hL0 : (L 0).val < 2 := (L 0).isLt
  have hL1 : (L 1).val < 16 := (L 1).isLt
  have hu : oset (cL L) (iL L) = rset L 0 0 32 ∪ (rset L 1 0 32 ∪ (rset L 2 0 32 ∪ rset L 3 0 32)) := by
    ext x
    have hx : (x 0).val < 16384 := (x 0).isLt
    have h : x ∈ oset (cL L) (iL L) ↔ (x 0).val / 512 = wid L := Finset.mem_filter.trans (and_iff_right (Finset.mem_univ _))
    rw [h]
    have hb : base L = 512 * wid L := rfl
    simp only [rset, Finset.mem_union, Finset.mem_filter, Finset.mem_univ, _root_.true_and]
    rw [hb]
    generalize wid L = w
    generalize (x 0).val = y
    omega
  have hd : ∀ a b : ℕ, a ≠ b → Disjoint (rset L a 0 32) (rset L b 0 32) := by
    intro a b hab
    rw [Finset.disjoint_left]; intro x; simp only [rset, Finset.mem_filter, Finset.mem_univ, _root_.true_and]; omega
  rw [hu]
  have e1 := pointsTo_union (nD := nD) (τ := τ) (sig := sig) (Ix := HIx 1) (Val := Elt F) (Name := ℕ) (U := UU) (Lvl := ℕ) (ℓ := oLoc d) (q := fullShare) (f := f) (hd 2 3 (by decide))
  have e2 := pointsTo_union (nD := nD) (τ := τ) (sig := sig) (Ix := HIx 1) (Val := Elt F) (Name := ℕ) (U := UU) (Lvl := ℕ) (ℓ := oLoc d) (q := fullShare) (f := f)
    (show Disjoint (rset L 1 0 32) (rset L 2 0 32 ∪ rset L 3 0 32) from Finset.disjoint_union_right.mpr ⟨hd 1 2 (by decide), hd 1 3 (by decide)⟩)
  have e3 := pointsTo_union (nD := nD) (τ := τ) (sig := sig) (Ix := HIx 1) (Val := Elt F) (Name := ℕ) (U := UU) (Lvl := ℕ) (ℓ := oLoc d) (q := fullShare) (f := f)
    (show Disjoint (rset L 0 0 32) (rset L 1 0 32 ∪ (rset L 2 0 32 ∪ rset L 3 0 32)) from
      Finset.disjoint_union_right.mpr ⟨hd 0 1 (by decide), Finset.disjoint_union_right.mpr ⟨hd 0 2 (by decide), hd 0 3 (by decide)⟩⟩)
  constructor
  · iintro H
    ihave H := e3.1 $$ H; icases H with ⟨H0, H⟩
    ihave H := e2.1 $$ H; icases H with ⟨H1, H⟩
    ihave H := e1.1 $$ H; icases H with ⟨H2, H3⟩
    isplitl [H0]; · iexact H0
    isplitl [H1]; · iexact H1
    isplitl [H2]; · iexact H2
    iexact H3
  · iintro ⟨H0, H1, H2, H3⟩
    iapply e3.2; isplitl [H0]; · iexact H0
    iapply e2.2; isplitl [H1]; · iexact H1
    iapply e1.2; isplitl [H2]; · iexact H2
    iexact H3

/-- Some members of a family, one by one, and the others. -/
theorem take_list {I : Type} [DecidableEq I] (Φ : I → sProp 𝕄) : ∀ (l : List I) (S : Finset I), l.Nodup → (∀ a ∈ l, a ∈ S) →
    bigSep S Φ = l.foldr (fun a R => iprop(Φ a ∗ R)) (bigSep (l.foldl Finset.erase S) Φ)
  | [], S, _, _ => rfl
  | a :: l, S, hn, hm => by
    have hn' := List.nodup_cons.mp hn
    rw [SparseCore.bigSep_erase' (hm a (List.mem_cons_self ..)), take_list Φ l (S.erase a) hn'.2 (fun b hb =>
      Finset.mem_erase.mpr ⟨fun e => hn'.1 (e ▸ hb), hm b (List.mem_cons_of_mem _ hb)⟩)]
    rfl

/-- The semaphores and the buffers of a tile's body. -/
abbrev tsems : List (DmaSem sig) := [cc0_scoped0.sem, cc0_scratch9.sem, cc0_scratch10.sem, cc0_scratch11.sem, cc0_scratch12.sem, cc0_scratch13.sem, cc0_scratch14.sem, cc0_scratch15.sem, cc0_scratch16.sem]
abbrev tbufs : List (Ref sig .scVector) := [cc0_scratch0, cc0_scratch1, cc0_scratch2, cc0_scratch3, cc0_scratch4, cc0_scratch5, cc0_scratch6, cc0_scratch7, cc0_scratch8]

theorem tsems_scoped : ∀ s ∈ tsems, (SemLoc.dma s : SemLoc sig).isScoped .scVector = true := by decide
theorem tsems_nodup : tsems.Nodup := by decide
theorem tbufs_nodup : tbufs.Nodup := by decide

/-- A tile's semaphores, those of its body apart. -/
theorem ownSems0_V (d : Dev nD) (L : grid0.Coords) : ∃ R : sProp 𝕄, (ownSems0 (thr d L) : sProp 𝕄)
    = (tsems.map fun s => ((thr d L, SemLoc.dma s) : GSem nD τ sig)).foldr (fun a R => iprop(semVal a 0 ∗ R)) R := by
  refine ⟨_, take_list (F := F) (fun g => semVal g 0) _ (ownCells (thr d L)) ?_ ?_⟩
  · exact tsems_nodup.map (fun a b e => by have := congrArg Prod.snd e; exact SemLoc.dma.inj this)
  · intro a ha
    obtain ⟨s, hs, rfl⟩ := List.mem_map.mp ha
    exact mem_ownCells.mpr ⟨rfl, tsems_scoped s hs⟩

/-- A tile's buffers, those of its body apart. -/
theorem ownBufs_V (d : Dev nD) (L : grid0.Coords) : ∃ R : sProp 𝕄, (ownBufs (thr d L) : sProp 𝕄)
    = (tbufs.map fun r => (Proc.scVector (cV L) (jV L)).devRef r).foldr (fun b R => iprop((∃ f, ((d, b) : Loc nD τ sig) ↦{fullShare} f) ∗ R)) R := by
  refine ⟨_, take_list (F := F) (fun b => iprop(∃ f, ((d, b) : Loc nD τ sig) ↦{fullShare} f)) _ (ownRefs (τ := τ) (.scVector (cV L) (jV L))) ?_ ?_⟩
  · exact tbufs_nodup.map (Proc.devRef_injective _)
  · intro a ha
    obtain ⟨r, hr, rfl⟩ := List.mem_map.mp ha
    simp only [tbufs, List.mem_cons, List.not_mem_nil, or_false] at hr
    rcases hr with rfl | rfl | rfl | rfl | rfl | rfl | rfl | rfl | rfl <;> exact SparseCore.Cfg.mem_ownRefs_of_owner rfl

/-- A tile's run: what it is given, and its own buffers and semaphores, come back. -/
theorem tile_body (d : Dev nD) (L : grid0.Coords) (hF : (K (F := F)).Facts) (O : CellTallies nD τ sig (HIx 1)) (W : Waits sig (HIx 1)) (hO : ∀ g, O g none = 0)
    (htrip : ∀ (qt qx : Fin 4 → PosShare TreeShare) (X : S128x104.Idx → Elt F .i32) (T : S26000x128.Idx → Elt F .f32) (H : S16384x128.Idx → Elt F .f32), (∀ x, (X x).toNat < 26000) →
    (∀ n < 128, ∀ (y : S4x128.Idx) (z : S16384x128.Idx), (z 0).val = base L + 4 * n + (y 0).val → (z 1).val = (y 1).val → H z = Sc (F := F) (Gc X T n) y) →
    ∀ (v2 : BitVec 32) (t : Fin k0_t1_loop.trips),
    Inv d L qt qx X T H O W t.val ⊢ wp frame (wpE (defs₀ (F := F)) 𝒱₀ (thr d L) none) Set.univ (trip L v2 t) (fun _ => Inv d L qt qx X T H O W (t.val + 1))) :
    iprop(levAts (K (F := F)).L (K (F := F)).lev ∗ emp ∗ GoT (F := F) d (cL L) (iL L)
        ∗ scopedBufs (thr d L) ∗ scopedSems0 (thr d L) ∗ owes (thr d L) O W)
      ⊢ wp frame (wpE (defs₀ (F := F)) 𝒱₀ (thr d L) none) Set.univ (cc0_bag L iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0)
          fun _ => iprop(TdT (F := F) d (cL L) (iL L) ∗ scopedBufs (thr d L) ∗ scopedSems0 (thr d L)
            ∗ ∃ W', ⌜∀ p ∈ W', p ∈ W ∨ p.2 = none⌝ ∗ owes (thr d L) O W') := by
  obtain ⟨RS, hS⟩ := ownSems0_V (F := F) d L
  obtain ⟨RB, hB⟩ := ownBufs_V (F := F) d L
  simp only [tsems, tbufs, List.map_cons, List.map_nil, List.foldr_cons, List.foldr_nil] at hS hB
  rw [(K (F := F)).scopedBufs_V hF d (cV L) (jV L), SparseCore.Cfg.scopedSems0_V (Val := Elt F) d (cV L) (jV L), hS, hB]
  iintro ⟨#Hlv, -, ⟨⟨%I, %hI, HI⟩, ⟨%T, HT⟩, %f, Hf⟩, ⟨HX, Hg0, Hg1, Hg2, Hg3, Hb0, Hb1, Hb2, Hb3, Hbufs⟩, ⟨S0, G0, G1, G2, G3, O0, O1, O2, O3, Hsems⟩, HO⟩
  ihave Hmw := (show levAts (K (F := F)).L (K (F := F)).lev ⊢ Transfers.MayWaits (thr d L) (default : HIx 1) O from
    (K (F := F)).mayWaits_none (thr := thr d L) hO) $$ Hlv
  ihave Hf := (outs_eq d L f).1 $$ Hf
  have hbag := bag_ok (F := F) (d := d) (L := L) (O := O) (W := W) htrip (tshare fullShare.right (cL L) (iL L)) (tshare fullShare.right (cL L) (iL L)) I T hI f
  ihave Hw := hbag $$ [HI HT HX Hg0 Hg1 Hg2 Hg3 Hb0 Hb1 Hb2 Hb3 S0 G0 G1 G2 G3 O0 O1 O2 O3 HO Hmw Hf]
  · isplitl [HO Hmw]
    · isplitl [Hmw]; · iexact Hmw
      iexists W; isplitr
      · ipureintro; exact fun p hp => Or.inl hp
      iexact HO
    isplitl [HI]; · iexact HI
    isplitl [HT]; · iexact HT
    isplitl [HX]; · iexact HX
    isplitr [Hf]
    · isplitl [S0]; · iexact S0
      isplitl [Hg0 G0 O0 Hb0]
      · isplitl [Hg0]; · iexact Hg0
        isplitl [G0]; · iexact G0
        isplitl [Hb0]; · iexact Hb0
        iexact O0
      isplitl [Hg1 G1 O1 Hb1]
      · isplitl [Hg1]; · iexact Hg1
        isplitl [G1]; · iexact G1
        isplitl [Hb1]; · iexact Hb1
        iexact O1
      isplitl [Hg2 G2 O2 Hb2]
      · isplitl [Hg2]; · iexact Hg2
        isplitl [G2]; · iexact G2
        isplitl [Hb2]; · iexact Hb2
        iexact O2
      isplitl [Hg3]; · iexact Hg3
      isplitl [G3]; · iexact G3
      isplitl [Hb3]; · iexact Hb3
      iexact O3
    iexact Hf
  iapply (wp_wand_r frame (wpE (defs₀ (F := F)) 𝒱₀ (thr d L) none) Set.univ)
  isplitl [Hw]; · iexact Hw
  iintro %_ ⟨⟨-, HO⟩, HI, HT, HX, ⟨S0, ⟨Hg0, G0, Hb0, O0⟩, ⟨Hg1, G1, Hb1, O1⟩, ⟨Hg2, G2, Hb2, O2⟩, ⟨Hg3, G3, Hb3, O3⟩⟩, Hf⟩
  ihave Hf := (outs_eq d L (H1 I T)).2 $$ Hf
  isplitl [HI HT Hf]
  · iexists I; iexists T
    isplitl [HI]; · iexact HI
    isplitl [HT]; · iexact HT
    iexact Hf
  isplitl [HX Hg0 Hg1 Hg2 Hg3 Hb0 Hb1 Hb2 Hb3 Hbufs]
  · isplitl [HX]; · iexact HX
    isplitl [Hg0]; · iexact Hg0
    isplitl [Hg1]; · iexact Hg1
    isplitl [Hg2]; · iexact Hg2
    isplitl [Hg3]; · iexact Hg3
    isplitl [Hb0]; · iexact Hb0
    isplitl [Hb1]; · iexact Hb1
    isplitl [Hb2]; · iexact Hb2
    isplitl [Hb3]; · iexact Hb3
    iexact Hbufs
  isplitl [S0 G0 G1 G2 G3 O0 O1 O2 O3 Hsems]
  · isplitl [S0]; · iexact S0
    isplitl [G0]; · iexact G0
    isplitl [G1]; · iexact G1
    isplitl [G2]; · iexact G2
    isplitl [G3]; · iexact G3
    isplitl [O0]; · iexact O0
    isplitl [O1]; · iexact O1
    isplitl [O2]; · iexact O2
    isplitl [O3]; · iexact O3
    iexact Hsems
  iexact HO

/-- The SparseCore kernel on a tile is the body. -/
theorem defs₀_vector (c : Fin τ.nSC) (s : Fin τ.nSub) :
    defs₀ (F := F) (.scVector c s) 0 () = SparseCore.onTile hcore0 hsub0 (fun c s => cc0_bag (coordsV c s) iM (Memref.isWhole_whole _) tM (Memref.isWhole_whole _) oM (Memref.isWhole_whole _) xM (Memref.isWhole_whole _) gM0 (Memref.isWhole_whole _) gM1 (Memref.isWhole_whole _) gM2 (Memref.isWhole_whole _) gM3 (Memref.isWhole_whole _) bM0 (Memref.isWhole_whole _) bM1 (Memref.isWhole_whole _) bM2 (Memref.isWhole_whole _) bM3 (Memref.isWhole_whole _) cc0_scratch9 cc0_scratch10 cc0_scratch11 cc0_scratch12 cc0_scratch13 cc0_scratch14 cc0_scratch15 cc0_scratch16 cc0_scoped0) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  iframe HA HB HC
  iexists W'; isplitr
  · ipureintro; exact fun p hp => (hW' p hp).imp_right Or.inl
  · iexact HO

set_option maxRecDepth 16384 in
/-- Every tile meets what the launch asks of it. -/
theorem tileObl (hF : (K (F := F)).Facts) (htrip : ∀ (d : Dev nD) (L : grid0.Coords) (O : CellTallies nD τ sig (HIx 1)) (W : Waits sig (HIx 1)) (qt qx : Fin 4 → PosShare TreeShare) (X : S128x104.Idx → Elt F .i32) (T : S26000x128.Idx → Elt F .f32) (H : S16384x128.Idx → Elt F .f32), (∀ x, (X x).toNat < 26000) →
    (∀ n < 128, ∀ (y : S4x128.Idx) (z : S16384x128.Idx), (z 0).val = base L + 4 * n + (y 0).val → (z 1).val = (y 1).val → H z = Sc (F := F) (Gc X T n) y) →
    ∀ (v2 : BitVec 32) (t : Fin k0_t1_loop.trips),
    Inv d L qt qx X T H O W t.val ⊢ wp frame (wpE (defs₀ (F := F)) 𝒱₀ (thr d L) none) Set.univ (trip L v2 t) (fun _ => Inv d L qt qx X T H O W (t.val + 1))) :
    (K (F := F)).TileObl (D (F := F)) 𝒱 (P (F := F)) v₀ 0 := by
  intro d c i O W hO _ _
  simp only [show (P (F := F)).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF O W hO (htrip _ _ _ _)).trans (wp_mono frame _ _ fun _ => obl_post)

end Cert.BagProof

end
-- ==== Proof.Bag.Deal.lean ====
/-
  The SparseCore call's buffers, dealt to the tiles and collected.
-/
module

public import proofs.«01_k».proof.Proof.Bag.Tiles

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Something kept beside a family helps to change each member. -/
theorem beside {J : Type} [DecidableEq J] (A : sProp 𝕄) (B C : J → sProp 𝕄) (h : ∀ t, iprop(A ∗ B t) ⊢ iprop(A ∗ C t)) (S : Finset J) :
    iprop(A ∗ bigSep S B) ⊢ iprop(A ∗ bigSep S C) := by
  induction S using Finset.induction_on with
  | empty => exact .rfl
  | insert t S ht ih =>
    rw [SparseCore.bigSep_insert' ht, SparseCore.bigSep_insert' ht]
    iintro ⟨HA, HB, HS⟩
    ihave H := (h t) $$ [HA HB]
    · isplitl [HA]; · iexact HA
      iexact HB
    icases H with ⟨HA, HC⟩
    ihave H := ih $$ [HA HS]
    · isplitl [HA]; · iexact HA
      iexact HS
    icases H with ⟨HA, HS⟩
    isplitl [HA]; · iexact HA
    isplitl [HC]; · iexact HC
    iexact HS

/-- A whole buffer: half of it, and the tiles' shares of the other half. -/
theorem shares (ℓ : Loc nD τ sig) (f : Buf (Elt F) ℓ) :
    (ℓ ↦{fullShare} f : sProp 𝕄) = iprop((ℓ ↦{fullShare.left} f)
      ∗ bigSep Finset.univ fun c : Fin 2 => bigSep Finset.univ fun i : Fin 16 => (ℓ ↦{tshare fullShare.right c i} f : sProp 𝕄)) := by
  rw [Entails.antisymm (pointsTo_share (PosShare.mem_left_op_right fullShare)).1 (pointsTo_share (PosShare.mem_left_op_right fullShare)).2]
  congr 1
  refine (ShareLeaves.pointsTo_leaves Finset.univ f 1 fullShare.right).trans ?_
  exact bigSep_congr fun c _ => ShareLeaves.pointsTo_leaves Finset.univ f 4 _

theorem mem_oset {c : Fin 2} {i : Fin 16} {x : S16384x128.Idx} : x ∈ oset c i ↔ (x 0).val / 512 = 2 * i.val + c.val :=
  Finset.mem_filter.trans (and_iff_right (Finset.mem_univ _))

/-- The tiles of a SparseCore have distinct rows, -/
theorem oset_disj (c : Fin 2) : ∀ t ∈ (Finset.univ : Finset (Fin 16)), ∀ t' ∈ (Finset.univ : Finset (Fin 16)), t ≠ t' → Disjoint (oset c t) (oset c t') := by
  intro t _ t' _ hne
  refine Finset.disjoint_left.mpr fun x h h' => hne (Fin.ext ?_)
  have := mem_oset.mp h
  have := mem_oset.mp h'
  omega

/-- the SparseCores' rows are distinct, -/
theorem cores_disj : ∀ c ∈ (Finset.univ : Finset (Fin 2)), ∀ c' ∈ (Finset.univ : Finset (Fin 2)), c ≠ c' →
    Disjoint (Finset.univ.biUnion (oset c)) (Finset.univ.biUnion (oset c')) := by
  intro c _ c' _ hne
  refine Finset.disjoint_left.mpr fun x h h' => hne (Fin.ext ?_)
  obtain ⟨i, -, hi⟩ := Finset.mem_biUnion.mp h
  obtain ⟨i', -, hi'⟩ := Finset.mem_biUnion.mp h'
  have := mem_oset.mp hi
  have := mem_oset.mp hi'
  omega

/-- and together they are all the rows. -/
theorem rows_all : (Finset.univ : Finset S16384x128.Idx) = Finset.univ.biUnion fun c : Fin 2 => Finset.univ.biUnion (oset c) := by
  ext x
  have hx : (x 0).val < 16384 := (x 0).isLt
  refine ⟨fun _ => ?_, fun _ => Finset.mem_univ _⟩
  refine Finset.mem_biUnion.mpr ⟨⟨(x 0).val / 512 % 2, by omega⟩, Finset.mem_univ _, Finset.mem_biUnion.mpr ⟨⟨(x 0).val / 512 / 2, by omega⟩, Finset.mem_univ _, mem_oset.mpr ?_⟩⟩
  show (x 0).val / 512 = 2 * ((x 0).val / 512 / 2) + (x 0).val / 512 % 2
  omega

/-- The result, whole, is its tiles' rows. -/
theorem rows (d : Dev nD) (f : Buf (Elt F) (oLoc d)) :
    (oLoc d ↦{fullShare} f : sProp 𝕄) = bigSep Finset.univ fun c : Fin 2 => bigSep Finset.univ fun i : Fin 16 => (oLoc d ↦[oset c i]{fullShare} f : sProp 𝕄) := by
  have h := pointsTo_biUnion (Ix := HIx 1) (Name := ℕ) (U := UU) (Lvl := ℕ) (ℓ := oLoc d) (q := fullShare) (f := f) (Finset.univ : Finset (Fin 2)) (fun c => Finset.univ.biUnion (oset c)) cores_disj
  rw [← rows_all] at h
  exact h.trans (bigSep_congr fun c _ => pointsTo_biUnion (ℓ := oLoc d) Finset.univ (oset c) (oset_disj c))

/-- A family's members changed one by one. -/
theorem each (X Y : Fin 2 → Fin 16 → sProp 𝕄) (h : ∀ c i, X c i ⊢ Y c i) :
    (bigSep Finset.univ fun c => bigSep Finset.univ fun i => X c i) ⊢ bigSep Finset.univ fun c => bigSep Finset.univ fun i => Y c i :=
  bigSep_mono fun c _ => bigSep_mono fun i _ => h c i

/-- Three families at once. -/
theorem three (X Y Z : Fin 2 → Fin 16 → sProp 𝕄) :
    (bigSep Finset.univ fun c => bigSep Finset.univ fun i => iprop(X c i ∗ Y c i ∗ Z c i))
      = iprop((bigSep Finset.univ fun c => bigSep Finset.univ fun i => X c i) ∗ (bigSep Finset.univ fun c => bigSep Finset.univ fun i => Y c i)
        ∗ (bigSep Finset.univ fun c => bigSep Finset.univ fun i => Z c i)) := by
  simp only [bigSep_sep']

/-- The call's buffers, dealt to the tiles: half of the index rows and of the table is kept. -/
theorem deal (d : Dev nD) (I : Buf (Elt F) (iLoc d)) (T : Buf (Elt F) (tLoc d)) (f : Buf (Elt F) (oLoc d))
    (hI : ∀ x : S32x128x104.Idx, (I x : BitVec 32).toNat < 26000) :
    (iprop((iLoc d ↦{fullShare} I) ∗ (tLoc d ↦{fullShare} T) ∗ (oLoc d ↦{fullShare} f)) : sProp 𝕄)
      ⊢ iprop((iLoc d ↦{fullShare.left} I) ∗ (tLoc d ↦{fullShare.left} T) ∗ bigSep Finset.univ fun c : Fin 2 => GoC (F := F) d c) := by
  rw [shares (iLoc d) I, shares (tLoc d) T, rows d f, three]
  have h1 : ∀ (c : Fin 2) (i : Fin 16), (iLoc d ↦{tshare fullShare.right c i} I : sProp 𝕄)
      ⊢ iprop(∃ I : Buf (Elt F) (iLoc d), ⌜∀ x : S32x128x104.Idx, (I x : BitVec 32).toNat < 26000⌝ ∗ (iLoc d ↦{tshare fullShare.right c i} I)) := by
    intro c i
    iintro H; iexists I; isplitr; · ipureintro; exact hI
    iexact H
  have h2 : ∀ (c : Fin 2) (i : Fin 16), (tLoc d ↦{tshare fullShare.right c i} T : sProp 𝕄)
      ⊢ iprop(∃ T : Buf (Elt F) (tLoc d), tLoc d ↦{tshare fullShare.right c i} T) := by
    intro c i
    iintro H; iexists T; iexact H
  have h3 : ∀ (c : Fin 2) (i : Fin 16), (oLoc d ↦[oset c i]{fullShare} f : sProp 𝕄)
      ⊢ iprop(∃ f : Buf (Elt F) (oLoc d), oLoc d ↦[oset c i]{fullShare} f) := by
    intro c i
    iintro H; iexists f; iexact H
  iintro ⟨⟨Hi, His⟩, ⟨Ht, Hts⟩, Ho⟩
  isplitl [Hi]; · iexact Hi
  isplitl [Ht]; · iexact Ht
  isplitl [His]
  · iapply (each _ _ h1); iexact His
  isplitl [Hts]
  · iapply (each _ _ h2); iexact Hts
  · iapply (each _ _ h3); iexact Ho

/-- Two shares of a buffer are at the same contents. -/
theorem agree (ℓ : Loc nD τ sig) (q q' : PosShare TreeShare) (f g : Buf (Elt F) ℓ) :
    (iprop((ℓ ↦{q} f) ∗ ℓ ↦{q'} g) : sProp 𝕄) ⊢ iprop(⌜g = f⌝ ∗ (ℓ ↦{q} f) ∗ ℓ ↦{q'} g) := by
  iintro ⟨H, Hg⟩
  ihave H := (persistent_entails_right (pointsTo_agree (ℓ := ℓ) (I := Finset.univ) (J := Finset.univ) (q₁ := q) (q₂ := q') (f := f) (g := g))) $$ [H Hg]
  · isplitl [H]; · iexact H
    iexact Hg
  icases H with ⟨%h, H, Hg⟩
  isplitr
  · ipureintro; exact funext fun i => (h i (Finset.mem_inter.mpr ⟨Finset.mem_univ i, Finset.mem_univ i⟩)).1.symm
  isplitl [H]; · iexact H
  iexact Hg

/-- What a tile gives back is at the contents of the halves kept. -/
theorem tile_back (d : Dev nD) (I : Buf (Elt F) (iLoc d)) (T : Buf (Elt F) (tLoc d)) (c : Fin 2) (i : Fin 16) :
    (iprop(((iLoc d ↦{fullShare.left} I) ∗ (tLoc d ↦{fullShare.left} T)) ∗ TdT (F := F) d c i) : sProp 𝕄)
      ⊢ iprop(((iLoc d ↦{fullShare.left} I) ∗ (tLoc d ↦{fullShare.left} T)) ∗ ((iLoc d ↦{tshare fullShare.right c i} I) ∗ (tLoc d ↦{tshare fullShare.right c i} T)
        ∗ (oLoc d ↦[oset c i]{fullShare} (H1 (F := F) I T : Buf (Elt F) (oLoc d))))) := by
  iintro ⟨⟨Hi, Ht⟩, %I', %T', HI, HT, Ho⟩
  ihave H := (agree (iLoc d) _ _ I I') $$ [Hi HI]
  · isplitl [Hi]; · iexact Hi
    iexact HI
  icases H with ⟨%eI, Hi, HI⟩
  ihave H := (agree (tLoc d) _ _ T T') $$ [Ht HT]
  · isplitl [Ht]; · iexact Ht
    iexact HT
  icases H with ⟨%eT, Ht, HT⟩
  subst eI eT
  isplitl [Hi Ht]
  · isplitl [Hi]; · iexact Hi
    iexact Ht
  isplitl [HI]; · iexact HI
  isplitl [HT]; · iexact HT
  iexact Ho

/-- The call's buffers, collected: the index rows and the table as they were, and the result the sums. -/
theorem collect (d : Dev nD) (I : Buf (Elt F) (iLoc d)) (T : Buf (Elt F) (tLoc d)) :
    (iprop((iLoc d ↦{fullShare.left} I) ∗ (tLoc d ↦{fullShare.left} T) ∗ bigSep Finset.univ fun c : Fin 2 => TdC (F := F) d c) : sProp 𝕄)
      ⊢ iprop((iLoc d ↦{fullShare} I) ∗ (tLoc d ↦{fullShare} T) ∗ (oLoc d ↦{fullShare} (H1 (F := F) I T : Buf (Elt F) (oLoc d)))) := by
  have hb := beside (F := F) iprop((iLoc d ↦{fullShare.left} I) ∗ (tLoc d ↦{fullShare.left} T)) _ _
    (fun c : Fin 2 => beside (F := F) _ _ _ (fun i : Fin 16 => tile_back d I T c i) Finset.univ) Finset.univ
  rw [shares (iLoc d) I, shares (tLoc d) T, rows d (H1 (F := F) I T : Buf (Elt F) (oLoc d))]
  rw [three] at hb
  iintro ⟨Hi, Ht, H⟩
  ihave H := hb $$ [Hi Ht H]
  · isplitl [Hi Ht]
    · isplitl [Hi]; · iexact Hi
      iexact Ht
    iexact H
  icases H with ⟨⟨Hi, Ht⟩, His, Hts, Ho⟩
  isplitl [Hi His]
  · isplitl [Hi]; · iexact Hi
    iexact His
  isplitl [Ht Hts]
  · isplitl [Ht]; · iexact Ht
    iexact Hts
  iexact Ho

end Cert.BagProof

end
-- ==== Proof.Bag.Host.lean ====
/-
  The operations of the program outside its kernels.
-/
module

public import proofs.«01_k».proof.Proof.Bag.Base
public import Idealize.ShloMosaic.Lib.Pipeline.Frame

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The operations before the SparseCore call. -/
def ops1 : List (HloOp τ sig (Elt F)) :=
  [StableHlo.nullary main_v0 (iotaInDim S26 32 0),
   StableHlo.nullary main_c (constantI S_ 32 1000#32),
   StableHlo.unary main_c main_v1 (broadcastInDim S26 ![] bcast_S_S26 : (⟨S_, .i32⟩ : BufTy).Contents (Elt F) → (⟨S26, .i32⟩ : BufTy).Contents (Elt F)),
   StableHlo.binary main_v0 main_v1 main_v2 (muli : (⟨S26, .i32⟩ : BufTy).Contents (Elt F) → (⟨S26, .i32⟩ : BufTy).Contents (Elt F) → (⟨S26, .i32⟩ : BufTy).Contents (Elt F)),
   StableHlo.unary main_v2 main_v3 (broadcastInDim S1x26 ![1] bcast_S26_S1x26_1 : (⟨S26, .i32⟩ : BufTy).Contents (Elt F) → (⟨S1x26, .i32⟩ : BufTy).Contents (Elt F)),
   StableHlo.unary main_v3 main_v4 (broadcastInDim S16384x26 ![0, 1] bcast_S1x26_S16384x26_0_1 : (⟨S1x26, .i32⟩ : BufTy).Contents (Elt F) → (⟨S16384x26, .i32⟩ : BufTy).Contents (Elt F)),
   StableHlo.binary main_arg0 main_v4 main_v5 (addi : (⟨S16384x26, .i32⟩ : BufTy).Contents (Elt F) → (⟨S16384x26, .i32⟩ : BufTy).Contents (Elt F) → (⟨S16384x26, .i32⟩ : BufTy).Contents (Elt F)),
   StableHlo.reshape main_v5 main_v6 (rfl : (.i32 : EltTy) = .i32) shapeCasts_S16384x26_S32x128x104,
   StableHlo.reshape main_arg1 main_v7 (rfl : (.f32 : EltTy) = .f32) shapeCasts_S26x1000x128_S26000x128]

set_option maxRecDepth 8192 in
/-- The program: the operations and the SparseCore call. -/
theorem main_eq (d : Dev nD) : main (F := F) d = StableHlo.seq ops1 >>= fun _ => sc.run d 0 := by
  simp only [main, ops1, StableHlo.seq, bind_assoc, pure_bind, bind_pure_unit]

/-- The arguments. -/
abbrev args : List (Ref sig .tc) := [main_arg0, main_arg1]

/-- What the operations write. -/
abbrev outs1 : List (Ref sig .tc) := [main_v0, main_c, main_v1, main_v2, main_v3, main_v4, main_v5, main_v6, main_v7]

theorem one_sub {r : Ref sig .tc} {l : List (Ref sig .tc)} (h : r ∈ l) :
    ({Proc.devRef (τ := τ) .tc r} : Finset (DevRef τ sig)) ⊆ (l.map (Proc.devRef (τ := τ) .tc)).toFinset :=
  Finset.singleton_subset_iff.mpr (List.mem_toFinset.mpr (List.mem_map_of_mem h))

theorem writes1 : (ops1 (F := F)).Forall fun op => op.writes ⊆ (outs1.map (Proc.devRef (τ := τ) .tc)).toFinset :=
  ⟨one_sub (by decide), one_sub (by decide), one_sub (by decide), one_sub (by decide), one_sub (by decide), one_sub (by decide), one_sub (by decide), one_sub (by decide), one_sub (by decide)⟩

/-- They touch the TensorCore's buffers only. -/
theorem bufs1 : ∀ op ∈ ops1 (F := F), op.bufs ⊆ Pipeline.ucRefs τ sig := fun op h => Pipeline.sub_ucRefs op (List.forall_iff_forall_mem.mp
  (show (ops1 (F := F)).Forall fun op => op.bufs ⊆ StableHlo.tcRefs τ sig from
    ⟨StableHlo.nullary_bufs_sub .., StableHlo.nullary_bufs_sub .., StableHlo.unary_bufs_sub .., StableHlo.binary_bufs_sub .., StableHlo.unary_bufs_sub .., StableHlo.unary_bufs_sub ..,
      StableHlo.binary_bufs_sub .., StableHlo.reshape_bufs_sub .., StableHlo.reshape_bufs_sub ..⟩) op h)

theorem fresh1 : ∀ op ∈ ops1 (F := F), op.fresh = ∅ := List.forall_iff_forall_mem.mp ⟨rfl, rfl, rfl, rfl, rfl, rfl, rfl, rfl, rfl⟩

/-- The arguments hold what the launch memory holds. -/
def Keep (m : (ℓ : Loc nD τ sig) → Buf (Elt F) ℓ) (d : Dev nD) (W : Valuation τ sig (Elt F)) : Prop :=
  ∀ b ∈ args, W (Proc.devRef .tc b) = m ((SparseCore.T d).loc b)

theorem keep1 {m : (ℓ : Loc nD τ sig) → Buf (Elt F) ℓ} {d : Dev nD} {W : Valuation τ sig (Elt F)} (h : Keep m d W) : Keep m d (StableHlo.after ops1 W) := fun b hb =>
  (StableHlo.after_of_writes_sub ops1 W writes1 ((by decide : ∀ b ∈ args, b ∉ outs1) b hb)).trans (h b hb)

/-- What the proof asks of the launch memory: every index is below its field's vocabulary. -/
def PreOK (m : (ℓ : Loc nD τ sig) → Buf (Elt F) ℓ) : Prop := ∀ (d : Dev nD) (x : S16384x26.Idx), (m ((SparseCore.T d).loc main_arg0) x : BitVec 32).toNat < 1000

/-- A row of field `n`'s table, offset by the fields before it, is a row of the flattened tables. -/
theorem row_lt (n : Nat) (hn : n < 26) (v : BitVec 32) (hv : v.toNat < 1000) : (v + BitVec.ofNat 32 n * 1000#32).toNat < 26000 := by
  rw [BitVec.toNat_add, BitVec.toNat_mul, BitVec.toNat_ofNat, show (1000#32).toNat = 1000 from rfl, Nat.mod_eq_of_lt (show n < 2 ^ 32 by omega), Nat.mod_eq_of_lt (show n * 1000 < 2 ^ 32 by omega)]
  exact lt_of_le_of_lt (Nat.mod_le _ _) (by omega)

/-- The index rows: each index offset by the fields before its own, dealt to the tiles and their chunks. -/
def flat (x : S16384x26.Idx → Elt F .i32) : S32x128x104.Idx → Elt F .i32 :=
  shapeCast S32x128x104 (addi x
      (broadcastInDim S16384x26 ![0, 1] bcast_S1x26_S16384x26_0_1 (broadcastInDim S1x26 ![1] bcast_S26_S1x26_1
        (muli (iotaInDim S26 32 0) (broadcastInDim S26 ![] bcast_S_S26 (constantI S_ 32 1000#32)))))) shapeCasts_S16384x26_S32x128x104

/-- The tables, one after the other. -/
def tabs (p : S26x1000x128.Idx → Elt F .f32) : S26000x128.Idx → Elt F .f32 :=
  shapeCast S26000x128 p shapeCasts_S26x1000x128_S26000x128

/-- The operations leave the index rows, -/
theorem after_idx (W : Valuation τ sig (Elt F)) : StableHlo.after ops1 W (Proc.devRef .tc main_v6) = flat (W (Proc.devRef .tc main_arg0)) := by
  simp only [ops1]
  after_results_simp
  rfl

/-- and the tables. -/
theorem after_tab (W : Valuation τ sig (Elt F)) : StableHlo.after ops1 W (Proc.devRef .tc main_v7) = tabs (W (Proc.devRef .tc main_arg1)) := by
  simp only [ops1]
  after_results_simp
  rfl

/-- The index rows are rows of the flattened tables. -/
theorem flat_lt {x : S16384x26.Idx → Elt F .i32} (h : ∀ y : S16384x26.Idx, (x y : BitVec 32).toNat < 1000) (y : S32x128x104.Idx) :
    (flat (F := F) x y : BitVec 32).toNat < 26000 := by
  simp only [flat, shapeCast, addi, muli, broadcastInDim, iotaInDim, constantI]
  refine row_lt _ ?_ _ (h _)
  exact Fin.isLt (n := 26) _

end Cert.BagProof

end
-- ==== Proof.Bag.Main.lean ====
/-
  The program on a device's TensorCore.
-/
module

public import proofs.«01_k».proof.Proof.Bag.Deal
public import proofs.«01_k».proof.Proof.Bag.Host

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The TensorCore's buffers at a valuation. -/
abbrev held (d : Dev nD) (W : Valuation τ sig (Elt F)) : sProp 𝕄 := StableHlo.held (SparseCore.T d) (Pipeline.ucRefs τ sig) W

theorem hstep (d : Dev nD) (ops : List (HloOp τ sig (Elt F))) (hb : ∀ op ∈ ops, op.bufs ⊆ Pipeline.ucRefs τ sig) (hf : ∀ op ∈ ops, op.fresh = ∅) (W : Valuation τ sig (Elt F))
    (Q : PUnit → sProp 𝕄) :
    iprop((boundary (SparseCore.T d) ∗ held d W) ∗ ((boundary (SparseCore.T d) ∗ held d (StableHlo.after ops W)) -∗ Q ⟨⟩))
      ⊢ wp frame (wpE ((K (F := F)).defs (D (F := F))) 𝒱 (SparseCore.T d) none) Set.univ (StableHlo.seq ops) Q := by
  have e : StableHlo.seq (Λ := SparseCore.Sig (ΛP (F := F)) 1) (nD := nD) ops = StableHlo.seq ops >>= fun _ => .ret ⟨⟩ := (bind_pure _).symm
  rw [e]
  iintro ⟨H, Hk⟩
  iapply (StableHlo.wp_seq 𝒱 none Set.univ d (Pipeline.ucRefs τ sig) (fun _ => .ret ⟨⟩) ops hb hf W) $$ H
  iintro H
  rw [wp_ret]; imodintro
  iapply Hk; iexact H

theorem mem_uc (b : Ref sig .tc) (hb : b.isScoped = false) : (Proc.devRef .tc b : DevRef τ sig) ∈ Pipeline.ucRefs τ sig :=
  Finset.mem_filter.mpr ⟨StableHlo.devRef_mem_tcRefs b, by rw [Proc.isScoped_devRef, hb]; exact Bool.false_ne_true⟩

/-- The call's three buffers. -/
abbrev three3 : Finset (DevRef τ sig) := {Proc.devRef .tc main_v6, Proc.devRef .tc main_v7, Proc.devRef .tc main_v8}

/-- The TensorCore's buffers: the call's and the rest. -/
theorem held_call (d : Dev nD) (W : Valuation τ sig (Elt F)) :
    (held d W : sProp 𝕄) = iprop(((iLoc d ↦{fullShare} W (Proc.devRef .tc main_v6)) ∗ (tLoc d ↦{fullShare} W (Proc.devRef .tc main_v7)) ∗ (oLoc d ↦{fullShare} W (Proc.devRef .tc main_v8)))
      ∗ StableHlo.held (SparseCore.T d) (Pipeline.ucRefs τ sig \ three3) W) := by
  refine (StableHlo.held_sub_split (SparseCore.T d) (T := three3) (S := Pipeline.ucRefs τ sig) (by
    intro b hb
    simp only [Finset.mem_insert, Finset.mem_singleton] at hb
    rcases hb with rfl | rfl | rfl <;> exact mem_uc _ rfl) W).trans ?_
  congr 1
  unfold StableHlo.held
  rw [SparseCore.bigSep_insert' (by decide), SparseCore.bigSep_insert' (by decide), bigSep_singleton]

/-- The call: the index rows and the table are as they were, and the result is the sums. -/
theorem call_step (κ : GSem nD τ sig → ℕ) (d : Dev nD) (W : Valuation τ sig (Elt F)) (hI : ∀ x : S32x128x104.Idx, (W (Proc.devRef .tc main_v6) x : BitVec 32).toNat < 26000) (Q : PUnit → sProp 𝕄) :
    iprop((K (F := F)).ctx EH (P (F := F)) κ ∗ (K (F := F)).tcSt EH d 0 ∗ held d W
      ∗ (∀ W' : Valuation τ sig (Elt F), ⌜(∀ b : Ref sig .tc, b ≠ main_v8 → W' (Proc.devRef .tc b) = W (Proc.devRef .tc b))
          ∧ W' (Proc.devRef .tc main_v8) = H1 (F := F) (W (Proc.devRef .tc main_v6)) (W (Proc.devRef .tc main_v7))⌝ -∗ ((K (F := F)).tcSt EH d 1 ∗ held d W') -∗ Q ⟨⟩))
      ⊢ wp frame (wpE ((K (F := F)).defs (D (F := F))) 𝒱 (SparseCore.T d) none) Set.univ (sc.run d 0) Q := by
  classical
  rw [held_call]
  iintro ⟨Hctx, Hst, ⟨Hcall, Hrest⟩, Hk⟩
  ihave H := (deal d (W (Proc.devRef .tc main_v6)) (W (Proc.devRef .tc main_v7)) (W (Proc.devRef .tc main_v8)) hI) $$ Hcall
  icases H with ⟨Hi, Ht, Hgo⟩
  iapply ((K (F := F)).wp_run (D (F := F)) 𝒱 (EH := EH) (P := P (F := F)) κ d 0)
  isplitl [Hctx]; · iexact Hctx
  isplitl [Hst]; · iexact Hst
  isplitl [Hgo]; · iexact Hgo
  iintro ⟨Hst, Hdn⟩
  ihave H := (collect d (W (Proc.devRef .tc main_v6)) (W (Proc.devRef .tc main_v7))) $$ [Hi Ht Hdn]
  · isplitl [Hi]; · iexact Hi
    isplitl [Ht]; · iexact Ht
    iexact Hdn
  icases H with ⟨Hi, Ht, Ho⟩
  let f : Buf (Elt F) (oLoc d) := H1 (F := F) (W (Proc.devRef .tc main_v6)) (W (Proc.devRef .tc main_v7))
  have hne : ∀ b : Ref sig .tc, b ≠ main_v8 → Function.update W (Proc.devRef .tc main_v8) f (Proc.devRef .tc b) = W (Proc.devRef .tc b) := fun b hb =>
    Function.update_of_ne (fun h => hb (Proc.devRef_injective _ h)) _ _
  iapply Hk $$ %(Function.update W (Proc.devRef .tc main_v8) f) []
  · ipureintro; exact ⟨hne, Function.update_self ..⟩
  isplitl [Hst]; · iexact Hst
  have e : (StableHlo.held (SparseCore.T d) (Pipeline.ucRefs τ sig \ three3) (Function.update W (Proc.devRef .tc main_v8) f) : sProp 𝕄)
      = StableHlo.held (SparseCore.T d) (Pipeline.ucRefs τ sig \ three3) W := StableHlo.held_congr _ fun b hb =>
    Function.update_of_ne (fun h => (Finset.mem_sdiff.mp hb).2 (by subst h; decide)) _ _
  rw [held_call, e, hne main_v6 (by decide), hne main_v7 (by decide), Function.update_self]
  isplitr [Hrest]
  · isplitl [Hi]; · iexact Hi
    isplitl [Ht]; · iexact Ht
    iexact Ho
  iexact Hrest

variable (m : (ℓ : Loc nD τ sig) → Buf (Elt F) ℓ) (ρ : Dev nD → PrngReg)

/-- What a run leaves in the result. -/
def res (d : Dev nD) : S16384x128.Idx → Elt F .f32 := H1 (F := F) (flat (F := F) (m ((SparseCore.T d).loc main_arg0))) (tabs (m ((SparseCore.T d).loc main_arg1)))

/-- What the TensorCore ends with: the arguments as they were, and the result the sums. -/
abbrev FIN (d : Dev nD) : sProp 𝕄 := iprop(∃ W : Valuation τ sig (Elt F), ⌜Keep m d W ∧ W (Proc.devRef .tc main_v8) = res m d⌝ ∗ held d W)

/-- @main on a device's TensorCore. -/
theorem hmain [∀ e, Nonempty (Elt F e)] (hpre : PreOK m) (κ : GSem nD τ sig → ℕ) (d : Dev nD) :
    iprop((K (F := F)).ctx EH (P (F := F)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  simp only [wp_bind]
  rw [show (unscopedBufs d (fun b => m ((d.tc : Thread nD τ).loc b)) : sProp 𝕄) = held d (fun b => m (d, b)) from Pipeline.unscopedBufs_held d (fun b => m (d, b))]
  iintro ⟨#Hctx, Hst, ⟨Hb, Hh, Hts, -⟩, -⟩
  have hk0 : Keep m d (fun b => m (d, b)) := fun b _ => rfl
  have hk1 := keep1 hk0
  iapply (hstep d ops1 bufs1 fresh1 (fun b => m (d, b)))
  isplitl [Hb Hh]
  · isplitl [Hb]; · iexact Hb
    iexact Hh
  iintro ⟨Hb, Hh⟩
  iapply (call_step κ d (StableHlo.after ops1 (fun b => m (d, b))) (fun x => by rw [after_idx]; exact flat_lt (fun x => hpre d x) x))
  isplitr; · iexact Hctx
  isplitl [Hst]; · iexact Hst
  isplitl [Hh]; · iexact Hh
  iintro %W2 %h2 ⟨Hst, Hh⟩
  isplitl [Hst]; · iexact Hst
  isplitl [Hh]
  · iexists W2
    isplitr
    · ipureintro
      refine ⟨fun b hb => (h2.1 b ((by decide : ∀ b ∈ args, b ≠ main_v8) b hb)).trans (hk1 b hb), h2.2.trans ?_⟩
      rw [after_idx, after_tab]
      rfl
    iexact Hh
  isplitl [Hb] <;> iassumption

end Cert.BagProof

end
-- ==== Proof.Bag.Launch.lean ====
/-
  The launch: the ghost state, the run and what it ends with.
-/
module

public import proofs.«01_k».proof.Proof.Bag.Main
public import Idealize.ShloMosaic.Adequacy
public import Idealize.ShloMosaic.Init

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

/-! ## The launch's ghost state -/

/-- The launch element: the handshakes' rounds, no counter. -/
def u₀ : UU := (initOf (K (F := F)).hsCells (K (F := F)).hsToks, 1)

theorem all_emp {J : Type} (s : Finset J) : (bigSep s fun _ => iprop(emp)) = (iprop(emp) : sProp 𝕄) := bigSep_emp_const s

/-- It is the handshakes' rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [all_emp]; iempintro
  rw [show (bigSep Finset.univ fun thr : Thread nD τ => bigSep Finset.univ fun q : Fin 1 => (P (F := F)).x q thr) = bigSep Finset.univ fun _ => iprop(emp) from
    bigSep_congr fun _ _ => bigSep_univ_of_subsingleton (0 : Fin 1), all_emp]
  iempintro

/-! ## The run -/

variable (m : (ℓ : Loc nD τ sig) → Buf (Elt F) ℓ) (ρ : Dev nD → PrngReg)

/-- The arguments of a device are what the launch memory holds, and the result is the sums. -/
def fq (d : Dev nD) (s' : Phys nD τ sig (Elt F)) : Prop :=
  (∀ b ∈ args, s'.mem.mem ((SparseCore.T d).loc b) = m ((SparseCore.T d).loc b)) ∧ s'.mem.mem ((SparseCore.T d).loc main_v8) = res m d

/-- A buffer held is the memory's. -/
theorem held_agree (d : Dev nD) (W : Valuation τ sig (Elt F)) (s' : Phys nD τ sig (Elt F)) (b : Ref sig .tc) (hb : b.isScoped = false) :
    iprop(held d W ∗ SI s') ⊢ (⌜s'.mem.mem ((SparseCore.T d).loc b) = W (Proc.devRef .tc b)⌝ : sProp 𝕄) := by
  classical
  iintro ⟨Hh, HSI⟩
  ihave Hh' := (show (held d W : sProp 𝕄) ⊢ iprop(((SparseCore.T d).loc b ↦{fullShare} W (Proc.devRef .tc b)) ∗ bigSep ((Pipeline.ucRefs τ sig).erase (Proc.devRef .tc b)) fun x => ((SparseCore.T d).1, x) ↦{fullShare} W x)
    from Entails.of_eq (SparseCore.bigSep_erase' (mem_uc b hb))) $$ Hh
  icases Hh' with ⟨H, -⟩
  ihave H := (SI_pointsTo_agree (st := s') (ℓ := (SparseCore.T d).loc b) (I := Finset.univ) (q := fullShare) (f := W (Proc.devRef .tc b))) $$ [HSI H]
  · isplitl [HSI]; · iexact HSI
    iexact H
  icases H with %h
  ipureintro; exact funext fun i => h i (Finset.mem_univ i)

theorem held_agree_list (d : Dev nD) (W : Valuation τ sig (Elt F)) (s' : Phys nD τ sig (Elt F)) (l : List (Ref sig .tc)) (hl : ∀ b ∈ l, b.isScoped = false) :
    iprop(held d W ∗ SI s') ⊢ (⌜∀ b ∈ l, s'.mem.mem ((SparseCore.T d).loc b) = W (Proc.devRef .tc b)⌝ : sProp 𝕄) := by
  induction l with
  | nil => iintro -; ipureintro; intro b hb; exact nomatch hb
  | cons b l ih =>
    iintro H
    ihave H := (persistent_entails_right (held_agree d W s' b (hl b List.mem_cons_self))) $$ H
    icases H with ⟨%h1, H⟩
    ihave H := (ih fun b hb => hl b (List.mem_cons_of_mem _ hb)) $$ H
    icases H with %h2
    ipureintro
    intro x hx
    rcases List.mem_cons.mp hx with rfl | hx
    · exact h1
    · exact h2 x hx

theorem hfin (d : Dev nD) (s' : Phys nD τ sig (Elt F)) : iprop(FIN m d ∗ SI s') ⊢ (⌜fq m d s'⌝ : sProp 𝕄) := by
  iintro ⟨⟨%W, %hW, Hh⟩, HSI⟩
  ihave H := (held_agree_list d W s' (main_v8 :: args) (by decide)) $$ [Hh HSI]
  · isplitl [Hh]; · iexact Hh
    iexact HSI
  icases H with %h
  ipureintro
  exact ⟨fun b hb => (h b (List.mem_cons_of_mem _ hb)).trans (hW.1 b hb), (h main_v8 List.mem_cons_self).trans hW.2⟩

/-- What a run ends with: every device's arguments as they were and its result the sums, every semaphore at zero. -/
def QC : PUnit × MemSt nD τ sig (Elt F) → Prop := fun r => (∀ d : Dev nD, (∀ b ∈ args, r.2.mem ((SparseCore.T d).loc b) = m ((SparseCore.T d).loc b))
  ∧ r.2.mem ((SparseCore.T d).loc main_v8) = res m d) ∧ r.2.sem = fun _ => 0

/-- Every run from a memory of indices in range ends so. -/
theorem run_main [∀ e, Nonempty (Elt F e)] (hobl : (K (F := F)).TileObl (D (F := F)) 𝒱 (P (F := F)) v₀ 0) (hpre : PreOK m) :
    θ_run (Cert.BagIdeal.defs (F := F)) (Cert.BagIdeal.threads (F := F)) ⟨m, fun _ => 0, ρ⟩ (QC m) :=
  SparseCore.Cfg.θ_run_sc_quiescent (K := K (F := F)) (D := D (F := F)) (𝒱 := 𝒱) (EH := EH) (P := P (F := F)) (A := ∅) facts v₀
    (fun q hq => match q with | 0 => nomatch hq)
    (fun q _ => match q with | 0 => hobl)
    (fun q _ => match q with | 0 => SparseCore.Cfg.VecSplit.of_plain vecSplit)
    m ρ main (fun _ => iprop(emp)) (FIN m) (u₀ (F := F)) (sep_elim_left.trans hu₀) (hmain m ρ hpre) (fq m) (hfin m) (QC m) (fun _ h hz => ⟨h, hz⟩)

/-- The index condition, word by word, bounds the word. -/
theorem word_lt (v : BitVec 32) (e : IntOp.andi (IntOp.cmpi .sge v 0#32) (IntOp.cmpi .slt v 1000#32) = 1#1) : v.toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.BagProof

end
-- ==== Proof.Bag.Same.lean ====
/-
  The kernel as printed and its idealization are one program.
-/
module

public import proofs.«01_k».proof.Proof.Gen.Bag
public import proofs.«01_k».proof.Proof.Bag.Base

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

set_option maxHeartbeats 4000000 in
/-- The kernels' bodies, as printed and as idealized, are the same, -/
theorem bodies_eq : Cert.Bag.defs₀ (F := F) = Cert.BagIdeal.defs₀ (F := F) := by
  funext pr ℓ a
  match pr, ℓ, a with
  | .tc, 0, a => rfl
  | .scVector c s, 0, a => rfl
  | .scScalar c, 0, a => rfl

/-- and so are what their labels run. -/
theorem defs_eq : Cert.Bag.defs (F := F) = Cert.BagIdeal.defs (F := F) := by
  unfold Cert.Bag.defs Cert.BagIdeal.defs
  rw [bodies_eq]
  rfl

/-- So a run of the idealized kernel is one of the kernel. -/
theorem run_same (m : (ℓ : Loc Cert.Bag.nD Cert.Bag.τ Cert.Bag.sig) → Buf (Elt F) ℓ) (ρ : Dev Cert.Bag.nD → PrngReg)
    (Q : PUnit × MemSt Cert.Bag.nD Cert.Bag.τ Cert.Bag.sig (Elt F) → Prop)
    (h : θ_run (Cert.BagIdeal.defs (F := F)) (Cert.BagIdeal.threads (F := F)) ⟨m, fun _ => 0, ρ⟩ Q) :
    θ_run (Cert.Bag.defs (F := F)) (Cert.Bag.threads (F := F)) ⟨m, fun _ => 0, ρ⟩ Q := by
  rw [defs_eq]
  exact h

end Cert.BagProof

end
-- ==== Proof.Bag.Value.lean ====
/-
  The value: the sums that the SparseCore call leaves are the reference's, over the extended reals.
-/
module

public import proofs.«01_k».proof.Proof.Bag.Host
public import proofs.«01_k».proof.Proof.Bag.Values
public import proofs.«01_k».proof.Proof.Gen.BagReferenceIdeal
public import Idealize.ShloMosaic.Lib.IdealHost
public import Idealize.ShloMosaic.Lib.Routing.OpsPair
public import Idealize.ShloMosaic.Lib.Pipeline.Value

@[expose] public section

noncomputable section

namespace Cert.BagProof

open Idealize.ShloMosaic

/-! ## The reference -/

section

open Cert.BagReferenceIdeal Cert.BagReferenceIdeal.Gen

/-- The start indices of the reference's gather: the field and the sample's index in it. -/
def words (x : S16384x26.Idx → Elt Ideal .i32) : S16384x26x2.Idx → Elt Ideal .i32 :=
  concatenate S16384x26x2 2 [⟨S16384x26x1, (broadcastInDim S16384x26x1 ![0, 1] bcast_S16384x26_S16384x26x1_0_1 (broadcastInDim S16384x26 ![0, 1] bcast_S1x26_S16384x26_0_1 (select (cmpi .slt (broadcastInDim S1x26 ![1] bcast_S26_S1x26_1 (iotaInDim S26 32 0)) (broadcastInDim S1x26 ![] bcast_S_S1x26 (constantI S_ 32 0#32))) (addi (broadcastInDim S1x26 ![1] bcast_S26_S1x26_1 (iotaInDim S26 32 0)) (broadcastInDim S1x26 ![] bcast_S_S1x26 (constantI S_ 32 26#32))) (broadcastInDim S1x26 ![1] bcast_S26_S1x26_1 (iotaInDim S26 32 0)))))⟩, ⟨S16384x26x1, (broadcastInDim S16384x26x1 ![0, 1] bcast_S16384x26_S16384x26x1_0_1 (select (cmpi .slt x (broadcastInDim S16384x26 ![] bcast_S_S16384x26 (constantI S_ 32 0#32))) (addi x (broadcastInDim S16384x26 ![] bcast_S_S16384x26 (constantI S_ 32 1000#32))) x))⟩] concatenates_S16384x26x1_S16384x26x1_S16384x26x2_d2

/-- The reference's result. -/
def ref (x : S16384x26.Idx → Elt Ideal .i32) (p : S26x1000x128.Idx → Elt Ideal .f32) : S16384x128.Idx → Elt Ideal .f32 :=
  Host.reduceAdd (F := Ideal) (φ := .f32) (Host.gather gather_S26x1000x128_S16384x26x2_S16384x26x128_2_01_n_n_01_2_11128 p (words x)) (constant S_ .f32 0x00000000#32) reducesTo_S16384x26x128_S16384x128_d1 h_S_

/-- The first start index is the field, -/
theorem words_zero (x : S16384x26.Idx → Elt Ideal .i32) (b : Fin 16384) (f : Fin 26) : words x (mk3 b f (0 : Fin 2)) = BitVec.ofNat 32 f.val := by
  unfold words
  refine (concatenate_pair_apply_left (t := S16384x26x2) (s₁ := S16384x26x1) (s₂ := S16384x26x1) 2 _ _ _ (mk3 b f (0 : Fin 2)) rfl (mk3 b f (0 : Fin 1)) (fun a => by
    match a with
    | 0 => rfl
    | 1 => rfl
    | 2 => rfl)).trans ?_
  exact Routing.wrap_of_lt (BitVec.ofNat 32 f.val) _ (by rw [BitVec.toNat_ofNat]; exact lt_of_le_of_lt (Nat.mod_le _ _) (by omega))

/-- and the second the sample's index. -/
theorem words_one (x : S16384x26.Idx → Elt Ideal .i32) (b : Fin 16384) (f : Fin 26) (h : (x (mk2 b f) : BitVec 32).toNat < 1000) : words x (mk3 b f (1 : Fin 2)) = x (mk2 b f) := by
  unfold words
  refine (concatenate_pair_apply_right (t := S16384x26x2) (s₁ := S16384x26x1) (s₂ := S16384x26x1) 2 _ _ _ (mk3 b f (1 : Fin 2)) rfl rfl (mk3 b f (0 : Fin 1)) (fun a ha => by
    match a, ha with
    | 0, _ => rfl
    | 1, _ => rfl
    | 2, ha => exact absurd rfl ha) rfl).trans ?_
  have e : ∀ u : S16384x26.Idx, u = mk2 b f → Scalar.select (IntOp.cmpi .slt (x u : BitVec 32) 0#32) (IntOp.addi (x u) 1000#32) (x u) = x (mk2 b f) := fun u hu => by
    subst hu
    exact Routing.wrap_of_lt (x (mk2 b f) : BitVec 32) _ (by omega)
  exact e _ (ext2 rfl rfl)

/-- The gather read at an index. -/
theorem gather_at (p : S26x1000x128.Idx → Elt Ideal .f32) (w : S16384x26x2.Idx → Elt Ideal .i32) (b : Fin 16384) (f : Fin 26) (c : Fin 128) :
    Host.gather gather_S26x1000x128_S16384x26x2_S16384x26x128_2_01_n_n_01_2_11128 p w (mk3 b f c)
      = p (mk3 (⟨min (w (mk3 b f (0 : Fin 2)) : BitVec 32).toInt.toNat 25, by omega⟩ : Fin 26) (⟨min (w (mk3 b f (1 : Fin 2)) : BitVec 32).toInt.toNat 999, by omega⟩ : Fin 1000) c) := by
  unfold Host.gather
  congr 1
  funext a
  refine Fin.ext ?_
  generalize hd : gather_S26x1000x128_S16384x26x2_S16384x26x128_2_01_n_n_01_2_11128 = d
  show d.start (mk3 b f c) w a + d.batchCoord (mk3 b f c) a + d.offCoord (mk3 b f c) a = _
  subst hd
  rw [GatherDims.batchCoord_eq_zero _ _ _ List.not_mem_nil, Nat.add_zero]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (by decide)), Nat.add_zero]
    unfold GatherDims.start
    rw [dif_pos (by decide)]
    have hsi : ∀ hc, gather_S26x1000x128_S16384x26x2_S16384x26x128_2_01_n_n_01_2_11128.siIdx (mk3 b f c) ⟨0, hc⟩ = mk3 b f (0 : Fin 2) := fun hc => by
      funext q; refine Fin.ext ?_
      match q with
      | ⟨0, _⟩ => rfl
      | ⟨1, _⟩ => rfl
      | ⟨2, _⟩ => rfl
    exact congrArg (fun u => min (w u : BitVec 32).toInt.toNat 25) (hsi _)
  · rw [GatherDims.offCoord_eq_zero _ _ _ (fun h => ((GatherDims.mem_sKept _ _).mp h).1 (by decide)), Nat.add_zero]
    unfold GatherDims.start
    rw [dif_pos (by decide)]
    have hsi : ∀ hc, gather_S26x1000x128_S16384x26x2_S16384x26x128_2_01_n_n_01_2_11128.siIdx (mk3 b f c) ⟨1, hc⟩ = mk3 b f (1 : Fin 2) := fun hc => by
      funext q; refine Fin.ext ?_
      match q with
      | ⟨0, _⟩ => rfl
      | ⟨1, _⟩ => rfl
      | ⟨2, _⟩ => rfl
    exact congrArg (fun u => min (w u : BitVec 32).toInt.toNat 999) (hsi _)
  · unfold GatherDims.start
    rw [dif_neg (by decide), Nat.zero_add]
    rfl

theorem word_nat (v : BitVec 32) (n : Nat) (h : v.toNat ≤ n) (hn : n < 2 ^ 31) : min v.toInt.toNat n = v.toNat := by
  rw [BitVec.toInt_eq_toNat_of_lt (by omega), Int.toNat_natCast]
  omega

/-- A row that the reference gathers: the one that the sample's index names. -/
theorem gather_row (x : S16384x26.Idx → Elt Ideal .i32) (p : S26x1000x128.Idx → Elt Ideal .f32) (h : ∀ y : S16384x26.Idx, (x y : BitVec 32).toNat < 1000) (b : Fin 16384) (f : Fin 26) (c : Fin 128) :
    Host.gather gather_S26x1000x128_S16384x26x2_S16384x26x128_2_01_n_n_01_2_11128 p (words x) (mk3 b f c) = p (mk3 f ⟨(x (mk2 b f) : BitVec 32).toNat, h _⟩ c) := by
  rw [gather_at]
  have hf : (BitVec.ofNat 32 f.val).toNat = f.val := by rw [BitVec.toNat_ofNat]; exact Nat.mod_eq_of_lt (lt_trans f.isLt (by decide))
  congr 1
  funext a
  refine Fin.ext ?_
  match a with
  | 0 => exact (congrArg (fun v : BitVec 32 => min v.toInt.toNat 25) (words_zero x b f)).trans ((word_nat _ 25 (by rw [hf]; exact Nat.le_of_lt_succ f.isLt) (by decide)).trans hf)
  | 1 => exact (congrArg (fun v : BitVec 32 => min v.toInt.toNat 999) (words_one x b f (h _))).trans (word_nat _ 999 (Nat.le_of_lt_succ (h _)) (by decide))
  | 2 => rfl

/-- The reference's result at an index: the sum, over the fields, of the rows that the sample's indices name. -/
theorem ref_at (x : S16384x26.Idx → Elt Ideal .i32) (p : S26x1000x128.Idx → Elt Ideal .f32) (h : ∀ y : S16384x26.Idx, (x y : BitVec 32).toNat < 1000) (b : Fin 16384) (c : Fin 128) :
    ref x p (mk2 b c) = ∑ f : Fin 26, (p (mk3 f ⟨(x (mk2 b f) : BitVec 32).toNat, h _⟩ c) : EReal) := by
  unfold ref
  rw [ValueIdx.hostReduceAdd_apply, Ideal.hostReduceAdd_single _ (by decide : S16384x26x128.Reduces [1] S16384x128)]
  have e0 : constant (F := Ideal) S_ .f32 0x00000000#32 (Shape.Idx.first h_S_) = (0 : EReal) := Ideal.ofBits_zero_f32
  refine (congrArg (· + _) e0).trans ((zero_add _).trans ?_)
  refine Finset.sum_congr rfl fun f _ => ?_
  refine (show _ = Host.gather gather_S26x1000x128_S16384x26x2_S16384x26x128_2_01_n_n_01_2_11128 p (words x) (mk3 b f c) from congrArg _ (funext fun a => by
    match a with
    | 0 => rfl
    | 1 => rfl
    | 2 => rfl)).trans ?_
  exact gather_row x p h b f c

end

/-! ## The kernel -/

open Cert.BagIdeal Cert.BagIdeal.Gen

/-- Over the extended reals, the sum in order is the sum. -/
theorem lsum_eq (φ : Fin 26 → EReal) : ∀ (n : Nat) (h : n < 26), (lsum (F := Ideal) φ n h : EReal) = ∑ f : Fin (n + 1), φ ⟨f.val, lt_of_le_of_lt (Nat.le_of_lt_succ f.isLt) h⟩
  | 0, h => (Fin.sum_univ_one fun f : Fin 1 => φ ⟨f.val, lt_of_le_of_lt (Nat.le_of_lt_succ f.isLt) h⟩).symm
  | n + 1, h => by
    rw [Fin.sum_univ_castSucc]
    exact congrArg (· + φ ⟨n + 1, h⟩) (lsum_eq φ n (Nat.lt_of_succ_lt h))

/-- A sample's place among the index rows. -/
theorem flat_at (x : S16384x26.Idx → Elt Ideal .i32) (b : Fin 16384) (f : Fin 26) (h0 : b.val / 512 < 32) (h1 : b.val % 512 / 4 < 128) (h2 : b.val % 4 < 4) :
    (flat (F := Ideal) x (mk3 ⟨b.val / 512, h0⟩ ⟨b.val % 512 / 4, h1⟩ (gRow ⟨b.val % 4, h2⟩ f)) : BitVec 32) = x (mk2 b f) + BitVec.ofNat 32 f.val * 1000#32 := by
  unfold flat
  refine (shapeCast_apply _ _ _ (mk2 b f) ?_).trans rfl
  rw [Shape.rowMajor_val_two, Shape.rowMajor_val_three]
  show b.val * 26 + f.val = (b.val / 512 * 128 + b.val % 512 / 4) * 104 + (26 * (b.val % 4) + f.val)
  omega

/-- A field's row among the tables. -/
theorem tabs_at (p : S26x1000x128.Idx → Elt Ideal .f32) (f : Fin 26) (v : BitVec 32) (h : v.toNat < 1000) (c : Fin 128) :
    tabs (F := Ideal) p (mk2 (rowOf (v + BitVec.ofNat 32 f.val * 1000#32)) c) = p (mk3 f ⟨v.toNat, h⟩ c) := by
  unfold tabs
  refine shapeCast_apply _ _ _ (mk3 f ⟨v.toNat, h⟩ c) ?_
  rw [Shape.rowMajor_val_two, Shape.rowMajor_val_three]
  show (f.val * 1000 + v.toNat) * 128 + c.val = (v + BitVec.ofNat 32 f.val * 1000#32).toNat % 26000 * 128 + c.val
  have hf := f.isLt
  rw [BitVec.toNat_add, BitVec.toNat_mul, BitVec.toNat_ofNat, show (1000#32).toNat = 1000 from rfl, Nat.mod_eq_of_lt (show f.val < 2 ^ 32 by omega),
    Nat.mod_eq_of_lt (show f.val * 1000 < 2 ^ 32 by omega), Nat.mod_eq_of_lt (show v.toNat + f.val * 1000 < 2 ^ 32 by omega), Nat.mod_eq_of_lt (show v.toNat + f.val * 1000 < 26000 by omega)]
  omega

/-- The call's sums are the reference's. -/
theorem value (x : S16384x26.Idx → Elt Ideal .i32) (p : S26x1000x128.Idx → Elt Ideal .f32) (h : ∀ y : S16384x26.Idx, (x y : BitVec 32).toNat < 1000) :
    H1 (F := Ideal) (flat x) (tabs p) = ref x p := by
  funext y
  obtain ⟨b, c, rfl⟩ : ∃ (b : Fin 16384) (c : Fin 128), y = mk2 b c := ⟨y 0, y 1, ext2 rfl rfl⟩
  rw [ref_at x p h]
  refine (lsum_eq _ 25 (by decide)).trans (Finset.sum_congr rfl fun f _ => ?_)
  refine (congrArg (fun v => tabs (F := Ideal) p (mk2 (rowOf v) c)) (flat_at x b f _ _ _)).trans ?_
  exact tabs_at p f _ (h _) c

end Cert.BagProof

end
-- ==== Proof.Bag.Claims.lean ====
/-
  The claims of the SparseCore call alone, with its host code, from a tile's obligation.
-/
module

public import proofs.«01_k».proof.Defs
public import proofs.«01_k».proof.Proof.Gen.Bag
public import proofs.«01_k».proof.Proof.Gen.BagIdeal
public import proofs.«01_k».proof.Proof.Gen.BagReferenceIdeal
public import proofs.«01_k».proof.Proof.Gen.BagReferenceIdeal.Run
public import proofs.«01_k».proof.Proof.Gen.Pre_bag_inputs_ok
public import proofs.«01_k».proof.Proof.Bag.Launch
public import proofs.«01_k».proof.Proof.Bag.Same
public import proofs.«01_k».proof.Proof.Bag.Value
public import Idealize.ShloMosaic.Adequacy
public import Idealize.ShloMosaic.Init

@[expose] public section

noncomputable section

namespace Cert.BagProof

open Idealize.ShloMosaic Idealize.SL.Sem

/-- The precondition bounds the indices, in the call's launch memory -/
theorem ok_bag (m : (ℓ : Loc Cert.Bag.nD Cert.Bag.τ Cert.Bag.sig) → Buf (Elt Bits) ℓ) (h : Cert.Pre_Bag m) : PreOK (F := Bits) m := fun d x => by
  have e := congrFun (h d) x
  simp only [Pre_bag_inputs_ok.fn, andi, cmpi, broadcastInDim, constantI] at e
  exact word_lt _ e

/-- and in its idealization's. -/
theorem ok_ideal (m : (ℓ : Loc Cert.BagIdeal.nD Cert.BagIdeal.τ Cert.BagIdeal.sig) → Buf (Elt Ideal) ℓ) (h : Cert.Pre_BagIdeal m) : PreOK (F := Ideal) m := fun d x => by
  have e := congrFun (h d) x
  simp only [Pre_bag_inputs_ok.fn, andi, cmpi, broadcastInDim, constantI] at e
  exact word_lt _ e

/-- The call, as printed, terminates, faults nowhere, and leaves its arguments and every semaphore as they were. -/
theorem frame_bag (obl : (K (F := Bits)).TileObl (D (F := Bits)) 𝒱 (P (F := Bits)) v₀ 0) : Cert.quiescent_Bag := fun m ρ hpre =>
  (θ_run Cert.Bag.defs _ _).mono (fun _ h => ⟨fun c => ⟨(h.1 c).1 Cert.BagIdeal.main_arg0 (by decide), (h.1 c).1 Cert.BagIdeal.main_arg1 (by decide)⟩, h.2⟩)
    (run_same m ρ _ (run_main (F := Bits) m ρ obl (ok_bag m hpre)))

/-- So does its idealization. -/
theorem frame_ideal (obl : (K (F := Ideal)).TileObl (D (F := Ideal)) 𝒱 (P (F := Ideal)) v₀ 0) : Cert.quiescent_BagIdeal := fun m ρ hpre =>
  (θ_run Cert.BagIdeal.defs _ _).mono (fun _ h => ⟨fun c => ⟨(h.1 c).1 Cert.BagIdeal.main_arg0 (by decide), (h.1 c).1 Cert.BagIdeal.main_arg1 (by decide)⟩, h.2⟩)
    (run_main (F := Ideal) m ρ obl (ok_ideal m hpre))

/-- So does the reference's, which has no semaphore. -/
theorem frame_reference : Cert.quiescent_BagReferenceIdeal := fun m ρ _ =>
  (θ_run Cert.BagReferenceIdeal.defs _ _).mono (fun r h => ⟨fun c => ⟨(h c).2.1, (h c).2.2⟩, Idealize.ShloMosaic.sem_eq_zero_of_no_sems (by decide) r.2⟩)
    (Cert.BagReferenceIdeal.Value.run (F := Ideal) m ρ)

/-- Over the extended reals, the call's result is the reference's. -/
theorem algebraic (obl : (K (F := Ideal)).TileObl (D (F := Ideal)) 𝒱 (P (F := Ideal)) v₀ 0) : Cert.algebraic_BagIdeal_BagReferenceIdeal := fun m ρ m' ρ' hpre hm =>
  ⟨fun c => res (F := Ideal) m c,
    (θ_run Cert.BagIdeal.defs _ _).mono (fun _ h c => ⟨(h.1 c).2, (h.1 c).1 Cert.BagIdeal.main_arg0 (by decide), (h.1 c).1 Cert.BagIdeal.main_arg1 (by decide)⟩)
      (run_main (F := Ideal) m ρ obl (ok_ideal m hpre)),
    (θ_run Cert.BagReferenceIdeal.defs _ _).mono (fun _ h c => ⟨(h c).1.trans (by
        rw [(hm c).1, (hm c).2]
        exact (value _ _ (ok_ideal m hpre c)).symm), (h c).2.1, (h c).2.2⟩)
      (Cert.BagReferenceIdeal.Value.run (F := Ideal) m' ρ')⟩

end Cert.BagProof

end
-- ==== Proof.Bag.TripOk.lean ====
/-
  One trip of a tile's loop carries every buffer's state from one trip to the next.
-/
module

public import proofs.«01_k».proof.Proof.Bag.Inv

@[expose] public section

noncomputable section

namespace Cert.BagProof

open Cert.BagIdeal Cert.BagIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

set_option maxRecDepth 100000 in
set_option maxHeartbeats 0 in
/-- One trip of the loop: each of the four buffers takes its turn. -/
theorem trip_ok (d : Dev nD) (L : grid0.Coords) (qt qx : Fin 4 → PosShare TreeShare) (X : S128x104.Idx → Elt F .i32) (T : S26000x128.Idx → Elt F .f32)
    (H : S16384x128.Idx → Elt F .f32) (O : CellTallies nD τ sig (HIx 1)) (W : Waits sig (HIx 1)) (hX : ∀ x, (X x).toNat < 26000)
    (hH : ∀ n < 128, ∀ (y : S4x128.Idx) (z : S16384x128.Idx), (z 0).val = base L + 4 * n + (y 0).val → (z 1).val = (y 1).val → H z = Sc (F := F) (Gc X T n) y)
    (v2 : BitVec 32) (t : Fin k0_t1_loop.trips) :
    Inv d L qt qx X T H O W t.val ⊢ wp frame (wpE (defs₀ (F := F)) 𝒱₀ (thr d L) none) Set.univ (trip L v2 t) (fun _ => Inv d L qt qx X T H O W (t.val + 1)) := by
  have ht : t.val < 32 := t.isLt
  unfold Inv
  generalize hI0 : Ib d L gM0 bM0 cc0_scratch9.sem cc0_scratch13.sem 0 (qt 0) (qx 0) X T H t.val = I0
  generalize hI1 : Ib d L gM1 bM1 cc0_scratch10.sem cc0_scratch14.sem 1 (qt 1) (qx 1) X T H t.val = I1
  generalize hI2 : Ib d L gM2 bM2 cc0_scratch11.sem cc0_scratch15.sem 2 (qt 2) (qx 2) X T H t.val = I2
  generalize hI3 : Ib d L gM3 bM3 cc0_scratch12.sem cc0_scratch16.sem 3 (qt 3) (qx 3) X T H t.val = I3
  generalize hJ0 : Ib d L gM0 bM0 cc0_scratch9.sem cc0_scratch13.sem 0 (qt 0) (qx 0) X T H (t.val + 1) = J0
  generalize hJ1 : Ib d L gM1 bM1 cc0_scratch10.sem cc0_scratch14.sem 1 (qt 1) (qx 1) X T H (t.val + 1) = J1
  generalize hJ2 : Ib d L gM2 bM2 cc0_scratch11.sem cc0_scratch15.sem 2 (qt 2) (qx 2) X T H (t.val + 1) = J2
  generalize hJ3 : Ib d L gM3 bM3 cc0_scratch12.sem cc0_scratch16.sem 3 (qt 3) (qx 3) X T H (t.val + 1) = J3
  -- buffer 0
  refine BIBase.Entails.trans (Q := iprop(iprop(I1 ∗ I2 ∗ I3) ∗ Own (F := F) d L O W ∗ Ib d L gM0 bM0 cc0_scratch9.sem cc0_scratch13.sem 0 (qt 0) (qx 0) X T H t.val))
    (by rw [hI0]; iintro ⟨HO, H0, H1, H2, H3⟩; iframe HO H0 H1 H2 H3) ?_
  refine w1 ht ?_
  refine bindI (bindI (bindI (retI ?_)))
  refine dite_jp (hf := fun hn => w2f (Decidable.not_not.mp fun h0 => hn ((cond1_iff t).mpr h0))) (ht := fun hC hJ => w2t ((cond1_iff t).mp hC) rfl hJ) (h := ?_)
  refine bindE (bindE (w3 (fun g o hg => ?_)))
  iterate 32 refine runS (c := thr d L) (gb := (cc0_scratch1).idx) (ob := (cc0_scratch5).idx) (g := g) (S := sums gM0 g bM0 o) (f := putj gM0 g bM0) (hS := rfl) (h := fun o' => rfl) (hk := ?_)
  refine bindI (bindI ?_)
  refine dite_jp (R := Mid iprop(I1 ∗ I2 ∗ I3) d L gM0 bM0 cc0_scratch9.sem cc0_scratch13.sem 0 (qt 0) (qx 0) X T H O W t.val (sums gM0 g bM0 o 32))
    (hf := fun hn => w4f (Fr := iprop(I1 ∗ I2 ∗ I3)) (d := d) (L := L) (gM := gM0) (bM := bM0) (gs := cc0_scratch9.sem) (os := cc0_scratch13.sem) (b := 0) (qt := qt 0) (qx := qx 0) (X := X) (T := T) (H := H) (O := O) (W := W) (t := t.val)
      (g := g) (w := sums gM0 g bM0 o 32) (fun h0 => hn ((cond2_iff t).mpr h0)))
    (ht := fun hC hJ => w4t (Fr := iprop(I1 ∗ I2 ∗ I3)) (d := d) (L := L) (gM := gM0) (bM := bM0) (gs := cc0_scratch9.sem) (os := cc0_scratch13.sem) (b := 0) (qt := qt 0) (qx := qx 0) (X := X) (T := T) (H := H) (O := O) (W := W) (t := t.val)
      (g := g) (w := sums gM0 g bM0 o 32) (by decide) ((cond2_iff t).mp hC) hX (k0_off4_eq t) (hN0 _) hJ) (h := ?_)
  refine w5 (Fr := iprop(I1 ∗ I2 ∗ I3)) (d := d) (L := L) (gM := gM0) (bM := bM0) (gs := cc0_scratch9.sem) (os := cc0_scratch13.sem) (b := 0) (qt := qt 0) (qx := qx 0) (X := X) (T := T) (H := H) (O := O) (W := W) (t := t.val)
    (w := sums gM0 g bM0 o 32) ht (by decide) (off5_eq L t 0) (hM0 _ _ _) hP0 (sums_read gM0 g bM0 o) (by rw [hg]; exact hH _ (by omega)) ?_
  -- buffer 1
  refine retI ?_
  refine BIBase.Entails.trans (Q := iprop(iprop(J0 ∗ I2 ∗ I3) ∗ Own (F := F) d L O W ∗ Ib d L gM1 bM1 cc0_scratch10.sem cc0_scratch14.sem 1 (qt 1) (qx 1) X T H t.val))
    (by rw [hI1, hJ0]; iintro ⟨⟨HA, HB, HC⟩, HO, HD⟩; iframe HO HA HB HC HD) ?_
  refine w1 (Fr := iprop(J0 ∗ I2 ∗ I3)) (d := d) (L := L) (gM := gM1) (bM := bM1) (gs := cc0_scratch10.sem) (os := cc0_scratch14.sem) (b := 1) (qt := qt 1) (qx := qx 1) (X := X) (T := T) (H := H) (O := O) (W := W) (t := t.val) ht ?_
  refine bindI (bindI (retI ?_))
  refine dite_jp (hf := fun hn => w2f (Decidable.not_not.mp fun h0 => hn ((cond3_iff t).mpr h0))) (ht := fun hC hJ => w2t ((cond3_iff t).mp hC) rfl hJ) (h := ?_)
  refine bindE (bindE (w3 (fun g o hg => ?_)))
  iterate 32 refine runS (c := thr d L) (gb := (cc0_scratch2).idx) (ob := (cc0_scratch6).idx) (g := g) (S := sums gM1 g bM1 o) (f := putj gM1 g bM1) (hS := rfl) (h := fun o' => rfl) (hk := ?_)
  refine bindI (bindI ?_)
  refine dite_jp (R := Mid iprop(J0 ∗ I2 ∗ I3) d L gM1 bM1 cc0_scratch10.sem cc0_scratch14.sem 1 (qt 1) (qx 1) X T H O W t.val (sums gM1 g bM1 o 32))
    (hf := fun hn => w4f (Fr := iprop(J0 ∗ I2 ∗ I3)) (d := d) (L := L) (gM := gM1) (bM := bM1) (gs := cc0_scratch10.sem) (os := cc0_scratch14.sem) (b := 1) (qt := qt 1) (qx := qx 1) (X := X) (T := T) (H := H) (O := O) (W := W) (t := t.val)
      (g := g) (w := sums gM1 g bM1 o 32) (fun h0 => hn ((cond4_iff t).mpr h0)))
    (ht := fun hC hJ => w4t (Fr := iprop(J0 ∗ I2 ∗ I3)) (d := d) (L := L) (gM := gM1) (bM := bM1) (gs := cc0_scratch10.sem) (os := cc0_scratch14.sem) (b := 1) (qt := qt 1) (qx := qx 1) (X := X) (T := T) (H := H) (O := O) (W := W) (t := t.val)
      (g := g) (w := sums gM1 g bM1 o 32) (by decide) ((cond4_iff t).mp hC) hX (k0_off7_eq t) (hN1 _) hJ) (h := ?_)
  refine w5 (Fr := iprop(J0 ∗ I2 ∗ I3)) (d := d) (L := L) (gM := gM1) (bM := bM1) (gs := cc0_scratch10.sem) (os := cc0_scratch14.sem) (b := 1) (qt := qt 1) (qx := qx 1) (X := X) (T := T) (H := H) (O := O) (W := W) (t := t.val)
    (w := sums gM1 g bM1 o 32) ht (by decide) (off5_eq L t 1) (hM1 _ _ _) hP1 (sums_read gM1 g bM1 o) (by rw [hg]; exact hH _ (by omega)) ?_
  -- buffer 2
  refine retI ?_
  refine BIBase.Entails.trans (Q := iprop(iprop(J0 ∗ J1 ∗ I3) ∗ Own (F := F) d L O W ∗ Ib d L gM2 bM2 cc0_scratch11.sem cc0_scratch15.sem 2 (qt 2) (qx 2) X T H t.val))
    (by rw [hI2, hJ1]; iintro ⟨⟨HA, HB, HC⟩, HO, HD⟩; iframe HO HA HB HC HD) ?_
  refine w1 (Fr := iprop(J0 ∗ J1 ∗ I3)) (d := d) (L := L) (gM := gM2) (bM := bM2) (gs := cc0_scratch11.sem) (os := cc0_scratch15.sem) (b := 2) (qt := qt 2) (qx := qx 2) (X := X) (T := T) (H := H) (O := O) (W := W) (t := t.val) ht ?_
  refine bindI (bindI (retI ?_))
  refine dite_jp (hf := fun hn => w2f (Decidable.not_not.mp fun h0 => hn ((cond5_iff t).mpr h0))) (ht := fun hC hJ => w2t ((cond5_iff t).mp hC) rfl hJ) (h := ?_)
  refine bindE (bindE (w3 (fun g o hg => ?_)))
  iterate 32 refine runS (c := thr d L) (gb := (cc0_scratch3).idx) (ob := (cc0_scratch7).idx) (g := g) (S := sums gM2 g bM2 o) (f := putj gM2 g bM2) (hS := rfl) (h := fun o' => rfl) (hk := ?_)
  refine bindI (bindI ?_)
  refine dite_jp (R := Mid iprop(J0 ∗ J1 ∗ I3) d L gM2 bM2 cc0_scratch11.sem cc0_scratch15.sem 2 (qt 2) (qx 2) X T H O W t.val (sums gM2 g bM2 o 32))
    (hf := fun hn => w4f (Fr := iprop(J0 ∗ J1 ∗ I3)) (d := d) (L := L) (gM := gM2) (bM := bM2) (gs := cc0_scratch11.sem) (os := cc0_scratch15.sem) (b := 2) (qt := qt 2) (qx := qx 2) (X := X) (T := T) (H := H) (O := O) (W := W) (t := t.val)
      (g := g) (w := sums gM2 g bM2 o 32) (fun h0 => hn ((cond6_iff t).mpr h0)))
    (ht := fun hC hJ => w4t (Fr := iprop(J0 ∗ J1 ∗ I3)) (d := d) (L := L) (gM := gM2) (bM := bM2) (gs := cc0_scratch11.sem) (os := cc0_scratch15.sem) (b := 2) (qt := qt 2) (qx := qx 2) (X := X) (T := T) (H := H) (O := O) (W := W) (t := t.val)
      (g := g) (w := sums gM2 g bM2 o 32) (by decide) ((cond6_iff t).mp hC) hX (k0_off9_eq t) (hN2 _) hJ) (h := ?_)
  refine w5 (Fr := iprop(J0 ∗ J1 ∗ I3)) (d := d) (L := L) (gM := gM2) (bM := bM2) (gs := cc0_scratch11.sem) (os := cc0_scratch15.sem) (b := 2) (qt := qt 2) (qx := qx 2) (X := X) (T := T) (H := H) (O := O) (W := W) (t := t.val)
    (w := sums gM2 g bM2 o 32) ht (by decide) (off5_eq L t 2) (hM2 _ _ _) hP2 (sums_read gM2 g bM2 o) (by rw [hg]; exact hH _ (by omega)) ?_
  -- buffer 3
  refine BIBase.Entails.trans (Q := iprop(iprop(J0 ∗ J1 ∗ J2) ∗ Own (F := F) d L O W ∗ Ib d L gM3 bM3 cc0_scratch12.sem cc0_scratch16.sem 3 (qt 3) (qx 3) X T H t.val))
    (by rw [hI3, hJ2]; iintro ⟨⟨HA, HB, HC⟩, HO, HD⟩; iframe HO HA HB HC HD) ?_
  refine w1 (Fr := iprop(J0 ∗ J1 ∗ J2)) (d := d) (L := L) (gM := gM3) (bM := bM3) (gs := cc0_scratch12.sem) (os := cc0_scratch16.sem) (b := 3) (qt := qt 3) (qx := qx 3) (X := X) (T := T) (H := H) (O := O) (W := W) (t := t.val) ht ?_
  refine bindI (retI (retI (bindI ?_)))
  refine dite_jp (hf := fun hn => w2f (Decidable.not_not.mp fun h0 => hn ((cond7_iff t).mpr h0))) (ht := fun hC hJ => w2t ((cond7_iff t).mp hC) rfl hJ) (h := ?_)
  refine bindE (bindE (w3 (fun g o hg => ?_)))
  iterate 32 refine runS (c := thr d L) (gb := (cc0_scratch4).idx) (ob := (cc0_scratch8).idx) (g := g) (S := sums gM3 g bM3 o) (f := putj gM3 g bM3) (hS := rfl) (h := fun o' => rfl) (hk := ?_)
  refine dite_jp (R := Mid iprop(J0 ∗ J1 ∗ J2) d L gM3 bM3 cc0_scratch12.sem cc0_scratch16.sem 3 (qt 3) (qx 3) X T H O W t.val (sums gM3 g bM3 o 32))
    (hf := fun hn => w4f (Fr := iprop(J0 ∗ J1 ∗ J2)) (d := d) (L := L) (gM := gM3) (bM := bM3) (gs := cc0_scratch12.sem) (os := cc0_scratch16.sem) (b := 3) (qt := qt 3) (qx := qx 3) (X := X) (T := T) (H := H) (O := O) (W := W) (t := t.val)
      (g := g) (w := sums gM3 g bM3 o 32) (fun h0 => hn ((cond8_iff t).mpr h0)))
    (ht := fun hC hJ => w4t (Fr := iprop(J0 ∗ J1 ∗ J2)) (d := d) (L := L) (gM := gM3) (bM := bM3) (gs := cc0_scratch12.sem) (os := cc0_scratch16.sem) (b := 3) (qt := qt 3) (qx := qx 3) (X := X) (T := T) (H := H) (O := O) (W := W) (t := t.val)
      (g := g) (w := sums gM3 g bM3 o 32) (by decide) ((cond8_iff t).mp hC) hX (k0_off11_eq t) (hN3 _) hJ) (h := ?_)
  refine w5 (Fr := iprop(J0 ∗ J1 ∗ J2)) (d := d) (L := L) (gM := gM3) (bM := bM3) (gs := cc0_scratch12.sem) (os := cc0_scratch16.sem) (b := 3) (qt := qt 3) (qx := qx 3) (X := X) (T := T) (H := H) (O := O) (W := W) (t := t.val)
    (w := sums gM3 g bM3 o 32) ht (by decide) (off5_eq L t 3) (hM3 _ _ _) hP3 (sums_read gM3 g bM3 o) (by rw [hg]; exact hH _ (by omega)) ?_
  refine retI ?_
  rw [hJ3]
  iintro ⟨⟨HA, HB, HC⟩, HO, HD⟩
  iframe HO HA HB HC HD

end Cert.BagProof

end
-- ==== Proof.Fold.lean ====
/-
  The fold call alone: the first pipeline's result as one function of its arguments, and the call's claims.

  Each grid point multiplies one field's table by that field's rows of the weight. The points' blocks tile the result, so
  the result is, field by field, the product of the table and the rows; the reference's batched product is the same sum.
-/
module

public import proofs.«01_k».proof.Defs
public import proofs.«01_k».proof.Proof.Gen.Fold
public import proofs.«01_k».proof.Proof.Gen.FoldIdeal
public import proofs.«01_k».proof.Proof.Gen.FoldIdeal.Value
public import proofs.«01_k».proof.Proof.Gen.FoldReferenceIdeal
public import proofs.«01_k».proof.Proof.Gen.FoldReferenceIdeal.Run
public import Idealize.ShloMosaic.Lib.StackMember
public import Idealize.ShloMosaic.Lib.MatmulPlain
public import Idealize.ShloMosaic.Adequacy
public import Idealize.ShloMosaic.Init

@[expose] public section

noncomputable section

namespace Cert.FoldProof

open Cert.FoldIdeal Cert.FoldIdeal.Gen Cert.FoldIdeal.Value Idealize.ShloMosaic Idealize.ShloMosaic.TcCoe Idealize.SL.Sem
open Idealize.ShloMosaic.ValueIdx

/-- Row `k` of field `f` in the weight. -/
def row (f : Fin 26) (k : Fin 128) : Fin 3328 := ⟨128 * f.val + k.val, by omega⟩

/-- The grid point of field `f`. -/
def pt (f : Fin 26) : Fin cfg0.N := ⟨f.val, by rw [show cfg0.N = 26 from N_0]; exact f.isLt⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Where a place of field `f`'s block lies in its array: of the tables, -/
theorem at0 (f : Fin 26) (v : Fin 1000) (k : Fin 128) : ((cfg0.win 0).blk (pt f)).view.emb (ix3 (0 : Fin 1) v k : S1x1000x128.Idx) = (ix3 f v k : S26x1000x128.Idx) := by
  obtain ⟨e0, e1, e2⟩ := idx0 (pt f)
  have e : (pt f).val = f.val := rfl
  funext a; apply Fin.ext
  match a with
  | ⟨0, _⟩ => show win0_0.index (pt f) (0 : Fin 3) * 1 + 1 * 0 = f.val; omega
  | ⟨1, _⟩ => show win0_0.index (pt f) (1 : Fin 3) * 1000 + 1 * v.val = v.val; omega
  | ⟨2, _⟩ => show win0_0.index (pt f) (2 : Fin 3) * 128 + 1 * k.val = k.val; omega

/-- of the weight, -/
theorem at1 (f : Fin 26) (k h : Fin 128) : ((cfg0.win 1).blk (pt f)).view.emb (ix2 k h : S128x128.Idx) = (ix2 (row f k) h : S3328x128.Idx) := by
  obtain ⟨e0, e1⟩ := idx1 (pt f)
  have e : (pt f).val = f.val := rfl
  funext a; apply Fin.ext
  match a with
  | ⟨0, _⟩ => show win0_1.index (pt f) (0 : Fin 2) * 128 + 1 * k.val = 128 * f.val + k.val; omega
  | ⟨1, _⟩ => show win0_1.index (pt f) (1 : Fin 2) * 128 + 1 * h.val = h.val; omega

/-- and of the result. -/
theorem at2 (f : Fin 26) (v : Fin 1000) (h : Fin 128) : ((cfg0.win 2).blk (pt f)).view.emb (ix3 (0 : Fin 1) v h : S1x1000x128.Idx) = (ix3 f v h : S26x1000x128.Idx) := by
  obtain ⟨e0, e1, e2⟩ := idx2 (pt f)
  have e : (pt f).val = f.val := rfl
  funext a; apply Fin.ext
  match a with
  | ⟨0, _⟩ => show win0_2.index (pt f) (0 : Fin 3) * 1 + 1 * 0 = f.val; omega
  | ⟨1, _⟩ => show win0_2.index (pt f) (1 : Fin 3) * 1000 + 1 * v.val = v.val; omega
  | ⟨2, _⟩ => show win0_2.index (pt f) (2 : Fin 3) * 128 + 1 * h.val = h.val; omega

/-- What a point computes, at a place: a table's row times a column of the weight's rows. -/
theorem pay_at (x : Vec Ideal S1x1000x128 .f32) (w : Vec Ideal S128x128 .f32) (v : Fin 1000) (h : Fin 128) :
    k0_pay1 (F := Ideal) x w (ix3 (0 : Fin 1) v h : S1x1000x128.Idx)
      = ∑ k : Fin 128, (x (ix3 (0 : Fin 1) v k : S1x1000x128.Idx) : EReal) * w (ix2 k h : S128x128.Idx) := by
  unfold k0_pay1
  refine (shapeCast_apply _ _ (ix3 (0 : Fin 1) v h) (ix2 v h) (by rw [Shape.rowMajor_val_two, Shape.rowMajor_val_three]; simp)).trans ?_
  refine (Ideal.matmul_plain_apply (M := 1000) (K := 128) (N := 128) none _ _ _ v h).trans ?_
  have hz : constant (F := Ideal) S1000x128 .f32 0x00000000#32 (ix2 v h) = 0 := Ideal.ofBits_zero_f32
  rw [hz, zero_add]
  refine Finset.sum_congr rfl fun k _ => ?_
  exact congrArg (· * w (ix2 k h : S128x128.Idx)) (shapeCast_apply x _ (ix2 v k) (ix3 (0 : Fin 1) v k) (by rw [Shape.rowMajor_val_two, Shape.rowMajor_val_three]; simp))

theorem hz3 : (![0, 0, 0] : Fin 3 → Nat) = fun _ => 0 := funext fun a => by fin_cases a <;> rfl
theorem hz2 : (![0, 0] : Fin 2 → Nat) = fun _ => 0 := funext fun a => by fin_cases a <;> rfl

/-- A point's one store covers its block. -/
theorem out_eq (x : Vec Ideal S1x1000x128 .f32) (w : Vec Ideal S128x128 .f32) : out0_2 (F := Ideal) x w = k0_pay1 (F := Ideal) x w := by
  unfold out0_2
  rw [View.canon_unit_zero hz3, View.ld_unit_zero hz3, View.ld_unit_zero hz2]

variable (m : (ℓ : Loc nD τ sig) → Buf (Elt Ideal) ℓ) (ρ : Dev nD → PrngReg)

/-- The tables as launched, -/
def tabs (c : Dev nD) : Vec Ideal S26x1000x128 .f32 := m ((c : Thread nD τ).loc main_arg0)

/-- the weight, -/
def wt (c : Dev nD) : Vec Ideal S3328x128 .f32 := m ((c : Thread nD τ).loc main_arg1)

/-- and the result after the run. -/
def folded (c : Dev nD) : Vec Ideal S26x1000x128 .f32 := (dats (F := Ideal) m 0 c).arrAt 2 cfg0.N

/-- The folded tables, at a place. -/
theorem entry (c : Dev nD) (f : Fin 26) (v : Fin 1000) (h : Fin 128) :
    folded m c (ix3 f v h) = ∑ k : Fin 128, (tabs m c (ix3 f v k) : EReal) * wt m c (ix2 (row f k) h) := by
  have e := congrFun ((blocks2 (F := Ideal) m c (pt f) (flush0_2 (pt f))).trans (flushed2 (F := Ideal) m c (pt f))) (ix3 (0 : Fin 1) v h : S1x1000x128.Idx)
  rw [out_eq] at e
  refine (congrArg (folded m c) (at2 f v h)).symm.trans (e.trans ?_)
  refine (pay_at _ _ v h).trans (Finset.sum_congr rfl fun k _ => ?_)
  exact congrArg₂ (fun a b : EReal => a * b) (congrArg (tabs m c) (at0 f v k)) (congrArg (wt m c) (at1 f k h))

/-- The reference's product, at a place. -/
theorem ref_at (A : Vec Ideal S26x1000x128 .f32) (W : Vec Ideal S3328x128 .f32) (hc) (f : Fin 26) (v : Fin 1000) (h : Fin 128) :
    Host.dotGeneral (F := Ideal) (φ₁ := .f32) (φ₂ := .f32) Cert.FoldReferenceIdeal.dot_S26x1000x128_S26x128x128_S26x1000x128_2_1_1_2_0_0 none A (shapeCast Cert.FoldReferenceIdeal.S26x128x128 W hc) (ix3 f v h)
      = ∑ k : Fin 128, (A (ix3 f v k) : EReal) * W (ix2 (row f k) h) := by
  refine (StackMember.dotGeneral_stack_apply (G := 26) (m := 1000) (n := 128) (k := 128) _ none A _ f v h).trans (Finset.sum_congr rfl fun k _ => ?_)
  exact congrArg (A (ix3 f v k) * ·) (shapeCast_apply W hc (ix3 f k h) (ix2 (row f k) h) (by
    rw [Shape.rowMajor_val_two, Shape.rowMajor_val_three]
    show (128 * f.val + k.val) * 128 + h.val = (f.val * 128 + k.val) * 128 + h.val
    omega))

/-- The folded tables are the reference's. -/
theorem value (c : Dev nD) (hc) : folded m c
    = Host.dotGeneral (F := Ideal) (φ₁ := .f32) (φ₂ := .f32) Cert.FoldReferenceIdeal.dot_S26x1000x128_S26x128x128_S26x1000x128_2_1_1_2_0_0 none
        (tabs m c) (shapeCast Cert.FoldReferenceIdeal.S26x128x128 (wt m c) hc) := funext fun j => by
  rw [eq_ix3 j]
  exact (entry m c (j 0) (j 1) (j 2)).trans (ref_at _ _ hc (j 0) (j 1) (j 2)).symm

/-- The bodies, as printed and as idealized, are the same, -/
theorem bodies_eq {F : FTy → Type} [FloatOps F] : Cert.Fold.defs₀ (F := F) = Cert.FoldIdeal.defs₀ (F := F) := by
  funext pr ℓ a
  match pr, ℓ, a with
  | .tc, 0, a => rfl
  | .scVector c s, 0, a => rfl
  | .scScalar c, 0, a => rfl

/-- and so are what their labels run. -/
theorem defs_eq {F : FTy → Type} [FloatOps F] : Cert.Fold.defs (F := F) = Cert.FoldIdeal.defs (F := F) := by
  unfold Cert.Fold.defs Cert.FoldIdeal.defs
  rw [bodies_eq]
  rfl

/-- The call, as printed, terminates, faults nowhere, and leaves its arguments and every semaphore as they were. -/
theorem frame_fold : Cert.quiescent_Fold := fun m ρ _ => by
  rw [defs_eq]
  exact Cert.FoldIdeal.Gen.frame (F := Bits) m ρ

/-- So does its idealization. -/
theorem frame_ideal : Cert.quiescent_FoldIdeal := fun m ρ _ => Cert.FoldIdeal.Gen.frame (F := Ideal) m ρ

/-- So does the reference's, which has no semaphore. -/
theorem frame_reference : Cert.quiescent_FoldReferenceIdeal := fun m ρ _ =>
  (θ_run Cert.FoldReferenceIdeal.defs _ _).mono (fun r h => ⟨fun c => ⟨(h c).2.1, (h c).2.2⟩, Idealize.ShloMosaic.sem_eq_zero_of_no_sems (by decide) r.2⟩)
    (Cert.FoldReferenceIdeal.Value.run (F := Ideal) m ρ)

/-- Over the extended reals, the call's result is the reference's. -/
theorem algebraic : Cert.algebraic_FoldIdeal_FoldReferenceIdeal := fun m ρ m' ρ' _ hm =>
  ⟨fun c => folded m c,
    run_blocks (F := Ideal) m ρ,
    (θ_run Cert.FoldReferenceIdeal.defs _ _).mono (fun _ h c => ⟨(h c).1.trans (by
        rw [(hm c).1, (hm c).2]
        exact (value m c _).symm), (h c).2.1, (h c).2.2⟩)
      (Cert.FoldReferenceIdeal.Value.run (F := Ideal) m' ρ')⟩

end Cert.FoldProof

end
-- ==== Proof.Tail.Body.lean ====
/-
  One grid point of the second pipeline's body, in its three cases: the first point, which clears the two running sums and
  adds the first block's; a later point of the first pass, which adds its block's; and a point of the second pass, which
  writes its block of the result.
-/
module

public import proofs.«01_k».proof.Proof.Gen.TailIdeal
public import proofs.«01_k».proof.Proof.Gen.TailIdeal.Launch
public import Idealize.ShloMosaic.Lib.Pipeline.FrameBody
public import Idealize.ShloMosaic.Lib.Pipeline.DatRel
public import Idealize.ShloMosaic.Lib.Pipeline.ArrRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.TailProof

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A row of zeros. -/
def zeroRow : Vec F S1x128 .f32 := broadcast S1x128 (Scalar.ofBits .f32 0x00000000#32)

/-- A block's columns, summed. -/
def colSum (x : Vec F S1024x128 .f32) : Vec F S1x128 .f32 :=
  shapeCast S1x128 (multiReduction .add [0] S128 x 0x00000000#32 reduces_S1024x128_S128 (.inl rfl) rfl) shapeCasts_S128_S1x128

/-- The running sum after one more block. -/
def stepSum (s : Vec F S1x128 .f32) (x : Vec F S1024x128 .f32) : Vec F S1x128 .f32 := addf s (colSum x)

/-- The running sum of squares after one more block. -/
def stepSq (s : Vec F S1x128 .f32) (x : Vec F S1024x128 .f32) : Vec F S1x128 .f32 := addf s (colSum (mulf x x))

/-- The mean, from the sum. -/
def mean (s : Vec F S1x128 .f32) : Vec F S1x128 .f32 := mulf s (broadcast S1x128 (Scalar.ofBits .f32 0x38800000#32))

/-- The scale of each column: one over the root of its variance, padded. -/
def scale (s q : Vec F S1x128 .f32) : Vec F S1x128 .f32 :=
  rsqrt (addf (subf (mulf q (broadcast S1x128 (Scalar.ofBits .f32 0x38800000#32))) (mulf (mean s) (mean s))) (broadcast S1x128 (Scalar.ofBits .f32 0x3727C5AC#32)))

/-- A block normalized and cut off below zero. -/
def normed (x : Vec F S1024x128 .f32) (s q g be : Vec F S1x128 .f32) : Vec F S1024x128 .f32 :=
  maximumf (addf (mulf (mulf (broadcastTo S1024x128 g broadcasts_S1x128_S1024x128) (subf x (broadcastTo S1024x128 (mean s) broadcasts_S1x128_S1024x128)))
    (broadcastTo S1024x128 (scale s q) broadcasts_S1x128_S1024x128)) (broadcastTo S1024x128 be broadcasts_S1x128_S1024x128)) (broadcast S1024x128 (Scalar.ofBits .f32 0x00000000#32))

/-- The hidden layer of a block. -/
def hidden (y : Vec F S1024x128 .f32) (w2 : Vec F S128x64 .f32) (b2 : Vec F S1x64 .f32) : Vec F S1024x64 .f32 :=
  maximumf (addf (matmul (φ₁ := .f32) (φ₂ := .f32) dot_S1024x128_S128x64_S1024x64_1_0_0_1_n_n none y w2 (constant S1024x64 .f32 0x00000000#32)) (broadcastTo S1024x64 b2 broadcasts_S1x64_S1024x64))
    (broadcast S1024x64 (Scalar.ofBits .f32 0x00000000#32))

/-- What the second pass writes of a block, from the two sums and the weights. -/
def pay (x : Vec F S1024x128 .f32) (g be : Vec F S1x128 .f32) (w2 : Vec F S128x64 .f32) (b2 : Vec F S1x64 .f32) (w3 : Vec F S64x1 .f32) (b3 : Vec F S1x1 .f32)
    (s q : Vec F S1x128 .f32) : Vec F S1024x1 .f32 :=
  addf (matmul (φ₁ := .f32) (φ₂ := .f32) dot_S1024x64_S64x1_S1024x1_1_0_0_1_n_n none (hidden (normed x s q g be) w2 b2) w3 (constant S1024x1 .f32 0x00000000#32))
    (broadcastTo S1024x1 b3 broadcasts_S1x1_S1024x1)

theorem hz2 : (![0, 0] : Fin 2 → Nat) = fun _ => 0 := funext fun a => by fin_cases a <;> rfl

/-- A cast to the same shape is nothing. -/
theorem cast_same {S : Shape} {e : EltTy} (v : Vec F S e) (h) : shapeCast S v h = v := by
  funext j; exact shapeCast_apply v h j j rfl

/-- A load of a whole buffer reads all of it. -/
theorem readAt_whole {sp : Space} {d : Fin 2 → ℕ} {e : EltTy} (M : Memref sig .tc sp ⟨2, d⟩ e) (f : BufTy.Contents (Elt F) M.view.ty)
    (inb : ∀ a, (![0, 0] : Fin 2 → ℕ) a + d a ≤ d a) :
    View.readAt (Elt F) M.view (Rect.unit (s := ⟨2, d⟩) ![0, 0] d inb).toLoadRect f = M.view.read (Elt F) f :=
  View.ld_unit_zero (S := ⟨2, d⟩) hz2 inb (M.view.read (Elt F) f)

/-- A covering store, last, is what is left. -/
theorem canon_whole {d : Fin 2 → ℕ} {e : EltTy} (inb : ∀ a, (![0, 0] : Fin 2 → ℕ) a + d a ≤ d a) (w : Shape.Idx ⟨2, d⟩ → Elt F e)
    (L : List (View.Piece (Elt F) ⟨2, d⟩ e)) :
    View.canon ((⟨Rect.unit (s := ⟨2, d⟩) ![0, 0] d inb, w⟩ : View.Piece (Elt F) ⟨2, d⟩ e) :: L) = w :=
  View.canon_cons_unit_zero (S := ⟨2, d⟩) hz2 inb w L

/-- A load after one covering store reads what was stored. -/
theorem readCov_whole {sp : Space} {d : Fin 2 → ℕ} {e : EltTy} (M : Memref sig .tc sp ⟨2, d⟩ e) (inb : ∀ a, (![0, 0] : Fin 2 → ℕ) a + d a ≤ d a)
    (w : Shape.Idx ⟨2, d⟩ → Elt F e) :
    M.view.readCov [(⟨Rect.unit (s := ⟨2, d⟩) ![0, 0] d inb, w⟩ : View.Piece (Elt F) ⟨2, d⟩ e)] (Rect.unit (s := ⟨2, d⟩) ![0, 0] d inb).toLoadRect = w :=
  View.readCov_unit_zero (S := ⟨2, d⟩) M.view hz2 inb w

set_option maxHeartbeats 1000000 in
/-- The first point. -/
theorem first_point (c : Dev nD) (E : Set ℕ) (i : grid0.Coords) (M2 : Memref sig .tc .vmem S1024x128 .f32) (h2 : M2.IsWhole) (M3 : Memref sig .tc .vmem S1x128 .f32) (h3 : M3.IsWhole) (M4 : Memref sig .tc .vmem S1x128 .f32) (h4 : M4.IsWhole) (M5 : Memref sig .tc .vmem S128x64 .f32) (h5 : M5.IsWhole) (M6 : Memref sig .tc .vmem S1x64 .f32) (h6 : M6.IsWhole) (M7 : Memref sig .tc .vmem S64x1 .f32) (h7 : M7.IsWhole) (M8 : Memref sig .tc .vmem S1x1 .f32) (h8 : M8.IsWhole) (M9 : Memref sig .tc .vmem S1024x1 .f32) (h9 : M9.IsWhole) (M10 : Memref sig .tc .vmem S1x128 .f32) (h10 : M10.IsWhole) (M11 : Memref sig .tc .vmem S1x128 .f32) (h11 : M11.IsWhole)
    (k1 : (Scalar.cmpi .ne (Scalar.extui (Scalar.andi (Scalar.cmpi .eq (BitVec.ofNat 32 (i 0).val) 0#32) (Scalar.cmpi .eq (BitVec.ofNat 32 (i 1).val) 0#32)) : BitVec 32) 0#32 : BitVec 1) = 1#1) (k2 : (Scalar.cmpi .ne (Scalar.extui (Scalar.cmpi .eq (BitVec.ofNat 32 (i 0).val) 0#32) : BitVec 32) 0#32 : BitVec 1) = 1#1) (k3 : ¬ k0_cond3 i = 1#1)
    (x2 : Vec F S1024x128 .f32) (x3 : Vec F S1x128 .f32) (x4 : Vec F S1x128 .f32) (x5 : Vec F S128x64 .f32) (x6 : Vec F S1x64 .f32) (x7 : Vec F S64x1 .f32) (x8 : Vec F S1x1 .f32) (x9 : Vec F S1024x1 .f32) (s q : Vec F S1x128 .f32) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare s ∗ owns (c : Thread nD τ) M11 fullShare q
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare (stepSum zeroRow x2) ∗ owns (c : Thread nD τ) M11 fullShare (stepSq zeroRow x2)) -∗ K ⟨⟩))
      ⊢ wp frame (wpE (defs₀ (F := F)) Variants.none c none) E (cc0__tail_body i M2 h2 M3 h3 M4 h4 M5 h5 M6 h6 M7 h7 M8 h8 M9 h9 M10 h10 M11 h11) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf2 hf3 hf4 hf5 hf6 hf7 hf8 hf9 hf10 hf11
  unfold cc0__tail_body
  simp only [k1, k2, k3, dif_pos, ↓reduceDIte, k0_part1]
  sl_exec!
  sl_step
  iapply Hk
  isplitl [H2]
  · iexists _; isplitr; swap
    · iexact H2
    · ipureintro; rfl
  isplitl [H3]
  · iexists _; isplitr; swap
    · iexact H3
    · ipureintro; rfl
  isplitl [H4]
  · iexists _; isplitr; swap
    · iexact H4
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rfl
  isplitl [H8]
  · iexists _; isplitr; swap
    · iexact H8
    · ipureintro; rfl
  isplitl [H9]
  · iexists _; isplitr; swap
    · iexact H9
    · ipureintro; rfl
  isplitl [H10]
  · iexists _; isplitr; swap
    · iexact H10
    · ipureintro; (first | unfold first_point.sl.H10_2 | unfold first_point.sl.H11_2); simp only [readAt_whole, View.read_writes_junk_eq_canon, cast_same]; refine (canon_whole _ _ _).trans ?_; refine (cast_same (F := F) (S := S1x128) (e := .f32) _ _).trans ?_; (first | unfold first_point.sl.v19 | unfold first_point.sl.v12); (first | unfold first_point.sl.H10_1 | unfold first_point.sl.H11_1); exact congrArg (fun z => addf z _) ((readCov_whole _ _ _).trans (cast_same (F := F) (S := S1x128) (e := .f32) _ _))
  · iexists _; isplitr; swap
    · iexact H11
    · ipureintro; (first | unfold first_point.sl.H10_2 | unfold first_point.sl.H11_2); simp only [readAt_whole, View.read_writes_junk_eq_canon, cast_same]; refine (canon_whole _ _ _).trans ?_; refine (cast_same (F := F) (S := S1x128) (e := .f32) _ _).trans ?_; (first | unfold first_point.sl.v19 | unfold first_point.sl.v12); (first | unfold first_point.sl.H10_1 | unfold first_point.sl.H11_1); exact congrArg (fun z => addf z _) ((readCov_whole _ _ _).trans (cast_same (F := F) (S := S1x128) (e := .f32) _ _))

set_option maxHeartbeats 1000000 in
/-- A later point of the first pass. -/
theorem sum_point (c : Dev nD) (E : Set ℕ) (i : grid0.Coords) (M2 : Memref sig .tc .vmem S1024x128 .f32) (h2 : M2.IsWhole) (M3 : Memref sig .tc .vmem S1x128 .f32) (h3 : M3.IsWhole) (M4 : Memref sig .tc .vmem S1x128 .f32) (h4 : M4.IsWhole) (M5 : Memref sig .tc .vmem S128x64 .f32) (h5 : M5.IsWhole) (M6 : Memref sig .tc .vmem S1x64 .f32) (h6 : M6.IsWhole) (M7 : Memref sig .tc .vmem S64x1 .f32) (h7 : M7.IsWhole) (M8 : Memref sig .tc .vmem S1x1 .f32) (h8 : M8.IsWhole) (M9 : Memref sig .tc .vmem S1024x1 .f32) (h9 : M9.IsWhole) (M10 : Memref sig .tc .vmem S1x128 .f32) (h10 : M10.IsWhole) (M11 : Memref sig .tc .vmem S1x128 .f32) (h11 : M11.IsWhole)
    (k1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 : BitVec 1) = 1#1) (k2 : (Scalar.cmpi .ne (Scalar.extui (Scalar.cmpi .eq (BitVec.ofNat 32 (i 0).val) 0#32) : BitVec 32) 0#32 : BitVec 1) = 1#1) (k3 : ¬ k0_cond3 i = 1#1)
    (x2 : Vec F S1024x128 .f32) (x3 : Vec F S1x128 .f32) (x4 : Vec F S1x128 .f32) (x5 : Vec F S128x64 .f32) (x6 : Vec F S1x64 .f32) (x7 : Vec F S64x1 .f32) (x8 : Vec F S1x1 .f32) (x9 : Vec F S1024x1 .f32) (s q : Vec F S1x128 .f32) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare s ∗ owns (c : Thread nD τ) M11 fullShare q
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare (stepSum s x2) ∗ owns (c : Thread nD τ) M11 fullShare (stepSq q x2)) -∗ K ⟨⟩))
      ⊢ wp frame (wpE (defs₀ (F := F)) Variants.none c none) E (cc0__tail_body i M2 h2 M3 h3 M4 h4 M5 h5 M6 h6 M7 h7 M8 h8 M9 h9 M10 h10 M11 h11) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf2 hf3 hf4 hf5 hf6 hf7 hf8 hf9 hf10 hf11
  unfold cc0__tail_body
  simp only [k1, k2, k3, dif_pos, ↓reduceDIte, k0_part1]
  sl_exec!
  sl_step
  iapply Hk
  isplitl [H2]
  · iexists _; isplitr; swap
    · iexact H2
    · ipureintro; rfl
  isplitl [H3]
  · iexists _; isplitr; swap
    · iexact H3
    · ipureintro; rfl
  isplitl [H4]
  · iexists _; isplitr; swap
    · iexact H4
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rfl
  isplitl [H8]
  · iexists _; isplitr; swap
    · iexact H8
    · ipureintro; rfl
  isplitl [H9]
  · iexists _; isplitr; swap
    · iexact H9
    · ipureintro; rfl
  isplitl [H10]
  · iexists _; isplitr; swap
    · iexact H10
    · ipureintro; (first | unfold sum_point.sl.H10_1 | unfold sum_point.sl.H11_1); simp only [readAt_whole, View.read_writes_junk_eq_canon, cast_same]; refine (canon_whole _ _ _).trans ?_; refine (cast_same (F := F) (S := S1x128) (e := .f32) _ _).trans ?_; rfl
  · iexists _; isplitr; swap
    · iexact H11
    · ipureintro; (first | unfold sum_point.sl.H10_1 | unfold sum_point.sl.H11_1); simp only [readAt_whole, View.read_writes_junk_eq_canon, cast_same]; refine (canon_whole _ _ _).trans ?_; refine (cast_same (F := F) (S := S1x128) (e := .f32) _ _).trans ?_; rfl

set_option maxHeartbeats 1000000 in
/-- A point of the second pass. -/
theorem out_point (c : Dev nD) (E : Set ℕ) (i : grid0.Coords) (M2 : Memref sig .tc .vmem S1024x128 .f32) (h2 : M2.IsWhole) (M3 : Memref sig .tc .vmem S1x128 .f32) (h3 : M3.IsWhole) (M4 : Memref sig .tc .vmem S1x128 .f32) (h4 : M4.IsWhole) (M5 : Memref sig .tc .vmem S128x64 .f32) (h5 : M5.IsWhole) (M6 : Memref sig .tc .vmem S1x64 .f32) (h6 : M6.IsWhole) (M7 : Memref sig .tc .vmem S64x1 .f32) (h7 : M7.IsWhole) (M8 : Memref sig .tc .vmem S1x1 .f32) (h8 : M8.IsWhole) (M9 : Memref sig .tc .vmem S1024x1 .f32) (h9 : M9.IsWhole) (M10 : Memref sig .tc .vmem S1x128 .f32) (h10 : M10.IsWhole) (M11 : Memref sig .tc .vmem S1x128 .f32) (h11 : M11.IsWhole)
    (k1 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 : BitVec 1) = 1#1) (k2 : ¬ (Scalar.cmpi .ne (Scalar.extui (Scalar.cmpi .eq (BitVec.ofNat 32 (i 0).val) 0#32) : BitVec 32) 0#32 : BitVec 1) = 1#1) (k3 : k0_cond3 i = 1#1)
    (x2 : Vec F S1024x128 .f32) (x3 : Vec F S1x128 .f32) (x4 : Vec F S1x128 .f32) (x5 : Vec F S128x64 .f32) (x6 : Vec F S1x64 .f32) (x7 : Vec F S64x1 .f32) (x8 : Vec F S1x1 .f32) (x9 : Vec F S1024x1 .f32) (s q : Vec F S1x128 .f32) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare s ∗ owns (c : Thread nD τ) M11 fullShare q
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare (pay x2 x3 x4 x5 x6 x7 x8 s q) ∗ owns (c : Thread nD τ) M10 fullShare s ∗ owns (c : Thread nD τ) M11 fullShare q) -∗ K ⟨⟩))
      ⊢ wp frame (wpE (defs₀ (F := F)) Variants.none c none) E (cc0__tail_body i M2 h2 M3 h3 M4 h4 M5 h5 M6 h6 M7 h7 M8 h8 M9 h9 M10 h10 M11 h11) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf2 hf3 hf4 hf5 hf6 hf7 hf8 hf9 hf10 hf11
  unfold cc0__tail_body
  simp only [k1, k2, k3, dif_pos, ↓reduceDIte, k0_part1]
  sl_exec!
  sl_step
  iapply Hk
  isplitl [H2]
  · iexists _; isplitr; swap
    · iexact H2
    · ipureintro; rfl
  isplitl [H3]
  · iexists _; isplitr; swap
    · iexact H3
    · ipureintro; rfl
  isplitl [H4]
  · iexists _; isplitr; swap
    · iexact H4
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rfl
  isplitl [H8]
  · iexists _; isplitr; swap
    · iexact H8
    · ipureintro; rfl
  isplitl [H9]
  · iexists _; isplitr; swap
    · iexact H9
    · ipureintro; unfold out_point.sl.H9_1; simp only [readAt_whole, View.read_writes_junk_eq_canon, cast_same]; refine (canon_whole _ _ _).trans ?_; rfl
  isplitl [H10]
  · iexists _; isplitr; swap
    · iexact H10
    · ipureintro; rfl
  · iexists _; isplitr; swap
    · iexact H11
    · ipureintro; rfl

end Cert.TailProof

end
-- ==== Proof.Tail.Run.lean ====
/-
  The second pipeline alone, run: what its scratches carry from point to point, what each point leaves in the result's
  block, and that the call runs to its end.
-/
module

public import proofs.«01_k».proof.Proof.Tail.Body

@[expose] public section

set_option maxRecDepth 16384

noncomputable section

namespace Cert.TailProof

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers as launched. -/
abbrev V (c : Dev nD) (b : Ref sig .tc) : Buf (Elt F) ((c : Thread nD τ).loc b) := m ((c : Thread nD τ).loc b)

set_option maxHeartbeats 800000 in
/-- The program is the one pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Point `n`. -/
def pnt (n : ℕ) : Fin cfg0.N := ⟨n % 32, by rw [show cfg0.N = 32 from N_0]; omega⟩

theorem lt_32 (t : Fin cfg0.N) : t.val < 32 := Nat.lt_of_lt_of_eq t.isLt N_0

theorem pnt_val (t : Fin cfg0.N) : pnt t.val = t := Fin.ext (Nat.mod_eq_of_lt (lt_32 t))

/-- The sum of the first `n` blocks' columns, -/
def sumAt (c : Dev nD) : ℕ → Vec F S1x128 .f32
  | 0 => zeroRow
  | n + 1 => stepSum (sumAt c n) (iblk m c 0 (pnt n))

/-- and of their squares. -/
def sqAt (c : Dev nD) : ℕ → Vec F S1x128 .f32
  | 0 => zeroRow
  | n + 1 => stepSq (sqAt c n) (iblk m c 0 (pnt n))

/-- What a point of the second pass leaves in the result's block. -/
def payAt (c : Dev nD) (t : Fin cfg0.N) : Vec F S1024x1 .f32 :=
  pay (iblk m c 0 t) (iblk m c 1 t) (iblk m c 2 t) (iblk m c 3 t) (iblk m c 4 t) (iblk m c 5 t) (iblk m c 6 t) (sumAt m c 16) (sqAt m c 16)

/-- The two scratches before point `n`: anything at first, then the running sums. -/
def carried (c : Dev nD) : ℕ → sProp 𝕄
  | 0 => Pipeline.ΦA spec0 c
  | n + 1 => iprop(owns (c : Thread nD τ) (Memref.whole cc0_scratch0) fullShare (sumAt m c (min (n + 1) 16))
      ∗ owns (c : Thread nD τ) (Memref.whole cc0_scratch1) fullShare (sqAt m c (min (n + 1) 16)) ∗ ∃ r, prngReg c r)

/-- The pipeline's data: its arrays as launched, each input's block left in place, the result's at `payAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => payAt m c t
  Φ t := carried m c t.val
  q _ := fullShare
  owed _ := 0

theorem A_eq (c : Dev nD) (w : Fin cfg0.W) : (dats m 0 c).A w = V m c (Pipeline.arrRef spec0 w) := by
  dsimp only [dats]

theorem carried_succ (c : Dev nD) (n : ℕ) : carried m c (n + 1) = iprop(owns (c : Thread nD τ) (Memref.whole cc0_scratch0) fullShare (sumAt m c (min (n + 1) 16)) ∗ owns (c : Thread nD τ) (Memref.whole cc0_scratch1) fullShare (sqAt m c (min (n + 1) 16)) ∗ ∃ r, prngReg c r) := rfl
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

theorem after_7 (c : Dev nD) (t : Fin cfg0.N) : (dats m 0 c).after 7 t = payAt m c t := by dsimp only [dats]

/-- Which points take which branch. -/
theorem conds : ∀ t : Fin grid0.N, ((Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 : BitVec 1) = 1#1 ↔ t.val = 0)
    ∧ ((Scalar.cmpi .ne (Scalar.extui (Scalar.cmpi .eq (BitVec.ofNat 32 (grid0.coords t 0).val) 0#32) : BitVec 32) 0#32 : BitVec 1) = 1#1 ↔ t.val < 16) ∧ (k0_cond3 (grid0.coords t) = 1#1 ↔ ¬ t.val < 16) := by decide +kernel

/-- A whole buffer's points-to is its ownership at what it reads. -/
theorem pt_owns (c : Dev nD) {sp : Space} {S : Shape} {e : EltTy} (M : Memref sig .tc sp S e) (hM : M.IsWhole) (f : Buf (Elt F) (M.view.loc (c.tc : Thread nD τ))) :
    (M.view.loc (c.tc : Thread nD τ) ↦{fullShare} f : sProp 𝕄) ⊢ owns (c.tc : Thread nD τ) M fullShare (M.view.read (Elt F) f) := by
  unfold owns
  rw [hM.set_eq_univ]
  iintro H
  iexists f
  isplitr
  · ipureintro; rfl
  · iexact H

/-- And ownership at anything gives a points-to. -/
theorem owns_pt (c : Dev nD) {sp : Space} {S : Shape} {e : EltTy} (M : Memref sig .tc sp S e) (hM : M.IsWhole) (Y : S.Idx → Elt F e) :
    (owns (c.tc : Thread nD τ) M fullShare Y : sProp 𝕄) ⊢ iprop(∃ f : Buf (Elt F) (M.view.loc (c.tc : Thread nD τ)), M.view.loc (c.tc : Thread nD τ) ↦{fullShare} f) := by
  unfold owns
  rw [hM.set_eq_univ]
  iintro ⟨%f, -, H⟩
  iexists f
  iexact H

/-- At the end the scratches are forgotten. -/
theorem hout (c : Dev nD) : (dats (F := F) m 0 c).Φ (Fin.last cfg0.N) ⊢ Pipeline.ΦA spec0 c := by
  show carried m c (31 + 1) ⊢ _
  unfold carried Pipeline.ΦA
  rw [scopedRest0_eq]
  iintro ⟨H0, H1, Hp⟩
  ihave H0 := (owns_pt c (Memref.whole cc0_scratch0) (Memref.isWhole_whole _) _) $$ H0
  ihave H1 := (owns_pt c (Memref.whole cc0_scratch1) (Memref.isWhole_whole _) _) $$ H1
  isplitr [Hp]
  · isplitl [H0]
    · iexact H0
    · iexact H1
  · iexact Hp

/-- Before the first point they hold something. -/
theorem carried_zero (c : Dev nD) : carried m c 0 ⊢ (iprop(∃ s q, owns (c : Thread nD τ) (Memref.whole cc0_scratch0) fullShare s
      ∗ owns (c : Thread nD τ) (Memref.whole cc0_scratch1) fullShare q ∗ ∃ r, prngReg c r) : sProp 𝕄) := by
  unfold carried Pipeline.ΦA
  rw [scopedRest0_eq]
  iintro ⟨⟨⟨%f0, H0⟩, ⟨%f1, H1⟩⟩, Hp⟩
  ihave H0 := (pt_owns c (Memref.whole cc0_scratch0) (Memref.isWhole_whole _) f0) $$ H0
  ihave H1 := (pt_owns c (Memref.whole cc0_scratch1) (Memref.isWhole_whole _) f1) $$ H1
  iexists _; iexists _
  isplitl [H0]; · iexact H0
  isplitl [H1]; · iexact H1
  iexact Hp

/-- The result's window, whose first writes are not to be relied on. -/
def fgt (w : Fin cfg0.W) : Bool := match w with | ⟨7, _⟩ => true | _ => false

/-- What a window's buffer is held to: in the second pass, its contents. -/
def Rl (c : Dev nD) (w : Fin cfg0.W) (t : Fin cfg0.N) (X : (cfg0.win w).block.Idx → Elt F (cfg0.win w).elt) : Prop :=
  16 ≤ t.val → X = (dats m 0 c).after w t

set_option maxHeartbeats 1000000 in
/-- The body at any point. -/
theorem sound_body (c : Dev nD) (t : Fin cfg0.N) :
    iprop(carried m c t.val ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d))
        ∗ (∃ Y, ⌜((dats m 0 c).toRRel fgt (Rl m c)).Finds 7 t Y⌝ ∗ owns (c : Thread nD τ) (win0_7.stage (cfg0.slots t 7)) fullShare Y))
      ⊢ wp frame (wpE (defs₀ (F := F)) Variants.none c none) Set.univ (cc0__tail_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)) (fun _ =>
        iprop(carried m c (t.val + 1) ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t)
          ∗ (∃ X, ⌜Rl m c 7 t X⌝ ∗ owns (c : Thread nD τ) (win0_7.stage (cfg0.slots t 7)) fullShare X))) := by
  simp only [before_0, before_1, before_2, before_3, before_4, before_5, before_6]
  rw [show (dats m 0 c).owesAt () t.succ = (dats m 0 c).owesAt () t.castSucc from rfl,
    after_0, after_1, after_2, after_3, after_4, after_5, after_6]
  obtain ⟨k1, k2, k3⟩ := conds t
  have hN : t.val < 32 := lt_32 t
  by_cases h0 : t.val = 0
  · rw [h0]
    have hc : carried m c (0 + 1) = (iprop(owns (c : Thread nD τ) (Memref.whole cc0_scratch0) fullShare (stepSum zeroRow (iblk m c 0 t))
      ∗ owns (c : Thread nD τ) (Memref.whole cc0_scratch1) fullShare (stepSq zeroRow (iblk m c 0 t)) ∗ ∃ r, prngReg c r) : sProp 𝕄) := by
      have e : pnt 0 = t := by rw [← h0, pnt_val]
      rw [← e]; rfl
    rw [hc]
    iintro ⟨HΦ, Ho, ⟨%d0, H0⟩, ⟨%d1, H1⟩, ⟨%d2, H2⟩, ⟨%d3, H3⟩, ⟨%d4, H4⟩, ⟨%d5, H5⟩, ⟨%d6, H6⟩, ⟨%Y, -, H7⟩⟩
    ihave HΦ := (carried_zero m c) $$ HΦ
    icases HΦ with ⟨%s, %q, S0, S1, Hp⟩
    iapply (first_point c Set.univ (grid0.coords t) _ _ _ _ _ _ _ _ _ _ _ _ _ _ _ _ _ _ _ _ (k1.mpr h0) (k2.mpr (by omega)) (fun h => k3.mp h (by omega)) (iblk m c 0 t) (iblk m c 1 t) (iblk m c 2 t) (iblk m c 3 t) (iblk m c 4 t) (iblk m c 5 t) (iblk m c 6 t) Y s q _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iintro ⟨H0, H1, H2, H3, H4, H5, H6, H7, S0, S1⟩
    isplitl [S0 S1 Hp]
    · isplitl [S0]; · iexact S0
      isplitl [S1]; · iexact S1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap
    · iexact H7
    · ipureintro; intro h; omega

  obtain ⟨n, hn⟩ := Nat.exists_eq_succ_of_ne_zero h0
  have hn' : t.val = n + 1 := hn
  rw [hn']
  by_cases h1 : t.val < 16
  · have hc : carried m c (n + 1 + 1) = (iprop(owns (c : Thread nD τ) (Memref.whole cc0_scratch0) fullShare (stepSum (sumAt m c (min (n + 1) 16)) (iblk m c 0 t))
      ∗ owns (c : Thread nD τ) (Memref.whole cc0_scratch1) fullShare (stepSq (sqAt m c (min (n + 1) 16)) (iblk m c 0 t)) ∗ ∃ r, prngReg c r) : sProp 𝕄) := by
      have e : pnt (n + 1) = t := by rw [← hn', pnt_val]
      have e1 : min (n + 1) 16 = n + 1 := by omega
      have e2 : min (n + 1 + 1) 16 = n + 1 + 1 := by omega
      rw [← e, carried_succ m c (n + 1), e1, e2]; rfl
    rw [hc, carried_succ m c n]
    iintro ⟨HΦ, Ho, ⟨%d0, H0⟩, ⟨%d1, H1⟩, ⟨%d2, H2⟩, ⟨%d3, H3⟩, ⟨%d4, H4⟩, ⟨%d5, H5⟩, ⟨%d6, H6⟩, ⟨%Y, -, H7⟩⟩
    icases HΦ with ⟨S0, S1, Hp⟩
    iapply (sum_point c Set.univ (grid0.coords t) _ _ _ _ _ _ _ _ _ _ _ _ _ _ _ _ _ _ _ _ (fun h => h0 (k1.mp h)) (k2.mpr h1) (fun h => k3.mp h h1) (iblk m c 0 t) (iblk m c 1 t) (iblk m c 2 t) (iblk m c 3 t) (iblk m c 4 t) (iblk m c 5 t) (iblk m c 6 t) Y _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iintro ⟨H0, H1, H2, H3, H4, H5, H6, H7, S0, S1⟩
    isplitl [S0 S1 Hp]
    · isplitl [S0]; · iexact S0
      isplitl [S1]; · iexact S1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap
    · iexact H7
    · ipureintro; intro h; omega

  · have hc : carried m c (n + 1 + 1) = carried m c (n + 1) := by
      have e1 : min (n + 1) 16 = 16 := by omega
      have e2 : min (n + 1 + 1) 16 = 16 := by omega
      rw [carried_succ m c (n + 1), carried_succ m c n, e1, e2]
    have e1 : min (n + 1) 16 = 16 := by omega
    rw [hc, carried_succ m c n, e1]
    iintro ⟨HΦ, Ho, ⟨%d0, H0⟩, ⟨%d1, H1⟩, ⟨%d2, H2⟩, ⟨%d3, H3⟩, ⟨%d4, H4⟩, ⟨%d5, H5⟩, ⟨%d6, H6⟩, ⟨%Y, -, H7⟩⟩
    icases HΦ with ⟨S0, S1, Hp⟩
    iapply (out_point c Set.univ (grid0.coords t) _ _ _ _ _ _ _ _ _ _ _ _ _ _ _ _ _ _ _ _ (fun h => h0 (k1.mp h)) (fun h => h1 (k2.mp h)) (k3.mpr h1) (iblk m c 0 t) (iblk m c 1 t) (iblk m c 2 t) (iblk m c 3 t) (iblk m c 4 t) (iblk m c 5 t) (iblk m c 6 t) Y _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iintro ⟨H0, H1, H2, H3, H4, H5, H6, H7, S0, S1⟩
    isplitl [S0 S1 Hp]
    · isplitl [S0]; · iexact S0
      isplitl [S1]; · iexact S1
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap
    · iexact H7
    · ipureintro; intro h; exact (after_7 m c t).symm

/-- The library's obligation at every point. -/
theorem body_obligation (c : Dev nD) : BodyObligationRel (dats (F := F) m 0 c) (defs₀ (F := F)) Variants.none () Set.univ fgt (Rl m c) := fun t => by
  rw [bigSep_W0, bigSep_W0]
  have hrow : defs₀ (F := F) .tc cfg0.body (cfg0.bodyArgs t (cfg0.slots t)) = cc0__tail_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) := by
    unfold defs₀; rw [Defs.onTc_tc]
  rw [hrow]
  exact triple_restated (sound_body m c t) rfl .rfl fun _ => .rfl

/-- The data, the result's window held only to its last contents. -/
abbrev rdat (c : Dev nD) : RDat τ (Elt F) Unit ℕ (UR sig nD τ) ℕ cfg0 c := (dats m 0 c).toRRel fgt (Rl m c)

set_option backward.isDefEq.respectTransparency.types false in
set_option maxHeartbeats 800000 in
/-- The call's run. -/
theorem run_main : θ_run defs (onTc (τ := τ) (main (F := F))) (s₀ m ρ) (fun r => RDat.FramePost cfg0 (rdat m) (V m) r ∧ r.2.sem = fun _ => 0) :=
  RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := fun c => .rfl) (hout := hout m)

/-- A finished run has left its arguments. -/
theorem args_kept (m : (ℓ : Loc nD τ sig) → Buf (Elt F) ℓ) {r : PUnit × MemSt nD τ sig (Elt F)} (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(RDat.FramePost.arr_in h c 0 rfl).trans (A_eq m c 0), (RDat.FramePost.arr_in h c 1 rfl).trans (A_eq m c 1), (RDat.FramePost.arr_in h c 2 rfl).trans (A_eq m c 2),
    (RDat.FramePost.arr_in h c 3 rfl).trans (A_eq m c 3), (RDat.FramePost.arr_in h c 4 rfl).trans (A_eq m c 4), (RDat.FramePost.arr_in h c 5 rfl).trans (A_eq m c 5),
    (RDat.FramePost.arr_in h c 6 rfl).trans (A_eq m c 6)⟩

end Cert.TailProof

end
-- ==== Proof.Tail.Value.lean ====
/-
  The second pipeline's result: the array its last writes leave, and that array as the reference's.

  Each of the first sixteen points adds its block's columns, and their squares, to the running sums; together the blocks
  are every row, so the sums are the reference's. Each of the last sixteen points writes its block of the result, and no
  later point writes there again.
-/
module

public import proofs.«01_k».proof.Defs
public import proofs.«01_k».proof.Proof.Tail.Run
public import proofs.«01_k».proof.Proof.Gen.Tail
public import proofs.«01_k».proof.Proof.Gen.TailReferenceIdeal
public import proofs.«01_k».proof.Proof.Gen.TailReferenceIdeal.Run
public import Idealize.ShloMosaic.Lib.StackMember
public import Idealize.ShloMosaic.Lib.MatmulPlain
public import Idealize.ShloMosaic.Lib.KernelVsHost
public import Idealize.ShloMosaic.Lib.IdealHost
public import Idealize.ShloMosaic.Lib.ValueLayout
public import Idealize.ShloMosaic.Lib.Pointwise.Reduce
public import Idealize.ShloMosaic.Adequacy
public import Idealize.ShloMosaic.Init

@[expose] public section

set_option maxRecDepth 16384

noncomputable section

namespace Cert.TailProof

open Cert.TailIdeal Cert.TailIdeal.Gen Idealize.ShloMosaic.TcCoe Idealize.SL.Sem
open Idealize.ShloMosaic hiding ix2 eq_ix2
open Idealize.ShloMosaic.ValueIdx
open Idealize.ShloMosaic.Pipeline (Dat RDat)
open scoped BigOperators

/-- After the writes below `n`, a place that some point from `k` on has written holds what those points agree on. -/
theorem arrAt_last {c : Dev nD} {F : FTy → Type} [FloatOps F] (dat : Dat τ (Elt F) Unit ℕ (UR sig nD τ) ℕ cfg0 c) (w : Fin cfg0.W) (k : ℕ)
    (G : Buf (Elt F) ((cfg0.win w).arr.view.loc (c.tc : Thread nD τ)))
    (hG : ∀ t : Fin cfg0.N, k ≤ t.val → (cfg0.win w).flush t = true → dat.flushed w t = ((cfg0.win w).blk t).view.read (Elt F) G)
    (i : ((cfg0.win w).arr.view.loc (c.tc : Thread nD τ)).2.ty.Idx) (n : ℕ) :
    (∃ t : Fin cfg0.N, k ≤ t.val ∧ t.val < n ∧ (cfg0.win w).flush t = true ∧ i ∈ ((cfg0.win w).blk t).view.set) → dat.arrAt w n i = G i := by
  induction n with
  | zero => rintro ⟨t, -, h, -⟩; exact absurd h (Nat.not_lt_zero _)
  | succ n ih =>
    rintro ⟨t, hk, hn, hf, hi⟩
    rw [dat.arrAt_succ_apply]
    have back : t.val ≠ n → dat.arrAt w n i = G i := fun hne => ih ⟨t, hk, by omega, hf, hi⟩
    split
    · next hN =>
      split
      · next hfn =>
        by_cases hin : i ∈ ((cfg0.win w).blk ⟨n, hN⟩).view.set
        · rw [hG ⟨n, hN⟩ (by show k ≤ n; omega) hfn, View.write_read_eq_piecewise, Finset.piecewise_eq_of_mem _ _ _ (by rw [View.setOn_univ]; exact hin)]
        · rw [View.write_of_not_mem _ _ _ (by rw [View.setOn_univ]; exact hin)]
          exact back fun e => hin (by have h : t = ⟨n, hN⟩ := Fin.ext e; exact h ▸ hi)
      · next hfn => exact back fun e => hfn (by have h : t = ⟨n, hN⟩ := Fin.ext e; exact h ▸ hf)
    · next hN => exact back fun e => hN (e ▸ t.isLt)

/-- Row `p` of the block of point `t`. -/
def row (t : Fin cfg0.N) (p : Fin 1024) : Fin 16384 := ⟨1024 * (t.val % 16) + p.val, by omega⟩

theorem idx_0 : ∀ t : Fin cfg0.N, win0_0.index t (0 : Fin 2) = t.val % 16 ∧ win0_0.index t (1 : Fin 2) = 0 :=
  (by decide +kernel : ∀ t : Fin grid0.N, _)
theorem idx_7 : ∀ t : Fin cfg0.N, win0_7.index t (0 : Fin 2) = t.val % 16 ∧ win0_7.index t (1 : Fin 2) = 0 :=
  (by decide +kernel : ∀ t : Fin grid0.N, _)
theorem flush_7 : ∀ t : Fin cfg0.N, (cfg0.win 7).flush t = true :=
  (by decide +kernel : ∀ t : Fin grid0.N, win0_7.flush t = true)

theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)

/-- Where a place of a point's block lies: in the rows, -/
theorem at_0 (t : Fin cfg0.N) (p : Fin 1024) (k : Fin 128) : ((cfg0.win 0).blk t).view.emb (ix2 p k : S1024x128.Idx) = (ix2 (row t p) k : S16384x128.Idx) := by
  obtain ⟨e0, e1⟩ := idx_0 t
  funext a; apply Fin.ext
  match a with
  | ⟨0, _⟩ => show win0_0.index t (0 : Fin 2) * 1024 + 1 * p.val = 1024 * (t.val % 16) + p.val; omega
  | ⟨1, _⟩ => show win0_0.index t (1 : Fin 2) * 128 + 1 * k.val = k.val; omega

/-- and in the result. -/
theorem at_7 (t : Fin cfg0.N) (p : Fin 1024) (k : Fin 1) : ((cfg0.win 7).blk t).view.emb (ix2 p k : S1024x1.Idx) = (ix2 (row t p) k : S16384x1.Idx) := by
  obtain ⟨e0, e1⟩ := idx_7 t
  funext a; apply Fin.ext
  match a with
  | ⟨0, _⟩ => show win0_7.index t (0 : Fin 2) * 1024 + 1 * p.val = 1024 * (t.val % 16) + p.val; omega
  | ⟨1, _⟩ => show win0_7.index t (1 : Fin 2) * 1 + 1 * k.val = k.val; omega

variable (m : (ℓ : Loc nD τ sig) → Buf (Elt Ideal) ℓ) (ρ : Dev nD → PrngReg)

/-- The summed rows as launched. -/
def arg0 (c : Dev nD) : Vec Ideal S16384x128 .f32 := m ((c : Thread nD τ).loc main_arg0)

/-- Argument 1 as launched. -/
def arg1 (c : Dev nD) : Vec Ideal S1x128 .f32 := m ((c : Thread nD τ).loc main_arg1)

/-- Its window is all of it. -/
theorem iblk_1 (c : Dev nD) (t : Fin cfg0.N) : (iblk m c 1 t : Vec Ideal S1x128 .f32) = arg1 m c := by
  obtain ⟨e0, e1⟩ := idx_1 t
  funext j
  refine congrArg (arg1 m c) (funext fun a => Fin.ext ?_)
  match a with
  | ⟨0, _⟩ => show win0_1.index t (0 : Fin 2) * 1 + 1 * (j (0 : Fin 2)).val = (j (0 : Fin 2)).val; omega
  | ⟨1, _⟩ => show win0_1.index t (1 : Fin 2) * 128 + 1 * (j (1 : Fin 2)).val = (j (1 : Fin 2)).val; omega

/-- Argument 2 as launched. -/
def arg2 (c : Dev nD) : Vec Ideal S1x128 .f32 := m ((c : Thread nD τ).loc main_arg2)

/-- Its window is all of it. -/
theorem iblk_2 (c : Dev nD) (t : Fin cfg0.N) : (iblk m c 2 t : Vec Ideal S1x128 .f32) = arg2 m c := by
  obtain ⟨e0, e1⟩ := idx_2 t
  funext j
  refine congrArg (arg2 m c) (funext fun a => Fin.ext ?_)
  match a with
  | ⟨0, _⟩ => show win0_2.index t (0 : Fin 2) * 1 + 1 * (j (0 : Fin 2)).val = (j (0 : Fin 2)).val; omega
  | ⟨1, _⟩ => show win0_2.index t (1 : Fin 2) * 128 + 1 * (j (1 : Fin 2)).val = (j (1 : Fin 2)).val; omega

/-- Argument 3 as launched. -/
def arg3 (c : Dev nD) : Vec Ideal S128x64 .f32 := m ((c : Thread nD τ).loc main_arg3)

/-- Its window is all of it. -/
theorem iblk_3 (c : Dev nD) (t : Fin cfg0.N) : (iblk m c 3 t : Vec Ideal S128x64 .f32) = arg3 m c := by
  obtain ⟨e0, e1⟩ := idx_3 t
  funext j
  refine congrArg (arg3 m c) (funext fun a => Fin.ext ?_)
  match a with
  | ⟨0, _⟩ => show win0_3.index t (0 : Fin 2) * 128 + 1 * (j (0 : Fin 2)).val = (j (0 : Fin 2)).val; omega
  | ⟨1, _⟩ => show win0_3.index t (1 : Fin 2) * 64 + 1 * (j (1 : Fin 2)).val = (j (1 : Fin 2)).val; omega

/-- Argument 4 as launched. -/
def arg4 (c : Dev nD) : Vec Ideal S1x64 .f32 := m ((c : Thread nD τ).loc main_arg4)

/-- Its window is all of it. -/
theorem iblk_4 (c : Dev nD) (t : Fin cfg0.N) : (iblk m c 4 t : Vec Ideal S1x64 .f32) = arg4 m c := by
  obtain ⟨e0, e1⟩ := idx_4 t
  funext j
  refine congrArg (arg4 m c) (funext fun a => Fin.ext ?_)
  match a with
  | ⟨0, _⟩ => show win0_4.index t (0 : Fin 2) * 1 + 1 * (j (0 : Fin 2)).val = (j (0 : Fin 2)).val; omega
  | ⟨1, _⟩ => show win0_4.index t (1 : Fin 2) * 64 + 1 * (j (1 : Fin 2)).val = (j (1 : Fin 2)).val; omega

/-- Argument 5 as launched. -/
def arg5 (c : Dev nD) : Vec Ideal S64x1 .f32 := m ((c : Thread nD τ).loc main_arg5)

/-- Its window is all of it. -/
theorem iblk_5 (c : Dev nD) (t : Fin cfg0.N) : (iblk m c 5 t : Vec Ideal S64x1 .f32) = arg5 m c := by
  obtain ⟨e0, e1⟩ := idx_5 t
  funext j
  refine congrArg (arg5 m c) (funext fun a => Fin.ext ?_)
  match a with
  | ⟨0, _⟩ => show win0_5.index t (0 : Fin 2) * 64 + 1 * (j (0 : Fin 2)).val = (j (0 : Fin 2)).val; omega
  | ⟨1, _⟩ => show win0_5.index t (1 : Fin 2) * 1 + 1 * (j (1 : Fin 2)).val = (j (1 : Fin 2)).val; omega

/-- Argument 6 as launched. -/
def arg6 (c : Dev nD) : Vec Ideal S1x1 .f32 := m ((c : Thread nD τ).loc main_arg6)

/-- Its window is all of it. -/
theorem iblk_6 (c : Dev nD) (t : Fin cfg0.N) : (iblk m c 6 t : Vec Ideal S1x1 .f32) = arg6 m c := by
  obtain ⟨e0, e1⟩ := idx_6 t
  funext j
  refine congrArg (arg6 m c) (funext fun a => Fin.ext ?_)
  match a with
  | ⟨0, _⟩ => show win0_6.index t (0 : Fin 2) * 1 + 1 * (j (0 : Fin 2)).val = (j (0 : Fin 2)).val; omega
  | ⟨1, _⟩ => show win0_6.index t (1 : Fin 2) * 1 + 1 * (j (1 : Fin 2)).val = (j (1 : Fin 2)).val; omega

/-- A point's block of the rows. -/
theorem iblk_0 (c : Dev nD) (t : Fin cfg0.N) (p : Fin 1024) (k : Fin 128) :
    (iblk m c 0 t : Vec Ideal S1024x128 .f32) (ix2 p k) = arg0 m c (ix2 (row t p) k) :=
  congrArg (arg0 m c) (at_0 t p k)

/-- The result the last writes leave. -/
def final (c : Dev nD) : Vec Ideal S16384x1 .f32 := fun y =>
  payAt m c (pnt (16 + (y 0).val / 1024)) (ix2 (⟨(y 0).val % 1024, Nat.mod_lt _ (by norm_num)⟩ : Fin 1024) (0 : Fin 1))

theorem final_row (c : Dev nD) (t : Fin cfg0.N) (ht : 16 ≤ t.val) (p : Fin 1024) (k : Fin 1) :
    final m c (ix2 (row t p) k) = payAt m c t (ix2 p k) := by
  have h := lt_32 t
  have e1 : pnt (16 + (1024 * (t.val % 16) + p.val) / 1024) = t := Fin.ext (by
    show (16 + (1024 * (t.val % 16) + p.val) / 1024) % 32 = t.val; omega)
  have e2 : (⟨(1024 * (t.val % 16) + p.val) % 1024, Nat.mod_lt _ (by norm_num)⟩ : Fin 1024) = p := Fin.ext (by
    show (1024 * (t.val % 16) + p.val) % 1024 = p.val; omega)
  have e3 : k = 0 := Subsingleton.elim _ _
  show payAt m c (pnt (16 + (1024 * (t.val % 16) + p.val) / 1024)) (ix2 (⟨(1024 * (t.val % 16) + p.val) % 1024, _⟩ : Fin 1024) (0 : Fin 1)) = _
  rw [e1, e2, e3]

/-- So it is read back block by block. -/
theorem final_blk (c : Dev nD) (t : Fin cfg0.N) (ht : 16 ≤ t.val) :
    payAt m c t = ((cfg0.win 7).blk t).view.read (Elt Ideal) (final m c) := funext fun (j : S1024x1.Idx) => by
  rw [eq_ix2 j]
  exact (final_row m c t ht (j 0) (j 1)).symm.trans (congrArg (final m c) (at_7 t (j 0) (j 1))).symm

/-- Every place of the result lies in the block of a point of the second pass. -/
theorem covered (y : S16384x1.Idx) : ∃ t : Fin cfg0.N, 16 ≤ t.val ∧ t.val < cfg0.N ∧ (cfg0.win 7).flush t = true ∧ y ∈ ((cfg0.win 7).blk t).view.set := by
  have hy : (y 0).val < 16384 := (y 0).isLt
  have hv : (pnt (16 + (y 0).val / 1024)).val = 16 + (y 0).val / 1024 := by show (16 + (y 0).val / 1024) % 32 = _; omega
  refine ⟨pnt (16 + (y 0).val / 1024), by omega, (pnt _).isLt, flush_7 _, ?_⟩
  have e : ((cfg0.win 7).blk (pnt (16 + (y 0).val / 1024))).view.emb (ix2 (⟨(y 0).val % 1024, Nat.mod_lt _ (by norm_num)⟩ : Fin 1024) (y 1) : S1024x1.Idx) = y := by
    refine (at_7 _ _ _).trans ?_
    conv_rhs => rw [eq_ix2 y]
    refine congrArg (fun r => ix2 r (y 1)) (Fin.ext ?_)
    show 1024 * ((pnt (16 + (y 0).val / 1024)).val % 16) + (y 0).val % 1024 = (y 0).val
    omega
  have h := View.emb_mem_set ((cfg0.win 7).blk (pnt (16 + (y 0).val / 1024))).view (ix2 (⟨(y 0).val % 1024, Nat.mod_lt _ (by norm_num)⟩ : Fin 1024) (y 1) : S1024x1.Idx)
  exact Eq.mp (congrArg (· ∈ ((cfg0.win 7).blk (pnt (16 + (y 0).val / 1024))).view.set) e) h

/-- The run, its result named. -/
theorem run_final : θ_run defs (onTc (τ := τ) (main (F := Ideal))) ⟨m, fun _ => 0, ρ⟩ fun r => (∀ c : Dev nD,
      r.2.mem ((c : Thread nD τ).loc main_v0) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, args_kept m h.1 c⟩) (run_main (F := Ideal) m ρ)
  obtain ⟨after, hL, hA⟩ := RDat.FramePost.exists_exact h.1 c
  refine (hA 7).trans (funext fun y => ?_)
  refine arrAt_last _ 7 16 (final m c) (fun t ht hf => ?_) y cfg0.N (covered y)
  have e : after 7 t = payAt m c t := ((dats (F := Ideal) m 0 c).toRRel_leaves (w := 7) rfl (hL 7 t hf) ht).trans (after_7 m c t)
  refine Eq.trans ?_ (final_blk m c t ht)
  rw [← e]; rfl

end Cert.TailProof

end
-- ==== Proof.Tail.Math.lean ====
/-
  The second pipeline's result is the reference's, over the extended reals.
-/
module

public import proofs.«01_k».proof.Proof.Tail.Value
public import proofs.«01_k».proof.Proof.Gen.TailReferenceIdeal
public import proofs.«01_k».proof.Proof.Gen.TailReferenceIdeal.Run
public import Idealize.ShloMosaic.Lib.StackMember
public import Idealize.ShloMosaic.Lib.MatmulPlain
public import Idealize.ShloMosaic.Lib.KernelVsHost
public import Idealize.ShloMosaic.Lib.ValueLayout

@[expose] public section

set_option maxRecDepth 16384

noncomputable section

namespace Cert.TailProof.Ref

open Cert.TailReferenceIdeal Cert.TailReferenceIdeal.Gen
open Idealize.ShloMosaic

/-- The reference's sum of every column, as a row. -/
def colSum (h : Vec Ideal S16384x128 .f32) : Vec Ideal S1x128 .f32 :=
  broadcastInDim S1x128 ![1] bcast_S128_S1x128_1 (Host.reduceAdd (F := Ideal) (φ := .f32) h (constant S_ .f32 0x00000000#32) reducesTo_S16384x128_S128_d0 h_S_)

/-- Its mean. -/
def mean (s : Vec Ideal S1x128 .f32) : Vec Ideal S1x128 .f32 :=
  mulf (F := Ideal) (φ := .f32) s (broadcastInDim S1x128 ![] bcast_S_S1x128 (constant S_ .f32 0x38800000#32))

/-- Its scale. -/
def scale (s q : Vec Ideal S1x128 .f32) : Vec Ideal S1x128 .f32 :=
  Host.rsqrt (F := Ideal) (φ := .f32) (addf (subf (mulf q (broadcastInDim S1x128 ![] bcast_S_S1x128 (constant S_ .f32 0x38800000#32))) (mulf (mean s) (mean s)))
    (broadcastInDim S1x128 ![] bcast_S_S1x128 (constant S_ .f32 0x3727C5AC#32)))

/-- Its batch, normalized and cut off below zero. -/
def normed (x : Vec Ideal S16384x128 .f32) (s q g be : Vec Ideal S1x128 .f32) : Vec Ideal S16384x128 .f32 :=
  maximumf (F := Ideal) (φ := .f32) (addf (mulf (mulf (broadcastInDim S16384x128 ![0, 1] bcast_S1x128_S16384x128_0_1 g)
    (subf x (broadcastInDim S16384x128 ![0, 1] bcast_S1x128_S16384x128_0_1 (mean s)))) (broadcastInDim S16384x128 ![0, 1] bcast_S1x128_S16384x128_0_1 (scale s q)))
    (broadcastInDim S16384x128 ![0, 1] bcast_S1x128_S16384x128_0_1 be)) (broadcastInDim S16384x128 ![] bcast_S_S16384x128 (constant S_ .f32 0x00000000#32))

/-- Its hidden layer. -/
def hidden (y : Vec Ideal S16384x128 .f32) (w2 : Vec Ideal S128x64 .f32) (b2 : Vec Ideal S1x64 .f32) : Vec Ideal S16384x64 .f32 :=
  maximumf (F := Ideal) (φ := .f32) (addf (Host.dotGeneral (F := Ideal) (φ₁ := .f32) (φ₂ := .f32) dot_S16384x128_S128x64_S16384x64_1_0_0_1_n_n none y w2)
    (broadcastInDim S16384x64 ![0, 1] bcast_S1x64_S16384x64_0_1 b2)) (broadcastInDim S16384x64 ![] bcast_S_S16384x64 (constant S_ .f32 0x00000000#32))

/-- Its result. -/
def out (x : Vec Ideal S16384x128 .f32) (g be : Vec Ideal S1x128 .f32) (w2 : Vec Ideal S128x64 .f32) (b2 : Vec Ideal S1x64 .f32) (w3 : Vec Ideal S64x1 .f32)
    (b3 : Vec Ideal S1x1 .f32) : Vec Ideal S16384x1 .f32 :=
  addf (F := Ideal) (φ := .f32) (Host.dotGeneral (F := Ideal) (φ₁ := .f32) (φ₂ := .f32) dot_S16384x64_S64x1_S16384x1_1_0_0_1_n_n none
    (hidden (normed x (colSum x) (colSum (mulf (F := Ideal) (φ := .f32) x x)) g be) w2 b2) w3) (broadcastInDim S16384x1 ![0, 1] bcast_S1x1_S16384x1_0_1 b3)

end Cert.TailProof.Ref

namespace Cert.TailProof

open Cert.TailIdeal Cert.TailIdeal.Gen Idealize.ShloMosaic.TcCoe Idealize.SL.Sem
open Idealize.ShloMosaic hiding ix1 ix2 eq_ix1 eq_ix2
open Idealize.ShloMosaic.ValueIdx
open scoped BigOperators

/-- A block's column sum, at a column. -/
theorem colSum_at (x : Vec Ideal S1024x128 .f32) (k : Fin 128) :
    colSum (F := Ideal) x (ix2 (0 : Fin 1) k) = ∑ p : Fin 1024, (x (ix2 p k) : EReal) := by
  unfold colSum
  refine (shapeCast_apply _ _ (ix2 (0 : Fin 1) k) (ix1 k) (by rw [Shape.rowMajor_val_two, Shape.rowMajor_val_one]; simp)).trans ?_
  refine (Ideal.multiReduction_add_single x _ reduces_S1024x128_S128 _ _ (ix1 k)).trans (Finset.sum_congr rfl fun p _ => ?_)
  refine congrArg x (funext fun a => Fin.ext ?_)
  match a with
  | ⟨0, _⟩ => rfl
  | ⟨1, _⟩ => rfl

theorem ref_sum_at (h : Vec Ideal S16384x128 .f32) (k : Fin 128) : Ref.colSum h (ix2 (0 : Fin 1) k) = ∑ r : Fin 16384, (h (ix2 r k) : EReal) := by
  unfold Ref.colSum
  refine (broadcastInDim_apply _ _ _ (ix2 (0 : Fin 1) k) (ix1 k) (fun a => by
    match a with
    | ⟨0, _⟩ => rfl)).trans ?_
  refine (Ideal.hostReduceAdd_r2_a0 (n0 := 16384) (n1 := 128) Cert.TailReferenceIdeal.Gen.reducesTo_S16384x128_S128_d0 h _ (ix1 k)).trans ?_
  have hz : constant (F := Ideal) Cert.TailReferenceIdeal.S_ .f32 0x00000000#32 (Shape.Idx.first Cert.TailReferenceIdeal.Gen.h_S_) = 0 := Ideal.ofBits_zero_f32
  rw [hz, zero_add]
  refine Finset.sum_congr rfl fun p _ => congrArg h (funext fun a => Fin.ext ?_)
  match a with
  | ⟨0, _⟩ => rfl
  | ⟨1, _⟩ => rfl

/-- The rows, counted block by block. -/
theorem sum_rows (f : Fin 16384 → EReal) : ∑ r : Fin 16384, f r = ∑ i ∈ Finset.range 16, ∑ p : Fin 1024, f (row (pnt i) p) := by
  rw [Finset.sum_range (fun i => ∑ p : Fin 1024, f (row (pnt i) p)), ← Fintype.sum_prod_type' (fun (i : Fin 16) (p : Fin 1024) => f (row (pnt i) p))]
  refine (Fintype.sum_equiv (finProdFinEquiv : Fin 16 × Fin 1024 ≃ Fin (16 * 1024)) _ _ fun x => congrArg f (Fin.ext ?_)).symm
  have hx := x.1.isLt
  show 1024 * ((x.1.val % 32) % 16) + x.2.val = x.2.val + 1024 * x.1.val
  omega

variable (m : (ℓ : Loc nD τ sig) → Buf (Elt Ideal) ℓ) (c : Dev nD)

theorem sumAt_at (k : Fin 128) : ∀ n, sumAt m c n (ix2 (0 : Fin 1) k) = ∑ i ∈ Finset.range n, ∑ p : Fin 1024, (arg0 m c (ix2 (row (pnt i) p) k) : EReal)
  | 0 => Ideal.ofBits_zero_f32
  | n + 1 => by
    rw [Finset.sum_range_succ, ← sumAt_at k n]
    refine congrArg (sumAt m c n (ix2 (0 : Fin 1) k) + ·) ((colSum_at _ k).trans (Finset.sum_congr rfl fun p _ => iblk_0 m c (pnt n) p k))

theorem sqAt_at (k : Fin 128) : ∀ n, sqAt m c n (ix2 (0 : Fin 1) k) = ∑ i ∈ Finset.range n, ∑ p : Fin 1024, (mulf (F := Ideal) (φ := .f32) (arg0 m c) (arg0 m c) (ix2 (row (pnt i) p) k) : EReal)
  | 0 => Ideal.ofBits_zero_f32
  | n + 1 => by
    rw [Finset.sum_range_succ, ← sqAt_at k n]
    refine congrArg (sqAt m c n (ix2 (0 : Fin 1) k) + ·) ((colSum_at _ k).trans (Finset.sum_congr rfl fun p _ => ?_))
    exact congrArg (fun z : EReal => z * z) (iblk_0 m c (pnt n) p k)

/-- A row's places are its columns. -/
theorem row_at (j : S1x128.Idx) : ∃ k : Fin 128, j = ix2 (0 : Fin 1) k :=
  ⟨j 1, funext fun a => by
    match a with
    | ⟨0, _⟩ => exact Fin.ext (by have h : (j 0).val < 1 := (j 0).isLt; show (j 0).val = 0; omega)
    | ⟨1, _⟩ => rfl⟩

/-- The first pass's sums are the reference's. -/
theorem sum_eq : sumAt m c 16 = Ref.colSum (arg0 m c) := funext fun (j : S1x128.Idx) => by
  obtain ⟨k, rfl⟩ := row_at j
  exact (sumAt_at m c k 16).trans ((sum_rows _).symm.trans (ref_sum_at _ k).symm)

theorem sq_eq : sqAt m c 16 = Ref.colSum (mulf (F := Ideal) (φ := .f32) (arg0 m c) (arg0 m c)) := funext fun (j : S1x128.Idx) => by
  obtain ⟨k, rfl⟩ := row_at j
  exact (sqAt_at m c k 16).trans ((sum_rows _).symm.trans (ref_sum_at _ k).symm)

/-- Elementwise operations, over places of two shapes. -/
theorem add_congr {S T : Shape} {a b : Vec Ideal S .f32} {a' b' : Vec Ideal T .f32} {i : S.Idx} {j : T.Idx} (ha : a i = a' j) (hb : b i = b' j) :
    addf (F := Ideal) (φ := .f32) a b i = addf (F := Ideal) (φ := .f32) a' b' j := congrArg₂ (fun u v : EReal => u + v) ha hb

theorem sub_congr {S T : Shape} {a b : Vec Ideal S .f32} {a' b' : Vec Ideal T .f32} {i : S.Idx} {j : T.Idx} (ha : a i = a' j) (hb : b i = b' j) :
    subf (F := Ideal) (φ := .f32) a b i = subf (F := Ideal) (φ := .f32) a' b' j := congrArg₂ (fun u v : EReal => u - v) ha hb

theorem mul_congr {S T : Shape} {a b : Vec Ideal S .f32} {a' b' : Vec Ideal T .f32} {i : S.Idx} {j : T.Idx} (ha : a i = a' j) (hb : b i = b' j) :
    mulf (F := Ideal) (φ := .f32) a b i = mulf (F := Ideal) (φ := .f32) a' b' j := congrArg₂ (fun u v : EReal => u * v) ha hb

theorem max_congr {S T : Shape} {a b : Vec Ideal S .f32} {a' b' : Vec Ideal T .f32} {i : S.Idx} {j : T.Idx} (ha : a i = a' j) (hb : b i = b' j) :
    maximumf (F := Ideal) (φ := .f32) a b i = maximumf (F := Ideal) (φ := .f32) a' b' j := congrArg₂ (fun u v : EReal => max u v) ha hb

/-- A row, repeated down a block and down the batch. -/
theorem rep_congr {a b n : ℕ} (v : Vec Ideal ⟨2, ![1, n]⟩ .f32) (h : (⟨2, ![1, n]⟩ : Shape).Broadcasts ⟨2, ![a, n]⟩)
    (h' : (⟨2, ![1, n]⟩ : Shape).BroadcastsInDim ⟨2, ![b, n]⟩ ![0, 1]) (p : Fin a) (r : Fin b) (k : Fin n) :
    broadcastTo ⟨2, ![a, n]⟩ v h (ix2 p k) = broadcastInDim ⟨2, ![b, n]⟩ ![0, 1] h' v (ix2 r k) :=
  (broadcastTo_1b_ab_apply v h p k).trans (broadcastInDim_oneRow_apply h' v r k).symm

theorem mean_eq (s : Vec Ideal S1x128 .f32) : mean (F := Ideal) s = Ref.mean s := rfl

theorem scale_eq (s q : Vec Ideal S1x128 .f32) : scale (F := Ideal) s q = Ref.scale s q := rfl

theorem normed_eq (x : Vec Ideal S1024x128 .f32) (X : Vec Ideal S16384x128 .f32) (s q g be : Vec Ideal S1x128 .f32) (p : Fin 1024) (r : Fin 16384) (k : Fin 128)
    (hx : x (ix2 p k) = X (ix2 r k)) : normed (F := Ideal) x s q g be (ix2 p k) = Ref.normed X s q g be (ix2 r k) := by
  unfold normed Ref.normed
  refine max_congr (add_congr (mul_congr (mul_congr (rep_congr g _ _ p r k) (sub_congr hx ?_)) ?_) (rep_congr be _ _ p r k)) rfl
  · exact rep_congr (mean (F := Ideal) s) _ _ p r k
  · exact rep_congr (scale (F := Ideal) s q) _ _ p r k

theorem hidden_eq (y : Vec Ideal S1024x128 .f32) (Y : Vec Ideal S16384x128 .f32) (w2 : Vec Ideal S128x64 .f32) (b2 : Vec Ideal S1x64 .f32) (p : Fin 1024) (r : Fin 16384)
    (hy : ∀ k : Fin 128, y (ix2 p k) = Y (ix2 r k)) (k : Fin 64) : hidden (F := Ideal) y w2 b2 (ix2 p k) = Ref.hidden Y w2 b2 (ix2 r k) := by
  unfold hidden Ref.hidden
  refine max_congr (add_congr ?_ (rep_congr b2 _ _ p r k)) rfl
  refine (Ideal.matmul_plain_apply (M := 1024) (K := 128) (N := 64) none _ _ _ p k).trans ?_
  refine Eq.trans ?_ (StackMember.dotGeneral_plain_apply (m := 16384) (n := 64) (k := 128) none Y w2 r k).symm
  have hz : constant (F := Ideal) S1024x64 .f32 0x00000000#32 (ix2 p k) = 0 := Ideal.ofBits_zero_f32
  rw [hz, zero_add]
  exact Finset.sum_congr rfl fun j _ => congrArg (fun z : EReal => z * w2 (ix2 j k)) (hy j)

/-- A row of the second pass's block is the reference's. -/
theorem pay_eq (x : Vec Ideal S1024x128 .f32) (X : Vec Ideal S16384x128 .f32) (g be : Vec Ideal S1x128 .f32) (w2 : Vec Ideal S128x64 .f32) (b2 : Vec Ideal S1x64 .f32)
    (w3 : Vec Ideal S64x1 .f32) (b3 : Vec Ideal S1x1 .f32) (p : Fin 1024) (r : Fin 16384) (hx : ∀ k : Fin 128, x (ix2 p k) = X (ix2 r k)) :
    pay (F := Ideal) x g be w2 b2 w3 b3 (Ref.colSum X) (Ref.colSum (mulf (F := Ideal) (φ := .f32) X X)) (ix2 p (0 : Fin 1))
      = Ref.out X g be w2 b2 w3 b3 (ix2 r (0 : Fin 1)) := by
  unfold pay Ref.out
  refine add_congr ?_ (rep_congr b3 _ _ p r 0)
  refine (Ideal.matmul_plain_apply (M := 1024) (K := 64) (N := 1) none _ _ _ p 0).trans ?_
  refine Eq.trans ?_ (StackMember.dotGeneral_plain_apply (m := 16384) (n := 1) (k := 64) none _ w3 r 0).symm
  have hz : constant (F := Ideal) S1024x1 .f32 0x00000000#32 (ix2 p (0 : Fin 1)) = 0 := Ideal.ofBits_zero_f32
  rw [hz, zero_add]
  exact Finset.sum_congr rfl fun j _ => congrArg (fun z : EReal => z * w3 (ix2 j (0 : Fin 1)))
    (hidden_eq _ _ w2 b2 p r (fun k => normed_eq x X _ _ g be p r k (hx k)) j)

/-- The result is the reference's. -/
theorem value : final m c = Ref.out (arg0 m c) (arg1 m c) (arg2 m c) (arg3 m c) (arg4 m c) (arg5 m c) (arg6 m c) := funext fun (y : S16384x1.Idx) => by
  have hy : (y 0).val < 16384 := (y 0).isLt
  have ey : y = ix2 (row (pnt (16 + (y 0).val / 1024)) ⟨(y 0).val % 1024, Nat.mod_lt _ (by norm_num)⟩) (0 : Fin 1) := funext fun a => by
    match a with
    | ⟨0, _⟩ =>
      refine Fin.ext ?_
      show (y 0).val = 1024 * (((16 + (y 0).val / 1024) % 32) % 16) + (y 0).val % 1024
      omega
    | ⟨1, _⟩ => exact Fin.ext (by have h : (y 1).val < 1 := (y 1).isLt; show (y 1).val = 0; omega)
  refine Eq.trans ?_ (congrArg (Ref.out (arg0 m c) (arg1 m c) (arg2 m c) (arg3 m c) (arg4 m c) (arg5 m c) (arg6 m c)) ey).symm
  unfold final payAt
  rw [sum_eq, sq_eq, iblk_1, iblk_2, iblk_3, iblk_4, iblk_5, iblk_6]
  exact pay_eq _ (arg0 m c) _ _ _ _ _ _ _ _ (fun k => iblk_0 m c _ _ k)

end Cert.TailProof

end
-- ==== Proof.Tail.Claims.lean ====
/-
  The claims about the second pipeline alone.
-/
module

public import proofs.«01_k».proof.Defs
public import proofs.«01_k».proof.Proof.Gen.Tail
public import proofs.«01_k».proof.Proof.Tail.Math
public import Idealize.ShloMosaic.Adequacy
public import Idealize.ShloMosaic.Init

@[expose] public section

set_option maxRecDepth 16384

noncomputable section

namespace Cert.TailProof

open Idealize.ShloMosaic Idealize.ShloMosaic.TcCoe Idealize.SL.Sem

/-- The bodies, as printed and as idealized, are the same, -/
theorem bodies_eq {F : FTy → Type} [FloatOps F] : Cert.Tail.defs₀ (F := F) = Cert.TailIdeal.defs₀ (F := F) := by
  funext pr ℓ a
  match pr, ℓ, a with
  | .tc, 0, a => rfl
  | .scVector c s, 0, a => rfl
  | .scScalar c, 0, a => rfl

/-- and so are what their labels run. -/
theorem defs_eq {F : FTy → Type} [FloatOps F] : Cert.Tail.defs (F := F) = Cert.TailIdeal.defs (F := F) := by
  unfold Cert.Tail.defs Cert.TailIdeal.defs
  rw [bodies_eq]
  rfl

/-- The call, as printed, terminates, faults nowhere, and leaves its arguments and every semaphore as they were. -/
theorem frame_tail : Cert.quiescent_Tail := fun m ρ _ => by
  rw [defs_eq]
  exact (θ_run Cert.TailIdeal.defs _ _).mono (fun r h => ⟨fun c => args_kept m h.1 c, h.2⟩) (run_main (F := Bits) m ρ)

/-- So does its idealization. -/
theorem frame_ideal : Cert.quiescent_TailIdeal := fun m ρ _ =>
  (θ_run Cert.TailIdeal.defs _ _).mono (fun r h => ⟨fun c => args_kept m h.1 c, h.2⟩) (run_main (F := Ideal) m ρ)

/-- So does the reference's, which has no semaphore. -/
theorem frame_reference : Cert.quiescent_TailReferenceIdeal := fun m ρ _ =>
  (θ_run Cert.TailReferenceIdeal.defs _ _).mono (fun r h => ⟨fun c => (h c).2, Idealize.ShloMosaic.sem_eq_zero_of_no_sems (by decide) r.2⟩)
    (Cert.TailReferenceIdeal.Value.run (F := Ideal) m ρ)

/-- Over the extended reals, the call's result is the reference's. -/
theorem algebraic : Cert.algebraic_TailIdeal_TailReferenceIdeal := fun m ρ m' ρ' _ hm =>
  ⟨fun c => final m c,
    run_final m ρ,
    (θ_run Cert.TailReferenceIdeal.defs _ _).mono (fun _ h c => ⟨(h c).1.trans (by
        rw [(hm c).1, (hm c).2.1, (hm c).2.2.1, (hm c).2.2.2.1, (hm c).2.2.2.2.1, (hm c).2.2.2.2.2.1, (hm c).2.2.2.2.2.2]
        exact (value m c).symm), (h c).2⟩)
      (Cert.TailReferenceIdeal.Value.run (F := Ideal) m' ρ')⟩

end Cert.TailProof

end
-- ==== Proof.lean ====
/-
  The frames of the kernel, of its idealization and of the reference's, and that the idealization rewrites nothing; the same
  of the SparseCore call alone, with its host code, and its value; the same of the first pipeline alone,
  and of the second.

  The kernel folds each field's table with its rows of fc1's weight in a pipeline on the TensorCore, gathers and sums the folded
  rows on the SparseCores' thirty-two tiles, and finishes in a second pipeline. Proof/Launch.lean has its run for any
  float values; the two printed kernels are one program.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_inputs_ok
public import proofs.«01_k».proof.Proof.Launch
public import proofs.«01_k».proof.Proof.Same
public import proofs.«01_k».proof.Proof.TripOk
public import proofs.«01_k».proof.Proof.Bag.Claims
public import proofs.«01_k».proof.Proof.Bag.TripOk
public import proofs.«01_k».proof.Proof.Fold
public import proofs.«01_k».proof.Proof.Tail.Claims
public import Idealize.ShloMosaic.Adequacy
public import proofs.«01_k».proof.Proof.Gen.Bag
public import proofs.«01_k».proof.Proof.Gen.BagIdeal
public import proofs.«01_k».proof.Proof.Gen.BagReferenceIdeal
public import proofs.«01_k».proof.Proof.Gen.BagReferenceIdeal.Run
public import proofs.«01_k».proof.Proof.Gen.Pre_bag_inputs_ok
public import proofs.«01_k».proof.Proof.Gen.Fold
public import proofs.«01_k».proof.Proof.Gen.FoldIdeal
public import proofs.«01_k».proof.Proof.Gen.FoldIdeal.Value
public import proofs.«01_k».proof.Proof.Gen.FoldReferenceIdeal
public import proofs.«01_k».proof.Proof.Gen.FoldReferenceIdeal.Run
public import proofs.«01_k».proof.Proof.Gen.Tail
public import proofs.«01_k».proof.Proof.Gen.TailIdeal
public import proofs.«01_k».proof.Proof.Gen.TailIdeal.Launch
public import proofs.«01_k».proof.Proof.Gen.TailReferenceIdeal
public import proofs.«01_k».proof.Proof.Gen.TailReferenceIdeal.Run
public import Idealize.ShloMosaic.Init

@[expose] public section

noncomputable section

namespace Cert.Proof

open Idealize.ShloMosaic Idealize.SL.Sem

/-- A tile of the SparseCore call: the obligation of the launch. -/
theorem obl {F : FTy → Type} [FloatOps F] : (K (F := F)).TileObl (D (F := F)) 𝒱 (P (F := F)) v₀ 0 :=
  tileObl facts fun d L O W qt qx X T H hX hH v2 t => trip_ok d L qt qx X T H O W hX hH v2 t

/-- The precondition bounds the indices, in the kernel's launch memory -/
theorem ok_kernel (m : (ℓ : Loc Cert.Kernel.nD Cert.Kernel.τ Cert.Kernel.sig) → Buf (Elt Bits) ℓ) (h : Cert.Pre_Kernel m) : PreOK (F := Bits) m := fun d x => by
  have e := congrFun (h d) x
  simp only [Pre_inputs_ok.fn, andi, cmpi, broadcastInDim, constantI] at e
  exact word_lt _ e

/-- and in its idealization's. -/
theorem ok_ideal (m : (ℓ : Loc Cert.KernelIdeal.nD Cert.KernelIdeal.τ Cert.KernelIdeal.sig) → Buf (Elt Ideal) ℓ) (h : Cert.Pre_KernelIdeal m) : PreOK (F := Ideal) m := fun d x => by
  have e := congrFun (h d) x
  simp only [Pre_inputs_ok.fn, andi, cmpi, broadcastInDim, constantI] at e
  exact word_lt _ e

/-- The kernel's run is its idealization's at the machine's floats. -/
theorem run_kernel (m : (ℓ : Loc Cert.Kernel.nD Cert.Kernel.τ Cert.Kernel.sig) → Buf (Elt Bits) ℓ) (ρ : Dev Cert.Kernel.nD → PrngReg) (h : Cert.Pre_Kernel m) :
    θ_run (Cert.Kernel.defs (F := Bits)) (Cert.Kernel.threads (F := Bits)) ⟨m, fun _ => 0, ρ⟩ (QC (F := Bits) m) :=
  run_same m ρ _ (run_main (F := Bits) m ρ obl (ok_kernel m h))

/-- The kernel, as printed, terminates, faults nowhere, and leaves its arguments and every semaphore as they were. -/
theorem frame_kernel : Cert.quiescent_Kernel := fun m ρ hpre =>
  (θ_run Cert.Kernel.defs _ _).mono (fun _ h => ⟨fun c => ⟨h.1 c Cert.KernelIdeal.main_arg0 (by decide), h.1 c Cert.KernelIdeal.main_arg1 (by decide), h.1 c Cert.KernelIdeal.main_arg2 (by decide),
    h.1 c Cert.KernelIdeal.main_arg3 (by decide), h.1 c Cert.KernelIdeal.main_arg4 (by decide), h.1 c Cert.KernelIdeal.main_arg5 (by decide), h.1 c Cert.KernelIdeal.main_arg6 (by decide),
    h.1 c Cert.KernelIdeal.main_arg7 (by decide), h.1 c Cert.KernelIdeal.main_arg8 (by decide), h.1 c Cert.KernelIdeal.main_arg9 (by decide)⟩, h.2⟩)
    (run_kernel m ρ hpre)

/-- So does its idealization. -/
theorem frame_ideal : Cert.quiescent_KernelIdeal := fun m ρ hpre =>
  (θ_run Cert.KernelIdeal.defs _ _).mono (fun _ h => ⟨fun c => ⟨h.1 c Cert.KernelIdeal.main_arg0 (by decide), h.1 c Cert.KernelIdeal.main_arg1 (by decide), h.1 c Cert.KernelIdeal.main_arg2 (by decide),
    h.1 c Cert.KernelIdeal.main_arg3 (by decide), h.1 c Cert.KernelIdeal.main_arg4 (by decide), h.1 c Cert.KernelIdeal.main_arg5 (by decide), h.1 c Cert.KernelIdeal.main_arg6 (by decide),
    h.1 c Cert.KernelIdeal.main_arg7 (by decide), h.1 c Cert.KernelIdeal.main_arg8 (by decide), h.1 c Cert.KernelIdeal.main_arg9 (by decide)⟩, h.2⟩)
    (run_main (F := Ideal) m ρ obl (ok_ideal m hpre))

/-- So does the reference's, which has no semaphore. -/
theorem frame_reference : Cert.quiescent_ReferenceIdeal := fun m ρ _ =>
  (θ_run Cert.ReferenceIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1,
    (h c).2.2.2.2.2.2.2.2.1, (h c).2.2.2.2.2.2.2.2.2.1, (h c).2.2.2.2.2.2.2.2.2.2⟩, Idealize.ShloMosaic.sem_eq_zero_of_no_sems (by decide) r.2⟩)
    (Cert.ReferenceIdeal.Value.run (F := Ideal) m ρ)

/-- A tile of the SparseCore call alone: the obligation of the launch. -/
theorem bag_obl {F : FTy → Type} [FloatOps F] : (BagProof.K (F := F)).TileObl (BagProof.D (F := F)) BagProof.𝒱 (BagProof.P (F := F)) BagProof.v₀ 0 :=
  BagProof.tileObl BagProof.facts fun d L O W qt qx X T H hX hH v2 t => BagProof.trip_ok d L qt qx X T H O W hX hH v2 t

/-- The claims. -/
theorem claim : Cert.Claim := ⟨Cert.Kernel.Gen.facts, Cert.KernelIdeal.Gen.facts, Cert.ReferenceIdeal.Gen.facts, Cert.Bag.Gen.facts, Cert.BagIdeal.Gen.facts,
  Cert.BagReferenceIdeal.Gen.facts, Cert.Fold.Gen.facts, Cert.FoldIdeal.Gen.facts, Cert.FoldReferenceIdeal.Gen.facts, Cert.Tail.Gen.facts, Cert.TailIdeal.Gen.facts, Cert.TailReferenceIdeal.Gen.facts,
  Cert.Pre_inputs_ok.Gen.facts, Cert.Pre_bag_inputs_ok.Gen.facts,
  frame_kernel, frame_ideal, frame_reference, BagProof.frame_bag bag_obl, BagProof.frame_ideal bag_obl, BagProof.frame_reference,
  FoldProof.frame_fold, FoldProof.frame_ideal, FoldProof.frame_reference,
  TailProof.frame_tail, TailProof.frame_ideal, TailProof.frame_reference, trivial, trivial, BagProof.algebraic bag_obl, trivial, FoldProof.algebraic,
  trivial, TailProof.algebraic⟩

end Cert.Proof

end
